-- ==== Defs.lean ====
def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_WgradGateUp (m : (ℓ : Loc Cert.WgradGateUp.nD Cert.WgradGateUp.τ Cert.WgradGateUp.sig) → Buf (Elt Bits) ℓ) : Prop :=
  True

def Pre_WgradGateUpIdeal (m : (ℓ : Loc Cert.WgradGateUpIdeal.nD Cert.WgradGateUpIdeal.τ Cert.WgradGateUpIdeal.sig) → Buf (Elt Ideal) ℓ) : Prop :=
  True

def Pre_WgradGateUpRefIdeal (m : (ℓ : Loc Cert.WgradGateUpRefIdeal.nD Cert.WgradGateUpRefIdeal.τ Cert.WgradGateUpRefIdeal.sig) → Buf (Elt Ideal) ℓ) : Prop :=
  True

def Pre_WgradDown (m : (ℓ : Loc Cert.WgradDown.nD Cert.WgradDown.τ Cert.WgradDown.sig) → Buf (Elt Bits) ℓ) : Prop :=
  True

def Pre_WgradDownIdeal (m : (ℓ : Loc Cert.WgradDownIdeal.nD Cert.WgradDownIdeal.τ Cert.WgradDownIdeal.sig) → Buf (Elt Ideal) ℓ) : Prop :=
  True

def Pre_WgradDownRefIdeal (m : (ℓ : Loc Cert.WgradDownRefIdeal.nD Cert.WgradDownRefIdeal.τ Cert.WgradDownRefIdeal.sig) → Buf (Elt Ideal) ℓ) : Prop :=
  True

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_WgradGateUp [hWgradGateUp : Cert.WgradGateUp.Facts] : Prop :=
  ∀ (m : (ℓ : Loc Cert.WgradGateUp.nD Cert.WgradGateUp.τ Cert.WgradGateUp.sig) → Buf (Elt Bits) ℓ) (g : Dev Cert.WgradGateUp.nD → PrngReg), Pre_WgradGateUp m →
    θ_run (Cert.WgradGateUp.defs (F := Bits)) (onTc (τ := Cert.WgradGateUp.τ) (Cert.WgradGateUp.main (F := Bits))) ⟨m, fun _ => 0, g⟩ (fun r => (∀ c : Dev Cert.WgradGateUp.nD,
      r.2.mem ((c.tc : Thread Cert.WgradGateUp.nD Cert.WgradGateUp.τ).loc Cert.WgradGateUp.main_arg0) = m ((c.tc : Thread Cert.WgradGateUp.nD Cert.WgradGateUp.τ).loc Cert.WgradGateUp.main_arg0)
      ∧ r.2.mem ((c.tc : Thread Cert.WgradGateUp.nD Cert.WgradGateUp.τ).loc Cert.WgradGateUp.main_arg1) = m ((c.tc : Thread Cert.WgradGateUp.nD Cert.WgradGateUp.τ).loc Cert.WgradGateUp.main_arg1)
      ∧ r.2.mem ((c.tc : Thread Cert.WgradGateUp.nD Cert.WgradGateUp.τ).loc Cert.WgradGateUp.main_arg2) = m ((c.tc : Thread Cert.WgradGateUp.nD Cert.WgradGateUp.τ).loc Cert.WgradGateUp.main_arg2)
      ∧ r.2.mem ((c.tc : Thread Cert.WgradGateUp.nD Cert.WgradGateUp.τ).loc Cert.WgradGateUp.main_arg3) = m ((c.tc : Thread Cert.WgradGateUp.nD Cert.WgradGateUp.τ).loc Cert.WgradGateUp.main_arg3)
      ∧ r.2.mem ((c.tc : Thread Cert.WgradGateUp.nD Cert.WgradGateUp.τ).loc Cert.WgradGateUp.main_arg4) = m ((c.tc : Thread Cert.WgradGateUp.nD Cert.WgradGateUp.τ).loc Cert.WgradGateUp.main_arg4)
      ∧ r.2.mem ((c.tc : Thread Cert.WgradGateUp.nD Cert.WgradGateUp.τ).loc Cert.WgradGateUp.main_arg5) = m ((c.tc : Thread Cert.WgradGateUp.nD Cert.WgradGateUp.τ).loc Cert.WgradGateUp.main_arg5)
      ∧ r.2.mem ((c.tc : Thread Cert.WgradGateUp.nD Cert.WgradGateUp.τ).loc Cert.WgradGateUp.main_arg6) = m ((c.tc : Thread Cert.WgradGateUp.nD Cert.WgradGateUp.τ).loc Cert.WgradGateUp.main_arg6)
      ∧ r.2.mem ((c.tc : Thread Cert.WgradGateUp.nD Cert.WgradGateUp.τ).loc Cert.WgradGateUp.main_arg7) = m ((c.tc : Thread Cert.WgradGateUp.nD Cert.WgradGateUp.τ).loc Cert.WgradGateUp.main_arg7)
      ∧ r.2.mem ((c.tc : Thread Cert.WgradGateUp.nD Cert.WgradGateUp.τ).loc Cert.WgradGateUp.main_arg8) = m ((c.tc : Thread Cert.WgradGateUp.nD Cert.WgradGateUp.τ).loc Cert.WgradGateUp.main_arg8)
      ∧ r.2.mem ((c.tc : Thread Cert.WgradGateUp.nD Cert.WgradGateUp.τ).loc Cert.WgradGateUp.main_arg9) = m ((c.tc : Thread Cert.WgradGateUp.nD Cert.WgradGateUp.τ).loc Cert.WgradGateUp.main_arg9)
      ∧ r.2.mem ((c.tc : Thread Cert.WgradGateUp.nD Cert.WgradGateUp.τ).loc Cert.WgradGateUp.main_arg10) = m ((c.tc : Thread Cert.WgradGateUp.nD Cert.WgradGateUp.τ).loc Cert.WgradGateUp.main_arg10)
      ∧ r.2.mem ((c.tc : Thread Cert.WgradGateUp.nD Cert.WgradGateUp.τ).loc Cert.WgradGateUp.main_arg11) = m ((c.tc : Thread Cert.WgradGateUp.nD Cert.WgradGateUp.τ).loc Cert.WgradGateUp.main_arg11)
      ∧ r.2.mem ((c.tc : Thread Cert.WgradGateUp.nD Cert.WgradGateUp.τ).loc Cert.WgradGateUp.main_arg12) = m ((c.tc : Thread Cert.WgradGateUp.nD Cert.WgradGateUp.τ).loc Cert.WgradGateUp.main_arg12)
      ∧ r.2.mem ((c.tc : Thread Cert.WgradGateUp.nD Cert.WgradGateUp.τ).loc Cert.WgradGateUp.main_arg13) = m ((c.tc : Thread Cert.WgradGateUp.nD Cert.WgradGateUp.τ).loc Cert.WgradGateUp.main_arg13)
      ∧ r.2.mem ((c.tc : Thread Cert.WgradGateUp.nD Cert.WgradGateUp.τ).loc Cert.WgradGateUp.main_arg14) = m ((c.tc : Thread Cert.WgradGateUp.nD Cert.WgradGateUp.τ).loc Cert.WgradGateUp.main_arg14)
      ∧ r.2.mem ((c.tc : Thread Cert.WgradGateUp.nD Cert.WgradGateUp.τ).loc Cert.WgradGateUp.main_arg15) = m ((c.tc : Thread Cert.WgradGateUp.nD Cert.WgradGateUp.τ).loc Cert.WgradGateUp.main_arg15)
      ∧ r.2.mem ((c.tc : Thread Cert.WgradGateUp.nD Cert.WgradGateUp.τ).loc Cert.WgradGateUp.main_arg16) = m ((c.tc : Thread Cert.WgradGateUp.nD Cert.WgradGateUp.τ).loc Cert.WgradGateUp.main_arg16))
      ∧ r.2.sem = fun _ => 0)

def quiescent_WgradGateUpIdeal [hWgradGateUpIdeal : Cert.WgradGateUpIdeal.Facts] : Prop :=
  ∀ (m : (ℓ : Loc Cert.WgradGateUpIdeal.nD Cert.WgradGateUpIdeal.τ Cert.WgradGateUpIdeal.sig) → Buf (Elt Ideal) ℓ) (g : Dev Cert.WgradGateUpIdeal.nD → PrngReg), Pre_WgradGateUpIdeal m →
    θ_run (Cert.WgradGateUpIdeal.defs (F := Ideal)) (onTc (τ := Cert.WgradGateUpIdeal.τ) (Cert.WgradGateUpIdeal.main (F := Ideal))) ⟨m, fun _ => 0, g⟩ (fun r => (∀ c : Dev Cert.WgradGateUpIdeal.nD,
      r.2.mem ((c.tc : Thread Cert.WgradGateUpIdeal.nD Cert.WgradGateUpIdeal.τ).loc Cert.WgradGateUpIdeal.main_arg0) = m ((c.tc : Thread Cert.WgradGateUpIdeal.nD Cert.WgradGateUpIdeal.τ).loc Cert.WgradGateUpIdeal.main_arg0)
      ∧ r.2.mem ((c.tc : Thread Cert.WgradGateUpIdeal.nD Cert.WgradGateUpIdeal.τ).loc Cert.WgradGateUpIdeal.main_arg1) = m ((c.tc : Thread Cert.WgradGateUpIdeal.nD Cert.WgradGateUpIdeal.τ).loc Cert.WgradGateUpIdeal.main_arg1)
      ∧ r.2.mem ((c.tc : Thread Cert.WgradGateUpIdeal.nD Cert.WgradGateUpIdeal.τ).loc Cert.WgradGateUpIdeal.main_arg2) = m ((c.tc : Thread Cert.WgradGateUpIdeal.nD Cert.WgradGateUpIdeal.τ).loc Cert.WgradGateUpIdeal.main_arg2)
      ∧ r.2.mem ((c.tc : Thread Cert.WgradGateUpIdeal.nD Cert.WgradGateUpIdeal.τ).loc Cert.WgradGateUpIdeal.main_arg3) = m ((c.tc : Thread Cert.WgradGateUpIdeal.nD Cert.WgradGateUpIdeal.τ).loc Cert.WgradGateUpIdeal.main_arg3)
      ∧ r.2.mem ((c.tc : Thread Cert.WgradGateUpIdeal.nD Cert.WgradGateUpIdeal.τ).loc Cert.WgradGateUpIdeal.main_arg4) = m ((c.tc : Thread Cert.WgradGateUpIdeal.nD Cert.WgradGateUpIdeal.τ).loc Cert.WgradGateUpIdeal.main_arg4)
      ∧ r.2.mem ((c.tc : Thread Cert.WgradGateUpIdeal.nD Cert.WgradGateUpIdeal.τ).loc Cert.WgradGateUpIdeal.main_arg5) = m ((c.tc : Thread Cert.WgradGateUpIdeal.nD Cert.WgradGateUpIdeal.τ).loc Cert.WgradGateUpIdeal.main_arg5)
      ∧ r.2.mem ((c.tc : Thread Cert.WgradGateUpIdeal.nD Cert.WgradGateUpIdeal.τ).loc Cert.WgradGateUpIdeal.main_arg6) = m ((c.tc : Thread Cert.WgradGateUpIdeal.nD Cert.WgradGateUpIdeal.τ).loc Cert.WgradGateUpIdeal.main_arg6)
      ∧ r.2.mem ((c.tc : Thread Cert.WgradGateUpIdeal.nD Cert.WgradGateUpIdeal.τ).loc Cert.WgradGateUpIdeal.main_arg7) = m ((c.tc : Thread Cert.WgradGateUpIdeal.nD Cert.WgradGateUpIdeal.τ).loc Cert.WgradGateUpIdeal.main_arg7)
      ∧ r.2.mem ((c.tc : Thread Cert.WgradGateUpIdeal.nD Cert.WgradGateUpIdeal.τ).loc Cert.WgradGateUpIdeal.main_arg8) = m ((c.tc : Thread Cert.WgradGateUpIdeal.nD Cert.WgradGateUpIdeal.τ).loc Cert.WgradGateUpIdeal.main_arg8)
      ∧ r.2.mem ((c.tc : Thread Cert.WgradGateUpIdeal.nD Cert.WgradGateUpIdeal.τ).loc Cert.WgradGateUpIdeal.main_arg9) = m ((c.tc : Thread Cert.WgradGateUpIdeal.nD Cert.WgradGateUpIdeal.τ).loc Cert.WgradGateUpIdeal.main_arg9)
      ∧ r.2.mem ((c.tc : Thread Cert.WgradGateUpIdeal.nD Cert.WgradGateUpIdeal.τ).loc Cert.WgradGateUpIdeal.main_arg10) = m ((c.tc : Thread Cert.WgradGateUpIdeal.nD Cert.WgradGateUpIdeal.τ).loc Cert.WgradGateUpIdeal.main_arg10)
      ∧ r.2.mem ((c.tc : Thread Cert.WgradGateUpIdeal.nD Cert.WgradGateUpIdeal.τ).loc Cert.WgradGateUpIdeal.main_arg11) = m ((c.tc : Thread Cert.WgradGateUpIdeal.nD Cert.WgradGateUpIdeal.τ).loc Cert.WgradGateUpIdeal.main_arg11)
      ∧ r.2.mem ((c.tc : Thread Cert.WgradGateUpIdeal.nD Cert.WgradGateUpIdeal.τ).loc Cert.WgradGateUpIdeal.main_arg12) = m ((c.tc : Thread Cert.WgradGateUpIdeal.nD Cert.WgradGateUpIdeal.τ).loc Cert.WgradGateUpIdeal.main_arg12)
      ∧ r.2.mem ((c.tc : Thread Cert.WgradGateUpIdeal.nD Cert.WgradGateUpIdeal.τ).loc Cert.WgradGateUpIdeal.main_arg13) = m ((c.tc : Thread Cert.WgradGateUpIdeal.nD Cert.WgradGateUpIdeal.τ).loc Cert.WgradGateUpIdeal.main_arg13)
      ∧ r.2.mem ((c.tc : Thread Cert.WgradGateUpIdeal.nD Cert.WgradGateUpIdeal.τ).loc Cert.WgradGateUpIdeal.main_arg14) = m ((c.tc : Thread Cert.WgradGateUpIdeal.nD Cert.WgradGateUpIdeal.τ).loc Cert.WgradGateUpIdeal.main_arg14)
      ∧ r.2.mem ((c.tc : Thread Cert.WgradGateUpIdeal.nD Cert.WgradGateUpIdeal.τ).loc Cert.WgradGateUpIdeal.main_arg15) = m ((c.tc : Thread Cert.WgradGateUpIdeal.nD Cert.WgradGateUpIdeal.τ).loc Cert.WgradGateUpIdeal.main_arg15)
      ∧ r.2.mem ((c.tc : Thread Cert.WgradGateUpIdeal.nD Cert.WgradGateUpIdeal.τ).loc Cert.WgradGateUpIdeal.main_arg16) = m ((c.tc : Thread Cert.WgradGateUpIdeal.nD Cert.WgradGateUpIdeal.τ).loc Cert.WgradGateUpIdeal.main_arg16))
      ∧ r.2.sem = fun _ => 0)

def quiescent_WgradGateUpRefIdeal [hWgradGateUpRefIdeal : Cert.WgradGateUpRefIdeal.Facts] : Prop :=
  ∀ (m : (ℓ : Loc Cert.WgradGateUpRefIdeal.nD Cert.WgradGateUpRefIdeal.τ Cert.WgradGateUpRefIdeal.sig) → Buf (Elt Ideal) ℓ) (g : Dev Cert.WgradGateUpRefIdeal.nD → PrngReg), Pre_WgradGateUpRefIdeal m →
    θ_run (Cert.WgradGateUpRefIdeal.defs (F := Ideal)) (onTc (τ := Cert.WgradGateUpRefIdeal.τ) (Cert.WgradGateUpRefIdeal.main (F := Ideal))) ⟨m, fun _ => 0, g⟩ (fun r => (∀ c : Dev Cert.WgradGateUpRefIdeal.nD,
      r.2.mem ((c.tc : Thread Cert.WgradGateUpRefIdeal.nD Cert.WgradGateUpRefIdeal.τ).loc Cert.WgradGateUpRefIdeal.main_arg0) = m ((c.tc : Thread Cert.WgradGateUpRefIdeal.nD Cert.WgradGateUpRefIdeal.τ).loc Cert.WgradGateUpRefIdeal.main_arg0)
      ∧ r.2.mem ((c.tc : Thread Cert.WgradGateUpRefIdeal.nD Cert.WgradGateUpRefIdeal.τ).loc Cert.WgradGateUpRefIdeal.main_arg1) = m ((c.tc : Thread Cert.WgradGateUpRefIdeal.nD Cert.WgradGateUpRefIdeal.τ).loc Cert.WgradGateUpRefIdeal.main_arg1)
      ∧ r.2.mem ((c.tc : Thread Cert.WgradGateUpRefIdeal.nD Cert.WgradGateUpRefIdeal.τ).loc Cert.WgradGateUpRefIdeal.main_arg2) = m ((c.tc : Thread Cert.WgradGateUpRefIdeal.nD Cert.WgradGateUpRefIdeal.τ).loc Cert.WgradGateUpRefIdeal.main_arg2)
      ∧ r.2.mem ((c.tc : Thread Cert.WgradGateUpRefIdeal.nD Cert.WgradGateUpRefIdeal.τ).loc Cert.WgradGateUpRefIdeal.main_arg3) = m ((c.tc : Thread Cert.WgradGateUpRefIdeal.nD Cert.WgradGateUpRefIdeal.τ).loc Cert.WgradGateUpRefIdeal.main_arg3)
      ∧ r.2.mem ((c.tc : Thread Cert.WgradGateUpRefIdeal.nD Cert.WgradGateUpRefIdeal.τ).loc Cert.WgradGateUpRefIdeal.main_arg4) = m ((c.tc : Thread Cert.WgradGateUpRefIdeal.nD Cert.WgradGateUpRefIdeal.τ).loc Cert.WgradGateUpRefIdeal.main_arg4)
      ∧ r.2.mem ((c.tc : Thread Cert.WgradGateUpRefIdeal.nD Cert.WgradGateUpRefIdeal.τ).loc Cert.WgradGateUpRefIdeal.main_arg5) = m ((c.tc : Thread Cert.WgradGateUpRefIdeal.nD Cert.WgradGateUpRefIdeal.τ).loc Cert.WgradGateUpRefIdeal.main_arg5)
      ∧ r.2.mem ((c.tc : Thread Cert.WgradGateUpRefIdeal.nD Cert.WgradGateUpRefIdeal.τ).loc Cert.WgradGateUpRefIdeal.main_arg6) = m ((c.tc : Thread Cert.WgradGateUpRefIdeal.nD Cert.WgradGateUpRefIdeal.τ).loc Cert.WgradGateUpRefIdeal.main_arg6)
      ∧ r.2.mem ((c.tc : Thread Cert.WgradGateUpRefIdeal.nD Cert.WgradGateUpRefIdeal.τ).loc Cert.WgradGateUpRefIdeal.main_arg7) = m ((c.tc : Thread Cert.WgradGateUpRefIdeal.nD Cert.WgradGateUpRefIdeal.τ).loc Cert.WgradGateUpRefIdeal.main_arg7)
      ∧ r.2.mem ((c.tc : Thread Cert.WgradGateUpRefIdeal.nD Cert.WgradGateUpRefIdeal.τ).loc Cert.WgradGateUpRefIdeal.main_arg8) = m ((c.tc : Thread Cert.WgradGateUpRefIdeal.nD Cert.WgradGateUpRefIdeal.τ).loc Cert.WgradGateUpRefIdeal.main_arg8)
      ∧ r.2.mem ((c.tc : Thread Cert.WgradGateUpRefIdeal.nD Cert.WgradGateUpRefIdeal.τ).loc Cert.WgradGateUpRefIdeal.main_arg9) = m ((c.tc : Thread Cert.WgradGateUpRefIdeal.nD Cert.WgradGateUpRefIdeal.τ).loc Cert.WgradGateUpRefIdeal.main_arg9)
      ∧ r.2.mem ((c.tc : Thread Cert.WgradGateUpRefIdeal.nD Cert.WgradGateUpRefIdeal.τ).loc Cert.WgradGateUpRefIdeal.main_arg10) = m ((c.tc : Thread Cert.WgradGateUpRefIdeal.nD Cert.WgradGateUpRefIdeal.τ).loc Cert.WgradGateUpRefIdeal.main_arg10)
      ∧ r.2.mem ((c.tc : Thread Cert.WgradGateUpRefIdeal.nD Cert.WgradGateUpRefIdeal.τ).loc Cert.WgradGateUpRefIdeal.main_arg11) = m ((c.tc : Thread Cert.WgradGateUpRefIdeal.nD Cert.WgradGateUpRefIdeal.τ).loc Cert.WgradGateUpRefIdeal.main_arg11)
      ∧ r.2.mem ((c.tc : Thread Cert.WgradGateUpRefIdeal.nD Cert.WgradGateUpRefIdeal.τ).loc Cert.WgradGateUpRefIdeal.main_arg12) = m ((c.tc : Thread Cert.WgradGateUpRefIdeal.nD Cert.WgradGateUpRefIdeal.τ).loc Cert.WgradGateUpRefIdeal.main_arg12)
      ∧ r.2.mem ((c.tc : Thread Cert.WgradGateUpRefIdeal.nD Cert.WgradGateUpRefIdeal.τ).loc Cert.WgradGateUpRefIdeal.main_arg13) = m ((c.tc : Thread Cert.WgradGateUpRefIdeal.nD Cert.WgradGateUpRefIdeal.τ).loc Cert.WgradGateUpRefIdeal.main_arg13)
      ∧ r.2.mem ((c.tc : Thread Cert.WgradGateUpRefIdeal.nD Cert.WgradGateUpRefIdeal.τ).loc Cert.WgradGateUpRefIdeal.main_arg14) = m ((c.tc : Thread Cert.WgradGateUpRefIdeal.nD Cert.WgradGateUpRefIdeal.τ).loc Cert.WgradGateUpRefIdeal.main_arg14)
      ∧ r.2.mem ((c.tc : Thread Cert.WgradGateUpRefIdeal.nD Cert.WgradGateUpRefIdeal.τ).loc Cert.WgradGateUpRefIdeal.main_arg15) = m ((c.tc : Thread Cert.WgradGateUpRefIdeal.nD Cert.WgradGateUpRefIdeal.τ).loc Cert.WgradGateUpRefIdeal.main_arg15)
      ∧ r.2.mem ((c.tc : Thread Cert.WgradGateUpRefIdeal.nD Cert.WgradGateUpRefIdeal.τ).loc Cert.WgradGateUpRefIdeal.main_arg16) = m ((c.tc : Thread Cert.WgradGateUpRefIdeal.nD Cert.WgradGateUpRefIdeal.τ).loc Cert.WgradGateUpRefIdeal.main_arg16))
      ∧ r.2.sem = fun _ => 0)

def quiescent_WgradDown [hWgradDown : Cert.WgradDown.Facts] : Prop :=
  ∀ (m : (ℓ : Loc Cert.WgradDown.nD Cert.WgradDown.τ Cert.WgradDown.sig) → Buf (Elt Bits) ℓ) (g : Dev Cert.WgradDown.nD → PrngReg), Pre_WgradDown m →
    θ_run (Cert.WgradDown.defs (F := Bits)) (onTc (τ := Cert.WgradDown.τ) (Cert.WgradDown.main (F := Bits))) ⟨m, fun _ => 0, g⟩ (fun r => (∀ c : Dev Cert.WgradDown.nD,
      r.2.mem ((c.tc : Thread Cert.WgradDown.nD Cert.WgradDown.τ).loc Cert.WgradDown.main_arg0) = m ((c.tc : Thread Cert.WgradDown.nD Cert.WgradDown.τ).loc Cert.WgradDown.main_arg0)
      ∧ r.2.mem ((c.tc : Thread Cert.WgradDown.nD Cert.WgradDown.τ).loc Cert.WgradDown.main_arg1) = m ((c.tc : Thread Cert.WgradDown.nD Cert.WgradDown.τ).loc Cert.WgradDown.main_arg1)
      ∧ r.2.mem ((c.tc : Thread Cert.WgradDown.nD Cert.WgradDown.τ).loc Cert.WgradDown.main_arg2) = m ((c.tc : Thread Cert.WgradDown.nD Cert.WgradDown.τ).loc Cert.WgradDown.main_arg2)
      ∧ r.2.mem ((c.tc : Thread Cert.WgradDown.nD Cert.WgradDown.τ).loc Cert.WgradDown.main_arg3) = m ((c.tc : Thread Cert.WgradDown.nD Cert.WgradDown.τ).loc Cert.WgradDown.main_arg3)
      ∧ r.2.mem ((c.tc : Thread Cert.WgradDown.nD Cert.WgradDown.τ).loc Cert.WgradDown.main_arg4) = m ((c.tc : Thread Cert.WgradDown.nD Cert.WgradDown.τ).loc Cert.WgradDown.main_arg4)
      ∧ r.2.mem ((c.tc : Thread Cert.WgradDown.nD Cert.WgradDown.τ).loc Cert.WgradDown.main_arg5) = m ((c.tc : Thread Cert.WgradDown.nD Cert.WgradDown.τ).loc Cert.WgradDown.main_arg5)
      ∧ r.2.mem ((c.tc : Thread Cert.WgradDown.nD Cert.WgradDown.τ).loc Cert.WgradDown.main_arg6) = m ((c.tc : Thread Cert.WgradDown.nD Cert.WgradDown.τ).loc Cert.WgradDown.main_arg6)
      ∧ r.2.mem ((c.tc : Thread Cert.WgradDown.nD Cert.WgradDown.τ).loc Cert.WgradDown.main_arg7) = m ((c.tc : Thread Cert.WgradDown.nD Cert.WgradDown.τ).loc Cert.WgradDown.main_arg7)
      ∧ r.2.mem ((c.tc : Thread Cert.WgradDown.nD Cert.WgradDown.τ).loc Cert.WgradDown.main_arg8) = m ((c.tc : Thread Cert.WgradDown.nD Cert.WgradDown.τ).loc Cert.WgradDown.main_arg8)
      ∧ r.2.mem ((c.tc : Thread Cert.WgradDown.nD Cert.WgradDown.τ).loc Cert.WgradDown.main_arg9) = m ((c.tc : Thread Cert.WgradDown.nD Cert.WgradDown.τ).loc Cert.WgradDown.main_arg9)
      ∧ r.2.mem ((c.tc : Thread Cert.WgradDown.nD Cert.WgradDown.τ).loc Cert.WgradDown.main_arg10) = m ((c.tc : Thread Cert.WgradDown.nD Cert.WgradDown.τ).loc Cert.WgradDown.main_arg10))
      ∧ r.2.sem = fun _ => 0)

def quiescent_WgradDownIdeal [hWgradDownIdeal : Cert.WgradDownIdeal.Facts] : Prop :=
  ∀ (m : (ℓ : Loc Cert.WgradDownIdeal.nD Cert.WgradDownIdeal.τ Cert.WgradDownIdeal.sig) → Buf (Elt Ideal) ℓ) (g : Dev Cert.WgradDownIdeal.nD → PrngReg), Pre_WgradDownIdeal m →
    θ_run (Cert.WgradDownIdeal.defs (F := Ideal)) (onTc (τ := Cert.WgradDownIdeal.τ) (Cert.WgradDownIdeal.main (F := Ideal))) ⟨m, fun _ => 0, g⟩ (fun r => (∀ c : Dev Cert.WgradDownIdeal.nD,
      r.2.mem ((c.tc : Thread Cert.WgradDownIdeal.nD Cert.WgradDownIdeal.τ).loc Cert.WgradDownIdeal.main_arg0) = m ((c.tc : Thread Cert.WgradDownIdeal.nD Cert.WgradDownIdeal.τ).loc Cert.WgradDownIdeal.main_arg0)
      ∧ r.2.mem ((c.tc : Thread Cert.WgradDownIdeal.nD Cert.WgradDownIdeal.τ).loc Cert.WgradDownIdeal.main_arg1) = m ((c.tc : Thread Cert.WgradDownIdeal.nD Cert.WgradDownIdeal.τ).loc Cert.WgradDownIdeal.main_arg1)
      ∧ r.2.mem ((c.tc : Thread Cert.WgradDownIdeal.nD Cert.WgradDownIdeal.τ).loc Cert.WgradDownIdeal.main_arg2) = m ((c.tc : Thread Cert.WgradDownIdeal.nD Cert.WgradDownIdeal.τ).loc Cert.WgradDownIdeal.main_arg2)
      ∧ r.2.mem ((c.tc : Thread Cert.WgradDownIdeal.nD Cert.WgradDownIdeal.τ).loc Cert.WgradDownIdeal.main_arg3) = m ((c.tc : Thread Cert.WgradDownIdeal.nD Cert.WgradDownIdeal.τ).loc Cert.WgradDownIdeal.main_arg3)
      ∧ r.2.mem ((c.tc : Thread Cert.WgradDownIdeal.nD Cert.WgradDownIdeal.τ).loc Cert.WgradDownIdeal.main_arg4) = m ((c.tc : Thread Cert.WgradDownIdeal.nD Cert.WgradDownIdeal.τ).loc Cert.WgradDownIdeal.main_arg4)
      ∧ r.2.mem ((c.tc : Thread Cert.WgradDownIdeal.nD Cert.WgradDownIdeal.τ).loc Cert.WgradDownIdeal.main_arg5) = m ((c.tc : Thread Cert.WgradDownIdeal.nD Cert.WgradDownIdeal.τ).loc Cert.WgradDownIdeal.main_arg5)
      ∧ r.2.mem ((c.tc : Thread Cert.WgradDownIdeal.nD Cert.WgradDownIdeal.τ).loc Cert.WgradDownIdeal.main_arg6) = m ((c.tc : Thread Cert.WgradDownIdeal.nD Cert.WgradDownIdeal.τ).loc Cert.WgradDownIdeal.main_arg6)
      ∧ r.2.mem ((c.tc : Thread Cert.WgradDownIdeal.nD Cert.WgradDownIdeal.τ).loc Cert.WgradDownIdeal.main_arg7) = m ((c.tc : Thread Cert.WgradDownIdeal.nD Cert.WgradDownIdeal.τ).loc Cert.WgradDownIdeal.main_arg7)
      ∧ r.2.mem ((c.tc : Thread Cert.WgradDownIdeal.nD Cert.WgradDownIdeal.τ).loc Cert.WgradDownIdeal.main_arg8) = m ((c.tc : Thread Cert.WgradDownIdeal.nD Cert.WgradDownIdeal.τ).loc Cert.WgradDownIdeal.main_arg8)
      ∧ r.2.mem ((c.tc : Thread Cert.WgradDownIdeal.nD Cert.WgradDownIdeal.τ).loc Cert.WgradDownIdeal.main_arg9) = m ((c.tc : Thread Cert.WgradDownIdeal.nD Cert.WgradDownIdeal.τ).loc Cert.WgradDownIdeal.main_arg9)
      ∧ r.2.mem ((c.tc : Thread Cert.WgradDownIdeal.nD Cert.WgradDownIdeal.τ).loc Cert.WgradDownIdeal.main_arg10) = m ((c.tc : Thread Cert.WgradDownIdeal.nD Cert.WgradDownIdeal.τ).loc Cert.WgradDownIdeal.main_arg10))
      ∧ r.2.sem = fun _ => 0)

def quiescent_WgradDownRefIdeal [hWgradDownRefIdeal : Cert.WgradDownRefIdeal.Facts] : Prop :=
  ∀ (m : (ℓ : Loc Cert.WgradDownRefIdeal.nD Cert.WgradDownRefIdeal.τ Cert.WgradDownRefIdeal.sig) → Buf (Elt Ideal) ℓ) (g : Dev Cert.WgradDownRefIdeal.nD → PrngReg), Pre_WgradDownRefIdeal m →
    θ_run (Cert.WgradDownRefIdeal.defs (F := Ideal)) (onTc (τ := Cert.WgradDownRefIdeal.τ) (Cert.WgradDownRefIdeal.main (F := Ideal))) ⟨m, fun _ => 0, g⟩ (fun r => (∀ c : Dev Cert.WgradDownRefIdeal.nD,
      r.2.mem ((c.tc : Thread Cert.WgradDownRefIdeal.nD Cert.WgradDownRefIdeal.τ).loc Cert.WgradDownRefIdeal.main_arg0) = m ((c.tc : Thread Cert.WgradDownRefIdeal.nD Cert.WgradDownRefIdeal.τ).loc Cert.WgradDownRefIdeal.main_arg0)
      ∧ r.2.mem ((c.tc : Thread Cert.WgradDownRefIdeal.nD Cert.WgradDownRefIdeal.τ).loc Cert.WgradDownRefIdeal.main_arg1) = m ((c.tc : Thread Cert.WgradDownRefIdeal.nD Cert.WgradDownRefIdeal.τ).loc Cert.WgradDownRefIdeal.main_arg1)
      ∧ r.2.mem ((c.tc : Thread Cert.WgradDownRefIdeal.nD Cert.WgradDownRefIdeal.τ).loc Cert.WgradDownRefIdeal.main_arg2) = m ((c.tc : Thread Cert.WgradDownRefIdeal.nD Cert.WgradDownRefIdeal.τ).loc Cert.WgradDownRefIdeal.main_arg2)
      ∧ r.2.mem ((c.tc : Thread Cert.WgradDownRefIdeal.nD Cert.WgradDownRefIdeal.τ).loc Cert.WgradDownRefIdeal.main_arg3) = m ((c.tc : Thread Cert.WgradDownRefIdeal.nD Cert.WgradDownRefIdeal.τ).loc Cert.WgradDownRefIdeal.main_arg3)
      ∧ r.2.mem ((c.tc : Thread Cert.WgradDownRefIdeal.nD Cert.WgradDownRefIdeal.τ).loc Cert.WgradDownRefIdeal.main_arg4) = m ((c.tc : Thread Cert.WgradDownRefIdeal.nD Cert.WgradDownRefIdeal.τ).loc Cert.WgradDownRefIdeal.main_arg4)
      ∧ r.2.mem ((c.tc : Thread Cert.WgradDownRefIdeal.nD Cert.WgradDownRefIdeal.τ).loc Cert.WgradDownRefIdeal.main_arg5) = m ((c.tc : Thread Cert.WgradDownRefIdeal.nD Cert.WgradDownRefIdeal.τ).loc Cert.WgradDownRefIdeal.main_arg5)
      ∧ r.2.mem ((c.tc : Thread Cert.WgradDownRefIdeal.nD Cert.WgradDownRefIdeal.τ).loc Cert.WgradDownRefIdeal.main_arg6) = m ((c.tc : Thread Cert.WgradDownRefIdeal.nD Cert.WgradDownRefIdeal.τ).loc Cert.WgradDownRefIdeal.main_arg6)
      ∧ r.2.mem ((c.tc : Thread Cert.WgradDownRefIdeal.nD Cert.WgradDownRefIdeal.τ).loc Cert.WgradDownRefIdeal.main_arg7) = m ((c.tc : Thread Cert.WgradDownRefIdeal.nD Cert.WgradDownRefIdeal.τ).loc Cert.WgradDownRefIdeal.main_arg7)
      ∧ r.2.mem ((c.tc : Thread Cert.WgradDownRefIdeal.nD Cert.WgradDownRefIdeal.τ).loc Cert.WgradDownRefIdeal.main_arg8) = m ((c.tc : Thread Cert.WgradDownRefIdeal.nD Cert.WgradDownRefIdeal.τ).loc Cert.WgradDownRefIdeal.main_arg8)
      ∧ r.2.mem ((c.tc : Thread Cert.WgradDownRefIdeal.nD Cert.WgradDownRefIdeal.τ).loc Cert.WgradDownRefIdeal.main_arg9) = m ((c.tc : Thread Cert.WgradDownRefIdeal.nD Cert.WgradDownRefIdeal.τ).loc Cert.WgradDownRefIdeal.main_arg9)
      ∧ r.2.mem ((c.tc : Thread Cert.WgradDownRefIdeal.nD Cert.WgradDownRefIdeal.τ).loc Cert.WgradDownRefIdeal.main_arg10) = m ((c.tc : Thread Cert.WgradDownRefIdeal.nD Cert.WgradDownRefIdeal.τ).loc Cert.WgradDownRefIdeal.main_arg10))
      ∧ r.2.sem = fun _ => 0)

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v1_0)) (v1 : (c : Dev Cert.GateIdeal.nD) → Buf (Elt Ideal) ((c.tc : Thread Cert.GateIdeal.nD Cert.GateIdeal.τ).loc Cert.GateIdeal.main_v1_1)) (v2 : (c : Dev Cert.GateIdeal.nD) → Buf (Elt Ideal) ((c.tc : Thread Cert.GateIdeal.nD Cert.GateIdeal.τ).loc Cert.GateIdeal.main_v1_2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v1_0) = v0 c
          ∧ r.2.mem ((c.tc : Thread Cert.GateIdeal.nD Cert.GateIdeal.τ).loc Cert.GateIdeal.main_v1_1) = v1 c
          ∧ r.2.mem ((c.tc : Thread Cert.GateIdeal.nD Cert.GateIdeal.τ).loc Cert.GateIdeal.main_v1_2) = v2 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v12) = v0 c
          ∧ r.2.mem ((c.tc : Thread Cert.GateRefIdeal.nD Cert.GateRefIdeal.τ).loc Cert.GateRefIdeal.main_v21) = v1 c
          ∧ r.2.mem ((c.tc : Thread Cert.GateRefIdeal.nD Cert.GateRefIdeal.τ).loc Cert.GateRefIdeal.main_v24) = v2 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v4) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v8) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def preserves_WgradGateUp_WgradGateUpIdeal : Prop :=
  True

def algebraic_WgradGateUpIdeal_WgradGateUpRefIdeal [hWgradGateUpIdeal : Cert.WgradGateUpIdeal.Facts] [hWgradGateUpRefIdeal : Cert.WgradGateUpRefIdeal.Facts] : Prop :=
  ∀ (m : (ℓ : Loc Cert.WgradGateUpIdeal.nD Cert.WgradGateUpIdeal.τ Cert.WgradGateUpIdeal.sig) → Buf (Elt Ideal) ℓ) (g : Dev Cert.WgradGateUpIdeal.nD → PrngReg)
    (m' : (ℓ : Loc Cert.WgradGateUpRefIdeal.nD Cert.WgradGateUpRefIdeal.τ Cert.WgradGateUpRefIdeal.sig) → Buf (Elt Ideal) ℓ) (g' : Dev Cert.WgradGateUpRefIdeal.nD → PrngReg), Pre_WgradGateUpIdeal m →
    (∀ c : Dev Cert.WgradGateUpIdeal.nD,
      m' ((c.tc : Thread Cert.WgradGateUpRefIdeal.nD Cert.WgradGateUpRefIdeal.τ).loc Cert.WgradGateUpRefIdeal.main_arg0) = m ((c.tc : Thread Cert.WgradGateUpIdeal.nD Cert.WgradGateUpIdeal.τ).loc Cert.WgradGateUpIdeal.main_arg0)
      ∧ m' ((c.tc : Thread Cert.WgradGateUpRefIdeal.nD Cert.WgradGateUpRefIdeal.τ).loc Cert.WgradGateUpRefIdeal.main_arg1) = m ((c.tc : Thread Cert.WgradGateUpIdeal.nD Cert.WgradGateUpIdeal.τ).loc Cert.WgradGateUpIdeal.main_arg1)
      ∧ m' ((c.tc : Thread Cert.WgradGateUpRefIdeal.nD Cert.WgradGateUpRefIdeal.τ).loc Cert.WgradGateUpRefIdeal.main_arg2) = m ((c.tc : Thread Cert.WgradGateUpIdeal.nD Cert.WgradGateUpIdeal.τ).loc Cert.WgradGateUpIdeal.main_arg2)
      ∧ m' ((c.tc : Thread Cert.WgradGateUpRefIdeal.nD Cert.WgradGateUpRefIdeal.τ).loc Cert.WgradGateUpRefIdeal.main_arg3) = m ((c.tc : Thread Cert.WgradGateUpIdeal.nD Cert.WgradGateUpIdeal.τ).loc Cert.WgradGateUpIdeal.main_arg3)
      ∧ m' ((c.tc : Thread Cert.WgradGateUpRefIdeal.nD Cert.WgradGateUpRefIdeal.τ).loc Cert.WgradGateUpRefIdeal.main_arg4) = m ((c.tc : Thread Cert.WgradGateUpIdeal.nD Cert.WgradGateUpIdeal.τ).loc Cert.WgradGateUpIdeal.main_arg4)
      ∧ m' ((c.tc : Thread Cert.WgradGateUpRefIdeal.nD Cert.WgradGateUpRefIdeal.τ).loc Cert.WgradGateUpRefIdeal.main_arg5) = m ((c.tc : Thread Cert.WgradGateUpIdeal.nD Cert.WgradGateUpIdeal.τ).loc Cert.WgradGateUpIdeal.main_arg5)
      ∧ m' ((c.tc : Thread Cert.WgradGateUpRefIdeal.nD Cert.WgradGateUpRefIdeal.τ).loc Cert.WgradGateUpRefIdeal.main_arg6) = m ((c.tc : Thread Cert.WgradGateUpIdeal.nD Cert.WgradGateUpIdeal.τ).loc Cert.WgradGateUpIdeal.main_arg6)
      ∧ m' ((c.tc : Thread Cert.WgradGateUpRefIdeal.nD Cert.WgradGateUpRefIdeal.τ).loc Cert.WgradGateUpRefIdeal.main_arg7) = m ((c.tc : Thread Cert.WgradGateUpIdeal.nD Cert.WgradGateUpIdeal.τ).loc Cert.WgradGateUpIdeal.main_arg7)
      ∧ m' ((c.tc : Thread Cert.WgradGateUpRefIdeal.nD Cert.WgradGateUpRefIdeal.τ).loc Cert.WgradGateUpRefIdeal.main_arg8) = m ((c.tc : Thread Cert.WgradGateUpIdeal.nD Cert.WgradGateUpIdeal.τ).loc Cert.WgradGateUpIdeal.main_arg8)
      ∧ m' ((c.tc : Thread Cert.WgradGateUpRefIdeal.nD Cert.WgradGateUpRefIdeal.τ).loc Cert.WgradGateUpRefIdeal.main_arg9) = m ((c.tc : Thread Cert.WgradGateUpIdeal.nD Cert.WgradGateUpIdeal.τ).loc Cert.WgradGateUpIdeal.main_arg9)
      ∧ m' ((c.tc : Thread Cert.WgradGateUpRefIdeal.nD Cert.WgradGateUpRefIdeal.τ).loc Cert.WgradGateUpRefIdeal.main_arg10) = m ((c.tc : Thread Cert.WgradGateUpIdeal.nD Cert.WgradGateUpIdeal.τ).loc Cert.WgradGateUpIdeal.main_arg10)
      ∧ m' ((c.tc : Thread Cert.WgradGateUpRefIdeal.nD Cert.WgradGateUpRefIdeal.τ).loc Cert.WgradGateUpRefIdeal.main_arg11) = m ((c.tc : Thread Cert.WgradGateUpIdeal.nD Cert.WgradGateUpIdeal.τ).loc Cert.WgradGateUpIdeal.main_arg11)
      ∧ m' ((c.tc : Thread Cert.WgradGateUpRefIdeal.nD Cert.WgradGateUpRefIdeal.τ).loc Cert.WgradGateUpRefIdeal.main_arg12) = m ((c.tc : Thread Cert.WgradGateUpIdeal.nD Cert.WgradGateUpIdeal.τ).loc Cert.WgradGateUpIdeal.main_arg12)
      ∧ m' ((c.tc : Thread Cert.WgradGateUpRefIdeal.nD Cert.WgradGateUpRefIdeal.τ).loc Cert.WgradGateUpRefIdeal.main_arg13) = m ((c.tc : Thread Cert.WgradGateUpIdeal.nD Cert.WgradGateUpIdeal.τ).loc Cert.WgradGateUpIdeal.main_arg13)
      ∧ m' ((c.tc : Thread Cert.WgradGateUpRefIdeal.nD Cert.WgradGateUpRefIdeal.τ).loc Cert.WgradGateUpRefIdeal.main_arg14) = m ((c.tc : Thread Cert.WgradGateUpIdeal.nD Cert.WgradGateUpIdeal.τ).loc Cert.WgradGateUpIdeal.main_arg14)
      ∧ m' ((c.tc : Thread Cert.WgradGateUpRefIdeal.nD Cert.WgradGateUpRefIdeal.τ).loc Cert.WgradGateUpRefIdeal.main_arg15) = m ((c.tc : Thread Cert.WgradGateUpIdeal.nD Cert.WgradGateUpIdeal.τ).loc Cert.WgradGateUpIdeal.main_arg15)
      ∧ m' ((c.tc : Thread Cert.WgradGateUpRefIdeal.nD Cert.WgradGateUpRefIdeal.τ).loc Cert.WgradGateUpRefIdeal.main_arg16) = m ((c.tc : Thread Cert.WgradGateUpIdeal.nD Cert.WgradGateUpIdeal.τ).loc Cert.WgradGateUpIdeal.main_arg16)) →
    ∃ (v0 : (c : Dev Cert.WgradGateUpIdeal.nD) → Buf (Elt Ideal) ((c.tc : Thread Cert.WgradGateUpIdeal.nD Cert.WgradGateUpIdeal.τ).loc Cert.WgradGateUpIdeal.main_v14_0)) (v1 : (c : Dev Cert.WgradGateUpIdeal.nD) → Buf (Elt Ideal) ((c.tc : Thread Cert.WgradGateUpIdeal.nD Cert.WgradGateUpIdeal.τ).loc Cert.WgradGateUpIdeal.main_v14_1)) (v2 : (c : Dev Cert.WgradGateUpIdeal.nD) → Buf (Elt Ideal) ((c.tc : Thread Cert.WgradGateUpIdeal.nD Cert.WgradGateUpIdeal.τ).loc Cert.WgradGateUpIdeal.main_v14_2)) (v3 : (c : Dev Cert.WgradGateUpIdeal.nD) → Buf (Elt Ideal) ((c.tc : Thread Cert.WgradGateUpIdeal.nD Cert.WgradGateUpIdeal.τ).loc Cert.WgradGateUpIdeal.main_v14_3)) (v4 : (c : Dev Cert.WgradGateUpIdeal.nD) → Buf (Elt Ideal) ((c.tc : Thread Cert.WgradGateUpIdeal.nD Cert.WgradGateUpIdeal.τ).loc Cert.WgradGateUpIdeal.main_v14_4)) (v5 : (c : Dev Cert.WgradGateUpIdeal.nD) → Buf (Elt Ideal) ((c.tc : Thread Cert.WgradGateUpIdeal.nD Cert.WgradGateUpIdeal.τ).loc Cert.WgradGateUpIdeal.main_v14_5)) (v6 : (c : Dev Cert.WgradGateUpIdeal.nD) → Buf (Elt Ideal) ((c.tc : Thread Cert.WgradGateUpIdeal.nD Cert.WgradGateUpIdeal.τ).loc Cert.WgradGateUpIdeal.main_v14_6)) (v7 : (c : Dev Cert.WgradGateUpIdeal.nD) → Buf (Elt Ideal) ((c.tc : Thread Cert.WgradGateUpIdeal.nD Cert.WgradGateUpIdeal.τ).loc Cert.WgradGateUpIdeal.main_v14_7)) (v8 : (c : Dev Cert.WgradGateUpIdeal.nD) → Buf (Elt Ideal) ((c.tc : Thread Cert.WgradGateUpIdeal.nD Cert.WgradGateUpIdeal.τ).loc Cert.WgradGateUpIdeal.main_v14_8)) (v9 : (c : Dev Cert.WgradGateUpIdeal.nD) → Buf (Elt Ideal) ((c.tc : Thread Cert.WgradGateUpIdeal.nD Cert.WgradGateUpIdeal.τ).loc Cert.WgradGateUpIdeal.main_v14_9)),
      θ_run (Cert.WgradGateUpIdeal.defs (F := Ideal)) (onTc (τ := Cert.WgradGateUpIdeal.τ) (Cert.WgradGateUpIdeal.main (F := Ideal))) ⟨m, fun _ => 0, g⟩ (fun r => ∀ c : Dev Cert.WgradGateUpIdeal.nD,
          r.2.mem ((c.tc : Thread Cert.WgradGateUpIdeal.nD Cert.WgradGateUpIdeal.τ).loc Cert.WgradGateUpIdeal.main_v14_0) = v0 c
          ∧ r.2.mem ((c.tc : Thread Cert.WgradGateUpIdeal.nD Cert.WgradGateUpIdeal.τ).loc Cert.WgradGateUpIdeal.main_v14_1) = v1 c
          ∧ r.2.mem ((c.tc : Thread Cert.WgradGateUpIdeal.nD Cert.WgradGateUpIdeal.τ).loc Cert.WgradGateUpIdeal.main_v14_2) = v2 c
          ∧ r.2.mem ((c.tc : Thread Cert.WgradGateUpIdeal.nD Cert.WgradGateUpIdeal.τ).loc Cert.WgradGateUpIdeal.main_v14_3) = v3 c
          ∧ r.2.mem ((c.tc : Thread Cert.WgradGateUpIdeal.nD Cert.WgradGateUpIdeal.τ).loc Cert.WgradGateUpIdeal.main_v14_4) = v4 c
          ∧ r.2.mem ((c.tc : Thread Cert.WgradGateUpIdeal.nD Cert.WgradGateUpIdeal.τ).loc Cert.WgradGateUpIdeal.main_v14_5) = v5 c
          ∧ r.2.mem ((c.tc : Thread Cert.WgradGateUpIdeal.nD Cert.WgradGateUpIdeal.τ).loc Cert.WgradGateUpIdeal.main_v14_6) = v6 c
          ∧ r.2.mem ((c.tc : Thread Cert.WgradGateUpIdeal.nD Cert.WgradGateUpIdeal.τ).loc Cert.WgradGateUpIdeal.main_v14_7) = v7 c
          ∧ r.2.mem ((c.tc : Thread Cert.WgradGateUpIdeal.nD Cert.WgradGateUpIdeal.τ).loc Cert.WgradGateUpIdeal.main_v14_8) = v8 c
          ∧ r.2.mem ((c.tc : Thread Cert.WgradGateUpIdeal.nD Cert.WgradGateUpIdeal.τ).loc Cert.WgradGateUpIdeal.main_v14_9) = v9 c
          ∧ r.2.mem ((c.tc : Thread Cert.WgradGateUpIdeal.nD Cert.WgradGateUpIdeal.τ).loc Cert.WgradGateUpIdeal.main_arg0) = m ((c.tc : Thread Cert.WgradGateUpIdeal.nD Cert.WgradGateUpIdeal.τ).loc Cert.WgradGateUpIdeal.main_arg0)
          ∧ r.2.mem ((c.tc : Thread Cert.WgradGateUpIdeal.nD Cert.WgradGateUpIdeal.τ).loc Cert.WgradGateUpIdeal.main_arg1) = m ((c.tc : Thread Cert.WgradGateUpIdeal.nD Cert.WgradGateUpIdeal.τ).loc Cert.WgradGateUpIdeal.main_arg1)
          ∧ r.2.mem ((c.tc : Thread Cert.WgradGateUpIdeal.nD Cert.WgradGateUpIdeal.τ).loc Cert.WgradGateUpIdeal.main_arg2) = m ((c.tc : Thread Cert.WgradGateUpIdeal.nD Cert.WgradGateUpIdeal.τ).loc Cert.WgradGateUpIdeal.main_arg2)
          ∧ r.2.mem ((c.tc : Thread Cert.WgradGateUpIdeal.nD Cert.WgradGateUpIdeal.τ).loc Cert.WgradGateUpIdeal.main_arg3) = m ((c.tc : Thread Cert.WgradGateUpIdeal.nD Cert.WgradGateUpIdeal.τ).loc Cert.WgradGateUpIdeal.main_arg3)
          ∧ r.2.mem ((c.tc : Thread Cert.WgradGateUpIdeal.nD Cert.WgradGateUpIdeal.τ).loc Cert.WgradGateUpIdeal.main_arg4) = m ((c.tc : Thread Cert.WgradGateUpIdeal.nD Cert.WgradGateUpIdeal.τ).loc Cert.WgradGateUpIdeal.main_arg4)
          ∧ r.2.mem ((c.tc : Thread Cert.WgradGateUpIdeal.nD Cert.WgradGateUpIdeal.τ).loc Cert.WgradGateUpIdeal.main_arg5) = m ((c.tc : Thread Cert.WgradGateUpIdeal.nD Cert.WgradGateUpIdeal.τ).loc Cert.WgradGateUpIdeal.main_arg5)
          ∧ r.2.mem ((c.tc : Thread Cert.WgradGateUpIdeal.nD Cert.WgradGateUpIdeal.τ).loc Cert.WgradGateUpIdeal.main_arg6) = m ((c.tc : Thread Cert.WgradGateUpIdeal.nD Cert.WgradGateUpIdeal.τ).loc Cert.WgradGateUpIdeal.main_arg6)
          ∧ r.2.mem ((c.tc : Thread Cert.WgradGateUpIdeal.nD Cert.WgradGateUpIdeal.τ).loc Cert.WgradGateUpIdeal.main_arg7) = m ((c.tc : Thread Cert.WgradGateUpIdeal.nD Cert.WgradGateUpIdeal.τ).loc Cert.WgradGateUpIdeal.main_arg7)
          ∧ r.2.mem ((c.tc : Thread Cert.WgradGateUpIdeal.nD Cert.WgradGateUpIdeal.τ).loc Cert.WgradGateUpIdeal.main_arg8) = m ((c.tc : Thread Cert.WgradGateUpIdeal.nD Cert.WgradGateUpIdeal.τ).loc Cert.WgradGateUpIdeal.main_arg8)
          ∧ r.2.mem ((c.tc : Thread Cert.WgradGateUpIdeal.nD Cert.WgradGateUpIdeal.τ).loc Cert.WgradGateUpIdeal.main_arg9) = m ((c.tc : Thread Cert.WgradGateUpIdeal.nD Cert.WgradGateUpIdeal.τ).loc Cert.WgradGateUpIdeal.main_arg9)
          ∧ r.2.mem ((c.tc : Thread Cert.WgradGateUpIdeal.nD Cert.WgradGateUpIdeal.τ).loc Cert.WgradGateUpIdeal.main_arg10) = m ((c.tc : Thread Cert.WgradGateUpIdeal.nD Cert.WgradGateUpIdeal.τ).loc Cert.WgradGateUpIdeal.main_arg10)
          ∧ r.2.mem ((c.tc : Thread Cert.WgradGateUpIdeal.nD Cert.WgradGateUpIdeal.τ).loc Cert.WgradGateUpIdeal.main_arg11) = m ((c.tc : Thread Cert.WgradGateUpIdeal.nD Cert.WgradGateUpIdeal.τ).loc Cert.WgradGateUpIdeal.main_arg11)
          ∧ r.2.mem ((c.tc : Thread Cert.WgradGateUpIdeal.nD Cert.WgradGateUpIdeal.τ).loc Cert.WgradGateUpIdeal.main_arg12) = m ((c.tc : Thread Cert.WgradGateUpIdeal.nD Cert.WgradGateUpIdeal.τ).loc Cert.WgradGateUpIdeal.main_arg12)
          ∧ r.2.mem ((c.tc : Thread Cert.WgradGateUpIdeal.nD Cert.WgradGateUpIdeal.τ).loc Cert.WgradGateUpIdeal.main_arg13) = m ((c.tc : Thread Cert.WgradGateUpIdeal.nD Cert.WgradGateUpIdeal.τ).loc Cert.WgradGateUpIdeal.main_arg13)
          ∧ r.2.mem ((c.tc : Thread Cert.WgradGateUpIdeal.nD Cert.WgradGateUpIdeal.τ).loc Cert.WgradGateUpIdeal.main_arg14) = m ((c.tc : Thread Cert.WgradGateUpIdeal.nD Cert.WgradGateUpIdeal.τ).loc Cert.WgradGateUpIdeal.main_arg14)
          ∧ r.2.mem ((c.tc : Thread Cert.WgradGateUpIdeal.nD Cert.WgradGateUpIdeal.τ).loc Cert.WgradGateUpIdeal.main_arg15) = m ((c.tc : Thread Cert.WgradGateUpIdeal.nD Cert.WgradGateUpIdeal.τ).loc Cert.WgradGateUpIdeal.main_arg15)
          ∧ r.2.mem ((c.tc : Thread Cert.WgradGateUpIdeal.nD Cert.WgradGateUpIdeal.τ).loc Cert.WgradGateUpIdeal.main_arg16) = m ((c.tc : Thread Cert.WgradGateUpIdeal.nD Cert.WgradGateUpIdeal.τ).loc Cert.WgradGateUpIdeal.main_arg16))
      ∧ θ_run (Cert.WgradGateUpRefIdeal.defs (F := Ideal)) (onTc (τ := Cert.WgradGateUpRefIdeal.τ) (Cert.WgradGateUpRefIdeal.main (F := Ideal))) ⟨m', fun _ => 0, g'⟩ (fun r => ∀ c : Dev Cert.WgradGateUpRefIdeal.nD,
          r.2.mem ((c.tc : Thread Cert.WgradGateUpRefIdeal.nD Cert.WgradGateUpRefIdeal.τ).loc Cert.WgradGateUpRefIdeal.main_v36) = v0 c
          ∧ r.2.mem ((c.tc : Thread Cert.WgradGateUpRefIdeal.nD Cert.WgradGateUpRefIdeal.τ).loc Cert.WgradGateUpRefIdeal.main_v57) = v1 c
          ∧ r.2.mem ((c.tc : Thread Cert.WgradGateUpRefIdeal.nD Cert.WgradGateUpRefIdeal.τ).loc Cert.WgradGateUpRefIdeal.main_v58) = v2 c
          ∧ r.2.mem ((c.tc : Thread Cert.WgradGateUpRefIdeal.nD Cert.WgradGateUpRefIdeal.τ).loc Cert.WgradGateUpRefIdeal.main_v41) = v3 c
          ∧ r.2.mem ((c.tc : Thread Cert.WgradGateUpRefIdeal.nD Cert.WgradGateUpRefIdeal.τ).loc Cert.WgradGateUpRefIdeal.main_v47) = v4 c
          ∧ r.2.mem ((c.tc : Thread Cert.WgradGateUpRefIdeal.nD Cert.WgradGateUpRefIdeal.τ).loc Cert.WgradGateUpRefIdeal.main_v95) = v5 c
          ∧ r.2.mem ((c.tc : Thread Cert.WgradGateUpRefIdeal.nD Cert.WgradGateUpRefIdeal.τ).loc Cert.WgradGateUpRefIdeal.main_v116) = v6 c
          ∧ r.2.mem ((c.tc : Thread Cert.WgradGateUpRefIdeal.nD Cert.WgradGateUpRefIdeal.τ).loc Cert.WgradGateUpRefIdeal.main_v117) = v7 c
          ∧ r.2.mem ((c.tc : Thread Cert.WgradGateUpRefIdeal.nD Cert.WgradGateUpRefIdeal.τ).loc Cert.WgradGateUpRefIdeal.main_v100) = v8 c
          ∧ r.2.mem ((c.tc : Thread Cert.WgradGateUpRefIdeal.nD Cert.WgradGateUpRefIdeal.τ).loc Cert.WgradGateUpRefIdeal.main_v106) = v9 c
          ∧ r.2.mem ((c.tc : Thread Cert.WgradGateUpRefIdeal.nD Cert.WgradGateUpRefIdeal.τ).loc Cert.WgradGateUpRefIdeal.main_arg0) = m' ((c.tc : Thread Cert.WgradGateUpRefIdeal.nD Cert.WgradGateUpRefIdeal.τ).loc Cert.WgradGateUpRefIdeal.main_arg0)
          ∧ r.2.mem ((c.tc : Thread Cert.WgradGateUpRefIdeal.nD Cert.WgradGateUpRefIdeal.τ).loc Cert.WgradGateUpRefIdeal.main_arg1) = m' ((c.tc : Thread Cert.WgradGateUpRefIdeal.nD Cert.WgradGateUpRefIdeal.τ).loc Cert.WgradGateUpRefIdeal.main_arg1)
          ∧ r.2.mem ((c.tc : Thread Cert.WgradGateUpRefIdeal.nD Cert.WgradGateUpRefIdeal.τ).loc Cert.WgradGateUpRefIdeal.main_arg2) = m' ((c.tc : Thread Cert.WgradGateUpRefIdeal.nD Cert.WgradGateUpRefIdeal.τ).loc Cert.WgradGateUpRefIdeal.main_arg2)
          ∧ r.2.mem ((c.tc : Thread Cert.WgradGateUpRefIdeal.nD Cert.WgradGateUpRefIdeal.τ).loc Cert.WgradGateUpRefIdeal.main_arg3) = m' ((c.tc : Thread Cert.WgradGateUpRefIdeal.nD Cert.WgradGateUpRefIdeal.τ).loc Cert.WgradGateUpRefIdeal.main_arg3)
          ∧ r.2.mem ((c.tc : Thread Cert.WgradGateUpRefIdeal.nD Cert.WgradGateUpRefIdeal.τ).loc Cert.WgradGateUpRefIdeal.main_arg4) = m' ((c.tc : Thread Cert.WgradGateUpRefIdeal.nD Cert.WgradGateUpRefIdeal.τ).loc Cert.WgradGateUpRefIdeal.main_arg4)
          ∧ r.2.mem ((c.tc : Thread Cert.WgradGateUpRefIdeal.nD Cert.WgradGateUpRefIdeal.τ).loc Cert.WgradGateUpRefIdeal.main_arg5) = m' ((c.tc : Thread Cert.WgradGateUpRefIdeal.nD Cert.WgradGateUpRefIdeal.τ).loc Cert.WgradGateUpRefIdeal.main_arg5)
          ∧ r.2.mem ((c.tc : Thread Cert.WgradGateUpRefIdeal.nD Cert.WgradGateUpRefIdeal.τ).loc Cert.WgradGateUpRefIdeal.main_arg6) = m' ((c.tc : Thread Cert.WgradGateUpRefIdeal.nD Cert.WgradGateUpRefIdeal.τ).loc Cert.WgradGateUpRefIdeal.main_arg6)
          ∧ r.2.mem ((c.tc : Thread Cert.WgradGateUpRefIdeal.nD Cert.WgradGateUpRefIdeal.τ).loc Cert.WgradGateUpRefIdeal.main_arg7) = m' ((c.tc : Thread Cert.WgradGateUpRefIdeal.nD Cert.WgradGateUpRefIdeal.τ).loc Cert.WgradGateUpRefIdeal.main_arg7)
          ∧ r.2.mem ((c.tc : Thread Cert.WgradGateUpRefIdeal.nD Cert.WgradGateUpRefIdeal.τ).loc Cert.WgradGateUpRefIdeal.main_arg8) = m' ((c.tc : Thread Cert.WgradGateUpRefIdeal.nD Cert.WgradGateUpRefIdeal.τ).loc Cert.WgradGateUpRefIdeal.main_arg8)
          ∧ r.2.mem ((c.tc : Thread Cert.WgradGateUpRefIdeal.nD Cert.WgradGateUpRefIdeal.τ).loc Cert.WgradGateUpRefIdeal.main_arg9) = m' ((c.tc : Thread Cert.WgradGateUpRefIdeal.nD Cert.WgradGateUpRefIdeal.τ).loc Cert.WgradGateUpRefIdeal.main_arg9)
          ∧ r.2.mem ((c.tc : Thread Cert.WgradGateUpRefIdeal.nD Cert.WgradGateUpRefIdeal.τ).loc Cert.WgradGateUpRefIdeal.main_arg10) = m' ((c.tc : Thread Cert.WgradGateUpRefIdeal.nD Cert.WgradGateUpRefIdeal.τ).loc Cert.WgradGateUpRefIdeal.main_arg10)
          ∧ r.2.mem ((c.tc : Thread Cert.WgradGateUpRefIdeal.nD Cert.WgradGateUpRefIdeal.τ).loc Cert.WgradGateUpRefIdeal.main_arg11) = m' ((c.tc : Thread Cert.WgradGateUpRefIdeal.nD Cert.WgradGateUpRefIdeal.τ).loc Cert.WgradGateUpRefIdeal.main_arg11)
          ∧ r.2.mem ((c.tc : Thread Cert.WgradGateUpRefIdeal.nD Cert.WgradGateUpRefIdeal.τ).loc Cert.WgradGateUpRefIdeal.main_arg12) = m' ((c.tc : Thread Cert.WgradGateUpRefIdeal.nD Cert.WgradGateUpRefIdeal.τ).loc Cert.WgradGateUpRefIdeal.main_arg12)
          ∧ r.2.mem ((c.tc : Thread Cert.WgradGateUpRefIdeal.nD Cert.WgradGateUpRefIdeal.τ).loc Cert.WgradGateUpRefIdeal.main_arg13) = m' ((c.tc : Thread Cert.WgradGateUpRefIdeal.nD Cert.WgradGateUpRefIdeal.τ).loc Cert.WgradGateUpRefIdeal.main_arg13)
          ∧ r.2.mem ((c.tc : Thread Cert.WgradGateUpRefIdeal.nD Cert.WgradGateUpRefIdeal.τ).loc Cert.WgradGateUpRefIdeal.main_arg14) = m' ((c.tc : Thread Cert.WgradGateUpRefIdeal.nD Cert.WgradGateUpRefIdeal.τ).loc Cert.WgradGateUpRefIdeal.main_arg14)
          ∧ r.2.mem ((c.tc : Thread Cert.WgradGateUpRefIdeal.nD Cert.WgradGateUpRefIdeal.τ).loc Cert.WgradGateUpRefIdeal.main_arg15) = m' ((c.tc : Thread Cert.WgradGateUpRefIdeal.nD Cert.WgradGateUpRefIdeal.τ).loc Cert.WgradGateUpRefIdeal.main_arg15)
          ∧ r.2.mem ((c.tc : Thread Cert.WgradGateUpRefIdeal.nD Cert.WgradGateUpRefIdeal.τ).loc Cert.WgradGateUpRefIdeal.main_arg16) = m' ((c.tc : Thread Cert.WgradGateUpRefIdeal.nD Cert.WgradGateUpRefIdeal.τ).loc Cert.WgradGateUpRefIdeal.main_arg16))

def preserves_WgradDown_WgradDownIdeal : Prop :=
  True

def algebraic_WgradDownIdeal_WgradDownRefIdeal [hWgradDownIdeal : Cert.WgradDownIdeal.Facts] [hWgradDownRefIdeal : Cert.WgradDownRefIdeal.Facts] : Prop :=
  ∀ (m : (ℓ : Loc Cert.WgradDownIdeal.nD Cert.WgradDownIdeal.τ Cert.WgradDownIdeal.sig) → Buf (Elt Ideal) ℓ) (g : Dev Cert.WgradDownIdeal.nD → PrngReg)
    (m' : (ℓ : Loc Cert.WgradDownRefIdeal.nD Cert.WgradDownRefIdeal.τ Cert.WgradDownRefIdeal.sig) → Buf (Elt Ideal) ℓ) (g' : Dev Cert.WgradDownRefIdeal.nD → PrngReg), Pre_WgradDownIdeal m →
    (∀ c : Dev Cert.WgradDownIdeal.nD,
      m' ((c.tc : Thread Cert.WgradDownRefIdeal.nD Cert.WgradDownRefIdeal.τ).loc Cert.WgradDownRefIdeal.main_arg0) = m ((c.tc : Thread Cert.WgradDownIdeal.nD Cert.WgradDownIdeal.τ).loc Cert.WgradDownIdeal.main_arg0)
      ∧ m' ((c.tc : Thread Cert.WgradDownRefIdeal.nD Cert.WgradDownRefIdeal.τ).loc Cert.WgradDownRefIdeal.main_arg1) = m ((c.tc : Thread Cert.WgradDownIdeal.nD Cert.WgradDownIdeal.τ).loc Cert.WgradDownIdeal.main_arg1)
      ∧ m' ((c.tc : Thread Cert.WgradDownRefIdeal.nD Cert.WgradDownRefIdeal.τ).loc Cert.WgradDownRefIdeal.main_arg2) = m ((c.tc : Thread Cert.WgradDownIdeal.nD Cert.WgradDownIdeal.τ).loc Cert.WgradDownIdeal.main_arg2)
      ∧ m' ((c.tc : Thread Cert.WgradDownRefIdeal.nD Cert.WgradDownRefIdeal.τ).loc Cert.WgradDownRefIdeal.main_arg3) = m ((c.tc : Thread Cert.WgradDownIdeal.nD Cert.WgradDownIdeal.τ).loc Cert.WgradDownIdeal.main_arg3)
      ∧ m' ((c.tc : Thread Cert.WgradDownRefIdeal.nD Cert.WgradDownRefIdeal.τ).loc Cert.WgradDownRefIdeal.main_arg4) = m ((c.tc : Thread Cert.WgradDownIdeal.nD Cert.WgradDownIdeal.τ).loc Cert.WgradDownIdeal.main_arg4)
      ∧ m' ((c.tc : Thread Cert.WgradDownRefIdeal.nD Cert.WgradDownRefIdeal.τ).loc Cert.WgradDownRefIdeal.main_arg5) = m ((c.tc : Thread Cert.WgradDownIdeal.nD Cert.WgradDownIdeal.τ).loc Cert.WgradDownIdeal.main_arg5)
      ∧ m' ((c.tc : Thread Cert.WgradDownRefIdeal.nD Cert.WgradDownRefIdeal.τ).loc Cert.WgradDownRefIdeal.main_arg6) = m ((c.tc : Thread Cert.WgradDownIdeal.nD Cert.WgradDownIdeal.τ).loc Cert.WgradDownIdeal.main_arg6)
      ∧ m' ((c.tc : Thread Cert.WgradDownRefIdeal.nD Cert.WgradDownRefIdeal.τ).loc Cert.WgradDownRefIdeal.main_arg7) = m ((c.tc : Thread Cert.WgradDownIdeal.nD Cert.WgradDownIdeal.τ).loc Cert.WgradDownIdeal.main_arg7)
      ∧ m' ((c.tc : Thread Cert.WgradDownRefIdeal.nD Cert.WgradDownRefIdeal.τ).loc Cert.WgradDownRefIdeal.main_arg8) = m ((c.tc : Thread Cert.WgradDownIdeal.nD Cert.WgradDownIdeal.τ).loc Cert.WgradDownIdeal.main_arg8)
      ∧ m' ((c.tc : Thread Cert.WgradDownRefIdeal.nD Cert.WgradDownRefIdeal.τ).loc Cert.WgradDownRefIdeal.main_arg9) = m ((c.tc : Thread Cert.WgradDownIdeal.nD Cert.WgradDownIdeal.τ).loc Cert.WgradDownIdeal.main_arg9)
      ∧ m' ((c.tc : Thread Cert.WgradDownRefIdeal.nD Cert.WgradDownRefIdeal.τ).loc Cert.WgradDownRefIdeal.main_arg10) = m ((c.tc : Thread Cert.WgradDownIdeal.nD Cert.WgradDownIdeal.τ).loc Cert.WgradDownIdeal.main_arg10)) →
    ∃ (v0 : (c : Dev Cert.WgradDownIdeal.nD) → Buf (Elt Ideal) ((c.tc : Thread Cert.WgradDownIdeal.nD Cert.WgradDownIdeal.τ).loc Cert.WgradDownIdeal.main_v12_0)) (v1 : (c : Dev Cert.WgradDownIdeal.nD) → Buf (Elt Ideal) ((c.tc : Thread Cert.WgradDownIdeal.nD Cert.WgradDownIdeal.τ).loc Cert.WgradDownIdeal.main_v12_1)) (v2 : (c : Dev Cert.WgradDownIdeal.nD) → Buf (Elt Ideal) ((c.tc : Thread Cert.WgradDownIdeal.nD Cert.WgradDownIdeal.τ).loc Cert.WgradDownIdeal.main_v12_2)) (v3 : (c : Dev Cert.WgradDownIdeal.nD) → Buf (Elt Ideal) ((c.tc : Thread Cert.WgradDownIdeal.nD Cert.WgradDownIdeal.τ).loc Cert.WgradDownIdeal.main_v12_3)) (v4 : (c : Dev Cert.WgradDownIdeal.nD) → Buf (Elt Ideal) ((c.tc : Thread Cert.WgradDownIdeal.nD Cert.WgradDownIdeal.τ).loc Cert.WgradDownIdeal.main_v12_4)),
      θ_run (Cert.WgradDownIdeal.defs (F := Ideal)) (onTc (τ := Cert.WgradDownIdeal.τ) (Cert.WgradDownIdeal.main (F := Ideal))) ⟨m, fun _ => 0, g⟩ (fun r => ∀ c : Dev Cert.WgradDownIdeal.nD,
          r.2.mem ((c.tc : Thread Cert.WgradDownIdeal.nD Cert.WgradDownIdeal.τ).loc Cert.WgradDownIdeal.main_v12_0) = v0 c
          ∧ r.2.mem ((c.tc : Thread Cert.WgradDownIdeal.nD Cert.WgradDownIdeal.τ).loc Cert.WgradDownIdeal.main_v12_1) = v1 c
          ∧ r.2.mem ((c.tc : Thread Cert.WgradDownIdeal.nD Cert.WgradDownIdeal.τ).loc Cert.WgradDownIdeal.main_v12_2) = v2 c
          ∧ r.2.mem ((c.tc : Thread Cert.WgradDownIdeal.nD Cert.WgradDownIdeal.τ).loc Cert.WgradDownIdeal.main_v12_3) = v3 c
          ∧ r.2.mem ((c.tc : Thread Cert.WgradDownIdeal.nD Cert.WgradDownIdeal.τ).loc Cert.WgradDownIdeal.main_v12_4) = v4 c
          ∧ r.2.mem ((c.tc : Thread Cert.WgradDownIdeal.nD Cert.WgradDownIdeal.τ).loc Cert.WgradDownIdeal.main_arg0) = m ((c.tc : Thread Cert.WgradDownIdeal.nD Cert.WgradDownIdeal.τ).loc Cert.WgradDownIdeal.main_arg0)
          ∧ r.2.mem ((c.tc : Thread Cert.WgradDownIdeal.nD Cert.WgradDownIdeal.τ).loc Cert.WgradDownIdeal.main_arg1) = m ((c.tc : Thread Cert.WgradDownIdeal.nD Cert.WgradDownIdeal.τ).loc Cert.WgradDownIdeal.main_arg1)
          ∧ r.2.mem ((c.tc : Thread Cert.WgradDownIdeal.nD Cert.WgradDownIdeal.τ).loc Cert.WgradDownIdeal.main_arg2) = m ((c.tc : Thread Cert.WgradDownIdeal.nD Cert.WgradDownIdeal.τ).loc Cert.WgradDownIdeal.main_arg2)
          ∧ r.2.mem ((c.tc : Thread Cert.WgradDownIdeal.nD Cert.WgradDownIdeal.τ).loc Cert.WgradDownIdeal.main_arg3) = m ((c.tc : Thread Cert.WgradDownIdeal.nD Cert.WgradDownIdeal.τ).loc Cert.WgradDownIdeal.main_arg3)
          ∧ r.2.mem ((c.tc : Thread Cert.WgradDownIdeal.nD Cert.WgradDownIdeal.τ).loc Cert.WgradDownIdeal.main_arg4) = m ((c.tc : Thread Cert.WgradDownIdeal.nD Cert.WgradDownIdeal.τ).loc Cert.WgradDownIdeal.main_arg4)
          ∧ r.2.mem ((c.tc : Thread Cert.WgradDownIdeal.nD Cert.WgradDownIdeal.τ).loc Cert.WgradDownIdeal.main_arg5) = m ((c.tc : Thread Cert.WgradDownIdeal.nD Cert.WgradDownIdeal.τ).loc Cert.WgradDownIdeal.main_arg5)
          ∧ r.2.mem ((c.tc : Thread Cert.WgradDownIdeal.nD Cert.WgradDownIdeal.τ).loc Cert.WgradDownIdeal.main_arg6) = m ((c.tc : Thread Cert.WgradDownIdeal.nD Cert.WgradDownIdeal.τ).loc Cert.WgradDownIdeal.main_arg6)
          ∧ r.2.mem ((c.tc : Thread Cert.WgradDownIdeal.nD Cert.WgradDownIdeal.τ).loc Cert.WgradDownIdeal.main_arg7) = m ((c.tc : Thread Cert.WgradDownIdeal.nD Cert.WgradDownIdeal.τ).loc Cert.WgradDownIdeal.main_arg7)
          ∧ r.2.mem ((c.tc : Thread Cert.WgradDownIdeal.nD Cert.WgradDownIdeal.τ).loc Cert.WgradDownIdeal.main_arg8) = m ((c.tc : Thread Cert.WgradDownIdeal.nD Cert.WgradDownIdeal.τ).loc Cert.WgradDownIdeal.main_arg8)
          ∧ r.2.mem ((c.tc : Thread Cert.WgradDownIdeal.nD Cert.WgradDownIdeal.τ).loc Cert.WgradDownIdeal.main_arg9) = m ((c.tc : Thread Cert.WgradDownIdeal.nD Cert.WgradDownIdeal.τ).loc Cert.WgradDownIdeal.main_arg9)
          ∧ r.2.mem ((c.tc : Thread Cert.WgradDownIdeal.nD Cert.WgradDownIdeal.τ).loc Cert.WgradDownIdeal.main_arg10) = m ((c.tc : Thread Cert.WgradDownIdeal.nD Cert.WgradDownIdeal.τ).loc Cert.WgradDownIdeal.main_arg10))
      ∧ θ_run (Cert.WgradDownRefIdeal.defs (F := Ideal)) (onTc (τ := Cert.WgradDownRefIdeal.τ) (Cert.WgradDownRefIdeal.main (F := Ideal))) ⟨m', fun _ => 0, g'⟩ (fun r => ∀ c : Dev Cert.WgradDownRefIdeal.nD,
          r.2.mem ((c.tc : Thread Cert.WgradDownRefIdeal.nD Cert.WgradDownRefIdeal.τ).loc Cert.WgradDownRefIdeal.main_v37) = v0 c
          ∧ r.2.mem ((c.tc : Thread Cert.WgradDownRefIdeal.nD Cert.WgradDownRefIdeal.τ).loc Cert.WgradDownRefIdeal.main_v58) = v1 c
          ∧ r.2.mem ((c.tc : Thread Cert.WgradDownRefIdeal.nD Cert.WgradDownRefIdeal.τ).loc Cert.WgradDownRefIdeal.main_v59) = v2 c
          ∧ r.2.mem ((c.tc : Thread Cert.WgradDownRefIdeal.nD Cert.WgradDownRefIdeal.τ).loc Cert.WgradDownRefIdeal.main_v42) = v3 c
          ∧ r.2.mem ((c.tc : Thread Cert.WgradDownRefIdeal.nD Cert.WgradDownRefIdeal.τ).loc Cert.WgradDownRefIdeal.main_v48) = v4 c
          ∧ r.2.mem ((c.tc : Thread Cert.WgradDownRefIdeal.nD Cert.WgradDownRefIdeal.τ).loc Cert.WgradDownRefIdeal.main_arg0) = m' ((c.tc : Thread Cert.WgradDownRefIdeal.nD Cert.WgradDownRefIdeal.τ).loc Cert.WgradDownRefIdeal.main_arg0)
          ∧ r.2.mem ((c.tc : Thread Cert.WgradDownRefIdeal.nD Cert.WgradDownRefIdeal.τ).loc Cert.WgradDownRefIdeal.main_arg1) = m' ((c.tc : Thread Cert.WgradDownRefIdeal.nD Cert.WgradDownRefIdeal.τ).loc Cert.WgradDownRefIdeal.main_arg1)
          ∧ r.2.mem ((c.tc : Thread Cert.WgradDownRefIdeal.nD Cert.WgradDownRefIdeal.τ).loc Cert.WgradDownRefIdeal.main_arg2) = m' ((c.tc : Thread Cert.WgradDownRefIdeal.nD Cert.WgradDownRefIdeal.τ).loc Cert.WgradDownRefIdeal.main_arg2)
          ∧ r.2.mem ((c.tc : Thread Cert.WgradDownRefIdeal.nD Cert.WgradDownRefIdeal.τ).loc Cert.WgradDownRefIdeal.main_arg3) = m' ((c.tc : Thread Cert.WgradDownRefIdeal.nD Cert.WgradDownRefIdeal.τ).loc Cert.WgradDownRefIdeal.main_arg3)
          ∧ r.2.mem ((c.tc : Thread Cert.WgradDownRefIdeal.nD Cert.WgradDownRefIdeal.τ).loc Cert.WgradDownRefIdeal.main_arg4) = m' ((c.tc : Thread Cert.WgradDownRefIdeal.nD Cert.WgradDownRefIdeal.τ).loc Cert.WgradDownRefIdeal.main_arg4)
          ∧ r.2.mem ((c.tc : Thread Cert.WgradDownRefIdeal.nD Cert.WgradDownRefIdeal.τ).loc Cert.WgradDownRefIdeal.main_arg5) = m' ((c.tc : Thread Cert.WgradDownRefIdeal.nD Cert.WgradDownRefIdeal.τ).loc Cert.WgradDownRefIdeal.main_arg5)
          ∧ r.2.mem ((c.tc : Thread Cert.WgradDownRefIdeal.nD Cert.WgradDownRefIdeal.τ).loc Cert.WgradDownRefIdeal.main_arg6) = m' ((c.tc : Thread Cert.WgradDownRefIdeal.nD Cert.WgradDownRefIdeal.τ).loc Cert.WgradDownRefIdeal.main_arg6)
          ∧ r.2.mem ((c.tc : Thread Cert.WgradDownRefIdeal.nD Cert.WgradDownRefIdeal.τ).loc Cert.WgradDownRefIdeal.main_arg7) = m' ((c.tc : Thread Cert.WgradDownRefIdeal.nD Cert.WgradDownRefIdeal.τ).loc Cert.WgradDownRefIdeal.main_arg7)
          ∧ r.2.mem ((c.tc : Thread Cert.WgradDownRefIdeal.nD Cert.WgradDownRefIdeal.τ).loc Cert.WgradDownRefIdeal.main_arg8) = m' ((c.tc : Thread Cert.WgradDownRefIdeal.nD Cert.WgradDownRefIdeal.τ).loc Cert.WgradDownRefIdeal.main_arg8)
          ∧ r.2.mem ((c.tc : Thread Cert.WgradDownRefIdeal.nD Cert.WgradDownRefIdeal.τ).loc Cert.WgradDownRefIdeal.main_arg9) = m' ((c.tc : Thread Cert.WgradDownRefIdeal.nD Cert.WgradDownRefIdeal.τ).loc Cert.WgradDownRefIdeal.main_arg9)
          ∧ r.2.mem ((c.tc : Thread Cert.WgradDownRefIdeal.nD Cert.WgradDownRefIdeal.τ).loc Cert.WgradDownRefIdeal.main_arg10) = m' ((c.tc : Thread Cert.WgradDownRefIdeal.nD Cert.WgradDownRefIdeal.τ).loc Cert.WgradDownRefIdeal.main_arg10))

def Claim : Prop :=
  ∃ (hGate : Cert.Gate.Facts) (hGateIdeal : Cert.GateIdeal.Facts) (hGateRefIdeal : Cert.GateRefIdeal.Facts) (hDown : Cert.Down.Facts) (hDownIdeal : Cert.DownIdeal.Facts) (hDownRefIdeal : Cert.DownRefIdeal.Facts) (hNorm : Cert.Norm.Facts) (hNormIdeal : Cert.NormIdeal.Facts) (hNormRefIdeal : Cert.NormRefIdeal.Facts) (hWgradGateUp : Cert.WgradGateUp.Facts) (hWgradGateUpIdeal : Cert.WgradGateUpIdeal.Facts) (hWgradGateUpRefIdeal : Cert.WgradGateUpRefIdeal.Facts) (hWgradDown : Cert.WgradDown.Facts) (hWgradDownIdeal : Cert.WgradDownIdeal.Facts) (hWgradDownRefIdeal : Cert.WgradDownRefIdeal.Facts),
    quiescent_Gate (hGate := hGate)
    ∧ quiescent_GateIdeal (hGateIdeal := hGateIdeal)
    ∧ quiescent_GateRefIdeal (hGateRefIdeal := hGateRefIdeal)
    ∧ quiescent_Down (hDown := hDown)
    ∧ quiescent_DownIdeal (hDownIdeal := hDownIdeal)
    ∧ quiescent_DownRefIdeal (hDownRefIdeal := hDownRefIdeal)
    ∧ quiescent_Norm (hNorm := hNorm)
    ∧ quiescent_NormIdeal (hNormIdeal := hNormIdeal)
    ∧ quiescent_NormRefIdeal (hNormRefIdeal := hNormRefIdeal)
    ∧ quiescent_WgradGateUp (hWgradGateUp := hWgradGateUp)
    ∧ quiescent_WgradGateUpIdeal (hWgradGateUpIdeal := hWgradGateUpIdeal)
    ∧ quiescent_WgradGateUpRefIdeal (hWgradGateUpRefIdeal := hWgradGateUpRefIdeal)
    ∧ quiescent_WgradDown (hWgradDown := hWgradDown)
    ∧ quiescent_WgradDownIdeal (hWgradDownIdeal := hWgradDownIdeal)
    ∧ quiescent_WgradDownRefIdeal (hWgradDownRefIdeal := hWgradDownRefIdeal)
    ∧ preserves_Gate_GateIdeal
    ∧ algebraic_GateIdeal_GateRefIdeal (hGateIdeal := hGateIdeal) (hGateRefIdeal := hGateRefIdeal)
    ∧ preserves_Down_DownIdeal
    ∧ algebraic_DownIdeal_DownRefIdeal (hDownIdeal := hDownIdeal) (hDownRefIdeal := hDownRefIdeal)
    ∧ preserves_Norm_NormIdeal
    ∧ algebraic_NormIdeal_NormRefIdeal (hNormIdeal := hNormIdeal) (hNormRefIdeal := hNormRefIdeal)
    ∧ preserves_WgradGateUp_WgradGateUpIdeal
    ∧ algebraic_WgradGateUpIdeal_WgradGateUpRefIdeal (hWgradGateUpIdeal := hWgradGateUpIdeal) (hWgradGateUpRefIdeal := hWgradGateUpRefIdeal)
    ∧ preserves_WgradDown_WgradDownIdeal
    ∧ algebraic_WgradDownIdeal_WgradDownRefIdeal (hWgradDownIdeal := hWgradDownIdeal) (hWgradDownRefIdeal := hWgradDownRefIdeal)
-- ==== Gate.lean ====
abbrev S4096x8192 : Shape := ⟨2, ![4096, 8192]⟩
abbrev S4x1024x8192 : Shape := ⟨3, ![4, 1024, 8192]⟩
abbrev S8192x3584 : Shape := ⟨2, ![8192, 3584]⟩
abbrev S3584x8192 : Shape := ⟨2, ![3584, 8192]⟩
abbrev S4096x3584 : Shape := ⟨2, ![4096, 3584]⟩
abbrev S256x8192 : Shape := ⟨2, ![256, 8192]⟩
abbrev S8192x256 : Shape := ⟨2, ![8192, 256]⟩
abbrev S256x256 : Shape := ⟨2, ![256, 256]⟩

abbrev nBuf : Space → Nat
  | .hbm => 9
  | .vmem => 16
  | .smem => 0
  | _ => 0

abbrev bufTy : (tb : Table) → Fin (tcTables nBuf tb) → BufTy
  | .hbm, ⟨0, _⟩ => ⟨S4096x8192, .bf16⟩
  | .hbm, ⟨1, _⟩ => ⟨S4x1024x8192, .bf16⟩
  | .hbm, ⟨2, _⟩ => ⟨S8192x3584, .bf16⟩
  | .hbm, ⟨3, _⟩ => ⟨S8192x3584, .bf16⟩
  | .hbm, ⟨4, _⟩ => ⟨S3584x8192, .bf16⟩
  | .hbm, ⟨5, _⟩ => ⟨S4096x8192, .bf16⟩
  | .hbm, ⟨6, _⟩ => ⟨S4096x3584, .bf16⟩
  | .hbm, ⟨7, _⟩ => ⟨S4096x3584, .bf16⟩
  | .hbm, ⟨8, _⟩ => ⟨S4096x3584, .bf16⟩
  | .local _ .vmem, ⟨0, _⟩ => ⟨S256x8192, .bf16⟩
  | .local _ .vmem, ⟨1, _⟩ => ⟨S256x8192, .bf16⟩
  | .local _ .vmem, ⟨2, _⟩ => ⟨S256x8192, .bf16⟩
  | .local _ .vmem, ⟨3, _⟩ => ⟨S256x8192, .bf16⟩
  | .local _ .vmem, ⟨4, _⟩ => ⟨S8192x256, .bf16⟩
  | .local _ .vmem, ⟨5, _⟩ => ⟨S8192x256, .bf16⟩
  | .local _ .vmem, ⟨6, _⟩ => ⟨S8192x256, .bf16⟩
  | .local _ .vmem, ⟨7, _⟩ => ⟨S8192x256, .bf16⟩
  | .local _ .vmem, ⟨8, _⟩ => ⟨S256x8192, .bf16⟩
  | .local _ .vmem, ⟨9, _⟩ => ⟨S256x8192, .bf16⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .vmem, ⟨13, _⟩ => ⟨S256x256, .bf16⟩
  | .local _ .vmem, ⟨14, _⟩ => ⟨S256x256, .bf16⟩
  | .local _ .vmem, ⟨15, _⟩ => ⟨S256x256, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== GateRefIdeal.lean ====
abbrev S4096x8192 : Shape := ⟨2, ![4096, 8192]⟩
abbrev S4x1024x8192 : Shape := ⟨3, ![4, 1024, 8192]⟩
abbrev S8192x3584 : Shape := ⟨2, ![8192, 3584]⟩
abbrev S3584x8192 : Shape := ⟨2, ![3584, 8192]⟩
abbrev S4096x3584 : Shape := ⟨2, ![4096, 3584]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4x1024x8192, .bf16⟩
  | .hbm, ⟨2, _⟩ => ⟨S8192x3584, .bf16⟩
  | .hbm, ⟨3, _⟩ => ⟨S8192x3584, .bf16⟩
  | .hbm, ⟨4, _⟩ => ⟨S3584x8192, .bf16⟩
  | .hbm, ⟨5, _⟩ => ⟨S4096x8192, .bf16⟩
  | .hbm, ⟨6, _⟩ => ⟨S4096x3584, .f32⟩
  | .hbm, ⟨7, _⟩ => ⟨S4096x3584, .f32⟩
  | .hbm, ⟨8, _⟩ => ⟨S4096x3584, .f32⟩
  | .hbm, ⟨9, _⟩ => ⟨S4096x3584, .f32⟩
  | .hbm, ⟨10, _⟩ => ⟨S4096x3584, .f32⟩
  | .hbm, ⟨11, _⟩ => ⟨S_, .f32⟩
  | .hbm, ⟨12, _⟩ => ⟨S4096x3584, .f32⟩
  | .hbm, ⟨13, _⟩ => ⟨S4096x3584, .f32⟩
  | .hbm, ⟨14, _⟩ => ⟨S_, .f32⟩
  | .hbm, ⟨15, _⟩ => ⟨S4096x3584, .f32⟩
  | .hbm, ⟨16, _⟩ => ⟨S4096x3584, .f32⟩
  | .hbm, ⟨17, _⟩ => ⟨S4096x3584, .f32⟩
  | .hbm, ⟨18, _⟩ => ⟨S4096x3584, .f32⟩
  | .hbm, ⟨19, _⟩ => ⟨S4096x3584, .bf16⟩
  | .hbm, ⟨20, _⟩ => ⟨S4096x3584, .f32⟩
  | .hbm, ⟨21, _⟩ => ⟨S4096x3584, .f32⟩
  | .hbm, ⟨22, _⟩ => ⟨S_, .f32⟩
  | .hbm, ⟨23, _⟩ => ⟨S4096x3584, .f32⟩
  | .hbm, ⟨24, _⟩ => ⟨S4096x3584, .f32⟩
  | .hbm, ⟨25, _⟩ => ⟨S4096x3584, .f32⟩
  | .hbm, ⟨26, _⟩ => ⟨S_, .f32⟩
  | .hbm, ⟨27, _⟩ => ⟨S4096x3584, .f32⟩
  | .hbm, ⟨28, _⟩ => ⟨S4096x3584, .f32⟩
  | .hbm, ⟨29, _⟩ => ⟨S4096x3584, .f32⟩
  | .hbm, ⟨30, _⟩ => ⟨S4096x3584, .bf16⟩
  | .hbm, ⟨31, _⟩ => ⟨S4096x3584, .f32⟩
  | .hbm, ⟨32, _⟩ => ⟨S4096x3584, .f32⟩
  | .hbm, ⟨33, _⟩ => ⟨S4096x3584, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Down.lean ====
abbrev S4096x3584 : Shape := ⟨2, ![4096, 3584]⟩
abbrev S3584x8192 : Shape := ⟨2, ![3584, 8192]⟩
abbrev S4x1024x8192 : Shape := ⟨3, ![4, 1024, 8192]⟩
abbrev S4096x8192 : Shape := ⟨2, ![4096, 8192]⟩
abbrev S1024x3584 : Shape := ⟨2, ![1024, 3584]⟩
abbrev S3584x1024 : Shape := ⟨2, ![3584, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x3584, .bf16⟩
  | .hbm, ⟨1, _⟩ => ⟨S3584x8192, .bf16⟩
  | .hbm, ⟨2, _⟩ => ⟨S4x1024x8192, .bf16⟩
  | .hbm, ⟨3, _⟩ => ⟨S4096x8192, .bf16⟩
  | .hbm, ⟨4, _⟩ => ⟨S4096x8192, .bf16⟩
  | .local _ .vmem, ⟨0, _⟩ => ⟨S1024x3584, .bf16⟩
  | .local _ .vmem, ⟨1, _⟩ => ⟨S1024x3584, .bf16⟩
  | .local _ .vmem, ⟨2, _⟩ => ⟨S3584x1024, .bf16⟩
  | .local _ .vmem, ⟨3, _⟩ => ⟨S3584x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3584x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S4096x3584 : Shape := ⟨2, ![4096, 3584]⟩
abbrev S3584x8192 : Shape := ⟨2, ![3584, 8192]⟩
abbrev S4x1024x8192 : Shape := ⟨3, ![4, 1024, 8192]⟩
abbrev S4096x8192 : Shape := ⟨2, ![4096, 8192]⟩

abbrev nBuf : Space → Nat
  | .hbm => 8
  | .vmem => 0
  | .smem => 0
  | _ => 0

abbrev bufTy : (tb : Table) → Fin (tcTables nBuf tb) → BufTy
  | .hbm, ⟨0, _⟩ => ⟨S4096x3584, .bf16⟩
  | .hbm, ⟨1, _⟩ => ⟨S3584x8192, .bf16⟩
  | .hbm, ⟨2, _⟩ => ⟨S4x1024x8192, .bf16⟩
  | .hbm, ⟨3, _⟩ => ⟨S4x1024x8192, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .bf16⟩
  | _, _ => ⟨S4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Norm.lean ====
abbrev S4x1024x8192 : Shape := ⟨3, ![4, 1024, 8192]⟩
abbrev S4096x128 : Shape := ⟨2, ![4096, 128]⟩
abbrev S8192 : Shape := ⟨1, ![8192]⟩
abbrev S4096x8192 : Shape := ⟨2, ![4096, 8192]⟩
abbrev S1x8192 : Shape := ⟨2, ![1, 8192]⟩
abbrev S256x8192 : Shape := ⟨2, ![256, 8192]⟩
abbrev S256x128 : Shape := ⟨2, ![256, 128]⟩
abbrev S256x1 : Shape := ⟨2, ![256, 1]⟩

abbrev nBuf : Space → Nat
  | .hbm => 6
  | .vmem => 7
  | .smem => 0
  | _ => 0

abbrev bufTy : (tb : Table) → Fin (tcTables nBuf tb) → BufTy
  | .hbm, ⟨0, _⟩ => ⟨S4x1024x8192, .bf16⟩
  | .hbm, ⟨1, _⟩ => ⟨S4096x128, .f32⟩
  | .hbm, ⟨2, _⟩ => ⟨S8192, .f32⟩
  | .hbm, ⟨3, _⟩ => ⟨S4096x8192, .bf16⟩
  | .hbm, ⟨4, _⟩ => ⟨S1x8192, .f32⟩
  | .hbm, ⟨5, _⟩ => ⟨S4096x8192, .bf16⟩
  | .local _ .vmem, ⟨0, _⟩ => ⟨S256x8192, .bf16⟩
  | .local _ .vmem, ⟨1, _⟩ => ⟨S256x8192, .bf16⟩
  | .local _ .vmem, ⟨2, _⟩ => ⟨S256x128, .f32⟩
  | .local _ .vmem, ⟨3, _⟩ => ⟨S256x128, .f32⟩
  | .local _ .vmem, ⟨4, _⟩ => ⟨S1x8192, .f32⟩
  | .local _ .vmem, ⟨5, _⟩ => ⟨S256x8192, .bf16⟩
  | .local _ .vmem, ⟨6, _⟩ => ⟨S256x8192, .bf16⟩
  | _, _ => ⟨S4x1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormRefIdeal.lean ====
abbrev S4x1024x8192 : Shape := ⟨3, ![4, 1024, 8192]⟩
abbrev S4096x128 : Shape := ⟨2, ![4096, 128]⟩
abbrev S8192 : Shape := ⟨1, ![8192]⟩
abbrev S4096x8192 : Shape := ⟨2, ![4096, 8192]⟩
abbrev S4096x1 : Shape := ⟨2, ![4096, 1]⟩
abbrev S1x8192 : Shape := ⟨2, ![1, 8192]⟩

abbrev nBuf : Space → Nat
  | .hbm => 12
  | .vmem => 0
  | .smem => 0
  | _ => 0

abbrev bufTy : (tb : Table) → Fin (tcTables nBuf tb) → BufTy
  | .hbm, ⟨0, _⟩ => ⟨S4x1024x8192, .bf16⟩
  | .hbm, ⟨1, _⟩ => ⟨S4096x128, .f32⟩
  | .hbm, ⟨2, _⟩ => ⟨S8192, .f32⟩
  | .hbm, ⟨3, _⟩ => ⟨S4x1024x8192, .f32⟩
  | .hbm, ⟨4, _⟩ => ⟨S4096x8192, .f32⟩
  | .hbm, ⟨5, _⟩ => ⟨S4096x1, .f32⟩
  | .hbm, ⟨6, _⟩ => ⟨S4096x8192, .f32⟩
  | .hbm, ⟨7, _⟩ => ⟨S4096x8192, .f32⟩
  | .hbm, ⟨8, _⟩ => ⟨S1x8192, .f32⟩
  | .hbm, ⟨9, _⟩ => ⟨S4096x8192, .f32⟩
  | .hbm, ⟨10, _⟩ => ⟨S4096x8192, .f32⟩
  | .hbm, ⟨11, _⟩ => ⟨S4096x8192, .bf16⟩
  | _, _ => ⟨S4x1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== WgradGateUp.lean ====
abbrev S4096x8192 : Shape := ⟨2, ![4096, 8192]⟩
abbrev S4096x3584 : Shape := ⟨2, ![4096, 3584]⟩
abbrev S3584x512 : Shape := ⟨2, ![3584, 512]⟩
abbrev S3584x32 : Shape := ⟨2, ![3584, 32]⟩
abbrev S3584x128 : Shape := ⟨2, ![3584, 128]⟩
abbrev S3 : Shape := ⟨1, ![3]⟩
abbrev S_ : Shape := ⟨0, ![]⟩
abbrev S1 : Shape := ⟨1, ![1]⟩
abbrev S1x3 : Shape := ⟨2, ![1, 3]⟩
abbrev S3x3 : Shape := ⟨2, ![3, 3]⟩
abbrev S512x3584 : Shape := ⟨2, ![512, 3584]⟩
abbrev S32x3584 : Shape := ⟨2, ![32, 3584]⟩
abbrev S4096x512 : Shape := ⟨2, ![4096, 512]⟩
abbrev S32x512 : Shape := ⟨2, ![32, 512]⟩
abbrev S512x128 : Shape := ⟨2, ![512, 128]⟩
abbrev S128x512 : Shape := ⟨2, ![128, 512]⟩
abbrev S512x512 : Shape := ⟨2, ![512, 512]⟩
abbrev S1x512 : Shape := ⟨2, ![1, 512]⟩
abbrev S16x512 : Shape := ⟨2, ![16, 512]⟩
abbrev S512 : Shape := ⟨1, ![512]⟩
abbrev S1x1 : Shape := ⟨2, ![1, 1]⟩

abbrev nBuf : Space → Nat
  | .hbm => 41
  | .vmem => 48
  | .smem => 1
  | _ => 0

abbrev bufTy : (tb : Table) → Fin (tcTables nBuf tb) → BufTy
  | .hbm, ⟨0, _⟩ => ⟨S4096x8192, .bf16⟩
  | .hbm, ⟨1, _⟩ => ⟨S4096x3584, .bf16⟩
  | .hbm, ⟨2, _⟩ => ⟨S4096x3584, .bf16⟩
  | .hbm, ⟨3, _⟩ => ⟨S3584x512, .i32⟩
  | .hbm, ⟨4, _⟩ => ⟨S3584x32, .i8⟩
  | .hbm, ⟨5, _⟩ => ⟨S3584x128, .f32⟩
  | .hbm, ⟨6, _⟩ => ⟨S3584x128, .f32⟩
  | .hbm, ⟨7, _⟩ => ⟨S3584x128, .f32⟩
  | .hbm, ⟨8, _⟩ => ⟨S3584x512, .i32⟩
  | .hbm, ⟨9, _⟩ => ⟨S3584x32, .i8⟩
  | .hbm, ⟨10, _⟩ => ⟨S3584x128, .f32⟩
  | .hbm, ⟨11, _⟩ => ⟨S3584x128, .f32⟩
  | .hbm, ⟨12, _⟩ => ⟨S3584x128, .f32⟩
  | .hbm, ⟨13, _⟩ => ⟨S3, .f32⟩
  | .hbm, ⟨14, _⟩ => ⟨S3, .f32⟩
  | .hbm, ⟨15, _⟩ => ⟨S_, .f32⟩
  | .hbm, ⟨16, _⟩ => ⟨S_, .f32⟩
  | .hbm, ⟨17, _⟩ => ⟨S1, .f32⟩
  | .hbm, ⟨18, _⟩ => ⟨S1, .f32⟩
  | .hbm, ⟨19, _⟩ => ⟨S1, .f32⟩
  | .hbm, ⟨20, _⟩ => ⟨S3, .f32⟩
  | .hbm, ⟨21, _⟩ => ⟨S1x3, .f32⟩
  | .hbm, ⟨22, _⟩ => ⟨S1x3, .f32⟩
  | .hbm, ⟨23, _⟩ => ⟨S1x3, .f32⟩
  | .hbm, ⟨24, _⟩ => ⟨S3x3, .f32⟩
  | .hbm, ⟨25, _⟩ => ⟨S512x3584, .i32⟩
  | .hbm, ⟨26, _⟩ => ⟨S32x3584, .i8⟩
  | .hbm, ⟨27, _⟩ => ⟨S32x3584, .i32⟩
  | .hbm, ⟨28, _⟩ => ⟨S512x3584, .i32⟩
  | .hbm, ⟨29, _⟩ => ⟨S32x3584, .i8⟩
  | .hbm, ⟨30, _⟩ => ⟨S32x3584, .i32⟩
  | .hbm, ⟨31, _⟩ => ⟨S3584x128, .f32⟩
  | .hbm, ⟨32, _⟩ => ⟨S3584x128, .f32⟩
  | .hbm, ⟨33, _⟩ => ⟨S3584x128, .f32⟩
  | .hbm, ⟨34, _⟩ => ⟨S3584x128, .f32⟩
  | .hbm, ⟨35, _⟩ => ⟨S3584x128, .f32⟩
  | .hbm, ⟨36, _⟩ => ⟨S3584x128, .f32⟩
  | .hbm, ⟨37, _⟩ => ⟨S3584x128, .f32⟩
  | .hbm, ⟨38, _⟩ => ⟨S3584x128, .f32⟩
  | .hbm, ⟨39, _⟩ => ⟨S3584x128, .f32⟩
  | .hbm, ⟨40, _⟩ => ⟨S3584x128, .f32⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S32x512, .i32⟩
  | .local _ .vmem, ⟨5, _⟩ => ⟨S32x512, .i32⟩
  | .local _ .vmem, ⟨6, _⟩ => ⟨S32x512, .i32⟩
  | .local _ .vmem, ⟨7, _⟩ => ⟨S32x512, .i32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S4096x512, .bf16⟩
  | .local _ .vmem, ⟨15, _⟩ => ⟨S4096x512, .bf16⟩
  | .local _ .vmem, ⟨16, _⟩ => ⟨S32x512, .i32⟩
  | .local _ .vmem, ⟨17, _⟩ => ⟨S32x512, .i32⟩
  | .local _ .vmem, ⟨18, _⟩ => ⟨S32x512, .i32⟩
  | .local _ .vmem, ⟨19, _⟩ => ⟨S32x512, .i32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .vmem, ⟨28, _⟩ => ⟨S512x128, .f32⟩
  | .local _ .vmem, ⟨29, _⟩ => ⟨S512x128, .f32⟩
  | .local _ .vmem, ⟨30, _⟩ => ⟨S512x128, .f32⟩
  | .local _ .vmem, ⟨31, _⟩ => ⟨S512x128, .f32⟩
  | .local _ .vmem, ⟨32, _⟩ => ⟨S512x128, .f32⟩
  | .local _ .vmem, ⟨33, _⟩ => ⟨S512x128, .f32⟩
  | .local _ .vmem, ⟨34, _⟩ => ⟨S512x128, .f32⟩
  | .local _ .vmem, ⟨35, _⟩ => ⟨S512x128, .f32⟩
  | .local _ .vmem, ⟨36, _⟩ => ⟨S512x128, .f32⟩
  | .local _ .vmem, ⟨37, _⟩ => ⟨S512x128, .f32⟩
  | .local _ .vmem, ⟨38, _⟩ => ⟨S512x128, .f32⟩
  | .local _ .vmem, ⟨39, _⟩ => ⟨S512x128, .f32⟩
  | .local _ .vmem, ⟨40, _⟩ => ⟨S512x128, .f32⟩
  | .local _ .vmem, ⟨41, _⟩ => ⟨S512x128, .f32⟩
  | .local _ .vmem, ⟨42, _⟩ => ⟨S512x128, .f32⟩
  | .local _ .vmem, ⟨43, _⟩ => ⟨S512x128, .f32⟩
  | .local _ .vmem, ⟨44, _⟩ => ⟨S512x128, .f32⟩
  | .local _ .vmem, ⟨45, _⟩ => ⟨S512x128, .f32⟩
  | .local _ .vmem, ⟨46, _⟩ => ⟨S128x512, .f32⟩
  | .local _ .vmem, ⟨47, _⟩ => ⟨S128x512, .f32⟩
  | .local _ .smem, ⟨0, _⟩ => ⟨S3x3, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .smem, ⟨0, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14_0 : Ref sig .tc := ⟨.hbm, 31, rfl⟩
abbrev main_v14_1 : Ref sig .tc := ⟨.hbm, 32, rfl⟩
abbrev main_v14_2 : Ref sig .tc := ⟨.hbm, 33, rfl⟩
abbrev main_v14_3 : Ref sig .tc := ⟨.hbm, 34, rfl⟩
abbrev main_v14_4 : Ref sig .tc := ⟨.hbm, 35, rfl⟩
abbrev main_v14_5 : Ref sig .tc := ⟨.hbm, 36, rfl⟩
abbrev main_v14_6 : Ref sig .tc := ⟨.hbm, 37, rfl⟩
abbrev main_v14_7 : Ref sig .tc := ⟨.hbm, 38, rfl⟩
abbrev main_v14_8 : Ref sig .tc := ⟨.hbm, 39, rfl⟩
abbrev main_v14_9 : Ref sig .tc := ⟨.hbm, 40, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg20_1 : Ref sig .tc := ⟨.vmem, 39, rfl⟩
abbrev cc0_stg21_0 : Ref sig .tc := ⟨.vmem, 40, rfl⟩
abbrev cc0_stg21_1 : Ref sig .tc := ⟨.vmem, 41, rfl⟩
abbrev cc0_stg22_0 : Ref sig .tc := ⟨.vmem, 42, rfl⟩
abbrev cc0_stg22_1 : Ref sig .tc := ⟨.vmem, 43, rfl⟩
abbrev cc0_stg23_0 : Ref sig .tc := ⟨.vmem, 44, rfl⟩
abbrev cc0_stg23_1 : Ref sig .tc := ⟨.vmem, 45, rfl⟩
abbrev cc0_scratch0 : Ref sig .tc := ⟨.vmem, 46, rfl⟩
abbrev cc0_scratch1 : Ref sig .tc := ⟨.vmem, 47, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem20_1 : DmaSem sig := 40
abbrev cc0_sem21_0 : DmaSem sig := 41
abbrev cc0_sem21_1 : DmaSem sig := 42
abbrev cc0_sem22_0 : DmaSem sig := 43
abbrev cc0_sem22_1 : DmaSem sig := 44
abbrev cc0_sem23_0 : DmaSem sig := 45
abbrev cc0_sem23_1 : DmaSem sig := 46

abbrev nD : Nat := 1
abbrev τ : Topo := Topo.v7x

variable {F : FTy → Type} [FloatOps F]

abbrev grid0 : Pipeline.Grid := ⟨2, ![7, 16], ![false, false]⟩

def k0_off1 (i : grid0.Coords) (c0_i32 : BitVec 32) : Fin 2 → Nat :=
  let arg1 : BitVec 32 := BitVec.ofNat 32 (i 1).val
  let c8_i32 : BitVec 32 := 8#32
  let v3 : BitVec 32 := Scalar.muli arg1 c8_i32
  let v4 : BitVec 32 := Scalar.addi v3 c0_i32
  let c2_i32 : BitVec 32 := 2#32
  let v5 : BitVec 32 := Scalar.shrui v4 c2_i32
  let v6 : Index := Scalar.indexCast v5
  let c0_3 : Index := 0#32
  ![v6.toNat, 0]
def k0_off2 (i : grid0.Coords) (c0_i32 : BitVec 32) : Fin 2 → Nat :=
  let arg1 : BitVec 32 := BitVec.ofNat 32 (i 1).val
  let c8_i32 : BitVec 32 := 8#32
  let v3 : BitVec 32 := Scalar.muli arg1 c8_i32
  let v4 : BitVec 32 := Scalar.addi v3 c0_i32
  let v79 : Index := Scalar.indexCast v4
  let c0_20 : Index := 0#32
  ![v79.toNat, 0]
def k0_cond1 (i : grid0.Coords) : BitVec 1 :=
  let arg1 : BitVec 32 := BitVec.ofNat 32 (i 1).val
  let c15_i32 : BitVec 32 := 15#32
  let v1272 : BitVec 1 := Scalar.cmpi .eq arg1 c15_i32
  let v1273 : BitVec 32 := Scalar.extui v1272
  let c0_i32_354 : BitVec 32 := 0#32
  let v1274 : BitVec 1 := Scalar.cmpi .ne v1273 c0_i32_354
  v1274

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S3x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4096x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S32x512 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S32x512 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]

abbrev stage0_21 : Fin 2 → Memref sig .tc .vmem S512x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]

abbrev stage0_22 : Fin 2 → Memref sig .tc .vmem S512x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, false]

abbrev stage0_23 : Fin 2 → Memref sig .tc .vmem S512x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, false]
-- ==== WgradGateUpRefIdeal.lean ====
abbrev S4096x8192 : Shape := ⟨2, ![4096, 8192]⟩
abbrev S4096x3584 : Shape := ⟨2, ![4096, 3584]⟩
abbrev S3584x512 : Shape := ⟨2, ![3584, 512]⟩
abbrev S3584x32 : Shape := ⟨2, ![3584, 32]⟩
abbrev S3584x128 : Shape := ⟨2, ![3584, 128]⟩
abbrev S3 : Shape := ⟨1, ![3]⟩
abbrev S_ : Shape := ⟨0, ![]⟩
abbrev S1 : Shape := ⟨1, ![1]⟩
abbrev S3584x8192 : Shape := ⟨2, ![3584, 8192]⟩
abbrev S3584x128x4x16 : Shape := ⟨4, ![3584, 128, 4, 16]⟩
abbrev S16 : Shape := ⟨1, ![16]⟩
abbrev S3584x512x1 : Shape := ⟨3, ![3584, 512, 1]⟩
abbrev S1x1x16 : Shape := ⟨3, ![1, 1, 16]⟩
abbrev S3584x512x16 : Shape := ⟨3, ![3584, 512, 16]⟩
abbrev S4 : Shape := ⟨1, ![4]⟩
abbrev S3584x32x1 : Shape := ⟨3, ![3584, 32, 1]⟩
abbrev S1x1x4 : Shape := ⟨3, ![1, 1, 4]⟩
abbrev S3584x32x4 : Shape := ⟨3, ![3584, 32, 4]⟩
abbrev S3584x128x1x1 : Shape := ⟨4, ![3584, 128, 1, 1]⟩

abbrev nBuf : Space → Nat
  | .hbm => 153
  | .vmem => 0
  | .smem => 0
  | _ => 0

abbrev hbmTy0_0 (i : Nat) : BufTy := match i % 128 with
  | 0 => ⟨S4096x8192, .bf16⟩
  | 1 => ⟨S4096x3584, .bf16⟩
  | 2 => ⟨S4096x3584, .bf16⟩
  | 3 => ⟨S3584x512, .i32⟩
  | 4 => ⟨S3584x32, .i8⟩
  | 5 => ⟨S3584x128, .f32⟩
  | 6 => ⟨S3584x128, .f32⟩
  | 7 => ⟨S3584x128, .f32⟩
  | 8 => ⟨S3584x512, .i32⟩
  | 9 => ⟨S3584x32, .i8⟩
  | 10 => ⟨S3584x128, .f32⟩
  | 11 => ⟨S3584x128, .f32⟩
  | 12 => ⟨S3584x128, .f32⟩
  | 13 => ⟨S3, .f32⟩
  | 14 => ⟨S3, .f32⟩
  | 15 => ⟨S_, .f32⟩
  | 16 => ⟨S_, .f32⟩
  | 17 => ⟨S1, .f32⟩
  | 18 => ⟨S_, .f32⟩
  | 19 => ⟨S1, .f32⟩
  | 20 => ⟨S_, .f32⟩
  | 21 => ⟨S3584x8192, .f32⟩
  | 22 => ⟨S3584x128x4x16, .f32⟩
  | 23 => ⟨S3584x512, .i32⟩
  | 24 => ⟨S16, .i32⟩
  | 25 => ⟨S_, .i32⟩
  | 26 => ⟨S16, .i32⟩
  | 27 => ⟨S16, .i32⟩
  | 28 => ⟨S3584x512x1, .i32⟩
  | 29 => ⟨S1x1x16, .i32⟩
  | 30 => ⟨S3584x512x16, .i32⟩
  | 31 => ⟨S3584x512x16, .i32⟩
  | 32 => ⟨S3584x512x16, .i32⟩
  | 33 => ⟨S_, .i32⟩
  | 34 => ⟨S3584x512x16, .i32⟩
  | 35 => ⟨S3584x512x16, .i32⟩
  | 36 => ⟨S3584x512x16, .f32⟩
  | 37 => ⟨S3584x128x4x16, .f32⟩
  | 38 => ⟨S4, .i32⟩
  | 39 => ⟨S_, .i32⟩
  | 40 => ⟨S4, .i32⟩
  | 41 => ⟨S4, .i32⟩
  | 42 => ⟨S3584x32, .i32⟩
  | 43 => ⟨S3584x32x1, .i32⟩
  | 44 => ⟨S1x1x4, .i32⟩
  | 45 => ⟨S3584x32x4, .i32⟩
  | 46 => ⟨S3584x32x4, .i32⟩
  | 47 => ⟨S3584x32x4, .i32⟩
  | 48 => ⟨S_, .i32⟩
  | 49 => ⟨S3584x32x4, .i32⟩
  | 50 => ⟨S3584x32x4, .i32⟩
  | 51 => ⟨S3584x128, .i32⟩
  | 52 => ⟨S3584x128, .f32⟩
  | 53 => ⟨S3584x128x1x1, .f32⟩
  | 54 => ⟨S3584x128x4x16, .f32⟩
  | 55 => ⟨S3584x128x4x16, .f32⟩
  | 56 => ⟨S3584x128x4x16, .f32⟩
  | 57 => ⟨S_, .f32⟩
  | 58 => ⟨S3584x128, .f32⟩
  | 59 => ⟨S_, .f32⟩
  | 60 => ⟨S3584x128, .f32⟩
  | 61 => ⟨S3584x128, .f32⟩
  | 62 => ⟨S_, .f32⟩
  | 63 => ⟨S3584x128, .f32⟩
  | 64 => ⟨S3584x128, .f32⟩
  | 65 => ⟨S3584x128, .f32⟩
  | 66 => ⟨S_, .f32⟩
  | 67 => ⟨S3584x128, .f32⟩
  | 68 => ⟨S3584x128, .f32⟩
  | 69 => ⟨S_, .f32⟩
  | 70 => ⟨S3584x128, .f32⟩
  | 71 => ⟨S3584x128, .f32⟩
  | 72 => ⟨S3584x128, .f32⟩
  | 73 => ⟨S3584x128, .f32⟩
  | 74 => ⟨S3584x128, .f32⟩
  | 75 => ⟨S3584x128, .f32⟩
  | 76 => ⟨S3584x128, .f32⟩
  | 77 => ⟨S3584x128, .f32⟩
  | 78 => ⟨S3584x128, .f32⟩
  | 79 => ⟨S3584x128, .f32⟩
  | 80 => ⟨S3584x128, .f32⟩
  | 81 => ⟨S3584x128, .f32⟩
  | 82 => ⟨S3584x128, .f32⟩
  | 83 => ⟨S3584x128, .f32⟩
  | 84 => ⟨S3584x128, .f32⟩
  | 85 => ⟨S1, .f32⟩
  | 86 => ⟨S_, .f32⟩
  | 87 => ⟨S1, .f32⟩
  | 88 => ⟨S_, .f32⟩
  | 89 => ⟨S3584x8192, .f32⟩
  | 90 => ⟨S3584x128x4x16, .f32⟩
  | 91 => ⟨S3584x512, .i32⟩
  | 92 => ⟨S16, .i32⟩
  | 93 => ⟨S_, .i32⟩
  | 94 => ⟨S16, .i32⟩
  | 95 => ⟨S16, .i32⟩
  | 96 => ⟨S3584x512x1, .i32⟩
  | 97 => ⟨S1x1x16, .i32⟩
  | 98 => ⟨S3584x512x16, .i32⟩
  | 99 => ⟨S3584x512x16, .i32⟩
  | 100 => ⟨S3584x512x16, .i32⟩
  | 101 => ⟨S_, .i32⟩
  | 102 => ⟨S3584x512x16, .i32⟩
  | 103 => ⟨S3584x512x16, .i32⟩
  | 104 => ⟨S3584x512x16, .f32⟩
  | 105 => ⟨S3584x128x4x16, .f32⟩
  | 106 => ⟨S4, .i32⟩
  | 107 => ⟨S_, .i32⟩
  | 108 => ⟨S4, .i32⟩
  | 109 => ⟨S4, .i32⟩
  | 110 => ⟨S3584x32, .i32⟩
  | 111 => ⟨S3584x32x1, .i32⟩
  | 112 => ⟨S1x1x4, .i32⟩
  | 113 => ⟨S3584x32x4, .i32⟩
  | 114 => ⟨S3584x32x4, .i32⟩
  | 115 => ⟨S3584x32x4, .i32⟩
  | 116 => ⟨S_, .i32⟩
  | 117 => ⟨S3584x32x4, .i32⟩
  | 118 => ⟨S3584x32x4, .i32⟩
  | 119 => ⟨S3584x128, .i32⟩
  | 120 => ⟨S3584x128, .f32⟩
  | 121 => ⟨S3584x128x1x1, .f32⟩
  | 122 => ⟨S3584x128x4x16, .f32⟩
  | 123 => ⟨S3584x128x4x16, .f32⟩
  | 124 => ⟨S3584x128x4x16, .f32⟩
  | 125 => ⟨S_, .f32⟩
  | 126 => ⟨S3584x128, .f32⟩
  | 127 => ⟨S_, .f32⟩
  | _ => ⟨S4096x8192, .bf16⟩

abbrev hbmTy0_1 (i : Nat) : BufTy := match i % 128 with
  | 0 => ⟨S3584x128, .f32⟩
  | 1 => ⟨S3584x128, .f32⟩
  | 2 => ⟨S_, .f32⟩
  | 3 => ⟨S3584x128, .f32⟩
  | 4 => ⟨S3584x128, .f32⟩
  | 5 => ⟨S3584x128, .f32⟩
  | 6 => ⟨S_, .f32⟩
  | 7 => ⟨S3584x128, .f32⟩
  | 8 => ⟨S3584x128, .f32⟩
  | 9 => ⟨S_, .f32⟩
  | 10 => ⟨S3584x128, .f32⟩
  | 11 => ⟨S3584x128, .f32⟩
  | 12 => ⟨S3584x128, .f32⟩
  | 13 => ⟨S3584x128, .f32⟩
  | 14 => ⟨S3584x128, .f32⟩
  | 15 => ⟨S3584x128, .f32⟩
  | 16 => ⟨S3584x128, .f32⟩
  | 17 => ⟨S3584x128, .f32⟩
  | 18 => ⟨S3584x128, .f32⟩
  | 19 => ⟨S3584x128, .f32⟩
  | 20 => ⟨S3584x128, .f32⟩
  | 21 => ⟨S3584x128, .f32⟩
  | 22 => ⟨S3584x128, .f32⟩
  | 23 => ⟨S3584x128, .f32⟩
  | 24 => ⟨S3584x128, .f32⟩
  | _ => ⟨S4096x8192, .bf16⟩

abbrev hbmTy (i : Nat) : BufTy := match i / 128 with
  | 0 => hbmTy0_0 i
  | 1 => hbmTy0_1 i
  | _ => ⟨S4096x8192, .bf16⟩

abbrev bufTy : (tb : Table) → Fin (tcTables nBuf tb) → BufTy
  | .hbm, ⟨i, _⟩ => hbmTy i
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_1 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_2 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst : Ref sig .tc := ⟨.hbm, 57, rfl⟩
abbrev main_v36 : Ref sig .tc := ⟨.hbm, 58, rfl⟩
abbrev main_cst_3 : Ref sig .tc := ⟨.hbm, 59, rfl⟩
abbrev main_v37 : Ref sig .tc := ⟨.hbm, 60, rfl⟩
abbrev main_v38 : Ref sig .tc := ⟨.hbm, 61, rfl⟩
abbrev main_cst_4 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_5 : Ref sig .tc := ⟨.hbm, 66, rfl⟩
abbrev main_v42 : Ref sig .tc := ⟨.hbm, 67, rfl⟩
abbrev main_v43 : Ref sig .tc := ⟨.hbm, 68, rfl⟩
abbrev main_cst_6 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_7 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_8 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_c_9 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_c_10 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_11 : Ref sig .tc := ⟨.hbm, 125, rfl⟩
abbrev main_v95 : Ref sig .tc := ⟨.hbm, 126, rfl⟩
abbrev main_cst_12 : Ref sig .tc := ⟨.hbm, 127, rfl⟩
abbrev main_v96 : Ref sig .tc := ⟨.hbm, 128, rfl⟩
abbrev main_v97 : Ref sig .tc := ⟨.hbm, 129, rfl⟩
abbrev main_cst_13 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_cst_14 : Ref sig .tc := ⟨.hbm, 134, rfl⟩
abbrev main_v101 : Ref sig .tc := ⟨.hbm, 135, rfl⟩
abbrev main_v102 : Ref sig .tc := ⟨.hbm, 136, rfl⟩
abbrev main_cst_15 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩

abbrev nD : Nat := 1
abbrev τ : Topo := Topo.v7x

variable {F : FTy → Type} [FloatOps F]
-- ==== WgradDown.lean ====
abbrev S4096x3584 : Shape := ⟨2, ![4096, 3584]⟩
abbrev S4x1024x8192 : Shape := ⟨3, ![4, 1024, 8192]⟩
abbrev S8192x224 : Shape := ⟨2, ![8192, 224]⟩
abbrev S8192x14 : Shape := ⟨2, ![8192, 14]⟩
abbrev S8192x56 : Shape := ⟨2, ![8192, 56]⟩
abbrev S3 : Shape := ⟨1, ![3]⟩
abbrev S_ : Shape := ⟨0, ![]⟩
abbrev S1 : Shape := ⟨1, ![1]⟩
abbrev S1x3 : Shape := ⟨2, ![1, 3]⟩
abbrev S3x3 : Shape := ⟨2, ![3, 3]⟩
abbrev S4096x8192 : Shape := ⟨2, ![4096, 8192]⟩
abbrev S224x8192 : Shape := ⟨2, ![224, 8192]⟩
abbrev S14x8192 : Shape := ⟨2, ![14, 8192]⟩
abbrev S4096x512 : Shape := ⟨2, ![4096, 512]⟩
abbrev S4096x1024 : Shape := ⟨2, ![4096, 1024]⟩
abbrev S32x1024 : Shape := ⟨2, ![32, 1024]⟩
abbrev S14x1024 : Shape := ⟨2, ![14, 1024]⟩
abbrev S1024x56 : Shape := ⟨2, ![1024, 56]⟩
abbrev S128x1024 : Shape := ⟨2, ![128, 1024]⟩
abbrev S512x1024 : Shape := ⟨2, ![512, 1024]⟩
abbrev S1x1024 : Shape := ⟨2, ![1, 1024]⟩
abbrev S16x1024 : Shape := ⟨2, ![16, 1024]⟩
abbrev S1024 : Shape := ⟨1, ![1024]⟩
abbrev S1024x128 : Shape := ⟨2, ![1024, 128]⟩
abbrev S1x1 : Shape := ⟨2, ![1, 1]⟩

abbrev nBuf : Space → Nat
  | .hbm => 28
  | .vmem => 25
  | .smem => 1
  | _ => 0

abbrev bufTy : (tb : Table) → Fin (tcTables nBuf tb) → BufTy
  | .hbm, ⟨0, _⟩ => ⟨S4096x3584, .bf16⟩
  | .hbm, ⟨1, _⟩ => ⟨S4x1024x8192, .bf16⟩
  | .hbm, ⟨2, _⟩ => ⟨S8192x224, .i32⟩
  | .hbm, ⟨3, _⟩ => ⟨S8192x14, .i8⟩
  | .hbm, ⟨4, _⟩ => ⟨S8192x56, .f32⟩
  | .hbm, ⟨5, _⟩ => ⟨S8192x56, .f32⟩
  | .hbm, ⟨6, _⟩ => ⟨S8192x56, .f32⟩
  | .hbm, ⟨7, _⟩ => ⟨S3, .f32⟩
  | .hbm, ⟨8, _⟩ => ⟨S3, .f32⟩
  | .hbm, ⟨9, _⟩ => ⟨S_, .f32⟩
  | .hbm, ⟨10, _⟩ => ⟨S_, .f32⟩
  | .hbm, ⟨11, _⟩ => ⟨S1, .f32⟩
  | .hbm, ⟨12, _⟩ => ⟨S1, .f32⟩
  | .hbm, ⟨13, _⟩ => ⟨S1, .f32⟩
  | .hbm, ⟨14, _⟩ => ⟨S3, .f32⟩
  | .hbm, ⟨15, _⟩ => ⟨S1x3, .f32⟩
  | .hbm, ⟨16, _⟩ => ⟨S1x3, .f32⟩
  | .hbm, ⟨17, _⟩ => ⟨S1x3, .f32⟩
  | .hbm, ⟨18, _⟩ => ⟨S3x3, .f32⟩
  | .hbm, ⟨19, _⟩ => ⟨S4096x8192, .bf16⟩
  | .hbm, ⟨20, _⟩ => ⟨S224x8192, .i32⟩
  | .hbm, ⟨21, _⟩ => ⟨S14x8192, .i8⟩
  | .hbm, ⟨22, _⟩ => ⟨S14x8192, .i32⟩
  | .hbm, ⟨23, _⟩ => ⟨S8192x56, .f32⟩
  | .hbm, ⟨24, _⟩ => ⟨S8192x56, .f32⟩
  | .hbm, ⟨25, _⟩ => ⟨S8192x56, .f32⟩
  | .hbm, ⟨26, _⟩ => ⟨S8192x56, .f32⟩
  | .hbm, ⟨27, _⟩ => ⟨S8192x56, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S32x1024, .i32⟩
  | .local _ .vmem, ⟨5, _⟩ => ⟨S32x1024, .i32⟩
  | .local _ .vmem, ⟨6, _⟩ => ⟨S14x1024, .i32⟩
  | .local _ .vmem, ⟨7, _⟩ => ⟨S14x1024, .i32⟩
  | .local _ .vmem, ⟨8, _⟩ => ⟨S1024x56, .f32⟩
  | .local _ .vmem, ⟨9, _⟩ => ⟨S1024x56, .f32⟩
  | .local _ .vmem, ⟨10, _⟩ => ⟨S1024x56, .f32⟩
  | .local _ .vmem, ⟨11, _⟩ => ⟨S1024x56, .f32⟩
  | .local _ .vmem, ⟨12, _⟩ => ⟨S1024x56, .f32⟩
  | .local _ .vmem, ⟨13, _⟩ => ⟨S1024x56, .f32⟩
  | .local _ .vmem, ⟨14, _⟩ => ⟨S1024x56, .f32⟩
  | .local _ .vmem, ⟨15, _⟩ => ⟨S1024x56, .f32⟩
  | .local _ .vmem, ⟨16, _⟩ => ⟨S1024x56, .f32⟩
  | .local _ .vmem, ⟨17, _⟩ => ⟨S1024x56, .f32⟩
  | .local _ .vmem, ⟨18, _⟩ => ⟨S1024x56, .f32⟩
  | .local _ .vmem, ⟨19, _⟩ => ⟨S1024x56, .f32⟩
  | .local _ .vmem, ⟨20, _⟩ => ⟨S1024x56, .f32⟩
  | .local _ .vmem, ⟨21, _⟩ => ⟨S1024x56, .f32⟩
  | .local _ .vmem, ⟨22, _⟩ => ⟨S1024x56, .f32⟩
  | .local _ .vmem, ⟨23, _⟩ => ⟨S1024x56, .f32⟩
  | .local _ .vmem, ⟨24, _⟩ => ⟨S128x1024, .f32⟩
  | .local _ .smem, ⟨0, _⟩ => ⟨S3x3, .f32⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev main_v12_3 : Ref sig .tc := ⟨.hbm, 26, rfl⟩
abbrev main_v12_4 : Ref sig .tc := ⟨.hbm, 27, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![8, 7], ![false, false]⟩

def k0_off1 (i : grid0.Coords) (c0_i32 : BitVec 32) : Fin 2 → Nat :=
  let arg1 : BitVec 32 := BitVec.ofNat 32 (i 1).val
  let c8_i32 : BitVec 32 := 8#32
  let v4 : BitVec 32 := Scalar.muli arg1 c8_i32
  let v5 : BitVec 32 := Scalar.addi v4 c0_i32
  let c2_i32 : BitVec 32 := 2#32
  let v6 : BitVec 32 := Scalar.shrui v5 c2_i32
  let v7 : Index := Scalar.indexCast v6
  let c0_3 : Index := 0#32
  ![v7.toNat, 0]
def k0_off2 (i : grid0.Coords) (c0_i32 : BitVec 32) : Fin 2 → Nat :=
  let arg1 : BitVec 32 := BitVec.ofNat 32 (i 1).val
  let c8_i32 : BitVec 32 := 8#32
  let v4 : BitVec 32 := Scalar.muli arg1 c8_i32
  let v5 : BitVec 32 := Scalar.addi v4 c0_i32
  let v80 : Index := Scalar.indexCast v5
  let c0_20 : Index := 0#32
  ![v80.toNat, 0]
def k0_cond1 (i : grid0.Coords) : BitVec 1 :=
  let arg1 : BitVec 32 := BitVec.ofNat 32 (i 1).val
  let c6_i32_156 : BitVec 32 := 6#32
  let v637 : BitVec 1 := Scalar.cmpi .eq arg1 c6_i32_156
  let v638 : BitVec 32 := Scalar.extui v637
  let c0_i32_157 : BitVec 32 := 0#32
  let v639 : BitVec 1 := Scalar.cmpi .ne v638 c0_i32_157
  v639

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S3x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S14x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x56 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x56 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x56 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x56 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x56 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x56 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1024x56 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1024x56 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== WgradDownRefIdeal.lean ====
abbrev S4096x3584 : Shape := ⟨2, ![4096, 3584]⟩
abbrev S4x1024x8192 : Shape := ⟨3, ![4, 1024, 8192]⟩
abbrev S8192x224 : Shape := ⟨2, ![8192, 224]⟩
abbrev S8192x14 : Shape := ⟨2, ![8192, 14]⟩
abbrev S8192x56 : Shape := ⟨2, ![8192, 56]⟩
abbrev S3 : Shape := ⟨1, ![3]⟩
abbrev S_ : Shape := ⟨0, ![]⟩
abbrev S4096x8192 : Shape := ⟨2, ![4096, 8192]⟩
abbrev S1 : Shape := ⟨1, ![1]⟩
abbrev S8192x3584 : Shape := ⟨2, ![8192, 3584]⟩
abbrev S8192x56x4x16 : Shape := ⟨4, ![8192, 56, 4, 16]⟩
abbrev S16 : Shape := ⟨1, ![16]⟩
abbrev S8192x224x1 : Shape := ⟨3, ![8192, 224, 1]⟩
abbrev S1x1x16 : Shape := ⟨3, ![1, 1, 16]⟩
abbrev S8192x224x16 : Shape := ⟨3, ![8192, 224, 16]⟩
abbrev S4 : Shape := ⟨1, ![4]⟩
abbrev S8192x14x1 : Shape := ⟨3, ![8192, 14, 1]⟩
abbrev S1x1x4 : Shape := ⟨3, ![1, 1, 4]⟩
abbrev S8192x14x4 : Shape := ⟨3, ![8192, 14, 4]⟩
abbrev S8192x56x1x1 : Shape := ⟨4, ![8192, 56, 1, 1]⟩

abbrev nBuf : Space → Nat
  | .hbm => 80
  | .vmem => 0
  | .smem => 0
  | _ => 0

abbrev bufTy : (tb : Table) → Fin (tcTables nBuf tb) → BufTy
  | .hbm, ⟨0, _⟩ => ⟨S4096x3584, .bf16⟩
  | .hbm, ⟨1, _⟩ => ⟨S4x1024x8192, .bf16⟩
  | .hbm, ⟨2, _⟩ => ⟨S8192x224, .i32⟩
  | .hbm, ⟨3, _⟩ => ⟨S8192x14, .i8⟩
  | .hbm, ⟨4, _⟩ => ⟨S8192x56, .f32⟩
  | .hbm, ⟨5, _⟩ => ⟨S8192x56, .f32⟩
  | .hbm, ⟨6, _⟩ => ⟨S8192x56, .f32⟩
  | .hbm, ⟨7, _⟩ => ⟨S3, .f32⟩
  | .hbm, ⟨8, _⟩ => ⟨S3, .f32⟩
  | .hbm, ⟨9, _⟩ => ⟨S_, .f32⟩
  | .hbm, ⟨10, _⟩ => ⟨S_, .f32⟩
  | .hbm, ⟨11, _⟩ => ⟨S4096x8192, .bf16⟩
  | .hbm, ⟨12, _⟩ => ⟨S1, .f32⟩
  | .hbm, ⟨13, _⟩ => ⟨S_, .f32⟩
  | .hbm, ⟨14, _⟩ => ⟨S1, .f32⟩
  | .hbm, ⟨15, _⟩ => ⟨S_, .f32⟩
  | .hbm, ⟨16, _⟩ => ⟨S8192x3584, .f32⟩
  | .hbm, ⟨17, _⟩ => ⟨S8192x56x4x16, .f32⟩
  | .hbm, ⟨18, _⟩ => ⟨S8192x224, .i32⟩
  | .hbm, ⟨19, _⟩ => ⟨S16, .i32⟩
  | .hbm, ⟨20, _⟩ => ⟨S_, .i32⟩
  | .hbm, ⟨21, _⟩ => ⟨S16, .i32⟩
  | .hbm, ⟨22, _⟩ => ⟨S16, .i32⟩
  | .hbm, ⟨23, _⟩ => ⟨S8192x224x1, .i32⟩
  | .hbm, ⟨24, _⟩ => ⟨S1x1x16, .i32⟩
  | .hbm, ⟨25, _⟩ => ⟨S8192x224x16, .i32⟩
  | .hbm, ⟨26, _⟩ => ⟨S8192x224x16, .i32⟩
  | .hbm, ⟨27, _⟩ => ⟨S8192x224x16, .i32⟩
  | .hbm, ⟨28, _⟩ => ⟨S_, .i32⟩
  | .hbm, ⟨29, _⟩ => ⟨S8192x224x16, .i32⟩
  | .hbm, ⟨30, _⟩ => ⟨S8192x224x16, .i32⟩
  | .hbm, ⟨31, _⟩ => ⟨S8192x224x16, .f32⟩
  | .hbm, ⟨32, _⟩ => ⟨S8192x56x4x16, .f32⟩
  | .hbm, ⟨33, _⟩ => ⟨S4, .i32⟩
  | .hbm, ⟨34, _⟩ => ⟨S_, .i32⟩
  | .hbm, ⟨35, _⟩ => ⟨S4, .i32⟩
  | .hbm, ⟨36, _⟩ => ⟨S4, .i32⟩
  | .hbm, ⟨37, _⟩ => ⟨S8192x14, .i32⟩
  | .hbm, ⟨38, _⟩ => ⟨S8192x14x1, .i32⟩
  | .hbm, ⟨39, _⟩ => ⟨S1x1x4, .i32⟩
  | .hbm, ⟨40, _⟩ => ⟨S8192x14x4, .i32⟩
  | .hbm, ⟨41, _⟩ => ⟨S8192x14x4, .i32⟩
  | .hbm, ⟨42, _⟩ => ⟨S8192x14x4, .i32⟩
  | .hbm, ⟨43, _⟩ => ⟨S_, .i32⟩
  | .hbm, ⟨44, _⟩ => ⟨S8192x14x4, .i32⟩
  | .hbm, ⟨45, _⟩ => ⟨S8192x14x4, .i32⟩
  | .hbm, ⟨46, _⟩ => ⟨S8192x56, .i32⟩
  | .hbm, ⟨47, _⟩ => ⟨S8192x56, .f32⟩
  | .hbm, ⟨48, _⟩ => ⟨S8192x56x1x1, .f32⟩
  | .hbm, ⟨49, _⟩ => ⟨S8192x56x4x16, .f32⟩
  | .hbm, ⟨50, _⟩ => ⟨S8192x56x4x16, .f32⟩
  | .hbm, ⟨51, _⟩ => ⟨S8192x56x4x16, .f32⟩
  | .hbm, ⟨52, _⟩ => ⟨S_, .f32⟩
  | .hbm, ⟨53, _⟩ => ⟨S8192x56, .f32⟩
  | .hbm, ⟨54, _⟩ => ⟨S_, .f32⟩
  | .hbm, ⟨55, _⟩ => ⟨S8192x56, .f32⟩
  | .hbm, ⟨56, _⟩ => ⟨S8192x56, .f32⟩
  | .hbm, ⟨57, _⟩ => ⟨S_, .f32⟩
  | .hbm, ⟨58, _⟩ => ⟨S8192x56, .f32⟩
  | .hbm, ⟨59, _⟩ => ⟨S8192x56, .f32⟩
  | .hbm, ⟨60, _⟩ => ⟨S8192x56, .f32⟩
  | .hbm, ⟨61, _⟩ => ⟨S_, .f32⟩
  | .hbm, ⟨62, _⟩ => ⟨S8192x56, .f32⟩
  | .hbm, ⟨63, _⟩ => ⟨S8192x56, .f32⟩
  | .hbm, ⟨64, _⟩ => ⟨S_, .f32⟩
  | .hbm, ⟨65, _⟩ => ⟨S8192x56, .f32⟩
  | .hbm, ⟨66, _⟩ => ⟨S8192x56, .f32⟩
  | .hbm, ⟨67, _⟩ => ⟨S8192x56, .f32⟩
  | .hbm, ⟨68, _⟩ => ⟨S8192x56, .f32⟩
  | .hbm, ⟨69, _⟩ => ⟨S8192x56, .f32⟩
  | .hbm, ⟨70, _⟩ => ⟨S8192x56, .f32⟩
  | .hbm, ⟨71, _⟩ => ⟨S8192x56, .f32⟩
  | .hbm, ⟨72, _⟩ => ⟨S8192x56, .f32⟩
  | .hbm, ⟨73, _⟩ => ⟨S8192x56, .f32⟩
  | .hbm, ⟨74, _⟩ => ⟨S8192x56, .f32⟩
  | .hbm, ⟨75, _⟩ => ⟨S8192x56, .f32⟩
  | .hbm, ⟨76, _⟩ => ⟨S8192x56, .f32⟩
  | .hbm, ⟨77, _⟩ => ⟨S8192x56, .f32⟩
  | .hbm, ⟨78, _⟩ => ⟨S8192x56, .f32⟩
  | .hbm, ⟨79, _⟩ => ⟨S8192x56, .f32⟩
  | _, _ => ⟨S4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_1 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst : Ref sig .tc := ⟨.hbm, 52, rfl⟩
abbrev main_v37 : Ref sig .tc := ⟨.hbm, 53, rfl⟩
abbrev main_cst_3 : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_5 : Ref sig .tc := ⟨.hbm, 61, rfl⟩
abbrev main_v43 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩

abbrev nD : Nat := 1
abbrev τ : Topo := Topo.v7x

variable {F : FTy → Type} [FloatOps F]
-- ==== Proof.GateValue.lean ====
/- What the gate call writes, block by block: each of its three results is the reference's term of the arguments. -/
module

public import proofs.«01_k».proof.Proof.Gen.GateIdeal.Value
public import proofs.«01_k».proof.Proof.Gen.GateRefIdeal.Run
public import proofs.«01_k».proof.Proof.Gen.GateRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GateIdeal.Value

open Cert.GateIdeal Cert.GateIdeal.Gen

variable (m : (ℓ : Loc nD τ sig) → Buf (Elt Ideal) ℓ)

/-- The blocks that the windows stage at each grid point. -/
theorem idx : ∀ t : Fin cfg0.N, win0_0.index t = ![t.val / 14, 0] ∧ win0_1.index t = ![t.val / 14, 0]
    ∧ win0_2.index t = ![0, t.val % 14] ∧ win0_3.index t = ![0, t.val % 14] ∧ win0_4.index t = ![t.val % 14, 0]
    ∧ win0_5.index t = ![t.val / 14, t.val % 14] ∧ win0_6.index t = ![t.val / 14, t.val % 14]
    ∧ win0_7.index t = ![t.val / 14, t.val % 14] :=
  (by decide +kernel : ∀ t : Fin grid0.N, _)

/-- The block of the gate product is the reference's product at the block's place. -/
theorem g_at (c : Dev nD) (t : Fin cfg0.N) (y) :
    k0_pay2 (iblk m c 0 t) (iblk m c 2 t) y
    = Cert.GateRefIdeal.Read.val_main_v1 (F := Ideal) (m ((c : Thread nD τ).loc main_arg0)) (m ((c : Thread nD τ).loc main_arg2)) (((cfg0.win 5).blk t).view.emb y) := by
  pointwise [k0_pay2, Cert.GateRefIdeal.Read.val_main_v1]
  blk_point [iblk, V, idx t]

/-- The block of the up product is the reference's product at the block's place. -/
theorem u_at (c : Dev nD) (t : Fin cfg0.N) (y) :
    k0_pay3 (iblk m c 0 t) (iblk m c 3 t) y
    = Cert.GateRefIdeal.Read.val_main_v2 (F := Ideal) (m ((c : Thread nD τ).loc main_arg0)) (m ((c : Thread nD τ).loc main_arg3)) (((cfg0.win 5).blk t).view.emb y) := by
  pointwise [k0_pay3, Cert.GateRefIdeal.Read.val_main_v2]
  blk_point [iblk, V, idx t]

/-- The upstream gradient as the region finds it: the argument with its two token axes merged. -/
theorem V_main_v0 (c : Dev nD) : V m c main_v0
    = Cert.GateRefIdeal.Read.val_main_v0 (F := Ideal) (m ((c : Thread nD τ).loc main_arg1)) := by
  entry_read
  rfl

/-- The block of the hidden gradient product is the reference's product at the block's place. -/
theorem dh_at (c : Dev nD) (t : Fin cfg0.N) (y) :
    k0_pay4 (iblk m c 1 t) (iblk m c 4 t) y
    = Cert.GateRefIdeal.Read.val_main_v3 (F := Ideal) (m ((c : Thread nD τ).loc main_arg1)) (m ((c : Thread nD τ).loc main_arg4)) (((cfg0.win 5).blk t).view.emb y) := by
  pointwise [k0_pay4, Cert.GateRefIdeal.Read.val_main_v3]
  blk_simp [iblk]
  simp only [V_main_arg4]
  have hV := V_main_v0 m c
  generalize Cert.GateRefIdeal.Read.val_main_v0 (F := Ideal) (m ((c : Thread nD τ).loc main_arg1)) = X at hV ⊢
  blk_point [idx t]
  refine (congrFun hV _).trans ?_
  blk_ext [idx t]

/-- The windows of the results move together. -/
theorem emb6 (t : Fin cfg0.N) (y : S256x256.Idx) :
    (((cfg0.win 6).blk t).view.emb y : S4096x3584.Idx) = ((cfg0.win 5).blk t).view.emb y := by
  blk_ext [idx t]

/-- The windows of the results move together. -/
theorem emb7 (t : Fin cfg0.N) (y : S256x256.Idx) :
    (((cfg0.win 7).blk t).view.emb y : S4096x3584.Idx) = ((cfg0.win 5).blk t).view.emb y := by
  blk_ext [idx t]

/-- At each point the first result's stored block is the reference's first result at the block's place. -/
theorem point5 (c : Dev nD) (t : Fin cfg0.N) (y) :
    k0_pay6 (iblk m c 0 t) (iblk m c 2 t) (iblk m c 0 t) (iblk m c 3 t) y
    = Cert.GateRefIdeal.Read.val_main_v12 (F := Ideal) (m ((c : Thread nD τ).loc main_arg0)) (m ((c : Thread nD τ).loc main_arg2)) (m ((c : Thread nD τ).loc main_arg3)) (((cfg0.win 5).blk t).view.emb y) := by
  have hg := g_at m c t y
  have hu := u_at m c t y
  generalize ((cfg0.win 5).blk t).view.emb y = i at *
  pointwise [k0_pay1, k0_pay5, k0_pay6, k0_pay7, k0_pay8, Cert.GateRefIdeal.Read.val_main_v4, Cert.GateRefIdeal.Read.val_main_v5, Cert.GateRefIdeal.Read.val_main_v6, Cert.GateRefIdeal.Read.val_main_v7, Cert.GateRefIdeal.Read.val_main_v8, Cert.GateRefIdeal.Read.val_main_v9, Cert.GateRefIdeal.Read.val_main_v10, Cert.GateRefIdeal.Read.val_main_v11, Cert.GateRefIdeal.Read.val_main_v12, Cert.GateRefIdeal.Read.val_main_v13, Cert.GateRefIdeal.Read.val_main_v14, Cert.GateRefIdeal.Read.val_main_v15, Cert.GateRefIdeal.Read.val_main_v16, Cert.GateRefIdeal.Read.val_main_v17, Cert.GateRefIdeal.Read.val_main_v18, Cert.GateRefIdeal.Read.val_main_v19, Cert.GateRefIdeal.Read.val_main_v20, Cert.GateRefIdeal.Read.val_main_v21, Cert.GateRefIdeal.Read.val_main_v22, Cert.GateRefIdeal.Read.val_main_v23, Cert.GateRefIdeal.Read.val_main_v24, Cert.GateRefIdeal.Read.val_main_cst, Cert.GateRefIdeal.Read.val_main_cst_0, Cert.GateRefIdeal.Read.val_main_cst_1, Cert.GateRefIdeal.Read.val_main_cst_2]
  simp only [hg, hu, sub_eq_add_neg, zero_add]

/-- The first result after the run is the reference's. -/
theorem final5 (c : Dev nD) : (dats m 0 c).arrAt 5 (cfgs 0).N
    = Cert.GateRefIdeal.Read.val_main_v12 (F := Ideal) (m ((c : Thread nD τ).loc main_arg0)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point5 m c t y

/-- At each point the second result's stored block is the reference's second result at the block's place. -/
theorem point6 (c : Dev nD) (t : Fin cfg0.N) (y) :
    k0_pay7 (iblk m c 0 t) (iblk m c 2 t) (iblk m c 0 t) (iblk m c 3 t) (iblk m c 1 t) (iblk m c 4 t) y
    = Cert.GateRefIdeal.Read.val_main_v21 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  rw [emb6]
  have hg := g_at m c t y
  have hu := u_at m c t y
  have hdh := dh_at m c t y
  generalize ((cfg0.win 5).blk t).view.emb y = i at *
  pointwise [k0_pay1, k0_pay5, k0_pay6, k0_pay7, k0_pay8, Cert.GateRefIdeal.Read.val_main_v4, Cert.GateRefIdeal.Read.val_main_v5, Cert.GateRefIdeal.Read.val_main_v6, Cert.GateRefIdeal.Read.val_main_v7, Cert.GateRefIdeal.Read.val_main_v8, Cert.GateRefIdeal.Read.val_main_v9, Cert.GateRefIdeal.Read.val_main_v10, Cert.GateRefIdeal.Read.val_main_v11, Cert.GateRefIdeal.Read.val_main_v12, Cert.GateRefIdeal.Read.val_main_v13, Cert.GateRefIdeal.Read.val_main_v14, Cert.GateRefIdeal.Read.val_main_v15, Cert.GateRefIdeal.Read.val_main_v16, Cert.GateRefIdeal.Read.val_main_v17, Cert.GateRefIdeal.Read.val_main_v18, Cert.GateRefIdeal.Read.val_main_v19, Cert.GateRefIdeal.Read.val_main_v20, Cert.GateRefIdeal.Read.val_main_v21, Cert.GateRefIdeal.Read.val_main_v22, Cert.GateRefIdeal.Read.val_main_v23, Cert.GateRefIdeal.Read.val_main_v24, Cert.GateRefIdeal.Read.val_main_cst, Cert.GateRefIdeal.Read.val_main_cst_0, Cert.GateRefIdeal.Read.val_main_cst_1, Cert.GateRefIdeal.Read.val_main_cst_2]
  simp only [hg, hu, hdh, sub_eq_add_neg, zero_add]

/-- The second result after the run is the reference's. -/
theorem final6 (c : Dev nD) : (dats m 0 c).arrAt 6 (cfgs 0).N
    = Cert.GateRefIdeal.Read.val_main_v21 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]; frame_out
  exact point6 m c t y

/-- At each point the third result's stored block is the reference's third result at the block's place. -/
theorem point7 (c : Dev nD) (t : Fin cfg0.N) (y) :
    k0_pay1 (k0_pay5 (iblk m c 0 t) (iblk m c 2 t)) (k0_pay8 (iblk m c 0 t) (iblk m c 2 t) (iblk m c 1 t) (iblk m c 4 t)) y
    = Cert.GateRefIdeal.Read.val_main_v24 (F := Ideal) (m ((c : Thread nD τ).loc main_arg0)) (m ((c : Thread nD τ).loc main_arg1)) (m ((c : Thread nD τ).loc main_arg2)) (m ((c : Thread nD τ).loc main_arg4)) (((cfg0.win 7).blk t).view.emb y) := by
  rw [emb7]
  have hg := g_at m c t y
  have hdh := dh_at m c t y
  generalize ((cfg0.win 5).blk t).view.emb y = i at *
  pointwise [k0_pay1, k0_pay5, k0_pay6, k0_pay7, k0_pay8, Cert.GateRefIdeal.Read.val_main_v4, Cert.GateRefIdeal.Read.val_main_v5, Cert.GateRefIdeal.Read.val_main_v6, Cert.GateRefIdeal.Read.val_main_v7, Cert.GateRefIdeal.Read.val_main_v8, Cert.GateRefIdeal.Read.val_main_v9, Cert.GateRefIdeal.Read.val_main_v10, Cert.GateRefIdeal.Read.val_main_v11, Cert.GateRefIdeal.Read.val_main_v12, Cert.GateRefIdeal.Read.val_main_v13, Cert.GateRefIdeal.Read.val_main_v14, Cert.GateRefIdeal.Read.val_main_v15, Cert.GateRefIdeal.Read.val_main_v16, Cert.GateRefIdeal.Read.val_main_v17, Cert.GateRefIdeal.Read.val_main_v18, Cert.GateRefIdeal.Read.val_main_v19, Cert.GateRefIdeal.Read.val_main_v20, Cert.GateRefIdeal.Read.val_main_v21, Cert.GateRefIdeal.Read.val_main_v22, Cert.GateRefIdeal.Read.val_main_v23, Cert.GateRefIdeal.Read.val_main_v24, Cert.GateRefIdeal.Read.val_main_cst, Cert.GateRefIdeal.Read.val_main_cst_0, Cert.GateRefIdeal.Read.val_main_cst_1, Cert.GateRefIdeal.Read.val_main_cst_2]
  simp only [hg, hdh, sub_eq_add_neg, zero_add]

/-- The third result after the run is the reference's. -/
theorem final7 (c : Dev nD) : (dats m 0 c).arrAt 7 (cfgs 0).N
    = Cert.GateRefIdeal.Read.val_main_v24 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 7 _ (by decide +kernel) fun t _ y => ?_
  blk_simp
  rw [after0_7]; frame_out
  exact point7 m c t y

end Cert.GateIdeal.Value

end
-- ==== Proof.DownValue.lean ====
/- What the down call writes, block by block: its result is the reference's term of the arguments. -/
module

public import proofs.«01_k».proof.Proof.Gen.DownIdeal.Value
public import proofs.«01_k».proof.Proof.Gen.DownRefIdeal.Run
public import proofs.«01_k».proof.Proof.Gen.DownRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DownIdeal.Value

open Cert.DownIdeal Cert.DownIdeal.Gen

variable (m : (ℓ : Loc nD τ sig) → Buf (Elt Ideal) ℓ)

/-- The blocks that the windows stage at each grid point. -/
theorem idx : ∀ t : Fin cfg0.N, win0_0.index t = ![t.val / 8, 0] ∧ win0_1.index t = ![0, t.val % 8]
    ∧ win0_2.index t = ![t.val / 8, t.val % 8] ∧ win0_3.index t = ![t.val / 8, t.val % 8] :=
  (by decide +kernel : ∀ t : Fin grid0.N, _)

/-- The input as the region finds it: the argument with its two token axes merged. -/
theorem V_main_v0 (c : Dev nD) : V m c main_v0
    = Cert.DownRefIdeal.Read.val_main_v1 (F := Ideal) (m ((c : Thread nD τ).loc main_arg2)) := by
  entry_read
  rfl

/-- At each point the stored block is the reference's result at the block's place. -/
theorem point (c : Dev nD) (t : Fin cfg0.N) (y) :
    k0_pay1 (iblk m c 2 t) (iblk m c 0 t) (iblk m c 1 t) y
    = Cert.DownRefIdeal.Read.val_main_v4 (F := Ideal) (m ((c : Thread nD τ).loc main_arg0)) (m ((c : Thread nD τ).loc main_arg1))
        (m ((c : Thread nD τ).loc main_arg2)) (((cfg0.win 3).blk t).view.emb y) := by
  pointwise [k0_pay1, Cert.DownRefIdeal.Read.val_main_v4, Cert.DownRefIdeal.Read.val_main_v3, Cert.DownRefIdeal.Read.val_main_v2]
  blk_simp [iblk]
  simp only [V_main_arg0, V_main_arg1]
  have hV := V_main_v0 m c
  generalize Cert.DownRefIdeal.Read.val_main_v1 (F := Ideal) (m ((c : Thread nD τ).loc main_arg2)) = X at hV ⊢
  blk_point [idx t]
  all_goals first
    | (refine (congrFun hV _).trans ?_; blk_ext [idx t]; done)
    | blk_ext [idx t]

/-- The result after the run is the reference's. -/
theorem final (c : Dev nD) : (dats m 0 c).arrAt 3 (cfgs 0).N
    = Cert.DownRefIdeal.Read.val_main_v4 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]; frame_out
  exact point m c t y

end Cert.DownIdeal.Value

end
-- ==== Proof.NormValue.lean ====
/- What the norm call writes, block by block: its result is the reference's term of the arguments. -/
module

public import proofs.«01_k».proof.Proof.Gen.NormIdeal.Value
public import proofs.«01_k».proof.Proof.Gen.NormRefIdeal.Run
public import proofs.«01_k».proof.Proof.Gen.NormRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NormIdeal.Value

open Cert.NormIdeal Cert.NormIdeal.Gen

variable (m : (ℓ : Loc nD τ sig) → Buf (Elt Ideal) ℓ)

/-- The blocks that the windows stage at each grid point. -/
theorem idx : ∀ t : Fin cfg0.N, win0_0.index t = ![t.val, 0] ∧ win0_1.index t = ![t.val, 0]
    ∧ win0_2.index t = ![0, 0] ∧ win0_3.index t = ![t.val, 0] :=
  (by decide +kernel : ∀ t : Fin grid0.N, _)

/-- The input as the region finds it: the argument with its two token axes merged. -/
theorem V_main_v0 (c : Dev nD) : V m c main_v0
    = Cert.NormRefIdeal.Read.val_main_v1 (F := Ideal) (m ((c : Thread nD τ).loc main_arg0)) := by
  entry_read
  rfl

/-- The weight as the region finds it: the argument as one row. -/
theorem V_main_v1 (c : Dev nD) (i : S1x8192.Idx) : V m c main_v1 i
    = Cert.NormRefIdeal.Read.val_main_v5 (F := Ideal) (m ((c : Thread nD τ).loc main_arg2)) i := by
  entry_read
  pointwise [Cert.NormRefIdeal.Read.val_main_v5]

/-- At each point the stored block is the reference's result at the block's place. -/
theorem point (c : Dev nD) (t : Fin cfg0.N) (y) :
    k0_pay1 (iblk m c 0 t) (View.ld (iblk m c 1 t) r0_1) (iblk m c 2 t) y
    = Cert.NormRefIdeal.Read.val_main_v8 (F := Ideal) (m ((c : Thread nD τ).loc main_arg0)) (m ((c : Thread nD τ).loc main_arg1))
        (m ((c : Thread nD τ).loc main_arg2)) (((cfg0.win 3).blk t).view.emb y) := by
  pointwise [k0_pay1, Cert.NormRefIdeal.Read.val_main_v8, Cert.NormRefIdeal.Read.val_main_v7, Cert.NormRefIdeal.Read.val_main_v6, Cert.NormRefIdeal.Read.val_main_v4, Cert.NormRefIdeal.Read.val_main_v3, Cert.NormRefIdeal.Read.val_main_v2]
  blk_simp [iblk]
  simp only [V_main_arg1]
  have hV := V_main_v0 m c
  have hW := V_main_v1 m c
  generalize Cert.NormRefIdeal.Read.val_main_v1 (F := Ideal) (m ((c : Thread nD τ).loc main_arg0)) = X at hV ⊢
  generalize Cert.NormRefIdeal.Read.val_main_v5 (F := Ideal) (m ((c : Thread nD τ).loc main_arg2)) = W at hW ⊢
  blk_point [idx t]
  all_goals first
    | (refine (congrFun hV _).trans ?_; blk_ext [idx t]; done)
    | (refine (hW _).trans ?_; blk_ext [idx t]; done)
    | blk_ext [idx t]

/-- The result after the run is the reference's. -/
theorem final (c : Dev nD) : (dats m 0 c).arrAt 3 (cfgs 0).N
    = Cert.NormRefIdeal.Read.val_main_v8 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]; frame_out
  exact point m c t y

end Cert.NormIdeal.Value

end
-- ==== Proof.WgradGateUpRunA.lean ====
/- The scale update's body run symbolically at a point that is not the last of its band. -/
module

public import proofs.«01_k».proof.Proof.Gen.WgradGateUp.Launch
public import proofs.«01_k».proof.Proof.Gen.WgradGateUp.Skeleton
public import proofs.«01_k».proof.Proof.Gen.WgradGateUp.Points
public import proofs.«01_k».proof.Proof.Gen.WgradGateUp.Frame

@[expose] public section

set_option maxRecDepth 16384

noncomputable section

namespace Cert.WgradGateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at a point whose second coordinate is not the last: the output windows stay as they are and the scratch rows of the point are written. The pieces found are the witness. -/
noncomputable def kernelRun_A (c : Dev nD) (i : grid0.Coords) (arg2 : Memref sig .tc .smem S3x3 .f32) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S32x512 .i32) (harg5 : arg5.IsWhole) (arg6 : Memref sig .tc .vmem S32x512 .i32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x512 .bf16) (harg10 : arg10.IsWhole) (arg11 : Memref sig .tc .vmem S32x512 .i32) (harg11 : arg11.IsWhole) (arg12 : Memref sig .tc .vmem S32x512 .i32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S128x512 .f32) (harg26 : arg26.IsWhole) (arg27 : Memref sig .tc .vmem S128x512 .f32) (harg27 : arg27.IsWhole) (hc0 : ¬k0_cond1 i = 1#1)
    (x0 : Vec F S3x3 .f32) (x1 : Vec F S4096x512 .bf16) (x2 : Vec F S4096x512 .bf16) (x3 : Vec F S32x512 .i32) (x4 : Vec F S32x512 .i32) (x5 : Vec F S512x128 .f32) (x6 : Vec F S512x128 .f32) (x7 : Vec F S512x128 .f32) (x8 : Vec F S4096x512 .bf16) (x9 : Vec F S32x512 .i32) (x10 : Vec F S32x512 .i32) (x11 : Vec F S512x128 .f32) (x12 : Vec F S512x128 .f32) (x13 : Vec F S512x128 .f32) :
    Σ' (LS0 : List (View.Piece (Elt F) S128x512 .f32)), { LS1 : List (View.Piece (Elt F) S128x512 .f32) //
      ∀ (xi14 : Vec F S512x128 .f32) (xi15 : Vec F S512x128 .f32) (xi16 : Vec F S512x128 .f32) (xi17 : Vec F S512x128 .f32) (xi18 : Vec F S512x128 .f32) (xi19 : Vec F S512x128 .f32) (xi20 : Vec F S512x128 .f32) (xi21 : Vec F S512x128 .f32) (xi22 : Vec F S512x128 .f32) (xi23 : Vec F S512x128 .f32) (xs0 : Vec F S128x512 .f32) (xs1 : Vec F S128x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ owns (c : Thread nD τ) arg17 fullShare xi15 ∗ owns (c : Thread nD τ) arg18 fullShare xi16 ∗ owns (c : Thread nD τ) arg19 fullShare xi17 ∗ owns (c : Thread nD τ) arg20 fullShare xi18 ∗ owns (c : Thread nD τ) arg21 fullShare xi19 ∗ owns (c : Thread nD τ) arg22 fullShare xi20 ∗ owns (c : Thread nD τ) arg23 fullShare xi21 ∗ owns (c : Thread nD τ) arg24 fullShare xi22 ∗ owns (c : Thread nD τ) arg25 fullShare xi23 ∗ owns (c : Thread nD τ) arg26 fullShare xs0 ∗ owns (c : Thread nD τ) arg27 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ owns (c : Thread nD τ) arg17 fullShare xi15 ∗ owns (c : Thread nD τ) arg18 fullShare xi16 ∗ owns (c : Thread nD τ) arg19 fullShare xi17 ∗ owns (c : Thread nD τ) arg20 fullShare xi18 ∗ owns (c : Thread nD τ) arg21 fullShare xi19 ∗ owns (c : Thread nD τ) arg22 fullShare xi20 ∗ owns (c : Thread nD τ) arg23 fullShare xi21 ∗ owns (c : Thread nD τ) arg24 fullShare xi22 ∗ owns (c : Thread nD τ) arg25 fullShare xi23 ∗ (arg26.view.loc (c : Thread nD τ) ↦[arg26.view.set]{fullShare} arg26.view.writes (Elt F) (harg26.unread xs0) LS0) ∗ (arg27.view.loc (c : Thread nD τ) ↦[arg27.view.set]{fullShare} arg27.view.writes (Elt F) (harg27.unread xs1) LS1)) -∗ K ⟨⟩))
          ⊢ wp frame (wpE (defs₀ (F := F)) Variants.none c none) E (cc0_wgrad i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, fun xi14 xi15 xi16 xi17 xi18 xi19 xi20 xi21 xi22 xi23 xs0 xs1 E K => ?run⟩
  case run =>
    simp only [cc0_wgrad_eq_skeleton]; unfold cc0_wgrad_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hfs0; obtain rfl := harg27.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    isplitl [HS0]; · iexact HS0
    iexact HS1

end Cert.WgradGateUp.Gen

end
-- ==== Proof.WgradGateUpRunB.lean ====
/- The scale update's body run symbolically at the last point of a band. -/
module

public import proofs.«01_k».proof.Proof.Gen.WgradGateUp.Launch
public import proofs.«01_k».proof.Proof.Gen.WgradGateUp.Skeleton
public import proofs.«01_k».proof.Proof.Gen.WgradGateUp.Points
public import proofs.«01_k».proof.Proof.Gen.WgradGateUp.Frame

@[expose] public section

set_option maxRecDepth 16384

noncomputable section

namespace Cert.WgradGateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at a point whose second coordinate is the last: the scratch rows of the point are written and then every output window is stored whole. The pieces found are the witness. -/
noncomputable def kernelRun_B (c : Dev nD) (i : grid0.Coords) (arg2 : Memref sig .tc .smem S3x3 .f32) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S32x512 .i32) (harg5 : arg5.IsWhole) (arg6 : Memref sig .tc .vmem S32x512 .i32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x512 .bf16) (harg10 : arg10.IsWhole) (arg11 : Memref sig .tc .vmem S32x512 .i32) (harg11 : arg11.IsWhole) (arg12 : Memref sig .tc .vmem S32x512 .i32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S128x512 .f32) (harg26 : arg26.IsWhole) (arg27 : Memref sig .tc .vmem S128x512 .f32) (harg27 : arg27.IsWhole) (hc0 : k0_cond1 i = 1#1)
    (x0 : Vec F S3x3 .f32) (x1 : Vec F S4096x512 .bf16) (x2 : Vec F S4096x512 .bf16) (x3 : Vec F S32x512 .i32) (x4 : Vec F S32x512 .i32) (x5 : Vec F S512x128 .f32) (x6 : Vec F S512x128 .f32) (x7 : Vec F S512x128 .f32) (x8 : Vec F S4096x512 .bf16) (x9 : Vec F S32x512 .i32) (x10 : Vec F S32x512 .i32) (x11 : Vec F S512x128 .f32) (x12 : Vec F S512x128 .f32) (x13 : Vec F S512x128 .f32) (xs0 : Vec F S128x512 .f32) (xs1 : Vec F S128x512 .f32) :
    Σ' (L14 : List (View.Piece (Elt F) S512x128 .f32)), Σ' (L15 : List (View.Piece (Elt F) S512x128 .f32)), Σ' (L16 : List (View.Piece (Elt F) S512x128 .f32)), Σ' (L17 : List (View.Piece (Elt F) S512x128 .f32)), Σ' (L18 : List (View.Piece (Elt F) S512x128 .f32)), Σ' (L19 : List (View.Piece (Elt F) S512x128 .f32)), Σ' (L20 : List (View.Piece (Elt F) S512x128 .f32)), Σ' (L21 : List (View.Piece (Elt F) S512x128 .f32)), Σ' (L22 : List (View.Piece (Elt F) S512x128 .f32)), Σ' (L23 : List (View.Piece (Elt F) S512x128 .f32)), Σ' (LS0 : List (View.Piece (Elt F) S128x512 .f32)), { LS1 : List (View.Piece (Elt F) S128x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ owns (c : Thread nD τ) arg26 fullShare xs0 ∗ owns (c : Thread nD τ) arg27 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (arg26.view.loc (c : Thread nD τ) ↦[arg26.view.set]{fullShare} arg26.view.writes (Elt F) (harg26.unread xs0) LS0) ∗ (arg27.view.loc (c : Thread nD τ) ↦[arg27.view.set]{fullShare} arg27.view.writes (Elt F) (harg27.unread xs1) LS1)) -∗ K ⟨⟩))
          ⊢ wp frame (wpE (defs₀ (F := F)) Variants.none c none) E (cc0_wgrad i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, ?_, ?_, ?_, ?_, fun E K => ?run⟩
  case run =>
    simp only [cc0_wgrad_eq_skeleton]; unfold cc0_wgrad_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg26.eq_unread hfs0; obtain rfl := harg27.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [HS0]; · iexact HS0
    iexact HS1

end Cert.WgradGateUp.Gen

end
-- ==== Proof.WgradGateUpRows.lean ====
/- What a point of the scale update computes: the rows it writes into the scratches and, at a band's last point, its output blocks. -/
module

public import proofs.«01_k».proof.Proof.WgradGateUpRunA
public import proofs.«01_k».proof.Proof.WgradGateUpRunB
public import Idealize.ShloMosaic.Lib.WholeRead

@[expose] public section

set_option maxRecDepth 16384

noncomputable section

namespace Cert.WgradGateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a point computes for its eight groups -/

/-- A block read at a rectangle. -/
def rd {s : Shape} {e : EltTy} (x : Vec F s e) (R : Rect s) : R.shape.Idx → Elt F e := fun y => x (R.toLoadRect.idx y)

/-- Sixteen rows of the weight's gradient start at any row that leaves room for them. -/
theorem slicesAt (o : ℕ) (ho : o + 16 ≤ 512) : S512x512.Slices ![o, 0] S16x512 :=
  ⟨rfl, fun a => match a with | ⟨0, _⟩ => ho | ⟨1, _⟩ => le_refl 512⟩

/-- One row of the packed codes is inside the block. -/
theorem inbQ (o : ℕ) (ho : o < 32) : ∀ a, (![o, 0] : Fin 2 → Nat) a + S1x512.size a ≤ S32x512.size a :=
  fun a => match a with | ⟨0, _⟩ => ho | ⟨1, _⟩ => le_refl 512

/-- The zero points of a group, read from their packed words at the two bits of group number `g`, on sixteen rows. -/
def zeros (g : BitVec 32) (z : Vec F S1x512 .i32) : FVec F S16x512 .f32 :=
  broadcastTo S16x512 (shapeCast S1x512 (sitofp .f32 (andi (shrui (shapeCast S1x512 z shapeCasts_S1x512_S1x512)
    (broadcast S1x512 (Scalar.muli 2#32 (Scalar.andi g 3#32)))) (broadcast S1x512 3#32))) shapeCasts_S1x512_S1x512)
    broadcasts_S1x512_S16x512

/-- The sixteen codes of one packed word, one to a row. -/
def codes (q : Vec F S1x512 .i32) : FVec F S16x512 .f32 :=
  sitofp .f32 (andi (shrui (broadcastTo S16x512 (shapeCast S1x512 (shapeCast S1x512 q shapeCasts_S1x512_S1x512)
    shapeCasts_S1x512_S1x512) broadcasts_S1x512_S16x512) (muli (broadcast S16x512 2#32) (iota .tc S16x512 32 [0] iota_S16x512_d0_w32)))
    (broadcast S16x512 3#32))

/-- One packed word's share of a group's sum: gradient times (code − zero point). -/
def term (d : FVec F S512x512 .f32) (zb : FVec F S16x512 .f32) (q : Vec F S1x512 .i32) (o : ℕ) (ho : o + 16 ≤ 512) : FVec F S16x512 .f32 :=
  mulf (extractStridedSlice S16x512 ![o, 0] d (slicesAt o ho)) (subf (codes q) zb)

/-- The gradient of one group's scales, from the loaded rows: the four words' shares added, then the sixteen rows added. -/
def wrowL (i : grid0.Coords) (k : Fin 8) (a : Vec F S4096x512 .bf16) (b : Vec F S4096x512 .bf16) (z q0 q1 q2 q3 : Vec F S1x512 .i32) :
    FVec F S1x512 .f32 :=
  shapeCast S1x512 (shapeCast S1x512 (multiReduction .add [0] S512
    (addf (addf (addf
      (term (k0_pay14 a b) (zeros (Scalar.addi (Scalar.muli (BitVec.ofNat 32 (i 1).val) 8#32) (BitVec.ofNat 32 k.val)) z) q0 (64 * k.val) (by omega))
      (term (k0_pay14 a b) (zeros (Scalar.addi (Scalar.muli (BitVec.ofNat 32 (i 1).val) 8#32) (BitVec.ofNat 32 k.val)) z) q1 (64 * k.val + 16) (by omega)))
      (term (k0_pay14 a b) (zeros (Scalar.addi (Scalar.muli (BitVec.ofNat 32 (i 1).val) 8#32) (BitVec.ofNat 32 k.val)) z) q2 (64 * k.val + 32) (by omega)))
      (term (k0_pay14 a b) (zeros (Scalar.addi (Scalar.muli (BitVec.ofNat 32 (i 1).val) 8#32) (BitVec.ofNat 32 k.val)) z) q3 (64 * k.val + 48) (by omega)))
    0x00000000#32 reduces_S16x512_S512 (.inl rfl) rfl) shapeCasts_S512_S1x512) shapeCasts_S1x512_S1x512

/-- The gradient of group `k`'s scales at a point, from the point's blocks. -/
def wrow (i : grid0.Coords) (x1 : Vec F S4096x512 .bf16) (x2 : Vec F S4096x512 .bf16) (x3 : Vec F S32x512 .i32) (x4 : Vec F S32x512 .i32)
    (k : Fin 8) : FVec F S1x512 .f32 :=
  wrowL i k (rd x1 (Rect.unit (s := S4096x512) ![0, 0] S4096x512.size inb_S4096x512_S4096x512_0_0))
    (rd x2 (Rect.unit (s := S4096x512) ![0, 0] S4096x512.size inb_S4096x512_S4096x512_0_0))
    (rd x4 (Rect.unit (s := S32x512) (k0_off1 i (BitVec.ofNat 32 k.val)) S1x512.size (k0_off1_inb i k)))
    (rd x3 (Rect.unit (s := S32x512) ![4 * k.val, 0] S1x512.size (inbQ _ (by omega))))
    (rd x3 (Rect.unit (s := S32x512) ![4 * k.val + 1, 0] S1x512.size (inbQ _ (by omega))))
    (rd x3 (Rect.unit (s := S32x512) ![4 * k.val + 2, 0] S1x512.size (inbQ _ (by omega))))
    (rd x3 (Rect.unit (s := S32x512) ![4 * k.val + 3, 0] S1x512.size (inbQ _ (by omega))))

/-- The stores of a point's eight rows into the scratch, last first. -/
def rowPieces (i : grid0.Coords) (r : Fin 8 → FVec F S1x512 .f32) : List (View.Piece (Elt F) S128x512 .f32) :=
  [⟨Rect.unit (s := S128x512) (k0_off2 i 7#32) S1x512.size (k0_off2_inb i 7), r 7⟩,
   ⟨Rect.unit (s := S128x512) (k0_off2 i 6#32) S1x512.size (k0_off2_inb i 6), r 6⟩,
   ⟨Rect.unit (s := S128x512) (k0_off2 i 5#32) S1x512.size (k0_off2_inb i 5), r 5⟩,
   ⟨Rect.unit (s := S128x512) (k0_off2 i 4#32) S1x512.size (k0_off2_inb i 4), r 4⟩,
   ⟨Rect.unit (s := S128x512) (k0_off2 i 3#32) S1x512.size (k0_off2_inb i 3), r 3⟩,
   ⟨Rect.unit (s := S128x512) (k0_off2 i 2#32) S1x512.size (k0_off2_inb i 2), r 2⟩,
   ⟨Rect.unit (s := S128x512) (k0_off2 i 1#32) S1x512.size (k0_off2_inb i 1), r 1⟩,
   ⟨Rect.unit (s := S128x512) (k0_off2 i 0#32) S1x512.size (k0_off2_inb i 0), r 0⟩]

/-- A store of a whole output block. -/
def wholePiece (w : FVec F S512x128 .f32) : List (View.Piece (Elt F) S512x128 .f32) :=
  [⟨Rect.unit (s := S512x128) ![0, 0] S512x128.size inb_S512x128_S512x128_0_0, w⟩]

/-- The update's numbers: each matrix's learning rate and epsilon, and the two bias corrections. -/
def lrG (x0 : Vec F S3x3 .f32) : Elt F .f32 := rd x0 (Rect.unit (s := S3x3) ![0, 0] S1x1.size inb_S3x3_S1x1_0_0) (Shape.Idx.first (numel1_S1x1.symm ▸ Nat.one_pos))
def epsG (x0 : Vec F S3x3 .f32) : Elt F .f32 := rd x0 (Rect.unit (s := S3x3) ![1, 0] S1x1.size inb_S3x3_S1x1_1_0) (Shape.Idx.first (numel1_S1x1.symm ▸ Nat.one_pos))
def lrU (x0 : Vec F S3x3 .f32) : Elt F .f32 := rd x0 (Rect.unit (s := S3x3) ![0, 1] S1x1.size inb_S3x3_S1x1_0_1) (Shape.Idx.first (numel1_S1x1.symm ▸ Nat.one_pos))
def epsU (x0 : Vec F S3x3 .f32) : Elt F .f32 := rd x0 (Rect.unit (s := S3x3) ![1, 1] S1x1.size inb_S3x3_S1x1_1_1) (Shape.Idx.first (numel1_S1x1.symm ▸ Nat.one_pos))
def bcA (x0 : Vec F S3x3 .f32) : Elt F .f32 := rd x0 (Rect.unit (s := S3x3) ![2, 0] S1x1.size inb_S3x3_S1x1_2_0) (Shape.Idx.first (numel1_S1x1.symm ▸ Nat.one_pos))
def bcB (x0 : Vec F S3x3 .f32) : Elt F .f32 := rd x0 (Rect.unit (s := S3x3) ![2, 1] S1x1.size inb_S3x3_S1x1_2_1) (Shape.Idx.first (numel1_S1x1.symm ▸ Nat.one_pos))

/-- The five output blocks from the scratch's contents and the point's blocks: the gradient, the step, the scales and the two moments. -/
def oDs (sc : Vec F S128x512 .f32) : FVec F S512x128 .f32 := k0_pay4 sc
def oStep (sc : Vec F S128x512 .f32) (lr eps b1 b2 : Elt F .f32) (x6 x7 : Vec F S512x128 .f32) : FVec F S512x128 .f32 :=
  k0_pay7 sc (rd x6 (Rect.unit (s := S512x128) ![0, 0] S512x128.size inb_S512x128_S512x128_0_0)) (rd x7 (Rect.unit (s := S512x128) ![0, 0] S512x128.size inb_S512x128_S512x128_0_0)) lr eps b1 b2
def oS (sc : Vec F S128x512 .f32) (lr eps b1 b2 : Elt F .f32) (x5 x6 x7 : Vec F S512x128 .f32) : FVec F S512x128 .f32 :=
  k0_pay8 sc (rd x5 (Rect.unit (s := S512x128) ![0, 0] S512x128.size inb_S512x128_S512x128_0_0)) (rd x6 (Rect.unit (s := S512x128) ![0, 0] S512x128.size inb_S512x128_S512x128_0_0)) (rd x7 (Rect.unit (s := S512x128) ![0, 0] S512x128.size inb_S512x128_S512x128_0_0)) lr eps b1 b2
def oM (sc : Vec F S128x512 .f32) (x6 : Vec F S512x128 .f32) : FVec F S512x128 .f32 := k0_pay5 sc (rd x6 (Rect.unit (s := S512x128) ![0, 0] S512x128.size inb_S512x128_S512x128_0_0))
def oV (sc : Vec F S128x512 .f32) (x7 : Vec F S512x128 .f32) : FVec F S512x128 .f32 := k0_pay6 sc (rd x7 (Rect.unit (s := S512x128) ![0, 0] S512x128.size inb_S512x128_S512x128_0_0))

/-- The scratch after a point's stores, loaded whole. -/
def scAfter (a : Memref sig .tc .vmem S128x512 .f32) (ha : a.IsWhole) (i : grid0.Coords) (xs : Vec F S128x512 .f32)
    (r : Fin 8 → FVec F S1x512 .f32) : Vec F S128x512 .f32 :=
  View.readAt (Elt F) a.view (Rect.unit (s := S128x512) ![0, 0] S128x512.size inb_S128x512_S128x512_0_0).toLoadRect
    (a.view.writes (Elt F) (ha.unread xs) (rowPieces i r))

/-- A load from a whole buffer that holds `X` reads `X` at the load's rectangle. -/
theorem readAt_eq_rd {s : Shape} {e : EltTy} {sp : Space} {a : Memref sig .tc sp s e} (h : a.IsWhole) (X : Vec F s e) (R : Rect s) :
    View.readAt (Elt F) a.view R.toLoadRect (h.unread X) = rd X R := funext fun y => h.readAt_unread X R.toLoadRect y

variable (c : Dev nD) (i : grid0.Coords) (arg2 : Memref sig .tc .smem S3x3 .f32) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S32x512 .i32) (harg5 : arg5.IsWhole) (arg6 : Memref sig .tc .vmem S32x512 .i32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x512 .bf16) (harg10 : arg10.IsWhole) (arg11 : Memref sig .tc .vmem S32x512 .i32) (harg11 : arg11.IsWhole) (arg12 : Memref sig .tc .vmem S32x512 .i32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S128x512 .f32) (harg26 : arg26.IsWhole) (arg27 : Memref sig .tc .vmem S128x512 .f32) (harg27 : arg27.IsWhole) (x0 : Vec F S3x3 .f32) (x1 : Vec F S4096x512 .bf16) (x2 : Vec F S4096x512 .bf16) (x3 : Vec F S32x512 .i32) (x4 : Vec F S32x512 .i32) (x5 : Vec F S512x128 .f32) (x6 : Vec F S512x128 .f32) (x7 : Vec F S512x128 .f32) (x8 : Vec F S4096x512 .bf16) (x9 : Vec F S32x512 .i32) (x10 : Vec F S32x512 .i32) (x11 : Vec F S512x128 .f32) (x12 : Vec F S512x128 .f32) (x13 : Vec F S512x128 .f32) (xs0 xs1 : Vec F S128x512 .f32)

theorem pieces_AG (hc : ¬k0_cond1 i = 1#1) :
    (kernelRun_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc x0 x1 x2 x3 x4 x5 x6 x7 x8 x9 x10 x11 x12 x13).1 = rowPieces i (wrow i x1 x2 x3 x4) := by
  unfold wrow
  simp only [← readAt_eq_rd harg3 x1, ← readAt_eq_rd harg4 x2, ← readAt_eq_rd harg5 x3, ← readAt_eq_rd harg6 x4]
  rfl

theorem pieces_BG (hc : k0_cond1 i = 1#1) :
    (kernelRun_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc x0 x1 x2 x3 x4 x5 x6 x7 x8 x9 x10 x11 x12 x13 xs0 xs1).2.2.2.2.2.2.2.2.2.2.1 = rowPieces i (wrow i x1 x2 x3 x4) := by
  unfold wrow
  simp only [← readAt_eq_rd harg3 x1, ← readAt_eq_rd harg4 x2, ← readAt_eq_rd harg5 x3, ← readAt_eq_rd harg6 x4]
  rfl

theorem pieces_AU (hc : ¬k0_cond1 i = 1#1) :
    (kernelRun_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc x0 x1 x2 x3 x4 x5 x6 x7 x8 x9 x10 x11 x12 x13).2.1 = rowPieces i (wrow i x1 x8 x9 x10) := by
  unfold wrow
  simp only [← readAt_eq_rd harg3 x1, ← readAt_eq_rd harg10 x8, ← readAt_eq_rd harg11 x9, ← readAt_eq_rd harg12 x10]
  rfl

theorem pieces_BU (hc : k0_cond1 i = 1#1) :
    (kernelRun_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc x0 x1 x2 x3 x4 x5 x6 x7 x8 x9 x10 x11 x12 x13 xs0 xs1).2.2.2.2.2.2.2.2.2.2.2.1 = rowPieces i (wrow i x1 x8 x9 x10) := by
  unfold wrow
  simp only [← readAt_eq_rd harg3 x1, ← readAt_eq_rd harg10 x8, ← readAt_eq_rd harg11 x9, ← readAt_eq_rd harg12 x10]
  rfl

theorem out_B_14 (hc : k0_cond1 i = 1#1) :
    (kernelRun_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc x0 x1 x2 x3 x4 x5 x6 x7 x8 x9 x10 x11 x12 x13 xs0 xs1).1
      = wholePiece (oDs (scAfter arg26 harg26 i xs0 (wrow i x1 x2 x3 x4))) := by
  unfold wrow
  simp only [oDs, oStep, oS, oM, oV, lrG, epsG, lrU, epsU, bcA, bcB, ← readAt_eq_rd harg2 x0, ← readAt_eq_rd harg3 x1, ← readAt_eq_rd harg4 x2, ← readAt_eq_rd harg5 x3, ← readAt_eq_rd harg6 x4, ← readAt_eq_rd harg7 x5, ← readAt_eq_rd harg8 x6, ← readAt_eq_rd harg9 x7]
  rfl

theorem out_B_15 (hc : k0_cond1 i = 1#1) :
    (kernelRun_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc x0 x1 x2 x3 x4 x5 x6 x7 x8 x9 x10 x11 x12 x13 xs0 xs1).2.1
      = wholePiece (oStep (scAfter arg26 harg26 i xs0 (wrow i x1 x2 x3 x4)) (lrG x0) (epsG x0) (bcA x0) (bcB x0) x6 x7) := by
  unfold wrow
  simp only [oDs, oStep, oS, oM, oV, lrG, epsG, lrU, epsU, bcA, bcB, ← readAt_eq_rd harg2 x0, ← readAt_eq_rd harg3 x1, ← readAt_eq_rd harg4 x2, ← readAt_eq_rd harg5 x3, ← readAt_eq_rd harg6 x4, ← readAt_eq_rd harg7 x5, ← readAt_eq_rd harg8 x6, ← readAt_eq_rd harg9 x7]
  rfl

theorem out_B_16 (hc : k0_cond1 i = 1#1) :
    (kernelRun_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc x0 x1 x2 x3 x4 x5 x6 x7 x8 x9 x10 x11 x12 x13 xs0 xs1).2.2.1
      = wholePiece (oS (scAfter arg26 harg26 i xs0 (wrow i x1 x2 x3 x4)) (lrG x0) (epsG x0) (bcA x0) (bcB x0) x5 x6 x7) := by
  unfold wrow
  simp only [oDs, oStep, oS, oM, oV, lrG, epsG, lrU, epsU, bcA, bcB, ← readAt_eq_rd harg2 x0, ← readAt_eq_rd harg3 x1, ← readAt_eq_rd harg4 x2, ← readAt_eq_rd harg5 x3, ← readAt_eq_rd harg6 x4, ← readAt_eq_rd harg7 x5, ← readAt_eq_rd harg8 x6, ← readAt_eq_rd harg9 x7]
  rfl

theorem out_B_17 (hc : k0_cond1 i = 1#1) :
    (kernelRun_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc x0 x1 x2 x3 x4 x5 x6 x7 x8 x9 x10 x11 x12 x13 xs0 xs1).2.2.2.1
      = wholePiece (oM (scAfter arg26 harg26 i xs0 (wrow i x1 x2 x3 x4)) x6) := by
  unfold wrow
  simp only [oDs, oStep, oS, oM, oV, lrG, epsG, lrU, epsU, bcA, bcB, ← readAt_eq_rd harg2 x0, ← readAt_eq_rd harg3 x1, ← readAt_eq_rd harg4 x2, ← readAt_eq_rd harg5 x3, ← readAt_eq_rd harg6 x4, ← readAt_eq_rd harg7 x5, ← readAt_eq_rd harg8 x6, ← readAt_eq_rd harg9 x7]
  rfl

theorem out_B_18 (hc : k0_cond1 i = 1#1) :
    (kernelRun_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc x0 x1 x2 x3 x4 x5 x6 x7 x8 x9 x10 x11 x12 x13 xs0 xs1).2.2.2.2.1
      = wholePiece (oV (scAfter arg26 harg26 i xs0 (wrow i x1 x2 x3 x4)) x7) := by
  unfold wrow
  simp only [oDs, oStep, oS, oM, oV, lrG, epsG, lrU, epsU, bcA, bcB, ← readAt_eq_rd harg2 x0, ← readAt_eq_rd harg3 x1, ← readAt_eq_rd harg4 x2, ← readAt_eq_rd harg5 x3, ← readAt_eq_rd harg6 x4, ← readAt_eq_rd harg7 x5, ← readAt_eq_rd harg8 x6, ← readAt_eq_rd harg9 x7]
  rfl

theorem out_B_19 (hc : k0_cond1 i = 1#1) :
    (kernelRun_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc x0 x1 x2 x3 x4 x5 x6 x7 x8 x9 x10 x11 x12 x13 xs0 xs1).2.2.2.2.2.1
      = wholePiece (oDs (scAfter arg27 harg27 i xs1 (wrow i x1 x8 x9 x10))) := by
  unfold wrow
  simp only [oDs, oStep, oS, oM, oV, lrG, epsG, lrU, epsU, bcA, bcB, ← readAt_eq_rd harg2 x0, ← readAt_eq_rd harg3 x1, ← readAt_eq_rd harg10 x8, ← readAt_eq_rd harg11 x9, ← readAt_eq_rd harg12 x10, ← readAt_eq_rd harg13 x11, ← readAt_eq_rd harg14 x12, ← readAt_eq_rd harg15 x13]
  rfl

theorem out_B_20 (hc : k0_cond1 i = 1#1) :
    (kernelRun_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc x0 x1 x2 x3 x4 x5 x6 x7 x8 x9 x10 x11 x12 x13 xs0 xs1).2.2.2.2.2.2.1
      = wholePiece (oStep (scAfter arg27 harg27 i xs1 (wrow i x1 x8 x9 x10)) (lrU x0) (epsU x0) (bcA x0) (bcB x0) x12 x13) := by
  unfold wrow
  simp only [oDs, oStep, oS, oM, oV, lrG, epsG, lrU, epsU, bcA, bcB, ← readAt_eq_rd harg2 x0, ← readAt_eq_rd harg3 x1, ← readAt_eq_rd harg10 x8, ← readAt_eq_rd harg11 x9, ← readAt_eq_rd harg12 x10, ← readAt_eq_rd harg13 x11, ← readAt_eq_rd harg14 x12, ← readAt_eq_rd harg15 x13]
  rfl

theorem out_B_21 (hc : k0_cond1 i = 1#1) :
    (kernelRun_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc x0 x1 x2 x3 x4 x5 x6 x7 x8 x9 x10 x11 x12 x13 xs0 xs1).2.2.2.2.2.2.2.1
      = wholePiece (oS (scAfter arg27 harg27 i xs1 (wrow i x1 x8 x9 x10)) (lrU x0) (epsU x0) (bcA x0) (bcB x0) x11 x12 x13) := by
  unfold wrow
  simp only [oDs, oStep, oS, oM, oV, lrG, epsG, lrU, epsU, bcA, bcB, ← readAt_eq_rd harg2 x0, ← readAt_eq_rd harg3 x1, ← readAt_eq_rd harg10 x8, ← readAt_eq_rd harg11 x9, ← readAt_eq_rd harg12 x10, ← readAt_eq_rd harg13 x11, ← readAt_eq_rd harg14 x12, ← readAt_eq_rd harg15 x13]
  rfl

theorem out_B_22 (hc : k0_cond1 i = 1#1) :
    (kernelRun_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc x0 x1 x2 x3 x4 x5 x6 x7 x8 x9 x10 x11 x12 x13 xs0 xs1).2.2.2.2.2.2.2.2.1
      = wholePiece (oM (scAfter arg27 harg27 i xs1 (wrow i x1 x8 x9 x10)) x12) := by
  unfold wrow
  simp only [oDs, oStep, oS, oM, oV, lrG, epsG, lrU, epsU, bcA, bcB, ← readAt_eq_rd harg2 x0, ← readAt_eq_rd harg3 x1, ← readAt_eq_rd harg10 x8, ← readAt_eq_rd harg11 x9, ← readAt_eq_rd harg12 x10, ← readAt_eq_rd harg13 x11, ← readAt_eq_rd harg14 x12, ← readAt_eq_rd harg15 x13]
  rfl

theorem out_B_23 (hc : k0_cond1 i = 1#1) :
    (kernelRun_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc x0 x1 x2 x3 x4 x5 x6 x7 x8 x9 x10 x11 x12 x13 xs0 xs1).2.2.2.2.2.2.2.2.2.1
      = wholePiece (oV (scAfter arg27 harg27 i xs1 (wrow i x1 x8 x9 x10)) x13) := by
  unfold wrow
  simp only [oDs, oStep, oS, oM, oV, lrG, epsG, lrU, epsU, bcA, bcB, ← readAt_eq_rd harg2 x0, ← readAt_eq_rd harg3 x1, ← readAt_eq_rd harg10 x8, ← readAt_eq_rd harg11 x9, ← readAt_eq_rd harg12 x10, ← readAt_eq_rd harg13 x11, ← readAt_eq_rd harg14 x12, ← readAt_eq_rd harg15 x13]
  rfl

end Cert.WgradGateUp.Gen

end
-- ==== Proof.WgradGateUpBody.lean ====
/- The scale update's body meets its launch's obligation at every point, so the call runs to the end; what its output blocks hold is named. -/
module

public import proofs.«01_k».proof.Proof.WgradGateUpRows
public import Idealize.ShloMosaic.Lib.WritesUnit
public import Idealize.ShloMosaic.Lib.Pointwise.Index
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.WgradGateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where a point stores, and which case it is in -/

theorem lastIff : ∀ t : Fin cfg0.N, k0_cond1 (grid0.coords t) = 1#1 ↔ t.val % 16 = 15 :=
  (by decide +kernel : ∀ t : Fin grid0.N, _)

theorem offRow : ∀ (t : Fin cfg0.N) (k : Fin 8), k0_off2 (grid0.coords t) (BitVec.ofNat 32 k.val) = ![8 * (t.val % 16) + k.val, 0] :=
  (by decide +kernel : ∀ (t : Fin grid0.N) (k : Fin 8), _)

/-- Reading past a store of one of the point's rows, -/
theorem past (v : View sig .tc .vmem S128x512 .f32) (f : v.ty.Contents (Elt F)) (t : Fin cfg0.N) (k : Fin 8) (w : FVec F S1x512 .f32)
    (L : List (View.Piece (Elt F) S128x512 .f32)) (y : S128x512.Idx)
    (h : (y 0).val < 8 * (t.val % 16) + k.val ∨ 8 * (t.val % 16) + k.val + 1 ≤ (y 0).val) :
    v.read (Elt F) (v.writes (Elt F) f (⟨Rect.unit (s := S128x512) (k0_off2 (grid0.coords t) (BitVec.ofNat 32 k.val)) S1x512.size (k0_off2_inb _ k), w⟩ :: L)) y
      = v.read (Elt F) (v.writes (Elt F) f L) y :=
  View.read_writes_cons_rows_of_not_mem (v := v) (f := f) (d := ![128, 512]) (W := 1) _ _ _ y (offRow t k) rfl h

/-- and at it. -/
theorem atRow (v : View sig .tc .vmem S128x512 .f32) (f : v.ty.Contents (Elt F)) (t : Fin cfg0.N) (k : Fin 8) (w : FVec F S1x512 .f32)
    (L : List (View.Piece (Elt F) S128x512 .f32)) (y : S128x512.Idx) (h : (y 0).val = 8 * (t.val % 16) + k.val) :
    v.read (Elt F) (v.writes (Elt F) f (⟨Rect.unit (s := S128x512) (k0_off2 (grid0.coords t) (BitVec.ofNat 32 k.val)) S1x512.size (k0_off2_inb _ k), w⟩ :: L)) y
      = w (ix2 (n0 := 1) (n1 := 512) 0 (y 1)) :=
  View.read_writes_cons_rows_of_mem (v := v) (f := f) (d := ![128, 512]) _ _ _ y (ix2 (n0 := 1) (n1 := 512) 0 (y 1)) (offRow t k) h rfl

/-- Reading the scratch after a point's eight stores: the point's rows where they are, the earlier contents elsewhere. -/
theorem read_rowPieces (v : View sig .tc .vmem S128x512 .f32) (f : v.ty.Contents (Elt F)) (t : Fin cfg0.N) (r : Fin 8 → FVec F S1x512 .f32)
    (y : S128x512.Idx) :
    v.read (Elt F) (v.writes (Elt F) f (rowPieces (grid0.coords t) r)) y
      = if h : 8 * (t.val % 16) ≤ (y 0).val ∧ (y 0).val < 8 * (t.val % 16) + 8 then
          r ⟨(y 0).val % 8, Nat.mod_lt _ (by decide)⟩ (ix2 (n0 := 1) (n1 := 512) 0 (y 1))
        else v.read (Elt F) f y := by
  unfold rowPieces
  split
  · rename_i h
    have hk : ∃ k : Fin 8, (y 0).val = 8 * (t.val % 16) + k.val := ⟨⟨(y 0).val - 8 * (t.val % 16), by omega⟩, by show _ = _ + ((y 0).val - 8 * (t.val % 16)); omega⟩
    obtain ⟨k, hk⟩ := hk
    have e : (⟨(y 0).val % 8, Nat.mod_lt _ (by decide)⟩ : Fin 8) = k := Fin.ext (by show (y 0).val % 8 = k.val; omega)
    rw [e]
    fin_cases k
    · replace hk : (y 0).val = 8 * (t.val % 16) + 0 := hk
      refine (past v f t 7 _ _ y (Or.inl (by show _ < 8 * (t.val % 16) + 7; omega))).trans ?_
      refine (past v f t 6 _ _ y (Or.inl (by show _ < 8 * (t.val % 16) + 6; omega))).trans ?_
      refine (past v f t 5 _ _ y (Or.inl (by show _ < 8 * (t.val % 16) + 5; omega))).trans ?_
      refine (past v f t 4 _ _ y (Or.inl (by show _ < 8 * (t.val % 16) + 4; omega))).trans ?_
      refine (past v f t 3 _ _ y (Or.inl (by show _ < 8 * (t.val % 16) + 3; omega))).trans ?_
      refine (past v f t 2 _ _ y (Or.inl (by show _ < 8 * (t.val % 16) + 2; omega))).trans ?_
      refine (past v f t 1 _ _ y (Or.inl (by show _ < 8 * (t.val % 16) + 1; omega))).trans ?_
      exact atRow v f t 0 _ _ y hk
    · replace hk : (y 0).val = 8 * (t.val % 16) + 1 := hk
      refine (past v f t 7 _ _ y (Or.inl (by show _ < 8 * (t.val % 16) + 7; omega))).trans ?_
      refine (past v f t 6 _ _ y (Or.inl (by show _ < 8 * (t.val % 16) + 6; omega))).trans ?_
      refine (past v f t 5 _ _ y (Or.inl (by show _ < 8 * (t.val % 16) + 5; omega))).trans ?_
      refine (past v f t 4 _ _ y (Or.inl (by show _ < 8 * (t.val % 16) + 4; omega))).trans ?_
      refine (past v f t 3 _ _ y (Or.inl (by show _ < 8 * (t.val % 16) + 3; omega))).trans ?_
      refine (past v f t 2 _ _ y (Or.inl (by show _ < 8 * (t.val % 16) + 2; omega))).trans ?_
      exact atRow v f t 1 _ _ y hk
    · replace hk : (y 0).val = 8 * (t.val % 16) + 2 := hk
      refine (past v f t 7 _ _ y (Or.inl (by show _ < 8 * (t.val % 16) + 7; omega))).trans ?_
      refine (past v f t 6 _ _ y (Or.inl (by show _ < 8 * (t.val % 16) + 6; omega))).trans ?_
      refine (past v f t 5 _ _ y (Or.inl (by show _ < 8 * (t.val % 16) + 5; omega))).trans ?_
      refine (past v f t 4 _ _ y (Or.inl (by show _ < 8 * (t.val % 16) + 4; omega))).trans ?_
      refine (past v f t 3 _ _ y (Or.inl (by show _ < 8 * (t.val % 16) + 3; omega))).trans ?_
      exact atRow v f t 2 _ _ y hk
    · replace hk : (y 0).val = 8 * (t.val % 16) + 3 := hk
      refine (past v f t 7 _ _ y (Or.inl (by show _ < 8 * (t.val % 16) + 7; omega))).trans ?_
      refine (past v f t 6 _ _ y (Or.inl (by show _ < 8 * (t.val % 16) + 6; omega))).trans ?_
      refine (past v f t 5 _ _ y (Or.inl (by show _ < 8 * (t.val % 16) + 5; omega))).trans ?_
      refine (past v f t 4 _ _ y (Or.inl (by show _ < 8 * (t.val % 16) + 4; omega))).trans ?_
      exact atRow v f t 3 _ _ y hk
    · replace hk : (y 0).val = 8 * (t.val % 16) + 4 := hk
      refine (past v f t 7 _ _ y (Or.inl (by show _ < 8 * (t.val % 16) + 7; omega))).trans ?_
      refine (past v f t 6 _ _ y (Or.inl (by show _ < 8 * (t.val % 16) + 6; omega))).trans ?_
      refine (past v f t 5 _ _ y (Or.inl (by show _ < 8 * (t.val % 16) + 5; omega))).trans ?_
      exact atRow v f t 4 _ _ y hk
    · replace hk : (y 0).val = 8 * (t.val % 16) + 5 := hk
      refine (past v f t 7 _ _ y (Or.inl (by show _ < 8 * (t.val % 16) + 7; omega))).trans ?_
      refine (past v f t 6 _ _ y (Or.inl (by show _ < 8 * (t.val % 16) + 6; omega))).trans ?_
      exact atRow v f t 5 _ _ y hk
    · replace hk : (y 0).val = 8 * (t.val % 16) + 6 := hk
      refine (past v f t 7 _ _ y (Or.inl (by show _ < 8 * (t.val % 16) + 7; omega))).trans ?_
      exact atRow v f t 6 _ _ y hk
    · replace hk : (y 0).val = 8 * (t.val % 16) + 7 := hk
      exact atRow v f t 7 _ _ y hk
  · rename_i h
    refine (past v f t 7 _ _ y (by show _ < 8 * (t.val % 16) + 7 ∨ 8 * (t.val % 16) + 7 + 1 ≤ _; omega)).trans ?_
    refine (past v f t 6 _ _ y (by show _ < 8 * (t.val % 16) + 6 ∨ 8 * (t.val % 16) + 6 + 1 ≤ _; omega)).trans ?_
    refine (past v f t 5 _ _ y (by show _ < 8 * (t.val % 16) + 5 ∨ 8 * (t.val % 16) + 5 + 1 ≤ _; omega)).trans ?_
    refine (past v f t 4 _ _ y (by show _ < 8 * (t.val % 16) + 4 ∨ 8 * (t.val % 16) + 4 + 1 ≤ _; omega)).trans ?_
    refine (past v f t 3 _ _ y (by show _ < 8 * (t.val % 16) + 3 ∨ 8 * (t.val % 16) + 3 + 1 ≤ _; omega)).trans ?_
    refine (past v f t 2 _ _ y (by show _ < 8 * (t.val % 16) + 2 ∨ 8 * (t.val % 16) + 2 + 1 ≤ _; omega)).trans ?_
    refine (past v f t 1 _ _ y (by show _ < 8 * (t.val % 16) + 1 ∨ 8 * (t.val % 16) + 1 + 1 ≤ _; omega)).trans ?_
    refine (past v f t 0 _ _ y (by show _ < 8 * (t.val % 16) + 0 ∨ 8 * (t.val % 16) + 0 + 1 ≤ _; omega)).trans ?_
    rfl

/-- A whole block stored and read back. -/
theorem read_wholePiece (v : View sig .tc .vmem S512x128 .f32) (f : v.ty.Contents (Elt F)) (w : FVec F S512x128 .f32) :
    v.read (Elt F) (v.writes (Elt F) f (wholePiece w)) = w := by
  funext y
  exact View.read_writes_cons_unit_of_mem (v := v) (f := f) _ w [] y y rfl (fun a => by match a with | ⟨0, _⟩ => exact (Nat.zero_add _).symm | ⟨1, _⟩ => exact (Nat.zero_add _).symm)

variable (m : (ℓ : Loc nD τ sig) → Buf (Elt F) ℓ) (ρ : Dev nD → PrngReg)

/-! ## What a scratch holds -/

/-- The eight rows of a point for the gate matrix, from the blocks staged there, -/
def rowG (c : Dev nD) (t : Fin cfg0.N) (k : Fin 8) : FVec F S1x512 .f32 :=
  wrow (grid0.coords t) (iblk m c 1 t) (iblk m c 2 t) (iblk m c 3 t) (iblk m c 4 t) k

/-- and for the up matrix. -/
def rowU (c : Dev nD) (t : Fin cfg0.N) (k : Fin 8) : FVec F S1x512 .f32 :=
  wrow (grid0.coords t) (iblk m c 1 t) (iblk m c 8 t) (iblk m c 9 t) (iblk m c 10 t) k

variable (R : Fin cfg0.N → Fin 8 → FVec F S1x512 .f32)

/-- The point of row band `b` that fills scratch row `r`. -/
def ptOf (b r : ℕ) : Fin cfg0.N := ⟨min (16 * b + r / 8) 111, by show _ < cfg0.N; rw [show cfg0.N = 112 from N_0]; omega⟩

/-- The scratch once band `b` has filled it with the points' rows `R`. -/
def scOf (b : ℕ) : Vec F S128x512 .f32 := fun y =>
  R (ptOf b (y 0).val) ⟨(y 0).val % 8, Nat.mod_lt _ (by decide)⟩ (ix2 (n0 := 1) (n1 := 512) 0 (y 1))

/-- Before point `n` the scratch holds the rows of the band's earlier points. -/
def Fill (n : ℕ) (d : Vec F S128x512 .f32) : Prop :=
  ∀ y : S128x512.Idx, (y 0).val < 8 * (n % 16) → d y = scOf R (n / 16) y

theorem fill_step (t : Fin cfg0.N) (v : View sig .tc .vmem S128x512 .f32) (f : v.ty.Contents (Elt F))
    (h : Fill R t.val (v.read (Elt F) f)) (y : S128x512.Idx) (hy : (y 0).val < 8 * (t.val % 16) + 8) :
    v.read (Elt F) (v.writes (Elt F) f (rowPieces (grid0.coords t) (R t))) y = scOf R (t.val / 16) y := by
  rw [read_rowPieces]
  split
  · rename_i hr
    unfold scOf
    have hN : t.val < 112 := lt_of_lt_of_eq t.isLt (show cfg0.N = 112 from N_0)
    have e : ptOf (t.val / 16) (y 0).val = t := Fin.ext (by show min (16 * (t.val / 16) + (y 0).val / 8) 111 = t.val; omega)
    rw [e]
  · exact h y (by omega)

theorem fill_next (t : Fin cfg0.N) (v : View sig .tc .vmem S128x512 .f32) (f : v.ty.Contents (Elt F))
    (h : Fill R t.val (v.read (Elt F) f)) :
    Fill R (t.val + 1) (v.read (Elt F) (v.writes (Elt F) f (rowPieces (grid0.coords t) (R t)))) := fun y hy => by
  by_cases h6 : t.val % 16 = 15
  · exact absurd hy (by rw [show (t.val + 1) % 16 = 0 by omega]; omega)
  · rw [show (t.val + 1) / 16 = t.val / 16 by omega]
    exact fill_step R t v f h y (by rw [show (t.val + 1) % 16 = t.val % 16 + 1 by omega] at hy; omega)

/-- At a band's last point the loaded scratch is the whole band's. -/
theorem sc_last (t : Fin cfg0.N) (h6 : t.val % 16 = 15) (a : Memref sig .tc .vmem S128x512 .f32) (ha : a.IsWhole)
    (xs : Vec F S128x512 .f32) (h : Fill R t.val xs) :
    scAfter a ha (grid0.coords t) xs (R t) = scOf R (t.val / 16) := by
  funext y
  have hx : (Rect.unit (s := S128x512) ![0, 0] S128x512.size inb_S128x512_S128x512_0_0).toLoadRect.idx y = y :=
    funext fun a => Fin.ext (by
      match a with
      | ⟨0, _⟩ => show 0 + (1 * _) = _; omega
      | ⟨1, _⟩ => show 0 + (1 * _) = _; omega)
  unfold scAfter
  rw [View.readAt_apply, hx]
  have hy : (y 0).val < 128 := (y 0).isLt
  exact fill_step R t a.view (ha.unread xs) (by rw [ha.read_unread]; exact h) y (by omega)

abbrev ms0 (t : Fin cfg0.N) : Memref sig .tc .smem S3x3 .f32 := win0_0.stage (cfg0.slots t 0)
abbrev hs0 (t : Fin cfg0.N) : (ms0 t).IsWhole := hstage0_0 ((cfg0.slots t 0).cast nbuf0_0)
theorem live0 : ∀ t : Fin cfg0.N, cfg0.idle 0 (grid0.coords t) = false := fun _ => rfl
abbrev ms1 (t : Fin cfg0.N) : Memref sig .tc .vmem S4096x512 .bf16 := win0_1.stage (cfg0.slots t 1)
abbrev hs1 (t : Fin cfg0.N) : (ms1 t).IsWhole := hstage0_1 ((cfg0.slots t 1).cast nbuf0_1)
theorem live1 : ∀ t : Fin cfg0.N, cfg0.idle 1 (grid0.coords t) = false := fun _ => rfl
abbrev ms2 (t : Fin cfg0.N) : Memref sig .tc .vmem S4096x512 .bf16 := win0_2.stage (cfg0.slots t 2)
abbrev hs2 (t : Fin cfg0.N) : (ms2 t).IsWhole := hstage0_2 ((cfg0.slots t 2).cast nbuf0_2)
theorem live2 : ∀ t : Fin cfg0.N, cfg0.idle 2 (grid0.coords t) = false := fun _ => rfl
abbrev ms3 (t : Fin cfg0.N) : Memref sig .tc .vmem S32x512 .i32 := win0_3.stage (cfg0.slots t 3)
abbrev hs3 (t : Fin cfg0.N) : (ms3 t).IsWhole := hstage0_3 ((cfg0.slots t 3).cast nbuf0_3)
theorem live3 : ∀ t : Fin cfg0.N, cfg0.idle 3 (grid0.coords t) = false := fun _ => rfl
abbrev ms4 (t : Fin cfg0.N) : Memref sig .tc .vmem S32x512 .i32 := win0_4.stage (cfg0.slots t 4)
abbrev hs4 (t : Fin cfg0.N) : (ms4 t).IsWhole := hstage0_4 ((cfg0.slots t 4).cast nbuf0_4)
theorem live4 : ∀ t : Fin cfg0.N, cfg0.idle 4 (grid0.coords t) = false := fun _ => rfl
abbrev ms5 (t : Fin cfg0.N) : Memref sig .tc .vmem S512x128 .f32 := win0_5.stage (cfg0.slots t 5)
abbrev hs5 (t : Fin cfg0.N) : (ms5 t).IsWhole := hstage0_5 ((cfg0.slots t 5).cast nbuf0_5)
theorem live5 : ∀ t : Fin cfg0.N, cfg0.idle 5 (grid0.coords t) = false := fun _ => rfl
abbrev ms6 (t : Fin cfg0.N) : Memref sig .tc .vmem S512x128 .f32 := win0_6.stage (cfg0.slots t 6)
abbrev hs6 (t : Fin cfg0.N) : (ms6 t).IsWhole := hstage0_6 ((cfg0.slots t 6).cast nbuf0_6)
theorem live6 : ∀ t : Fin cfg0.N, cfg0.idle 6 (grid0.coords t) = false := fun _ => rfl
abbrev ms7 (t : Fin cfg0.N) : Memref sig .tc .vmem S512x128 .f32 := win0_7.stage (cfg0.slots t 7)
abbrev hs7 (t : Fin cfg0.N) : (ms7 t).IsWhole := hstage0_7 ((cfg0.slots t 7).cast nbuf0_7)
theorem live7 : ∀ t : Fin cfg0.N, cfg0.idle 7 (grid0.coords t) = false := fun _ => rfl
abbrev ms8 (t : Fin cfg0.N) : Memref sig .tc .vmem S4096x512 .bf16 := win0_8.stage (cfg0.slots t 8)
abbrev hs8 (t : Fin cfg0.N) : (ms8 t).IsWhole := hstage0_8 ((cfg0.slots t 8).cast nbuf0_8)
theorem live8 : ∀ t : Fin cfg0.N, cfg0.idle 8 (grid0.coords t) = false := fun _ => rfl
abbrev ms9 (t : Fin cfg0.N) : Memref sig .tc .vmem S32x512 .i32 := win0_9.stage (cfg0.slots t 9)
abbrev hs9 (t : Fin cfg0.N) : (ms9 t).IsWhole := hstage0_9 ((cfg0.slots t 9).cast nbuf0_9)
theorem live9 : ∀ t : Fin cfg0.N, cfg0.idle 9 (grid0.coords t) = false := fun _ => rfl
abbrev ms10 (t : Fin cfg0.N) : Memref sig .tc .vmem S32x512 .i32 := win0_10.stage (cfg0.slots t 10)
abbrev hs10 (t : Fin cfg0.N) : (ms10 t).IsWhole := hstage0_10 ((cfg0.slots t 10).cast nbuf0_10)
theorem live10 : ∀ t : Fin cfg0.N, cfg0.idle 10 (grid0.coords t) = false := fun _ => rfl
abbrev ms11 (t : Fin cfg0.N) : Memref sig .tc .vmem S512x128 .f32 := win0_11.stage (cfg0.slots t 11)
abbrev hs11 (t : Fin cfg0.N) : (ms11 t).IsWhole := hstage0_11 ((cfg0.slots t 11).cast nbuf0_11)
theorem live11 : ∀ t : Fin cfg0.N, cfg0.idle 11 (grid0.coords t) = false := fun _ => rfl
abbrev ms12 (t : Fin cfg0.N) : Memref sig .tc .vmem S512x128 .f32 := win0_12.stage (cfg0.slots t 12)
abbrev hs12 (t : Fin cfg0.N) : (ms12 t).IsWhole := hstage0_12 ((cfg0.slots t 12).cast nbuf0_12)
theorem live12 : ∀ t : Fin cfg0.N, cfg0.idle 12 (grid0.coords t) = false := fun _ => rfl
abbrev ms13 (t : Fin cfg0.N) : Memref sig .tc .vmem S512x128 .f32 := win0_13.stage (cfg0.slots t 13)
abbrev hs13 (t : Fin cfg0.N) : (ms13 t).IsWhole := hstage0_13 ((cfg0.slots t 13).cast nbuf0_13)
theorem live13 : ∀ t : Fin cfg0.N, cfg0.idle 13 (grid0.coords t) = false := fun _ => rfl
abbrev ms14 (t : Fin cfg0.N) : Memref sig .tc .vmem S512x128 .f32 := win0_14.stage (cfg0.slots t 14)
abbrev hs14 (t : Fin cfg0.N) : (ms14 t).IsWhole := hstage0_14 ((cfg0.slots t 14).cast nbuf0_14)
theorem live14_B : ∀ t : Fin cfg0.N, k0_cond1 (grid0.coords t) = 1#1 → cfg0.idle 14 (grid0.coords t) = false := by decide +kernel
theorem idle14_A : ∀ t : Fin cfg0.N, ¬k0_cond1 (grid0.coords t) = 1#1 → cfg0.idle 14 (grid0.coords t) = true := by decide +kernel
theorem noFlush14_A : ∀ t : Fin cfg0.N, ¬k0_cond1 (grid0.coords t) = 1#1 → (cfg0.win 14).flush t = false := by decide +kernel
abbrev ms15 (t : Fin cfg0.N) : Memref sig .tc .vmem S512x128 .f32 := win0_15.stage (cfg0.slots t 15)
abbrev hs15 (t : Fin cfg0.N) : (ms15 t).IsWhole := hstage0_15 ((cfg0.slots t 15).cast nbuf0_15)
theorem live15_B : ∀ t : Fin cfg0.N, k0_cond1 (grid0.coords t) = 1#1 → cfg0.idle 15 (grid0.coords t) = false := by decide +kernel
theorem idle15_A : ∀ t : Fin cfg0.N, ¬k0_cond1 (grid0.coords t) = 1#1 → cfg0.idle 15 (grid0.coords t) = true := by decide +kernel
theorem noFlush15_A : ∀ t : Fin cfg0.N, ¬k0_cond1 (grid0.coords t) = 1#1 → (cfg0.win 15).flush t = false := by decide +kernel
abbrev ms16 (t : Fin cfg0.N) : Memref sig .tc .vmem S512x128 .f32 := win0_16.stage (cfg0.slots t 16)
abbrev hs16 (t : Fin cfg0.N) : (ms16 t).IsWhole := hstage0_16 ((cfg0.slots t 16).cast nbuf0_16)
theorem live16_B : ∀ t : Fin cfg0.N, k0_cond1 (grid0.coords t) = 1#1 → cfg0.idle 16 (grid0.coords t) = false := by decide +kernel
theorem idle16_A : ∀ t : Fin cfg0.N, ¬k0_cond1 (grid0.coords t) = 1#1 → cfg0.idle 16 (grid0.coords t) = true := by decide +kernel
theorem noFlush16_A : ∀ t : Fin cfg0.N, ¬k0_cond1 (grid0.coords t) = 1#1 → (cfg0.win 16).flush t = false := by decide +kernel
abbrev ms17 (t : Fin cfg0.N) : Memref sig .tc .vmem S512x128 .f32 := win0_17.stage (cfg0.slots t 17)
abbrev hs17 (t : Fin cfg0.N) : (ms17 t).IsWhole := hstage0_17 ((cfg0.slots t 17).cast nbuf0_17)
theorem live17_B : ∀ t : Fin cfg0.N, k0_cond1 (grid0.coords t) = 1#1 → cfg0.idle 17 (grid0.coords t) = false := by decide +kernel
theorem idle17_A : ∀ t : Fin cfg0.N, ¬k0_cond1 (grid0.coords t) = 1#1 → cfg0.idle 17 (grid0.coords t) = true := by decide +kernel
theorem noFlush17_A : ∀ t : Fin cfg0.N, ¬k0_cond1 (grid0.coords t) = 1#1 → (cfg0.win 17).flush t = false := by decide +kernel
abbrev ms18 (t : Fin cfg0.N) : Memref sig .tc .vmem S512x128 .f32 := win0_18.stage (cfg0.slots t 18)
abbrev hs18 (t : Fin cfg0.N) : (ms18 t).IsWhole := hstage0_18 ((cfg0.slots t 18).cast nbuf0_18)
theorem live18_B : ∀ t : Fin cfg0.N, k0_cond1 (grid0.coords t) = 1#1 → cfg0.idle 18 (grid0.coords t) = false := by decide +kernel
theorem idle18_A : ∀ t : Fin cfg0.N, ¬k0_cond1 (grid0.coords t) = 1#1 → cfg0.idle 18 (grid0.coords t) = true := by decide +kernel
theorem noFlush18_A : ∀ t : Fin cfg0.N, ¬k0_cond1 (grid0.coords t) = 1#1 → (cfg0.win 18).flush t = false := by decide +kernel
abbrev ms19 (t : Fin cfg0.N) : Memref sig .tc .vmem S512x128 .f32 := win0_19.stage (cfg0.slots t 19)
abbrev hs19 (t : Fin cfg0.N) : (ms19 t).IsWhole := hstage0_19 ((cfg0.slots t 19).cast nbuf0_19)
theorem live19_B : ∀ t : Fin cfg0.N, k0_cond1 (grid0.coords t) = 1#1 → cfg0.idle 19 (grid0.coords t) = false := by decide +kernel
theorem idle19_A : ∀ t : Fin cfg0.N, ¬k0_cond1 (grid0.coords t) = 1#1 → cfg0.idle 19 (grid0.coords t) = true := by decide +kernel
theorem noFlush19_A : ∀ t : Fin cfg0.N, ¬k0_cond1 (grid0.coords t) = 1#1 → (cfg0.win 19).flush t = false := by decide +kernel
abbrev ms20 (t : Fin cfg0.N) : Memref sig .tc .vmem S512x128 .f32 := win0_20.stage (cfg0.slots t 20)
abbrev hs20 (t : Fin cfg0.N) : (ms20 t).IsWhole := hstage0_20 ((cfg0.slots t 20).cast nbuf0_20)
theorem live20_B : ∀ t : Fin cfg0.N, k0_cond1 (grid0.coords t) = 1#1 → cfg0.idle 20 (grid0.coords t) = false := by decide +kernel
theorem idle20_A : ∀ t : Fin cfg0.N, ¬k0_cond1 (grid0.coords t) = 1#1 → cfg0.idle 20 (grid0.coords t) = true := by decide +kernel
theorem noFlush20_A : ∀ t : Fin cfg0.N, ¬k0_cond1 (grid0.coords t) = 1#1 → (cfg0.win 20).flush t = false := by decide +kernel
abbrev ms21 (t : Fin cfg0.N) : Memref sig .tc .vmem S512x128 .f32 := win0_21.stage (cfg0.slots t 21)
abbrev hs21 (t : Fin cfg0.N) : (ms21 t).IsWhole := hstage0_21 ((cfg0.slots t 21).cast nbuf0_21)
theorem live21_B : ∀ t : Fin cfg0.N, k0_cond1 (grid0.coords t) = 1#1 → cfg0.idle 21 (grid0.coords t) = false := by decide +kernel
theorem idle21_A : ∀ t : Fin cfg0.N, ¬k0_cond1 (grid0.coords t) = 1#1 → cfg0.idle 21 (grid0.coords t) = true := by decide +kernel
theorem noFlush21_A : ∀ t : Fin cfg0.N, ¬k0_cond1 (grid0.coords t) = 1#1 → (cfg0.win 21).flush t = false := by decide +kernel
abbrev ms22 (t : Fin cfg0.N) : Memref sig .tc .vmem S512x128 .f32 := win0_22.stage (cfg0.slots t 22)
abbrev hs22 (t : Fin cfg0.N) : (ms22 t).IsWhole := hstage0_22 ((cfg0.slots t 22).cast nbuf0_22)
theorem live22_B : ∀ t : Fin cfg0.N, k0_cond1 (grid0.coords t) = 1#1 → cfg0.idle 22 (grid0.coords t) = false := by decide +kernel
theorem idle22_A : ∀ t : Fin cfg0.N, ¬k0_cond1 (grid0.coords t) = 1#1 → cfg0.idle 22 (grid0.coords t) = true := by decide +kernel
theorem noFlush22_A : ∀ t : Fin cfg0.N, ¬k0_cond1 (grid0.coords t) = 1#1 → (cfg0.win 22).flush t = false := by decide +kernel
abbrev ms23 (t : Fin cfg0.N) : Memref sig .tc .vmem S512x128 .f32 := win0_23.stage (cfg0.slots t 23)
abbrev hs23 (t : Fin cfg0.N) : (ms23 t).IsWhole := hstage0_23 ((cfg0.slots t 23).cast nbuf0_23)
theorem live23_B : ∀ t : Fin cfg0.N, k0_cond1 (grid0.coords t) = 1#1 → cfg0.idle 23 (grid0.coords t) = false := by decide +kernel
theorem idle23_A : ∀ t : Fin cfg0.N, ¬k0_cond1 (grid0.coords t) = 1#1 → cfg0.idle 23 (grid0.coords t) = true := by decide +kernel
theorem noFlush23_A : ∀ t : Fin cfg0.N, ¬k0_cond1 (grid0.coords t) = 1#1 → (cfg0.win 23).flush t = false := by decide +kernel

/-- The kernel's two scratches as memrefs. -/
abbrev scM0 : Memref sig .tc .vmem S128x512 .f32 := Memref.whole cc0_scratch0
abbrev scM1 : Memref sig .tc .vmem S128x512 .f32 := Memref.whole cc0_scratch1

theorem PhiA_eq (c : Dev nD) :
    (Pipeline.ΦA spec0 c : sProp 𝕄) = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The invariant before point `n`: each scratch holds its matrix's earlier rows of the band; the generator register is at some state. -/
def PhiS (c : Dev nD) (n : ℕ) : sProp 𝕄 :=
  iprop((∃ d, ⌜Fill (rowG m c) n d⌝ ∗ owns (c : Thread nD τ) scM0 fullShare d) ∗ (∃ d, ⌜Fill (rowU m c) n d⌝ ∗ owns (c : Thread nD τ) scM1 fullShare d)
    ∗ (∃ r, prngReg c r))

/-- The pipeline's proof data: each input's buffer keeps its block; the outputs' hold what the band's scratches decide. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => oDs (scOf (rowG m c) (t.val / 16))
    | ⟨15, _⟩ => oStep (scOf (rowG m c) (t.val / 16)) (lrG (iblk m c 0 t)) (epsG (iblk m c 0 t)) (bcA (iblk m c 0 t)) (bcB (iblk m c 0 t)) (iblk m c 6 t) (iblk m c 7 t)
    | ⟨16, _⟩ => oS (scOf (rowG m c) (t.val / 16)) (lrG (iblk m c 0 t)) (epsG (iblk m c 0 t)) (bcA (iblk m c 0 t)) (bcB (iblk m c 0 t)) (iblk m c 5 t) (iblk m c 6 t) (iblk m c 7 t)
    | ⟨17, _⟩ => oM (scOf (rowG m c) (t.val / 16)) (iblk m c 6 t)
    | ⟨18, _⟩ => oV (scOf (rowG m c) (t.val / 16)) (iblk m c 7 t)
    | ⟨19, _⟩ => oDs (scOf (rowU m c) (t.val / 16))
    | ⟨20, _⟩ => oStep (scOf (rowU m c) (t.val / 16)) (lrU (iblk m c 0 t)) (epsU (iblk m c 0 t)) (bcA (iblk m c 0 t)) (bcB (iblk m c 0 t)) (iblk m c 12 t) (iblk m c 13 t)
    | ⟨21, _⟩ => oS (scOf (rowU m c) (t.val / 16)) (lrU (iblk m c 0 t)) (epsU (iblk m c 0 t)) (bcA (iblk m c 0 t)) (bcB (iblk m c 0 t)) (iblk m c 11 t) (iblk m c 12 t) (iblk m c 13 t)
    | ⟨22, _⟩ => oM (scOf (rowU m c) (t.val / 16)) (iblk m c 12 t)
    | ⟨23, _⟩ => oV (scOf (rowU m c) (t.val / 16)) (iblk m c 13 t)
    | ⟨n + 24, h⟩ => absurd (show n + 24 < 24 from h) (by omega)
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = oDs (scOf (rowG m c) (t.val / 16)) := by dsimp only [dats]
theorem after15 (c : Dev nD) (t : Fin cfg0.N) : (dats m 0 c).after 15 t = oStep (scOf (rowG m c) (t.val / 16)) (lrG (iblk m c 0 t)) (epsG (iblk m c 0 t)) (bcA (iblk m c 0 t)) (bcB (iblk m c 0 t)) (iblk m c 6 t) (iblk m c 7 t) := by dsimp only [dats]
theorem after16 (c : Dev nD) (t : Fin cfg0.N) : (dats m 0 c).after 16 t = oS (scOf (rowG m c) (t.val / 16)) (lrG (iblk m c 0 t)) (epsG (iblk m c 0 t)) (bcA (iblk m c 0 t)) (bcB (iblk m c 0 t)) (iblk m c 5 t) (iblk m c 6 t) (iblk m c 7 t) := by dsimp only [dats]
theorem after17 (c : Dev nD) (t : Fin cfg0.N) : (dats m 0 c).after 17 t = oM (scOf (rowG m c) (t.val / 16)) (iblk m c 6 t) := by dsimp only [dats]
theorem after18 (c : Dev nD) (t : Fin cfg0.N) : (dats m 0 c).after 18 t = oV (scOf (rowG m c) (t.val / 16)) (iblk m c 7 t) := by dsimp only [dats]
theorem after19 (c : Dev nD) (t : Fin cfg0.N) : (dats m 0 c).after 19 t = oDs (scOf (rowU m c) (t.val / 16)) := by dsimp only [dats]
theorem after20 (c : Dev nD) (t : Fin cfg0.N) : (dats m 0 c).after 20 t = oStep (scOf (rowU m c) (t.val / 16)) (lrU (iblk m c 0 t)) (epsU (iblk m c 0 t)) (bcA (iblk m c 0 t)) (bcB (iblk m c 0 t)) (iblk m c 12 t) (iblk m c 13 t) := by dsimp only [dats]
theorem after21 (c : Dev nD) (t : Fin cfg0.N) : (dats m 0 c).after 21 t = oS (scOf (rowU m c) (t.val / 16)) (lrU (iblk m c 0 t)) (epsU (iblk m c 0 t)) (bcA (iblk m c 0 t)) (bcB (iblk m c 0 t)) (iblk m c 11 t) (iblk m c 12 t) (iblk m c 13 t) := by dsimp only [dats]
theorem after22 (c : Dev nD) (t : Fin cfg0.N) : (dats m 0 c).after 22 t = oM (scOf (rowU m c) (t.val / 16)) (iblk m c 12 t) := by dsimp only [dats]
theorem after23 (c : Dev nD) (t : Fin cfg0.N) : (dats m 0 c).after 23 t = oV (scOf (rowU m c) (t.val / 16)) (iblk m c 13 t) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d

/-! ## The body at any point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d))
    ∗ (∃ d, owns (c : Thread nD τ) (ms18 t) fullShare ((dats m 0 c).before 18 t d))
    ∗ (∃ d, owns (c : Thread nD τ) (ms19 t) fullShare ((dats m 0 c).before 19 t d))
    ∗ (∃ d, owns (c : Thread nD τ) (ms20 t) fullShare ((dats m 0 c).before 20 t d))
    ∗ (∃ d, owns (c : Thread nD τ) (ms21 t) fullShare ((dats m 0 c).before 21 t d))
    ∗ (∃ d, owns (c : Thread nD τ) (ms22 t) fullShare ((dats m 0 c).before 22 t d))
    ∗ (∃ d, owns (c : Thread nD τ) (ms23 t) fullShare ((dats m 0 c).before 23 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) : (dats m 0 c).leavesExact 4 t = owns (c : Thread nD τ) (ms4 t) fullShare (iblk m c 4 t) := by
  unfold Dat.leavesExact; rw [live4 t, after4]
theorem leaves5 (c : Dev nD) (t : Fin cfg0.N) : (dats m 0 c).leavesExact 5 t = owns (c : Thread nD τ) (ms5 t) fullShare (iblk m c 5 t) := by
  unfold Dat.leavesExact; rw [live5 t, after5]
theorem leaves6 (c : Dev nD) (t : Fin cfg0.N) : (dats m 0 c).leavesExact 6 t = owns (c : Thread nD τ) (ms6 t) fullShare (iblk m c 6 t) := by
  unfold Dat.leavesExact; rw [live6 t, after6]
theorem leaves7 (c : Dev nD) (t : Fin cfg0.N) : (dats m 0 c).leavesExact 7 t = owns (c : Thread nD τ) (ms7 t) fullShare (iblk m c 7 t) := by
  unfold Dat.leavesExact; rw [live7 t, after7]
theorem leaves8 (c : Dev nD) (t : Fin cfg0.N) : (dats m 0 c).leavesExact 8 t = owns (c : Thread nD τ) (ms8 t) fullShare (iblk m c 8 t) := by
  unfold Dat.leavesExact; rw [live8 t, after8]
theorem leaves9 (c : Dev nD) (t : Fin cfg0.N) : (dats m 0 c).leavesExact 9 t = owns (c : Thread nD τ) (ms9 t) fullShare (iblk m c 9 t) := by
  unfold Dat.leavesExact; rw [live9 t, after9]
theorem leaves10 (c : Dev nD) (t : Fin cfg0.N) : (dats m 0 c).leavesExact 10 t = owns (c : Thread nD τ) (ms10 t) fullShare (iblk m c 10 t) := by
  unfold Dat.leavesExact; rw [live10 t, after10]
theorem leaves11 (c : Dev nD) (t : Fin cfg0.N) : (dats m 0 c).leavesExact 11 t = owns (c : Thread nD τ) (ms11 t) fullShare (iblk m c 11 t) := by
  unfold Dat.leavesExact; rw [live11 t, after11]
theorem leaves12 (c : Dev nD) (t : Fin cfg0.N) : (dats m 0 c).leavesExact 12 t = owns (c : Thread nD τ) (ms12 t) fullShare (iblk m c 12 t) := by
  unfold Dat.leavesExact; rw [live12 t, after12]
theorem leaves13 (c : Dev nD) (t : Fin cfg0.N) : (dats m 0 c).leavesExact 13 t = owns (c : Thread nD τ) (ms13 t) fullShare (iblk m c 13 t) := by
  unfold Dat.leavesExact; rw [live13 t, after13]
theorem leaves14 (c : Dev nD) (t : Fin cfg0.N) (h0 : k0_cond1 (grid0.coords t) = 1#1) :
    (dats m 0 c).leavesExact 14 t = owns (c : Thread nD τ) (ms14 t) fullShare (oDs (scOf (rowG m c) (t.val / 16))) := by
  unfold Dat.leavesExact; rw [live14_B t h0, after14]
theorem leaves15 (c : Dev nD) (t : Fin cfg0.N) (h0 : k0_cond1 (grid0.coords t) = 1#1) :
    (dats m 0 c).leavesExact 15 t = owns (c : Thread nD τ) (ms15 t) fullShare (oStep (scOf (rowG m c) (t.val / 16)) (lrG (iblk m c 0 t)) (epsG (iblk m c 0 t)) (bcA (iblk m c 0 t)) (bcB (iblk m c 0 t)) (iblk m c 6 t) (iblk m c 7 t)) := by
  unfold Dat.leavesExact; rw [live15_B t h0, after15]
theorem leaves16 (c : Dev nD) (t : Fin cfg0.N) (h0 : k0_cond1 (grid0.coords t) = 1#1) :
    (dats m 0 c).leavesExact 16 t = owns (c : Thread nD τ) (ms16 t) fullShare (oS (scOf (rowG m c) (t.val / 16)) (lrG (iblk m c 0 t)) (epsG (iblk m c 0 t)) (bcA (iblk m c 0 t)) (bcB (iblk m c 0 t)) (iblk m c 5 t) (iblk m c 6 t) (iblk m c 7 t)) := by
  unfold Dat.leavesExact; rw [live16_B t h0, after16]
theorem leaves17 (c : Dev nD) (t : Fin cfg0.N) (h0 : k0_cond1 (grid0.coords t) = 1#1) :
    (dats m 0 c).leavesExact 17 t = owns (c : Thread nD τ) (ms17 t) fullShare (oM (scOf (rowG m c) (t.val / 16)) (iblk m c 6 t)) := by
  unfold Dat.leavesExact; rw [live17_B t h0, after17]
theorem leaves18 (c : Dev nD) (t : Fin cfg0.N) (h0 : k0_cond1 (grid0.coords t) = 1#1) :
    (dats m 0 c).leavesExact 18 t = owns (c : Thread nD τ) (ms18 t) fullShare (oV (scOf (rowG m c) (t.val / 16)) (iblk m c 7 t)) := by
  unfold Dat.leavesExact; rw [live18_B t h0, after18]
theorem leaves19 (c : Dev nD) (t : Fin cfg0.N) (h0 : k0_cond1 (grid0.coords t) = 1#1) :
    (dats m 0 c).leavesExact 19 t = owns (c : Thread nD τ) (ms19 t) fullShare (oDs (scOf (rowU m c) (t.val / 16))) := by
  unfold Dat.leavesExact; rw [live19_B t h0, after19]
theorem leaves20 (c : Dev nD) (t : Fin cfg0.N) (h0 : k0_cond1 (grid0.coords t) = 1#1) :
    (dats m 0 c).leavesExact 20 t = owns (c : Thread nD τ) (ms20 t) fullShare (oStep (scOf (rowU m c) (t.val / 16)) (lrU (iblk m c 0 t)) (epsU (iblk m c 0 t)) (bcA (iblk m c 0 t)) (bcB (iblk m c 0 t)) (iblk m c 12 t) (iblk m c 13 t)) := by
  unfold Dat.leavesExact; rw [live20_B t h0, after20]
theorem leaves21 (c : Dev nD) (t : Fin cfg0.N) (h0 : k0_cond1 (grid0.coords t) = 1#1) :
    (dats m 0 c).leavesExact 21 t = owns (c : Thread nD τ) (ms21 t) fullShare (oS (scOf (rowU m c) (t.val / 16)) (lrU (iblk m c 0 t)) (epsU (iblk m c 0 t)) (bcA (iblk m c 0 t)) (bcB (iblk m c 0 t)) (iblk m c 11 t) (iblk m c 12 t) (iblk m c 13 t)) := by
  unfold Dat.leavesExact; rw [live21_B t h0, after21]
theorem leaves22 (c : Dev nD) (t : Fin cfg0.N) (h0 : k0_cond1 (grid0.coords t) = 1#1) :
    (dats m 0 c).leavesExact 22 t = owns (c : Thread nD τ) (ms22 t) fullShare (oM (scOf (rowU m c) (t.val / 16)) (iblk m c 12 t)) := by
  unfold Dat.leavesExact; rw [live22_B t h0, after22]
theorem leaves23 (c : Dev nD) (t : Fin cfg0.N) (h0 : k0_cond1 (grid0.coords t) = 1#1) :
    (dats m 0 c).leavesExact 23 t = owns (c : Thread nD τ) (ms23 t) fullShare (oV (scOf (rowU m c) (t.val / 16)) (iblk m c 13 t)) := by
  unfold Dat.leavesExact; rw [live23_B t h0, after23]

set_option maxHeartbeats 6400000 in
/-- The body's triple at any point, by its two cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  rw [leaves0 m c t, leaves1 m c t, leaves2 m c t, leaves3 m c t, leaves4 m c t, leaves5 m c t, leaves6 m c t, leaves7 m c t, leaves8 m c t, leaves9 m c t, leaves10 m c t, leaves11 m c t, leaves12 m c t, leaves13 m c t]
  by_cases h0 : k0_cond1 (grid0.coords t) = 1#1
  · rw [leaves14 m c t h0, leaves15 m c t h0, leaves16 m c t h0, leaves17 m c t h0, leaves18 m c t h0, leaves19 m c t h0, leaves20 m c t h0, leaves21 m c t h0, leaves22 m c t h0, leaves23 m c t h0]
    iintro ⟨⟨⟨%xs0, %hF0, HS0⟩, ⟨%xs1, %hF1, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
    have hD0 := sc_last (rowG m c) t ((lastIff t).mp h0) scM0 (Memref.isWhole_whole _) xs0 hF0
    have hD1 := sc_last (rowU m c) t ((lastIff t).mp h0) scM1 (Memref.isWhole_whole _) xs1 hF1
    have hN0 := fill_next (rowG m c) t scM0.view ((Memref.isWhole_whole _).unread xs0) (by rw [(Memref.isWhole_whole _).read_unread]; exact hF0)
    have hN1 := fill_next (rowU m c) t scM1.view ((Memref.isWhole_whole _).unread xs1) (by rw [(Memref.isWhole_whole _).read_unread]; exact hF1)
    iapply ((kernelRun_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) scM0 (Memref.isWhole_whole _) scM1 (Memref.isWhole_whole _) h0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) xs0 xs1).2.2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [HS0]; · iexact HS0
    isplitl [HS1]; · iexact HS1
    iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, HS0, HS1⟩
    isplitl [HS0 HS1 Hg]
    · isplitl [HS0]
      · iexists _; isplitr
        swap
        · unfold owns; iexists _; isplitr
          swap; · iexact HS0
          ipureintro; rfl
        ipureintro; rw [pieces_BG]; exact hN0
      isplitl [HS1]
      · iexists _; isplitr
        swap
        · unfold owns; iexists _; isplitr
          swap; · iexact HS1
          ipureintro; rfl
        ipureintro; rw [pieces_BU]; exact hN1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · unfold owns; iexists _; isplitr
      swap; · iexact H14
      ipureintro; rw [out_B_14, read_wholePiece]; exact congrArg (fun s => oDs s) hD0
    isplitl [H15]
    · unfold owns; iexists _; isplitr
      swap; · iexact H15
      ipureintro; rw [out_B_15, read_wholePiece]; exact congrArg (fun s => oStep s (lrG (iblk m c 0 t)) (epsG (iblk m c 0 t)) (bcA (iblk m c 0 t)) (bcB (iblk m c 0 t)) (iblk m c 6 t) (iblk m c 7 t)) hD0
    isplitl [H16]
    · unfold owns; iexists _; isplitr
      swap; · iexact H16
      ipureintro; rw [out_B_16, read_wholePiece]; exact congrArg (fun s => oS s (lrG (iblk m c 0 t)) (epsG (iblk m c 0 t)) (bcA (iblk m c 0 t)) (bcB (iblk m c 0 t)) (iblk m c 5 t) (iblk m c 6 t) (iblk m c 7 t)) hD0
    isplitl [H17]
    · unfold owns; iexists _; isplitr
      swap; · iexact H17
      ipureintro; rw [out_B_17, read_wholePiece]; exact congrArg (fun s => oM s (iblk m c 6 t)) hD0
    isplitl [H18]
    · unfold owns; iexists _; isplitr
      swap; · iexact H18
      ipureintro; rw [out_B_18, read_wholePiece]; exact congrArg (fun s => oV s (iblk m c 7 t)) hD0
    isplitl [H19]
    · unfold owns; iexists _; isplitr
      swap; · iexact H19
      ipureintro; rw [out_B_19, read_wholePiece]; exact congrArg (fun s => oDs s) hD1
    isplitl [H20]
    · unfold owns; iexists _; isplitr
      swap; · iexact H20
      ipureintro; rw [out_B_20, read_wholePiece]; exact congrArg (fun s => oStep s (lrU (iblk m c 0 t)) (epsU (iblk m c 0 t)) (bcA (iblk m c 0 t)) (bcB (iblk m c 0 t)) (iblk m c 12 t) (iblk m c 13 t)) hD1
    isplitl [H21]
    · unfold owns; iexists _; isplitr
      swap; · iexact H21
      ipureintro; rw [out_B_21, read_wholePiece]; exact congrArg (fun s => oS s (lrU (iblk m c 0 t)) (epsU (iblk m c 0 t)) (bcA (iblk m c 0 t)) (bcB (iblk m c 0 t)) (iblk m c 11 t) (iblk m c 12 t) (iblk m c 13 t)) hD1
    isplitl [H22]
    · unfold owns; iexists _; isplitr
      swap; · iexact H22
      ipureintro; rw [out_B_22, read_wholePiece]; exact congrArg (fun s => oM s (iblk m c 12 t)) hD1
    unfold owns; iexists _; isplitr
    swap; · iexact H23
    ipureintro; rw [out_B_23, read_wholePiece]; exact congrArg (fun s => oV s (iblk m c 13 t)) hD1
  · rw [Dat.leavesExact_idle (dats m 0 c) 14 t (idle14_A t h0) (noFlush14_A t h0)]
    rw [Dat.leavesExact_idle (dats m 0 c) 15 t (idle15_A t h0) (noFlush15_A t h0)]
    rw [Dat.leavesExact_idle (dats m 0 c) 16 t (idle16_A t h0) (noFlush16_A t h0)]
    rw [Dat.leavesExact_idle (dats m 0 c) 17 t (idle17_A t h0) (noFlush17_A t h0)]
    rw [Dat.leavesExact_idle (dats m 0 c) 18 t (idle18_A t h0) (noFlush18_A t h0)]
    rw [Dat.leavesExact_idle (dats m 0 c) 19 t (idle19_A t h0) (noFlush19_A t h0)]
    rw [Dat.leavesExact_idle (dats m 0 c) 20 t (idle20_A t h0) (noFlush20_A t h0)]
    rw [Dat.leavesExact_idle (dats m 0 c) 21 t (idle21_A t h0) (noFlush21_A t h0)]
    rw [Dat.leavesExact_idle (dats m 0 c) 22 t (idle22_A t h0) (noFlush22_A t h0)]
    rw [Dat.leavesExact_idle (dats m 0 c) 23 t (idle23_A t h0) (noFlush23_A t h0)]
    iintro ⟨⟨⟨%xs0, %hF0, HS0⟩, ⟨%xs1, %hF1, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
    have hN0 := fill_next (rowG m c) t scM0.view ((Memref.isWhole_whole _).unread xs0) (by rw [(Memref.isWhole_whole _).read_unread]; exact hF0)
    have hN1 := fill_next (rowU m c) t scM1.view ((Memref.isWhole_whole _).unread xs1) (by rw [(Memref.isWhole_whole _).read_unread]; exact hF1)
    iapply ((kernelRun_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) scM0 (Memref.isWhole_whole _) scM1 (Memref.isWhole_whole _) h0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).2.2 _ _ _ _ _ _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [HS0]; · iexact HS0
    isplitl [HS1]; · iexact HS1
    iintro ⟨H0, H1, H2, H3, H4, H5, H6, H7, H8, H9, H10, H11, H12, H13, H14, H15, H16, H17, H18, H19, H20, H21, H22, H23, HS0, HS1⟩
    isplitl [HS0 HS1 Hg]
    · isplitl [HS0]
      · iexists _; isplitr
        swap
        · unfold owns; iexists _; isplitr
          swap; · iexact HS0
          ipureintro; rfl
        ipureintro; rw [pieces_AG]; exact hN0
      isplitl [HS1]
      · iexists _; isplitr
        swap
        · unfold owns; iexists _; isplitr
          swap; · iexact HS1
          ipureintro; rfl
        ipureintro; rw [pieces_AU]; exact hN1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    iexists _; iexact H23

/-- The body table's row at a point's slots is the body. -/
theorem defs₀_row (t : Fin cfg0.N) : defs₀ (F := F) .tc cfg0.body (cfg0.bodyArgs t (cfg0.slots t)) = bodyAt0 t := by
  unfold defs₀; rw [Defs.onTc_tc]

set_option maxHeartbeats 6400000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point: nothing is asked of the scratches there. -/
theorem hin (c : Dev nD) : Pipeline.ΦA spec0 c ⊢ (dats m 0 c).Φ 0 := by
  rw [show (dats m 0 c).Φ 0 = PhiS m c 0 from rfl, PhiA_eq]
  unfold PhiS
  iintro ⟨⟨⟨%d, HS⟩, ⟨%e, HT⟩⟩, Hg⟩
  isplitl [HS]
  · iexists d; isplitr
    swap; · iexact HS
    ipureintro; exact fun y hy => absurd hy (by omega)
  isplitl [HT]
  · iexists e; isplitr
    swap; · iexact HT
    ipureintro; exact fun y hy => absurd hy (by omega)
  iexact Hg

/-- After the last point what the scratches hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]
  unfold PhiS
  iintro ⟨⟨%d, -, HS⟩, ⟨%e, -, HT⟩, Hg⟩
  isplitl [HS HT]
  · isplitl [HS]
    · iexists _; iexact HS
    iexists _; iexact HT
  iexact Hg

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every run ends with the windows' arrays as the proof data says. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

/-- The frame: the program runs to its end, its arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (unchanged m ρ) ((θ_run defs _ _).mono (fun _ h => h.2) (run_main_quiescent m ρ))

end Cert.WgradGateUp.Gen

end
-- ==== Proof.WgradGateUpIdealRunA.lean ====
/- The scale update's body run symbolically at a point that is not the last of its band. -/
module

public import proofs.«01_k».proof.Proof.Gen.WgradGateUpIdeal.Launch
public import proofs.«01_k».proof.Proof.Gen.WgradGateUpIdeal.Skeleton
public import proofs.«01_k».proof.Proof.Gen.WgradGateUpIdeal.Points
public import proofs.«01_k».proof.Proof.Gen.WgradGateUpIdeal.Frame

@[expose] public section

set_option maxRecDepth 16384

noncomputable section

namespace Cert.WgradGateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at a point whose second coordinate is not the last: the output windows stay as they are and the scratch rows of the point are written. The pieces found are the witness. -/
noncomputable def kernelRun_A (c : Dev nD) (i : grid0.Coords) (arg2 : Memref sig .tc .smem S3x3 .f32) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S32x512 .i32) (harg5 : arg5.IsWhole) (arg6 : Memref sig .tc .vmem S32x512 .i32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x512 .bf16) (harg10 : arg10.IsWhole) (arg11 : Memref sig .tc .vmem S32x512 .i32) (harg11 : arg11.IsWhole) (arg12 : Memref sig .tc .vmem S32x512 .i32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S128x512 .f32) (harg26 : arg26.IsWhole) (arg27 : Memref sig .tc .vmem S128x512 .f32) (harg27 : arg27.IsWhole) (hc0 : ¬k0_cond1 i = 1#1)
    (x0 : Vec F S3x3 .f32) (x1 : Vec F S4096x512 .bf16) (x2 : Vec F S4096x512 .bf16) (x3 : Vec F S32x512 .i32) (x4 : Vec F S32x512 .i32) (x5 : Vec F S512x128 .f32) (x6 : Vec F S512x128 .f32) (x7 : Vec F S512x128 .f32) (x8 : Vec F S4096x512 .bf16) (x9 : Vec F S32x512 .i32) (x10 : Vec F S32x512 .i32) (x11 : Vec F S512x128 .f32) (x12 : Vec F S512x128 .f32) (x13 : Vec F S512x128 .f32) :
    Σ' (LS0 : List (View.Piece (Elt F) S128x512 .f32)), { LS1 : List (View.Piece (Elt F) S128x512 .f32) //
      ∀ (xi14 : Vec F S512x128 .f32) (xi15 : Vec F S512x128 .f32) (xi16 : Vec F S512x128 .f32) (xi17 : Vec F S512x128 .f32) (xi18 : Vec F S512x128 .f32) (xi19 : Vec F S512x128 .f32) (xi20 : Vec F S512x128 .f32) (xi21 : Vec F S512x128 .f32) (xi22 : Vec F S512x128 .f32) (xi23 : Vec F S512x128 .f32) (xs0 : Vec F S128x512 .f32) (xs1 : Vec F S128x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ owns (c : Thread nD τ) arg17 fullShare xi15 ∗ owns (c : Thread nD τ) arg18 fullShare xi16 ∗ owns (c : Thread nD τ) arg19 fullShare xi17 ∗ owns (c : Thread nD τ) arg20 fullShare xi18 ∗ owns (c : Thread nD τ) arg21 fullShare xi19 ∗ owns (c : Thread nD τ) arg22 fullShare xi20 ∗ owns (c : Thread nD τ) arg23 fullShare xi21 ∗ owns (c : Thread nD τ) arg24 fullShare xi22 ∗ owns (c : Thread nD τ) arg25 fullShare xi23 ∗ owns (c : Thread nD τ) arg26 fullShare xs0 ∗ owns (c : Thread nD τ) arg27 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ owns (c : Thread nD τ) arg17 fullShare xi15 ∗ owns (c : Thread nD τ) arg18 fullShare xi16 ∗ owns (c : Thread nD τ) arg19 fullShare xi17 ∗ owns (c : Thread nD τ) arg20 fullShare xi18 ∗ owns (c : Thread nD τ) arg21 fullShare xi19 ∗ owns (c : Thread nD τ) arg22 fullShare xi20 ∗ owns (c : Thread nD τ) arg23 fullShare xi21 ∗ owns (c : Thread nD τ) arg24 fullShare xi22 ∗ owns (c : Thread nD τ) arg25 fullShare xi23 ∗ (arg26.view.loc (c : Thread nD τ) ↦[arg26.view.set]{fullShare} arg26.view.writes (Elt F) (harg26.unread xs0) LS0) ∗ (arg27.view.loc (c : Thread nD τ) ↦[arg27.view.set]{fullShare} arg27.view.writes (Elt F) (harg27.unread xs1) LS1)) -∗ K ⟨⟩))
          ⊢ wp frame (wpE (defs₀ (F := F)) Variants.none c none) E (cc0_wgrad i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, fun xi14 xi15 xi16 xi17 xi18 xi19 xi20 xi21 xi22 xi23 xs0 xs1 E K => ?run⟩
  case run =>
    simp only [cc0_wgrad_eq_skeleton]; unfold cc0_wgrad_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hfs0; obtain rfl := harg27.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    isplitl [HS0]; · iexact HS0
    iexact HS1

end Cert.WgradGateUpIdeal.Gen

end
-- ==== Proof.WgradGateUpIdealRunB.lean ====
/- The scale update's body run symbolically at the last point of a band. -/
module

public import proofs.«01_k».proof.Proof.Gen.WgradGateUpIdeal.Launch
public import proofs.«01_k».proof.Proof.Gen.WgradGateUpIdeal.Skeleton
public import proofs.«01_k».proof.Proof.Gen.WgradGateUpIdeal.Points
public import proofs.«01_k».proof.Proof.Gen.WgradGateUpIdeal.Frame

@[expose] public section

set_option maxRecDepth 16384

noncomputable section

namespace Cert.WgradGateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at a point whose second coordinate is the last: the scratch rows of the point are written and then every output window is stored whole. The pieces found are the witness. -/
noncomputable def kernelRun_B (c : Dev nD) (i : grid0.Coords) (arg2 : Memref sig .tc .smem S3x3 .f32) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S32x512 .i32) (harg5 : arg5.IsWhole) (arg6 : Memref sig .tc .vmem S32x512 .i32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x512 .bf16) (harg10 : arg10.IsWhole) (arg11 : Memref sig .tc .vmem S32x512 .i32) (harg11 : arg11.IsWhole) (arg12 : Memref sig .tc .vmem S32x512 .i32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S128x512 .f32) (harg26 : arg26.IsWhole) (arg27 : Memref sig .tc .vmem S128x512 .f32) (harg27 : arg27.IsWhole) (hc0 : k0_cond1 i = 1#1)
    (x0 : Vec F S3x3 .f32) (x1 : Vec F S4096x512 .bf16) (x2 : Vec F S4096x512 .bf16) (x3 : Vec F S32x512 .i32) (x4 : Vec F S32x512 .i32) (x5 : Vec F S512x128 .f32) (x6 : Vec F S512x128 .f32) (x7 : Vec F S512x128 .f32) (x8 : Vec F S4096x512 .bf16) (x9 : Vec F S32x512 .i32) (x10 : Vec F S32x512 .i32) (x11 : Vec F S512x128 .f32) (x12 : Vec F S512x128 .f32) (x13 : Vec F S512x128 .f32) (xs0 : Vec F S128x512 .f32) (xs1 : Vec F S128x512 .f32) :
    Σ' (L14 : List (View.Piece (Elt F) S512x128 .f32)), Σ' (L15 : List (View.Piece (Elt F) S512x128 .f32)), Σ' (L16 : List (View.Piece (Elt F) S512x128 .f32)), Σ' (L17 : List (View.Piece (Elt F) S512x128 .f32)), Σ' (L18 : List (View.Piece (Elt F) S512x128 .f32)), Σ' (L19 : List (View.Piece (Elt F) S512x128 .f32)), Σ' (L20 : List (View.Piece (Elt F) S512x128 .f32)), Σ' (L21 : List (View.Piece (Elt F) S512x128 .f32)), Σ' (L22 : List (View.Piece (Elt F) S512x128 .f32)), Σ' (L23 : List (View.Piece (Elt F) S512x128 .f32)), Σ' (LS0 : List (View.Piece (Elt F) S128x512 .f32)), { LS1 : List (View.Piece (Elt F) S128x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ owns (c : Thread nD τ) arg26 fullShare xs0 ∗ owns (c : Thread nD τ) arg27 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (arg26.view.loc (c : Thread nD τ) ↦[arg26.view.set]{fullShare} arg26.view.writes (Elt F) (harg26.unread xs0) LS0) ∗ (arg27.view.loc (c : Thread nD τ) ↦[arg27.view.set]{fullShare} arg27.view.writes (Elt F) (harg27.unread xs1) LS1)) -∗ K ⟨⟩))
          ⊢ wp frame (wpE (defs₀ (F := F)) Variants.none c none) E (cc0_wgrad i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, ?_, ?_, ?_, ?_, fun E K => ?run⟩
  case run =>
    simp only [cc0_wgrad_eq_skeleton]; unfold cc0_wgrad_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg26.eq_unread hfs0; obtain rfl := harg27.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [HS0]; · iexact HS0
    iexact HS1

end Cert.WgradGateUpIdeal.Gen

end
-- ==== Proof.WgradGateUpIdealRows.lean ====
/- What a point of the scale update computes: the rows it writes into the scratches and, at a band's last point, its output blocks. -/
module

public import proofs.«01_k».proof.Proof.WgradGateUpIdealRunA
public import proofs.«01_k».proof.Proof.WgradGateUpIdealRunB
public import Idealize.ShloMosaic.Lib.WholeRead

@[expose] public section

set_option maxRecDepth 16384

noncomputable section

namespace Cert.WgradGateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a point computes for its eight groups -/

/-- A block read at a rectangle. -/
def rd {s : Shape} {e : EltTy} (x : Vec F s e) (R : Rect s) : R.shape.Idx → Elt F e := fun y => x (R.toLoadRect.idx y)

/-- Sixteen rows of the weight's gradient start at any row that leaves room for them. -/
theorem slicesAt (o : ℕ) (ho : o + 16 ≤ 512) : S512x512.Slices ![o, 0] S16x512 :=
  ⟨rfl, fun a => match a with | ⟨0, _⟩ => ho | ⟨1, _⟩ => le_refl 512⟩

/-- One row of the packed codes is inside the block. -/
theorem inbQ (o : ℕ) (ho : o < 32) : ∀ a, (![o, 0] : Fin 2 → Nat) a + S1x512.size a ≤ S32x512.size a :=
  fun a => match a with | ⟨0, _⟩ => ho | ⟨1, _⟩ => le_refl 512

/-- The zero points of a group, read from their packed words at the two bits of group number `g`, on sixteen rows. -/
def zeros (g : BitVec 32) (z : Vec F S1x512 .i32) : FVec F S16x512 .f32 :=
  broadcastTo S16x512 (shapeCast S1x512 (sitofp .f32 (andi (shrui (shapeCast S1x512 z shapeCasts_S1x512_S1x512)
    (broadcast S1x512 (Scalar.muli 2#32 (Scalar.andi g 3#32)))) (broadcast S1x512 3#32))) shapeCasts_S1x512_S1x512)
    broadcasts_S1x512_S16x512

/-- The sixteen codes of one packed word, one to a row. -/
def codes (q : Vec F S1x512 .i32) : FVec F S16x512 .f32 :=
  sitofp .f32 (andi (shrui (broadcastTo S16x512 (shapeCast S1x512 (shapeCast S1x512 q shapeCasts_S1x512_S1x512)
    shapeCasts_S1x512_S1x512) broadcasts_S1x512_S16x512) (muli (broadcast S16x512 2#32) (iota .tc S16x512 32 [0] iota_S16x512_d0_w32)))
    (broadcast S16x512 3#32))

/-- One packed word's share of a group's sum: gradient times (code − zero point). -/
def term (d : FVec F S512x512 .f32) (zb : FVec F S16x512 .f32) (q : Vec F S1x512 .i32) (o : ℕ) (ho : o + 16 ≤ 512) : FVec F S16x512 .f32 :=
  mulf (extractStridedSlice S16x512 ![o, 0] d (slicesAt o ho)) (subf (codes q) zb)

/-- The gradient of one group's scales, from the loaded rows: the four words' shares added, then the sixteen rows added. -/
def wrowL (i : grid0.Coords) (k : Fin 8) (a : Vec F S4096x512 .bf16) (b : Vec F S4096x512 .bf16) (z q0 q1 q2 q3 : Vec F S1x512 .i32) :
    FVec F S1x512 .f32 :=
  shapeCast S1x512 (shapeCast S1x512 (multiReduction .add [0] S512
    (addf (addf (addf
      (term (k0_pay14 a b) (zeros (Scalar.addi (Scalar.muli (BitVec.ofNat 32 (i 1).val) 8#32) (BitVec.ofNat 32 k.val)) z) q0 (64 * k.val) (by omega))
      (term (k0_pay14 a b) (zeros (Scalar.addi (Scalar.muli (BitVec.ofNat 32 (i 1).val) 8#32) (BitVec.ofNat 32 k.val)) z) q1 (64 * k.val + 16) (by omega)))
      (term (k0_pay14 a b) (zeros (Scalar.addi (Scalar.muli (BitVec.ofNat 32 (i 1).val) 8#32) (BitVec.ofNat 32 k.val)) z) q2 (64 * k.val + 32) (by omega)))
      (term (k0_pay14 a b) (zeros (Scalar.addi (Scalar.muli (BitVec.ofNat 32 (i 1).val) 8#32) (BitVec.ofNat 32 k.val)) z) q3 (64 * k.val + 48) (by omega)))
    0x00000000#32 reduces_S16x512_S512 (.inl rfl) rfl) shapeCasts_S512_S1x512) shapeCasts_S1x512_S1x512

/-- The gradient of group `k`'s scales at a point, from the point's blocks. -/
def wrow (i : grid0.Coords) (x1 : Vec F S4096x512 .bf16) (x2 : Vec F S4096x512 .bf16) (x3 : Vec F S32x512 .i32) (x4 : Vec F S32x512 .i32)
    (k : Fin 8) : FVec F S1x512 .f32 :=
  wrowL i k (rd x1 (Rect.unit (s := S4096x512) ![0, 0] S4096x512.size inb_S4096x512_S4096x512_0_0))
    (rd x2 (Rect.unit (s := S4096x512) ![0, 0] S4096x512.size inb_S4096x512_S4096x512_0_0))
    (rd x4 (Rect.unit (s := S32x512) (k0_off1 i (BitVec.ofNat 32 k.val)) S1x512.size (k0_off1_inb i k)))
    (rd x3 (Rect.unit (s := S32x512) ![4 * k.val, 0] S1x512.size (inbQ _ (by omega))))
    (rd x3 (Rect.unit (s := S32x512) ![4 * k.val + 1, 0] S1x512.size (inbQ _ (by omega))))
    (rd x3 (Rect.unit (s := S32x512) ![4 * k.val + 2, 0] S1x512.size (inbQ _ (by omega))))
    (rd x3 (Rect.unit (s := S32x512) ![4 * k.val + 3, 0] S1x512.size (inbQ _ (by omega))))

/-- The stores of a point's eight rows into the scratch, last first. -/
def rowPieces (i : grid0.Coords) (r : Fin 8 → FVec F S1x512 .f32) : List (View.Piece (Elt F) S128x512 .f32) :=
  [⟨Rect.unit (s := S128x512) (k0_off2 i 7#32) S1x512.size (k0_off2_inb i 7), r 7⟩,
   ⟨Rect.unit (s := S128x512) (k0_off2 i 6#32) S1x512.size (k0_off2_inb i 6), r 6⟩,
   ⟨Rect.unit (s := S128x512) (k0_off2 i 5#32) S1x512.size (k0_off2_inb i 5), r 5⟩,
   ⟨Rect.unit (s := S128x512) (k0_off2 i 4#32) S1x512.size (k0_off2_inb i 4), r 4⟩,
   ⟨Rect.unit (s := S128x512) (k0_off2 i 3#32) S1x512.size (k0_off2_inb i 3), r 3⟩,
   ⟨Rect.unit (s := S128x512) (k0_off2 i 2#32) S1x512.size (k0_off2_inb i 2), r 2⟩,
   ⟨Rect.unit (s := S128x512) (k0_off2 i 1#32) S1x512.size (k0_off2_inb i 1), r 1⟩,
   ⟨Rect.unit (s := S128x512) (k0_off2 i 0#32) S1x512.size (k0_off2_inb i 0), r 0⟩]

/-- A store of a whole output block. -/
def wholePiece (w : FVec F S512x128 .f32) : List (View.Piece (Elt F) S512x128 .f32) :=
  [⟨Rect.unit (s := S512x128) ![0, 0] S512x128.size inb_S512x128_S512x128_0_0, w⟩]

/-- The update's numbers: each matrix's learning rate and epsilon, and the two bias corrections. -/
def lrG (x0 : Vec F S3x3 .f32) : Elt F .f32 := rd x0 (Rect.unit (s := S3x3) ![0, 0] S1x1.size inb_S3x3_S1x1_0_0) (Shape.Idx.first (numel1_S1x1.symm ▸ Nat.one_pos))
def epsG (x0 : Vec F S3x3 .f32) : Elt F .f32 := rd x0 (Rect.unit (s := S3x3) ![1, 0] S1x1.size inb_S3x3_S1x1_1_0) (Shape.Idx.first (numel1_S1x1.symm ▸ Nat.one_pos))
def lrU (x0 : Vec F S3x3 .f32) : Elt F .f32 := rd x0 (Rect.unit (s := S3x3) ![0, 1] S1x1.size inb_S3x3_S1x1_0_1) (Shape.Idx.first (numel1_S1x1.symm ▸ Nat.one_pos))
def epsU (x0 : Vec F S3x3 .f32) : Elt F .f32 := rd x0 (Rect.unit (s := S3x3) ![1, 1] S1x1.size inb_S3x3_S1x1_1_1) (Shape.Idx.first (numel1_S1x1.symm ▸ Nat.one_pos))
def bcA (x0 : Vec F S3x3 .f32) : Elt F .f32 := rd x0 (Rect.unit (s := S3x3) ![2, 0] S1x1.size inb_S3x3_S1x1_2_0) (Shape.Idx.first (numel1_S1x1.symm ▸ Nat.one_pos))
def bcB (x0 : Vec F S3x3 .f32) : Elt F .f32 := rd x0 (Rect.unit (s := S3x3) ![2, 1] S1x1.size inb_S3x3_S1x1_2_1) (Shape.Idx.first (numel1_S1x1.symm ▸ Nat.one_pos))

/-- The five output blocks from the scratch's contents and the point's blocks: the gradient, the step, the scales and the two moments. -/
def oDs (sc : Vec F S128x512 .f32) : FVec F S512x128 .f32 := k0_pay4 sc
def oStep (sc : Vec F S128x512 .f32) (lr eps b1 b2 : Elt F .f32) (x6 x7 : Vec F S512x128 .f32) : FVec F S512x128 .f32 :=
  k0_pay7 sc (rd x6 (Rect.unit (s := S512x128) ![0, 0] S512x128.size inb_S512x128_S512x128_0_0)) (rd x7 (Rect.unit (s := S512x128) ![0, 0] S512x128.size inb_S512x128_S512x128_0_0)) lr eps b1 b2
def oS (sc : Vec F S128x512 .f32) (lr eps b1 b2 : Elt F .f32) (x5 x6 x7 : Vec F S512x128 .f32) : FVec F S512x128 .f32 :=
  k0_pay8 sc (rd x5 (Rect.unit (s := S512x128) ![0, 0] S512x128.size inb_S512x128_S512x128_0_0)) (rd x6 (Rect.unit (s := S512x128) ![0, 0] S512x128.size inb_S512x128_S512x128_0_0)) (rd x7 (Rect.unit (s := S512x128) ![0, 0] S512x128.size inb_S512x128_S512x128_0_0)) lr eps b1 b2
def oM (sc : Vec F S128x512 .f32) (x6 : Vec F S512x128 .f32) : FVec F S512x128 .f32 := k0_pay5 sc (rd x6 (Rect.unit (s := S512x128) ![0, 0] S512x128.size inb_S512x128_S512x128_0_0))
def oV (sc : Vec F S128x512 .f32) (x7 : Vec F S512x128 .f32) : FVec F S512x128 .f32 := k0_pay6 sc (rd x7 (Rect.unit (s := S512x128) ![0, 0] S512x128.size inb_S512x128_S512x128_0_0))

/-- The scratch after a point's stores, loaded whole. -/
def scAfter (a : Memref sig .tc .vmem S128x512 .f32) (ha : a.IsWhole) (i : grid0.Coords) (xs : Vec F S128x512 .f32)
    (r : Fin 8 → FVec F S1x512 .f32) : Vec F S128x512 .f32 :=
  View.readAt (Elt F) a.view (Rect.unit (s := S128x512) ![0, 0] S128x512.size inb_S128x512_S128x512_0_0).toLoadRect
    (a.view.writes (Elt F) (ha.unread xs) (rowPieces i r))

/-- A load from a whole buffer that holds `X` reads `X` at the load's rectangle. -/
theorem readAt_eq_rd {s : Shape} {e : EltTy} {sp : Space} {a : Memref sig .tc sp s e} (h : a.IsWhole) (X : Vec F s e) (R : Rect s) :
    View.readAt (Elt F) a.view R.toLoadRect (h.unread X) = rd X R := funext fun y => h.readAt_unread X R.toLoadRect y

variable (c : Dev nD) (i : grid0.Coords) (arg2 : Memref sig .tc .smem S3x3 .f32) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S32x512 .i32) (harg5 : arg5.IsWhole) (arg6 : Memref sig .tc .vmem S32x512 .i32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x512 .bf16) (harg10 : arg10.IsWhole) (arg11 : Memref sig .tc .vmem S32x512 .i32) (harg11 : arg11.IsWhole) (arg12 : Memref sig .tc .vmem S32x512 .i32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S128x512 .f32) (harg26 : arg26.IsWhole) (arg27 : Memref sig .tc .vmem S128x512 .f32) (harg27 : arg27.IsWhole) (x0 : Vec F S3x3 .f32) (x1 : Vec F S4096x512 .bf16) (x2 : Vec F S4096x512 .bf16) (x3 : Vec F S32x512 .i32) (x4 : Vec F S32x512 .i32) (x5 : Vec F S512x128 .f32) (x6 : Vec F S512x128 .f32) (x7 : Vec F S512x128 .f32) (x8 : Vec F S4096x512 .bf16) (x9 : Vec F S32x512 .i32) (x10 : Vec F S32x512 .i32) (x11 : Vec F S512x128 .f32) (x12 : Vec F S512x128 .f32) (x13 : Vec F S512x128 .f32) (xs0 xs1 : Vec F S128x512 .f32)

theorem pieces_AG (hc : ¬k0_cond1 i = 1#1) :
    (kernelRun_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc x0 x1 x2 x3 x4 x5 x6 x7 x8 x9 x10 x11 x12 x13).1 = rowPieces i (wrow i x1 x2 x3 x4) := by
  unfold wrow
  simp only [← readAt_eq_rd harg3 x1, ← readAt_eq_rd harg4 x2, ← readAt_eq_rd harg5 x3, ← readAt_eq_rd harg6 x4]
  rfl

theorem pieces_BG (hc : k0_cond1 i = 1#1) :
    (kernelRun_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc x0 x1 x2 x3 x4 x5 x6 x7 x8 x9 x10 x11 x12 x13 xs0 xs1).2.2.2.2.2.2.2.2.2.2.1 = rowPieces i (wrow i x1 x2 x3 x4) := by
  unfold wrow
  simp only [← readAt_eq_rd harg3 x1, ← readAt_eq_rd harg4 x2, ← readAt_eq_rd harg5 x3, ← readAt_eq_rd harg6 x4]
  rfl

theorem pieces_AU (hc : ¬k0_cond1 i = 1#1) :
    (kernelRun_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc x0 x1 x2 x3 x4 x5 x6 x7 x8 x9 x10 x11 x12 x13).2.1 = rowPieces i (wrow i x1 x8 x9 x10) := by
  unfold wrow
  simp only [← readAt_eq_rd harg3 x1, ← readAt_eq_rd harg10 x8, ← readAt_eq_rd harg11 x9, ← readAt_eq_rd harg12 x10]
  rfl

theorem pieces_BU (hc : k0_cond1 i = 1#1) :
    (kernelRun_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc x0 x1 x2 x3 x4 x5 x6 x7 x8 x9 x10 x11 x12 x13 xs0 xs1).2.2.2.2.2.2.2.2.2.2.2.1 = rowPieces i (wrow i x1 x8 x9 x10) := by
  unfold wrow
  simp only [← readAt_eq_rd harg3 x1, ← readAt_eq_rd harg10 x8, ← readAt_eq_rd harg11 x9, ← readAt_eq_rd harg12 x10]
  rfl

theorem out_B_14 (hc : k0_cond1 i = 1#1) :
    (kernelRun_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc x0 x1 x2 x3 x4 x5 x6 x7 x8 x9 x10 x11 x12 x13 xs0 xs1).1
      = wholePiece (oDs (scAfter arg26 harg26 i xs0 (wrow i x1 x2 x3 x4))) := by
  unfold wrow
  simp only [oDs, oStep, oS, oM, oV, lrG, epsG, lrU, epsU, bcA, bcB, ← readAt_eq_rd harg2 x0, ← readAt_eq_rd harg3 x1, ← readAt_eq_rd harg4 x2, ← readAt_eq_rd harg5 x3, ← readAt_eq_rd harg6 x4, ← readAt_eq_rd harg7 x5, ← readAt_eq_rd harg8 x6, ← readAt_eq_rd harg9 x7]
  rfl

theorem out_B_15 (hc : k0_cond1 i = 1#1) :
    (kernelRun_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc x0 x1 x2 x3 x4 x5 x6 x7 x8 x9 x10 x11 x12 x13 xs0 xs1).2.1
      = wholePiece (oStep (scAfter arg26 harg26 i xs0 (wrow i x1 x2 x3 x4)) (lrG x0) (epsG x0) (bcA x0) (bcB x0) x6 x7) := by
  unfold wrow
  simp only [oDs, oStep, oS, oM, oV, lrG, epsG, lrU, epsU, bcA, bcB, ← readAt_eq_rd harg2 x0, ← readAt_eq_rd harg3 x1, ← readAt_eq_rd harg4 x2, ← readAt_eq_rd harg5 x3, ← readAt_eq_rd harg6 x4, ← readAt_eq_rd harg7 x5, ← readAt_eq_rd harg8 x6, ← readAt_eq_rd harg9 x7]
  rfl

theorem out_B_16 (hc : k0_cond1 i = 1#1) :
    (kernelRun_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc x0 x1 x2 x3 x4 x5 x6 x7 x8 x9 x10 x11 x12 x13 xs0 xs1).2.2.1
      = wholePiece (oS (scAfter arg26 harg26 i xs0 (wrow i x1 x2 x3 x4)) (lrG x0) (epsG x0) (bcA x0) (bcB x0) x5 x6 x7) := by
  unfold wrow
  simp only [oDs, oStep, oS, oM, oV, lrG, epsG, lrU, epsU, bcA, bcB, ← readAt_eq_rd harg2 x0, ← readAt_eq_rd harg3 x1, ← readAt_eq_rd harg4 x2, ← readAt_eq_rd harg5 x3, ← readAt_eq_rd harg6 x4, ← readAt_eq_rd harg7 x5, ← readAt_eq_rd harg8 x6, ← readAt_eq_rd harg9 x7]
  rfl

theorem out_B_17 (hc : k0_cond1 i = 1#1) :
    (kernelRun_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc x0 x1 x2 x3 x4 x5 x6 x7 x8 x9 x10 x11 x12 x13 xs0 xs1).2.2.2.1
      = wholePiece (oM (scAfter arg26 harg26 i xs0 (wrow i x1 x2 x3 x4)) x6) := by
  unfold wrow
  simp only [oDs, oStep, oS, oM, oV, lrG, epsG, lrU, epsU, bcA, bcB, ← readAt_eq_rd harg2 x0, ← readAt_eq_rd harg3 x1, ← readAt_eq_rd harg4 x2, ← readAt_eq_rd harg5 x3, ← readAt_eq_rd harg6 x4, ← readAt_eq_rd harg7 x5, ← readAt_eq_rd harg8 x6, ← readAt_eq_rd harg9 x7]
  rfl

theorem out_B_18 (hc : k0_cond1 i = 1#1) :
    (kernelRun_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc x0 x1 x2 x3 x4 x5 x6 x7 x8 x9 x10 x11 x12 x13 xs0 xs1).2.2.2.2.1
      = wholePiece (oV (scAfter arg26 harg26 i xs0 (wrow i x1 x2 x3 x4)) x7) := by
  unfold wrow
  simp only [oDs, oStep, oS, oM, oV, lrG, epsG, lrU, epsU, bcA, bcB, ← readAt_eq_rd harg2 x0, ← readAt_eq_rd harg3 x1, ← readAt_eq_rd harg4 x2, ← readAt_eq_rd harg5 x3, ← readAt_eq_rd harg6 x4, ← readAt_eq_rd harg7 x5, ← readAt_eq_rd harg8 x6, ← readAt_eq_rd harg9 x7]
  rfl

theorem out_B_19 (hc : k0_cond1 i = 1#1) :
    (kernelRun_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc x0 x1 x2 x3 x4 x5 x6 x7 x8 x9 x10 x11 x12 x13 xs0 xs1).2.2.2.2.2.1
      = wholePiece (oDs (scAfter arg27 harg27 i xs1 (wrow i x1 x8 x9 x10))) := by
  unfold wrow
  simp only [oDs, oStep, oS, oM, oV, lrG, epsG, lrU, epsU, bcA, bcB, ← readAt_eq_rd harg2 x0, ← readAt_eq_rd harg3 x1, ← readAt_eq_rd harg10 x8, ← readAt_eq_rd harg11 x9, ← readAt_eq_rd harg12 x10, ← readAt_eq_rd harg13 x11, ← readAt_eq_rd harg14 x12, ← readAt_eq_rd harg15 x13]
  rfl

theorem out_B_20 (hc : k0_cond1 i = 1#1) :
    (kernelRun_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc x0 x1 x2 x3 x4 x5 x6 x7 x8 x9 x10 x11 x12 x13 xs0 xs1).2.2.2.2.2.2.1
      = wholePiece (oStep (scAfter arg27 harg27 i xs1 (wrow i x1 x8 x9 x10)) (lrU x0) (epsU x0) (bcA x0) (bcB x0) x12 x13) := by
  unfold wrow
  simp only [oDs, oStep, oS, oM, oV, lrG, epsG, lrU, epsU, bcA, bcB, ← readAt_eq_rd harg2 x0, ← readAt_eq_rd harg3 x1, ← readAt_eq_rd harg10 x8, ← readAt_eq_rd harg11 x9, ← readAt_eq_rd harg12 x10, ← readAt_eq_rd harg13 x11, ← readAt_eq_rd harg14 x12, ← readAt_eq_rd harg15 x13]
  rfl

theorem out_B_21 (hc : k0_cond1 i = 1#1) :
    (kernelRun_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc x0 x1 x2 x3 x4 x5 x6 x7 x8 x9 x10 x11 x12 x13 xs0 xs1).2.2.2.2.2.2.2.1
      = wholePiece (oS (scAfter arg27 harg27 i xs1 (wrow i x1 x8 x9 x10)) (lrU x0) (epsU x0) (bcA x0) (bcB x0) x11 x12 x13) := by
  unfold wrow
  simp only [oDs, oStep, oS, oM, oV, lrG, epsG, lrU, epsU, bcA, bcB, ← readAt_eq_rd harg2 x0, ← readAt_eq_rd harg3 x1, ← readAt_eq_rd harg10 x8, ← readAt_eq_rd harg11 x9, ← readAt_eq_rd harg12 x10, ← readAt_eq_rd harg13 x11, ← readAt_eq_rd harg14 x12, ← readAt_eq_rd harg15 x13]
  rfl

theorem out_B_22 (hc : k0_cond1 i = 1#1) :
    (kernelRun_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc x0 x1 x2 x3 x4 x5 x6 x7 x8 x9 x10 x11 x12 x13 xs0 xs1).2.2.2.2.2.2.2.2.1
      = wholePiece (oM (scAfter arg27 harg27 i xs1 (wrow i x1 x8 x9 x10)) x12) := by
  unfold wrow
  simp only [oDs, oStep, oS, oM, oV, lrG, epsG, lrU, epsU, bcA, bcB, ← readAt_eq_rd harg2 x0, ← readAt_eq_rd harg3 x1, ← readAt_eq_rd harg10 x8, ← readAt_eq_rd harg11 x9, ← readAt_eq_rd harg12 x10, ← readAt_eq_rd harg13 x11, ← readAt_eq_rd harg14 x12, ← readAt_eq_rd harg15 x13]
  rfl

theorem out_B_23 (hc : k0_cond1 i = 1#1) :
    (kernelRun_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc x0 x1 x2 x3 x4 x5 x6 x7 x8 x9 x10 x11 x12 x13 xs0 xs1).2.2.2.2.2.2.2.2.2.1
      = wholePiece (oV (scAfter arg27 harg27 i xs1 (wrow i x1 x8 x9 x10)) x13) := by
  unfold wrow
  simp only [oDs, oStep, oS, oM, oV, lrG, epsG, lrU, epsU, bcA, bcB, ← readAt_eq_rd harg2 x0, ← readAt_eq_rd harg3 x1, ← readAt_eq_rd harg10 x8, ← readAt_eq_rd harg11 x9, ← readAt_eq_rd harg12 x10, ← readAt_eq_rd harg13 x11, ← readAt_eq_rd harg14 x12, ← readAt_eq_rd harg15 x13]
  rfl

end Cert.WgradGateUpIdeal.Gen

end
-- ==== Proof.WgradGateUpIdealBody.lean ====
/- The scale update's body meets its launch's obligation at every point, so the call runs to the end; what its output blocks hold is named. -/
module

public import proofs.«01_k».proof.Proof.WgradGateUpIdealRows
public import Idealize.ShloMosaic.Lib.WritesUnit
public import Idealize.ShloMosaic.Lib.Pointwise.Index
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.WgradGateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where a point stores, and which case it is in -/

theorem lastIff : ∀ t : Fin cfg0.N, k0_cond1 (grid0.coords t) = 1#1 ↔ t.val % 16 = 15 :=
  (by decide +kernel : ∀ t : Fin grid0.N, _)

theorem offRow : ∀ (t : Fin cfg0.N) (k : Fin 8), k0_off2 (grid0.coords t) (BitVec.ofNat 32 k.val) = ![8 * (t.val % 16) + k.val, 0] :=
  (by decide +kernel : ∀ (t : Fin grid0.N) (k : Fin 8), _)

/-- Reading past a store of one of the point's rows, -/
theorem past (v : View sig .tc .vmem S128x512 .f32) (f : v.ty.Contents (Elt F)) (t : Fin cfg0.N) (k : Fin 8) (w : FVec F S1x512 .f32)
    (L : List (View.Piece (Elt F) S128x512 .f32)) (y : S128x512.Idx)
    (h : (y 0).val < 8 * (t.val % 16) + k.val ∨ 8 * (t.val % 16) + k.val + 1 ≤ (y 0).val) :
    v.read (Elt F) (v.writes (Elt F) f (⟨Rect.unit (s := S128x512) (k0_off2 (grid0.coords t) (BitVec.ofNat 32 k.val)) S1x512.size (k0_off2_inb _ k), w⟩ :: L)) y
      = v.read (Elt F) (v.writes (Elt F) f L) y :=
  View.read_writes_cons_rows_of_not_mem (v := v) (f := f) (d := ![128, 512]) (W := 1) _ _ _ y (offRow t k) rfl h

/-- and at it. -/
theorem atRow (v : View sig .tc .vmem S128x512 .f32) (f : v.ty.Contents (Elt F)) (t : Fin cfg0.N) (k : Fin 8) (w : FVec F S1x512 .f32)
    (L : List (View.Piece (Elt F) S128x512 .f32)) (y : S128x512.Idx) (h : (y 0).val = 8 * (t.val % 16) + k.val) :
    v.read (Elt F) (v.writes (Elt F) f (⟨Rect.unit (s := S128x512) (k0_off2 (grid0.coords t) (BitVec.ofNat 32 k.val)) S1x512.size (k0_off2_inb _ k), w⟩ :: L)) y
      = w (ix2 (n0 := 1) (n1 := 512) 0 (y 1)) :=
  View.read_writes_cons_rows_of_mem (v := v) (f := f) (d := ![128, 512]) _ _ _ y (ix2 (n0 := 1) (n1 := 512) 0 (y 1)) (offRow t k) h rfl

/-- Reading the scratch after a point's eight stores: the point's rows where they are, the earlier contents elsewhere. -/
theorem read_rowPieces (v : View sig .tc .vmem S128x512 .f32) (f : v.ty.Contents (Elt F)) (t : Fin cfg0.N) (r : Fin 8 → FVec F S1x512 .f32)
    (y : S128x512.Idx) :
    v.read (Elt F) (v.writes (Elt F) f (rowPieces (grid0.coords t) r)) y
      = if h : 8 * (t.val % 16) ≤ (y 0).val ∧ (y 0).val < 8 * (t.val % 16) + 8 then
          r ⟨(y 0).val % 8, Nat.mod_lt _ (by decide)⟩ (ix2 (n0 := 1) (n1 := 512) 0 (y 1))
        else v.read (Elt F) f y := by
  unfold rowPieces
  split
  · rename_i h
    have hk : ∃ k : Fin 8, (y 0).val = 8 * (t.val % 16) + k.val := ⟨⟨(y 0).val - 8 * (t.val % 16), by omega⟩, by show _ = _ + ((y 0).val - 8 * (t.val % 16)); omega⟩
    obtain ⟨k, hk⟩ := hk
    have e : (⟨(y 0).val % 8, Nat.mod_lt _ (by decide)⟩ : Fin 8) = k := Fin.ext (by show (y 0).val % 8 = k.val; omega)
    rw [e]
    fin_cases k
    · replace hk : (y 0).val = 8 * (t.val % 16) + 0 := hk
      refine (past v f t 7 _ _ y (Or.inl (by show _ < 8 * (t.val % 16) + 7; omega))).trans ?_
      refine (past v f t 6 _ _ y (Or.inl (by show _ < 8 * (t.val % 16) + 6; omega))).trans ?_
      refine (past v f t 5 _ _ y (Or.inl (by show _ < 8 * (t.val % 16) + 5; omega))).trans ?_
      refine (past v f t 4 _ _ y (Or.inl (by show _ < 8 * (t.val % 16) + 4; omega))).trans ?_
      refine (past v f t 3 _ _ y (Or.inl (by show _ < 8 * (t.val % 16) + 3; omega))).trans ?_
      refine (past v f t 2 _ _ y (Or.inl (by show _ < 8 * (t.val % 16) + 2; omega))).trans ?_
      refine (past v f t 1 _ _ y (Or.inl (by show _ < 8 * (t.val % 16) + 1; omega))).trans ?_
      exact atRow v f t 0 _ _ y hk
    · replace hk : (y 0).val = 8 * (t.val % 16) + 1 := hk
      refine (past v f t 7 _ _ y (Or.inl (by show _ < 8 * (t.val % 16) + 7; omega))).trans ?_
      refine (past v f t 6 _ _ y (Or.inl (by show _ < 8 * (t.val % 16) + 6; omega))).trans ?_
      refine (past v f t 5 _ _ y (Or.inl (by show _ < 8 * (t.val % 16) + 5; omega))).trans ?_
      refine (past v f t 4 _ _ y (Or.inl (by show _ < 8 * (t.val % 16) + 4; omega))).trans ?_
      refine (past v f t 3 _ _ y (Or.inl (by show _ < 8 * (t.val % 16) + 3; omega))).trans ?_
      refine (past v f t 2 _ _ y (Or.inl (by show _ < 8 * (t.val % 16) + 2; omega))).trans ?_
      exact atRow v f t 1 _ _ y hk
    · replace hk : (y 0).val = 8 * (t.val % 16) + 2 := hk
      refine (past v f t 7 _ _ y (Or.inl (by show _ < 8 * (t.val % 16) + 7; omega))).trans ?_
      refine (past v f t 6 _ _ y (Or.inl (by show _ < 8 * (t.val % 16) + 6; omega))).trans ?_
      refine (past v f t 5 _ _ y (Or.inl (by show _ < 8 * (t.val % 16) + 5; omega))).trans ?_
      refine (past v f t 4 _ _ y (Or.inl (by show _ < 8 * (t.val % 16) + 4; omega))).trans ?_
      refine (past v f t 3 _ _ y (Or.inl (by show _ < 8 * (t.val % 16) + 3; omega))).trans ?_
      exact atRow v f t 2 _ _ y hk
    · replace hk : (y 0).val = 8 * (t.val % 16) + 3 := hk
      refine (past v f t 7 _ _ y (Or.inl (by show _ < 8 * (t.val % 16) + 7; omega))).trans ?_
      refine (past v f t 6 _ _ y (Or.inl (by show _ < 8 * (t.val % 16) + 6; omega))).trans ?_
      refine (past v f t 5 _ _ y (Or.inl (by show _ < 8 * (t.val % 16) + 5; omega))).trans ?_
      refine (past v f t 4 _ _ y (Or.inl (by show _ < 8 * (t.val % 16) + 4; omega))).trans ?_
      exact atRow v f t 3 _ _ y hk
    · replace hk : (y 0).val = 8 * (t.val % 16) + 4 := hk
      refine (past v f t 7 _ _ y (Or.inl (by show _ < 8 * (t.val % 16) + 7; omega))).trans ?_
      refine (past v f t 6 _ _ y (Or.inl (by show _ < 8 * (t.val % 16) + 6; omega))).trans ?_
      refine (past v f t 5 _ _ y (Or.inl (by show _ < 8 * (t.val % 16) + 5; omega))).trans ?_
      exact atRow v f t 4 _ _ y hk
    · replace hk : (y 0).val = 8 * (t.val % 16) + 5 := hk
      refine (past v f t 7 _ _ y (Or.inl (by show _ < 8 * (t.val % 16) + 7; omega))).trans ?_
      refine (past v f t 6 _ _ y (Or.inl (by show _ < 8 * (t.val % 16) + 6; omega))).trans ?_
      exact atRow v f t 5 _ _ y hk
    · replace hk : (y 0).val = 8 * (t.val % 16) + 6 := hk
      refine (past v f t 7 _ _ y (Or.inl (by show _ < 8 * (t.val % 16) + 7; omega))).trans ?_
      exact atRow v f t 6 _ _ y hk
    · replace hk : (y 0).val = 8 * (t.val % 16) + 7 := hk
      exact atRow v f t 7 _ _ y hk
  · rename_i h
    refine (past v f t 7 _ _ y (by show _ < 8 * (t.val % 16) + 7 ∨ 8 * (t.val % 16) + 7 + 1 ≤ _; omega)).trans ?_
    refine (past v f t 6 _ _ y (by show _ < 8 * (t.val % 16) + 6 ∨ 8 * (t.val % 16) + 6 + 1 ≤ _; omega)).trans ?_
    refine (past v f t 5 _ _ y (by show _ < 8 * (t.val % 16) + 5 ∨ 8 * (t.val % 16) + 5 + 1 ≤ _; omega)).trans ?_
    refine (past v f t 4 _ _ y (by show _ < 8 * (t.val % 16) + 4 ∨ 8 * (t.val % 16) + 4 + 1 ≤ _; omega)).trans ?_
    refine (past v f t 3 _ _ y (by show _ < 8 * (t.val % 16) + 3 ∨ 8 * (t.val % 16) + 3 + 1 ≤ _; omega)).trans ?_
    refine (past v f t 2 _ _ y (by show _ < 8 * (t.val % 16) + 2 ∨ 8 * (t.val % 16) + 2 + 1 ≤ _; omega)).trans ?_
    refine (past v f t 1 _ _ y (by show _ < 8 * (t.val % 16) + 1 ∨ 8 * (t.val % 16) + 1 + 1 ≤ _; omega)).trans ?_
    refine (past v f t 0 _ _ y (by show _ < 8 * (t.val % 16) + 0 ∨ 8 * (t.val % 16) + 0 + 1 ≤ _; omega)).trans ?_
    rfl

/-- A whole block stored and read back. -/
theorem read_wholePiece (v : View sig .tc .vmem S512x128 .f32) (f : v.ty.Contents (Elt F)) (w : FVec F S512x128 .f32) :
    v.read (Elt F) (v.writes (Elt F) f (wholePiece w)) = w := by
  funext y
  exact View.read_writes_cons_unit_of_mem (v := v) (f := f) _ w [] y y rfl (fun a => by match a with | ⟨0, _⟩ => exact (Nat.zero_add _).symm | ⟨1, _⟩ => exact (Nat.zero_add _).symm)

variable (m : (ℓ : Loc nD τ sig) → Buf (Elt F) ℓ) (ρ : Dev nD → PrngReg)

/-! ## What a scratch holds -/

/-- The eight rows of a point for the gate matrix, from the blocks staged there, -/
def rowG (c : Dev nD) (t : Fin cfg0.N) (k : Fin 8) : FVec F S1x512 .f32 :=
  wrow (grid0.coords t) (iblk m c 1 t) (iblk m c 2 t) (iblk m c 3 t) (iblk m c 4 t) k

/-- and for the up matrix. -/
def rowU (c : Dev nD) (t : Fin cfg0.N) (k : Fin 8) : FVec F S1x512 .f32 :=
  wrow (grid0.coords t) (iblk m c 1 t) (iblk m c 8 t) (iblk m c 9 t) (iblk m c 10 t) k

variable (R : Fin cfg0.N → Fin 8 → FVec F S1x512 .f32)

/-- The point of row band `b` that fills scratch row `r`. -/
def ptOf (b r : ℕ) : Fin cfg0.N := ⟨min (16 * b + r / 8) 111, by show _ < cfg0.N; rw [show cfg0.N = 112 from N_0]; omega⟩

/-- The scratch once band `b` has filled it with the points' rows `R`. -/
def scOf (b : ℕ) : Vec F S128x512 .f32 := fun y =>
  R (ptOf b (y 0).val) ⟨(y 0).val % 8, Nat.mod_lt _ (by decide)⟩ (ix2 (n0 := 1) (n1 := 512) 0 (y 1))

/-- Before point `n` the scratch holds the rows of the band's earlier points. -/
def Fill (n : ℕ) (d : Vec F S128x512 .f32) : Prop :=
  ∀ y : S128x512.Idx, (y 0).val < 8 * (n % 16) → d y = scOf R (n / 16) y

theorem fill_step (t : Fin cfg0.N) (v : View sig .tc .vmem S128x512 .f32) (f : v.ty.Contents (Elt F))
    (h : Fill R t.val (v.read (Elt F) f)) (y : S128x512.Idx) (hy : (y 0).val < 8 * (t.val % 16) + 8) :
    v.read (Elt F) (v.writes (Elt F) f (rowPieces (grid0.coords t) (R t))) y = scOf R (t.val / 16) y := by
  rw [read_rowPieces]
  split
  · rename_i hr
    unfold scOf
    have hN : t.val < 112 := lt_of_lt_of_eq t.isLt (show cfg0.N = 112 from N_0)
    have e : ptOf (t.val / 16) (y 0).val = t := Fin.ext (by show min (16 * (t.val / 16) + (y 0).val / 8) 111 = t.val; omega)
    rw [e]
  · exact h y (by omega)

theorem fill_next (t : Fin cfg0.N) (v : View sig .tc .vmem S128x512 .f32) (f : v.ty.Contents (Elt F))
    (h : Fill R t.val (v.read (Elt F) f)) :
    Fill R (t.val + 1) (v.read (Elt F) (v.writes (Elt F) f (rowPieces (grid0.coords t) (R t)))) := fun y hy => by
  by_cases h6 : t.val % 16 = 15
  · exact absurd hy (by rw [show (t.val + 1) % 16 = 0 by omega]; omega)
  · rw [show (t.val + 1) / 16 = t.val / 16 by omega]
    exact fill_step R t v f h y (by rw [show (t.val + 1) % 16 = t.val % 16 + 1 by omega] at hy; omega)

/-- At a band's last point the loaded scratch is the whole band's. -/
theorem sc_last (t : Fin cfg0.N) (h6 : t.val % 16 = 15) (a : Memref sig .tc .vmem S128x512 .f32) (ha : a.IsWhole)
    (xs : Vec F S128x512 .f32) (h : Fill R t.val xs) :
    scAfter a ha (grid0.coords t) xs (R t) = scOf R (t.val / 16) := by
  funext y
  have hx : (Rect.unit (s := S128x512) ![0, 0] S128x512.size inb_S128x512_S128x512_0_0).toLoadRect.idx y = y :=
    funext fun a => Fin.ext (by
      match a with
      | ⟨0, _⟩ => show 0 + (1 * _) = _; omega
      | ⟨1, _⟩ => show 0 + (1 * _) = _; omega)
  unfold scAfter
  rw [View.readAt_apply, hx]
  have hy : (y 0).val < 128 := (y 0).isLt
  exact fill_step R t a.view (ha.unread xs) (by rw [ha.read_unread]; exact h) y (by omega)

abbrev ms0 (t : Fin cfg0.N) : Memref sig .tc .smem S3x3 .f32 := win0_0.stage (cfg0.slots t 0)
abbrev hs0 (t : Fin cfg0.N) : (ms0 t).IsWhole := hstage0_0 ((cfg0.slots t 0).cast nbuf0_0)
theorem live0 : ∀ t : Fin cfg0.N, cfg0.idle 0 (grid0.coords t) = false := fun _ => rfl
abbrev ms1 (t : Fin cfg0.N) : Memref sig .tc .vmem S4096x512 .bf16 := win0_1.stage (cfg0.slots t 1)
abbrev hs1 (t : Fin cfg0.N) : (ms1 t).IsWhole := hstage0_1 ((cfg0.slots t 1).cast nbuf0_1)
theorem live1 : ∀ t : Fin cfg0.N, cfg0.idle 1 (grid0.coords t) = false := fun _ => rfl
abbrev ms2 (t : Fin cfg0.N) : Memref sig .tc .vmem S4096x512 .bf16 := win0_2.stage (cfg0.slots t 2)
abbrev hs2 (t : Fin cfg0.N) : (ms2 t).IsWhole := hstage0_2 ((cfg0.slots t 2).cast nbuf0_2)
theorem live2 : ∀ t : Fin cfg0.N, cfg0.idle 2 (grid0.coords t) = false := fun _ => rfl
abbrev ms3 (t : Fin cfg0.N) : Memref sig .tc .vmem S32x512 .i32 := win0_3.stage (cfg0.slots t 3)
abbrev hs3 (t : Fin cfg0.N) : (ms3 t).IsWhole := hstage0_3 ((cfg0.slots t 3).cast nbuf0_3)
theorem live3 : ∀ t : Fin cfg0.N, cfg0.idle 3 (grid0.coords t) = false := fun _ => rfl
abbrev ms4 (t : Fin cfg0.N) : Memref sig .tc .vmem S32x512 .i32 := win0_4.stage (cfg0.slots t 4)
abbrev hs4 (t : Fin cfg0.N) : (ms4 t).IsWhole := hstage0_4 ((cfg0.slots t 4).cast nbuf0_4)
theorem live4 : ∀ t : Fin cfg0.N, cfg0.idle 4 (grid0.coords t) = false := fun _ => rfl
abbrev ms5 (t : Fin cfg0.N) : Memref sig .tc .vmem S512x128 .f32 := win0_5.stage (cfg0.slots t 5)
abbrev hs5 (t : Fin cfg0.N) : (ms5 t).IsWhole := hstage0_5 ((cfg0.slots t 5).cast nbuf0_5)
theorem live5 : ∀ t : Fin cfg0.N, cfg0.idle 5 (grid0.coords t) = false := fun _ => rfl
abbrev ms6 (t : Fin cfg0.N) : Memref sig .tc .vmem S512x128 .f32 := win0_6.stage (cfg0.slots t 6)
abbrev hs6 (t : Fin cfg0.N) : (ms6 t).IsWhole := hstage0_6 ((cfg0.slots t 6).cast nbuf0_6)
theorem live6 : ∀ t : Fin cfg0.N, cfg0.idle 6 (grid0.coords t) = false := fun _ => rfl
abbrev ms7 (t : Fin cfg0.N) : Memref sig .tc .vmem S512x128 .f32 := win0_7.stage (cfg0.slots t 7)
abbrev hs7 (t : Fin cfg0.N) : (ms7 t).IsWhole := hstage0_7 ((cfg0.slots t 7).cast nbuf0_7)
theorem live7 : ∀ t : Fin cfg0.N, cfg0.idle 7 (grid0.coords t) = false := fun _ => rfl
abbrev ms8 (t : Fin cfg0.N) : Memref sig .tc .vmem S4096x512 .bf16 := win0_8.stage (cfg0.slots t 8)
abbrev hs8 (t : Fin cfg0.N) : (ms8 t).IsWhole := hstage0_8 ((cfg0.slots t 8).cast nbuf0_8)
theorem live8 : ∀ t : Fin cfg0.N, cfg0.idle 8 (grid0.coords t) = false := fun _ => rfl
abbrev ms9 (t : Fin cfg0.N) : Memref sig .tc .vmem S32x512 .i32 := win0_9.stage (cfg0.slots t 9)
abbrev hs9 (t : Fin cfg0.N) : (ms9 t).IsWhole := hstage0_9 ((cfg0.slots t 9).cast nbuf0_9)
theorem live9 : ∀ t : Fin cfg0.N, cfg0.idle 9 (grid0.coords t) = false := fun _ => rfl
abbrev ms10 (t : Fin cfg0.N) : Memref sig .tc .vmem S32x512 .i32 := win0_10.stage (cfg0.slots t 10)
abbrev hs10 (t : Fin cfg0.N) : (ms10 t).IsWhole := hstage0_10 ((cfg0.slots t 10).cast nbuf0_10)
theorem live10 : ∀ t : Fin cfg0.N, cfg0.idle 10 (grid0.coords t) = false := fun _ => rfl
abbrev ms11 (t : Fin cfg0.N) : Memref sig .tc .vmem S512x128 .f32 := win0_11.stage (cfg0.slots t 11)
abbrev hs11 (t : Fin cfg0.N) : (ms11 t).IsWhole := hstage0_11 ((cfg0.slots t 11).cast nbuf0_11)
theorem live11 : ∀ t : Fin cfg0.N, cfg0.idle 11 (grid0.coords t) = false := fun _ => rfl
abbrev ms12 (t : Fin cfg0.N) : Memref sig .tc .vmem S512x128 .f32 := win0_12.stage (cfg0.slots t 12)
abbrev hs12 (t : Fin cfg0.N) : (ms12 t).IsWhole := hstage0_12 ((cfg0.slots t 12).cast nbuf0_12)
theorem live12 : ∀ t : Fin cfg0.N, cfg0.idle 12 (grid0.coords t) = false := fun _ => rfl
abbrev ms13 (t : Fin cfg0.N) : Memref sig .tc .vmem S512x128 .f32 := win0_13.stage (cfg0.slots t 13)
abbrev hs13 (t : Fin cfg0.N) : (ms13 t).IsWhole := hstage0_13 ((cfg0.slots t 13).cast nbuf0_13)
theorem live13 : ∀ t : Fin cfg0.N, cfg0.idle 13 (grid0.coords t) = false := fun _ => rfl
abbrev ms14 (t : Fin cfg0.N) : Memref sig .tc .vmem S512x128 .f32 := win0_14.stage (cfg0.slots t 14)
abbrev hs14 (t : Fin cfg0.N) : (ms14 t).IsWhole := hstage0_14 ((cfg0.slots t 14).cast nbuf0_14)
theorem live14_B : ∀ t : Fin cfg0.N, k0_cond1 (grid0.coords t) = 1#1 → cfg0.idle 14 (grid0.coords t) = false := by decide +kernel
theorem idle14_A : ∀ t : Fin cfg0.N, ¬k0_cond1 (grid0.coords t) = 1#1 → cfg0.idle 14 (grid0.coords t) = true := by decide +kernel
theorem noFlush14_A : ∀ t : Fin cfg0.N, ¬k0_cond1 (grid0.coords t) = 1#1 → (cfg0.win 14).flush t = false := by decide +kernel
abbrev ms15 (t : Fin cfg0.N) : Memref sig .tc .vmem S512x128 .f32 := win0_15.stage (cfg0.slots t 15)
abbrev hs15 (t : Fin cfg0.N) : (ms15 t).IsWhole := hstage0_15 ((cfg0.slots t 15).cast nbuf0_15)
theorem live15_B : ∀ t : Fin cfg0.N, k0_cond1 (grid0.coords t) = 1#1 → cfg0.idle 15 (grid0.coords t) = false := by decide +kernel
theorem idle15_A : ∀ t : Fin cfg0.N, ¬k0_cond1 (grid0.coords t) = 1#1 → cfg0.idle 15 (grid0.coords t) = true := by decide +kernel
theorem noFlush15_A : ∀ t : Fin cfg0.N, ¬k0_cond1 (grid0.coords t) = 1#1 → (cfg0.win 15).flush t = false := by decide +kernel
abbrev ms16 (t : Fin cfg0.N) : Memref sig .tc .vmem S512x128 .f32 := win0_16.stage (cfg0.slots t 16)
abbrev hs16 (t : Fin cfg0.N) : (ms16 t).IsWhole := hstage0_16 ((cfg0.slots t 16).cast nbuf0_16)
theorem live16_B : ∀ t : Fin cfg0.N, k0_cond1 (grid0.coords t) = 1#1 → cfg0.idle 16 (grid0.coords t) = false := by decide +kernel
theorem idle16_A : ∀ t : Fin cfg0.N, ¬k0_cond1 (grid0.coords t) = 1#1 → cfg0.idle 16 (grid0.coords t) = true := by decide +kernel
theorem noFlush16_A : ∀ t : Fin cfg0.N, ¬k0_cond1 (grid0.coords t) = 1#1 → (cfg0.win 16).flush t = false := by decide +kernel
abbrev ms17 (t : Fin cfg0.N) : Memref sig .tc .vmem S512x128 .f32 := win0_17.stage (cfg0.slots t 17)
abbrev hs17 (t : Fin cfg0.N) : (ms17 t).IsWhole := hstage0_17 ((cfg0.slots t 17).cast nbuf0_17)
theorem live17_B : ∀ t : Fin cfg0.N, k0_cond1 (grid0.coords t) = 1#1 → cfg0.idle 17 (grid0.coords t) = false := by decide +kernel
theorem idle17_A : ∀ t : Fin cfg0.N, ¬k0_cond1 (grid0.coords t) = 1#1 → cfg0.idle 17 (grid0.coords t) = true := by decide +kernel
theorem noFlush17_A : ∀ t : Fin cfg0.N, ¬k0_cond1 (grid0.coords t) = 1#1 → (cfg0.win 17).flush t = false := by decide +kernel
abbrev ms18 (t : Fin cfg0.N) : Memref sig .tc .vmem S512x128 .f32 := win0_18.stage (cfg0.slots t 18)
abbrev hs18 (t : Fin cfg0.N) : (ms18 t).IsWhole := hstage0_18 ((cfg0.slots t 18).cast nbuf0_18)
theorem live18_B : ∀ t : Fin cfg0.N, k0_cond1 (grid0.coords t) = 1#1 → cfg0.idle 18 (grid0.coords t) = false := by decide +kernel
theorem idle18_A : ∀ t : Fin cfg0.N, ¬k0_cond1 (grid0.coords t) = 1#1 → cfg0.idle 18 (grid0.coords t) = true := by decide +kernel
theorem noFlush18_A : ∀ t : Fin cfg0.N, ¬k0_cond1 (grid0.coords t) = 1#1 → (cfg0.win 18).flush t = false := by decide +kernel
abbrev ms19 (t : Fin cfg0.N) : Memref sig .tc .vmem S512x128 .f32 := win0_19.stage (cfg0.slots t 19)
abbrev hs19 (t : Fin cfg0.N) : (ms19 t).IsWhole := hstage0_19 ((cfg0.slots t 19).cast nbuf0_19)
theorem live19_B : ∀ t : Fin cfg0.N, k0_cond1 (grid0.coords t) = 1#1 → cfg0.idle 19 (grid0.coords t) = false := by decide +kernel
theorem idle19_A : ∀ t : Fin cfg0.N, ¬k0_cond1 (grid0.coords t) = 1#1 → cfg0.idle 19 (grid0.coords t) = true := by decide +kernel
theorem noFlush19_A : ∀ t : Fin cfg0.N, ¬k0_cond1 (grid0.coords t) = 1#1 → (cfg0.win 19).flush t = false := by decide +kernel
abbrev ms20 (t : Fin cfg0.N) : Memref sig .tc .vmem S512x128 .f32 := win0_20.stage (cfg0.slots t 20)
abbrev hs20 (t : Fin cfg0.N) : (ms20 t).IsWhole := hstage0_20 ((cfg0.slots t 20).cast nbuf0_20)
theorem live20_B : ∀ t : Fin cfg0.N, k0_cond1 (grid0.coords t) = 1#1 → cfg0.idle 20 (grid0.coords t) = false := by decide +kernel
theorem idle20_A : ∀ t : Fin cfg0.N, ¬k0_cond1 (grid0.coords t) = 1#1 → cfg0.idle 20 (grid0.coords t) = true := by decide +kernel
theorem noFlush20_A : ∀ t : Fin cfg0.N, ¬k0_cond1 (grid0.coords t) = 1#1 → (cfg0.win 20).flush t = false := by decide +kernel
abbrev ms21 (t : Fin cfg0.N) : Memref sig .tc .vmem S512x128 .f32 := win0_21.stage (cfg0.slots t 21)
abbrev hs21 (t : Fin cfg0.N) : (ms21 t).IsWhole := hstage0_21 ((cfg0.slots t 21).cast nbuf0_21)
theorem live21_B : ∀ t : Fin cfg0.N, k0_cond1 (grid0.coords t) = 1#1 → cfg0.idle 21 (grid0.coords t) = false := by decide +kernel
theorem idle21_A : ∀ t : Fin cfg0.N, ¬k0_cond1 (grid0.coords t) = 1#1 → cfg0.idle 21 (grid0.coords t) = true := by decide +kernel
theorem noFlush21_A : ∀ t : Fin cfg0.N, ¬k0_cond1 (grid0.coords t) = 1#1 → (cfg0.win 21).flush t = false := by decide +kernel
abbrev ms22 (t : Fin cfg0.N) : Memref sig .tc .vmem S512x128 .f32 := win0_22.stage (cfg0.slots t 22)
abbrev hs22 (t : Fin cfg0.N) : (ms22 t).IsWhole := hstage0_22 ((cfg0.slots t 22).cast nbuf0_22)
theorem live22_B : ∀ t : Fin cfg0.N, k0_cond1 (grid0.coords t) = 1#1 → cfg0.idle 22 (grid0.coords t) = false := by decide +kernel
theorem idle22_A : ∀ t : Fin cfg0.N, ¬k0_cond1 (grid0.coords t) = 1#1 → cfg0.idle 22 (grid0.coords t) = true := by decide +kernel
theorem noFlush22_A : ∀ t : Fin cfg0.N, ¬k0_cond1 (grid0.coords t) = 1#1 → (cfg0.win 22).flush t = false := by decide +kernel
abbrev ms23 (t : Fin cfg0.N) : Memref sig .tc .vmem S512x128 .f32 := win0_23.stage (cfg0.slots t 23)
abbrev hs23 (t : Fin cfg0.N) : (ms23 t).IsWhole := hstage0_23 ((cfg0.slots t 23).cast nbuf0_23)
theorem live23_B : ∀ t : Fin cfg0.N, k0_cond1 (grid0.coords t) = 1#1 → cfg0.idle 23 (grid0.coords t) = false := by decide +kernel
theorem idle23_A : ∀ t : Fin cfg0.N, ¬k0_cond1 (grid0.coords t) = 1#1 → cfg0.idle 23 (grid0.coords t) = true := by decide +kernel
theorem noFlush23_A : ∀ t : Fin cfg0.N, ¬k0_cond1 (grid0.coords t) = 1#1 → (cfg0.win 23).flush t = false := by decide +kernel

/-- The kernel's two scratches as memrefs. -/
abbrev scM0 : Memref sig .tc .vmem S128x512 .f32 := Memref.whole cc0_scratch0
abbrev scM1 : Memref sig .tc .vmem S128x512 .f32 := Memref.whole cc0_scratch1

theorem PhiA_eq (c : Dev nD) :
    (Pipeline.ΦA spec0 c : sProp 𝕄) = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The invariant before point `n`: each scratch holds its matrix's earlier rows of the band; the generator register is at some state. -/
def PhiS (c : Dev nD) (n : ℕ) : sProp 𝕄 :=
  iprop((∃ d, ⌜Fill (rowG m c) n d⌝ ∗ owns (c : Thread nD τ) scM0 fullShare d) ∗ (∃ d, ⌜Fill (rowU m c) n d⌝ ∗ owns (c : Thread nD τ) scM1 fullShare d)
    ∗ (∃ r, prngReg c r))

/-- The pipeline's proof data: each input's buffer keeps its block; the outputs' hold what the band's scratches decide. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => oDs (scOf (rowG m c) (t.val / 16))
    | ⟨15, _⟩ => oStep (scOf (rowG m c) (t.val / 16)) (lrG (iblk m c 0 t)) (epsG (iblk m c 0 t)) (bcA (iblk m c 0 t)) (bcB (iblk m c 0 t)) (iblk m c 6 t) (iblk m c 7 t)
    | ⟨16, _⟩ => oS (scOf (rowG m c) (t.val / 16)) (lrG (iblk m c 0 t)) (epsG (iblk m c 0 t)) (bcA (iblk m c 0 t)) (bcB (iblk m c 0 t)) (iblk m c 5 t) (iblk m c 6 t) (iblk m c 7 t)
    | ⟨17, _⟩ => oM (scOf (rowG m c) (t.val / 16)) (iblk m c 6 t)
    | ⟨18, _⟩ => oV (scOf (rowG m c) (t.val / 16)) (iblk m c 7 t)
    | ⟨19, _⟩ => oDs (scOf (rowU m c) (t.val / 16))
    | ⟨20, _⟩ => oStep (scOf (rowU m c) (t.val / 16)) (lrU (iblk m c 0 t)) (epsU (iblk m c 0 t)) (bcA (iblk m c 0 t)) (bcB (iblk m c 0 t)) (iblk m c 12 t) (iblk m c 13 t)
    | ⟨21, _⟩ => oS (scOf (rowU m c) (t.val / 16)) (lrU (iblk m c 0 t)) (epsU (iblk m c 0 t)) (bcA (iblk m c 0 t)) (bcB (iblk m c 0 t)) (iblk m c 11 t) (iblk m c 12 t) (iblk m c 13 t)
    | ⟨22, _⟩ => oM (scOf (rowU m c) (t.val / 16)) (iblk m c 12 t)
    | ⟨23, _⟩ => oV (scOf (rowU m c) (t.val / 16)) (iblk m c 13 t)
    | ⟨n + 24, h⟩ => absurd (show n + 24 < 24 from h) (by omega)
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = oDs (scOf (rowG m c) (t.val / 16)) := by dsimp only [dats]
theorem after15 (c : Dev nD) (t : Fin cfg0.N) : (dats m 0 c).after 15 t = oStep (scOf (rowG m c) (t.val / 16)) (lrG (iblk m c 0 t)) (epsG (iblk m c 0 t)) (bcA (iblk m c 0 t)) (bcB (iblk m c 0 t)) (iblk m c 6 t) (iblk m c 7 t) := by dsimp only [dats]
theorem after16 (c : Dev nD) (t : Fin cfg0.N) : (dats m 0 c).after 16 t = oS (scOf (rowG m c) (t.val / 16)) (lrG (iblk m c 0 t)) (epsG (iblk m c 0 t)) (bcA (iblk m c 0 t)) (bcB (iblk m c 0 t)) (iblk m c 5 t) (iblk m c 6 t) (iblk m c 7 t) := by dsimp only [dats]
theorem after17 (c : Dev nD) (t : Fin cfg0.N) : (dats m 0 c).after 17 t = oM (scOf (rowG m c) (t.val / 16)) (iblk m c 6 t) := by dsimp only [dats]
theorem after18 (c : Dev nD) (t : Fin cfg0.N) : (dats m 0 c).after 18 t = oV (scOf (rowG m c) (t.val / 16)) (iblk m c 7 t) := by dsimp only [dats]
theorem after19 (c : Dev nD) (t : Fin cfg0.N) : (dats m 0 c).after 19 t = oDs (scOf (rowU m c) (t.val / 16)) := by dsimp only [dats]
theorem after20 (c : Dev nD) (t : Fin cfg0.N) : (dats m 0 c).after 20 t = oStep (scOf (rowU m c) (t.val / 16)) (lrU (iblk m c 0 t)) (epsU (iblk m c 0 t)) (bcA (iblk m c 0 t)) (bcB (iblk m c 0 t)) (iblk m c 12 t) (iblk m c 13 t) := by dsimp only [dats]
theorem after21 (c : Dev nD) (t : Fin cfg0.N) : (dats m 0 c).after 21 t = oS (scOf (rowU m c) (t.val / 16)) (lrU (iblk m c 0 t)) (epsU (iblk m c 0 t)) (bcA (iblk m c 0 t)) (bcB (iblk m c 0 t)) (iblk m c 11 t) (iblk m c 12 t) (iblk m c 13 t) := by dsimp only [dats]
theorem after22 (c : Dev nD) (t : Fin cfg0.N) : (dats m 0 c).after 22 t = oM (scOf (rowU m c) (t.val / 16)) (iblk m c 12 t) := by dsimp only [dats]
theorem after23 (c : Dev nD) (t : Fin cfg0.N) : (dats m 0 c).after 23 t = oV (scOf (rowU m c) (t.val / 16)) (iblk m c 13 t) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d

/-! ## The body at any point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d))
    ∗ (∃ d, owns (c : Thread nD τ) (ms18 t) fullShare ((dats m 0 c).before 18 t d))
    ∗ (∃ d, owns (c : Thread nD τ) (ms19 t) fullShare ((dats m 0 c).before 19 t d))
    ∗ (∃ d, owns (c : Thread nD τ) (ms20 t) fullShare ((dats m 0 c).before 20 t d))
    ∗ (∃ d, owns (c : Thread nD τ) (ms21 t) fullShare ((dats m 0 c).before 21 t d))
    ∗ (∃ d, owns (c : Thread nD τ) (ms22 t) fullShare ((dats m 0 c).before 22 t d))
    ∗ (∃ d, owns (c : Thread nD τ) (ms23 t) fullShare ((dats m 0 c).before 23 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) : (dats m 0 c).leavesExact 4 t = owns (c : Thread nD τ) (ms4 t) fullShare (iblk m c 4 t) := by
  unfold Dat.leavesExact; rw [live4 t, after4]
theorem leaves5 (c : Dev nD) (t : Fin cfg0.N) : (dats m 0 c).leavesExact 5 t = owns (c : Thread nD τ) (ms5 t) fullShare (iblk m c 5 t) := by
  unfold Dat.leavesExact; rw [live5 t, after5]
theorem leaves6 (c : Dev nD) (t : Fin cfg0.N) : (dats m 0 c).leavesExact 6 t = owns (c : Thread nD τ) (ms6 t) fullShare (iblk m c 6 t) := by
  unfold Dat.leavesExact; rw [live6 t, after6]
theorem leaves7 (c : Dev nD) (t : Fin cfg0.N) : (dats m 0 c).leavesExact 7 t = owns (c : Thread nD τ) (ms7 t) fullShare (iblk m c 7 t) := by
  unfold Dat.leavesExact; rw [live7 t, after7]
theorem leaves8 (c : Dev nD) (t : Fin cfg0.N) : (dats m 0 c).leavesExact 8 t = owns (c : Thread nD τ) (ms8 t) fullShare (iblk m c 8 t) := by
  unfold Dat.leavesExact; rw [live8 t, after8]
theorem leaves9 (c : Dev nD) (t : Fin cfg0.N) : (dats m 0 c).leavesExact 9 t = owns (c : Thread nD τ) (ms9 t) fullShare (iblk m c 9 t) := by
  unfold Dat.leavesExact; rw [live9 t, after9]
theorem leaves10 (c : Dev nD) (t : Fin cfg0.N) : (dats m 0 c).leavesExact 10 t = owns (c : Thread nD τ) (ms10 t) fullShare (iblk m c 10 t) := by
  unfold Dat.leavesExact; rw [live10 t, after10]
theorem leaves11 (c : Dev nD) (t : Fin cfg0.N) : (dats m 0 c).leavesExact 11 t = owns (c : Thread nD τ) (ms11 t) fullShare (iblk m c 11 t) := by
  unfold Dat.leavesExact; rw [live11 t, after11]
theorem leaves12 (c : Dev nD) (t : Fin cfg0.N) : (dats m 0 c).leavesExact 12 t = owns (c : Thread nD τ) (ms12 t) fullShare (iblk m c 12 t) := by
  unfold Dat.leavesExact; rw [live12 t, after12]
theorem leaves13 (c : Dev nD) (t : Fin cfg0.N) : (dats m 0 c).leavesExact 13 t = owns (c : Thread nD τ) (ms13 t) fullShare (iblk m c 13 t) := by
  unfold Dat.leavesExact; rw [live13 t, after13]
theorem leaves14 (c : Dev nD) (t : Fin cfg0.N) (h0 : k0_cond1 (grid0.coords t) = 1#1) :
    (dats m 0 c).leavesExact 14 t = owns (c : Thread nD τ) (ms14 t) fullShare (oDs (scOf (rowG m c) (t.val / 16))) := by
  unfold Dat.leavesExact; rw [live14_B t h0, after14]
theorem leaves15 (c : Dev nD) (t : Fin cfg0.N) (h0 : k0_cond1 (grid0.coords t) = 1#1) :
    (dats m 0 c).leavesExact 15 t = owns (c : Thread nD τ) (ms15 t) fullShare (oStep (scOf (rowG m c) (t.val / 16)) (lrG (iblk m c 0 t)) (epsG (iblk m c 0 t)) (bcA (iblk m c 0 t)) (bcB (iblk m c 0 t)) (iblk m c 6 t) (iblk m c 7 t)) := by
  unfold Dat.leavesExact; rw [live15_B t h0, after15]
theorem leaves16 (c : Dev nD) (t : Fin cfg0.N) (h0 : k0_cond1 (grid0.coords t) = 1#1) :
    (dats m 0 c).leavesExact 16 t = owns (c : Thread nD τ) (ms16 t) fullShare (oS (scOf (rowG m c) (t.val / 16)) (lrG (iblk m c 0 t)) (epsG (iblk m c 0 t)) (bcA (iblk m c 0 t)) (bcB (iblk m c 0 t)) (iblk m c 5 t) (iblk m c 6 t) (iblk m c 7 t)) := by
  unfold Dat.leavesExact; rw [live16_B t h0, after16]
theorem leaves17 (c : Dev nD) (t : Fin cfg0.N) (h0 : k0_cond1 (grid0.coords t) = 1#1) :
    (dats m 0 c).leavesExact 17 t = owns (c : Thread nD τ) (ms17 t) fullShare (oM (scOf (rowG m c) (t.val / 16)) (iblk m c 6 t)) := by
  unfold Dat.leavesExact; rw [live17_B t h0, after17]
theorem leaves18 (c : Dev nD) (t : Fin cfg0.N) (h0 : k0_cond1 (grid0.coords t) = 1#1) :
    (dats m 0 c).leavesExact 18 t = owns (c : Thread nD τ) (ms18 t) fullShare (oV (scOf (rowG m c) (t.val / 16)) (iblk m c 7 t)) := by
  unfold Dat.leavesExact; rw [live18_B t h0, after18]
theorem leaves19 (c : Dev nD) (t : Fin cfg0.N) (h0 : k0_cond1 (grid0.coords t) = 1#1) :
    (dats m 0 c).leavesExact 19 t = owns (c : Thread nD τ) (ms19 t) fullShare (oDs (scOf (rowU m c) (t.val / 16))) := by
  unfold Dat.leavesExact; rw [live19_B t h0, after19]
theorem leaves20 (c : Dev nD) (t : Fin cfg0.N) (h0 : k0_cond1 (grid0.coords t) = 1#1) :
    (dats m 0 c).leavesExact 20 t = owns (c : Thread nD τ) (ms20 t) fullShare (oStep (scOf (rowU m c) (t.val / 16)) (lrU (iblk m c 0 t)) (epsU (iblk m c 0 t)) (bcA (iblk m c 0 t)) (bcB (iblk m c 0 t)) (iblk m c 12 t) (iblk m c 13 t)) := by
  unfold Dat.leavesExact; rw [live20_B t h0, after20]
theorem leaves21 (c : Dev nD) (t : Fin cfg0.N) (h0 : k0_cond1 (grid0.coords t) = 1#1) :
    (dats m 0 c).leavesExact 21 t = owns (c : Thread nD τ) (ms21 t) fullShare (oS (scOf (rowU m c) (t.val / 16)) (lrU (iblk m c 0 t)) (epsU (iblk m c 0 t)) (bcA (iblk m c 0 t)) (bcB (iblk m c 0 t)) (iblk m c 11 t) (iblk m c 12 t) (iblk m c 13 t)) := by
  unfold Dat.leavesExact; rw [live21_B t h0, after21]
theorem leaves22 (c : Dev nD) (t : Fin cfg0.N) (h0 : k0_cond1 (grid0.coords t) = 1#1) :
    (dats m 0 c).leavesExact 22 t = owns (c : Thread nD τ) (ms22 t) fullShare (oM (scOf (rowU m c) (t.val / 16)) (iblk m c 12 t)) := by
  unfold Dat.leavesExact; rw [live22_B t h0, after22]
theorem leaves23 (c : Dev nD) (t : Fin cfg0.N) (h0 : k0_cond1 (grid0.coords t) = 1#1) :
    (dats m 0 c).leavesExact 23 t = owns (c : Thread nD τ) (ms23 t) fullShare (oV (scOf (rowU m c) (t.val / 16)) (iblk m c 13 t)) := by
  unfold Dat.leavesExact; rw [live23_B t h0, after23]

set_option maxHeartbeats 6400000 in
/-- The body's triple at any point, by its two cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  rw [leaves0 m c t, leaves1 m c t, leaves2 m c t, leaves3 m c t, leaves4 m c t, leaves5 m c t, leaves6 m c t, leaves7 m c t, leaves8 m c t, leaves9 m c t, leaves10 m c t, leaves11 m c t, leaves12 m c t, leaves13 m c t]
  by_cases h0 : k0_cond1 (grid0.coords t) = 1#1
  · rw [leaves14 m c t h0, leaves15 m c t h0, leaves16 m c t h0, leaves17 m c t h0, leaves18 m c t h0, leaves19 m c t h0, leaves20 m c t h0, leaves21 m c t h0, leaves22 m c t h0, leaves23 m c t h0]
    iintro ⟨⟨⟨%xs0, %hF0, HS0⟩, ⟨%xs1, %hF1, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
    have hD0 := sc_last (rowG m c) t ((lastIff t).mp h0) scM0 (Memref.isWhole_whole _) xs0 hF0
    have hD1 := sc_last (rowU m c) t ((lastIff t).mp h0) scM1 (Memref.isWhole_whole _) xs1 hF1
    have hN0 := fill_next (rowG m c) t scM0.view ((Memref.isWhole_whole _).unread xs0) (by rw [(Memref.isWhole_whole _).read_unread]; exact hF0)
    have hN1 := fill_next (rowU m c) t scM1.view ((Memref.isWhole_whole _).unread xs1) (by rw [(Memref.isWhole_whole _).read_unread]; exact hF1)
    iapply ((kernelRun_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) scM0 (Memref.isWhole_whole _) scM1 (Memref.isWhole_whole _) h0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) xs0 xs1).2.2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [HS0]; · iexact HS0
    isplitl [HS1]; · iexact HS1
    iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, HS0, HS1⟩
    isplitl [HS0 HS1 Hg]
    · isplitl [HS0]
      · iexists _; isplitr
        swap
        · unfold owns; iexists _; isplitr
          swap; · iexact HS0
          ipureintro; rfl
        ipureintro; rw [pieces_BG]; exact hN0
      isplitl [HS1]
      · iexists _; isplitr
        swap
        · unfold owns; iexists _; isplitr
          swap; · iexact HS1
          ipureintro; rfl
        ipureintro; rw [pieces_BU]; exact hN1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · unfold owns; iexists _; isplitr
      swap; · iexact H14
      ipureintro; rw [out_B_14, read_wholePiece]; exact congrArg (fun s => oDs s) hD0
    isplitl [H15]
    · unfold owns; iexists _; isplitr
      swap; · iexact H15
      ipureintro; rw [out_B_15, read_wholePiece]; exact congrArg (fun s => oStep s (lrG (iblk m c 0 t)) (epsG (iblk m c 0 t)) (bcA (iblk m c 0 t)) (bcB (iblk m c 0 t)) (iblk m c 6 t) (iblk m c 7 t)) hD0
    isplitl [H16]
    · unfold owns; iexists _; isplitr
      swap; · iexact H16
      ipureintro; rw [out_B_16, read_wholePiece]; exact congrArg (fun s => oS s (lrG (iblk m c 0 t)) (epsG (iblk m c 0 t)) (bcA (iblk m c 0 t)) (bcB (iblk m c 0 t)) (iblk m c 5 t) (iblk m c 6 t) (iblk m c 7 t)) hD0
    isplitl [H17]
    · unfold owns; iexists _; isplitr
      swap; · iexact H17
      ipureintro; rw [out_B_17, read_wholePiece]; exact congrArg (fun s => oM s (iblk m c 6 t)) hD0
    isplitl [H18]
    · unfold owns; iexists _; isplitr
      swap; · iexact H18
      ipureintro; rw [out_B_18, read_wholePiece]; exact congrArg (fun s => oV s (iblk m c 7 t)) hD0
    isplitl [H19]
    · unfold owns; iexists _; isplitr
      swap; · iexact H19
      ipureintro; rw [out_B_19, read_wholePiece]; exact congrArg (fun s => oDs s) hD1
    isplitl [H20]
    · unfold owns; iexists _; isplitr
      swap; · iexact H20
      ipureintro; rw [out_B_20, read_wholePiece]; exact congrArg (fun s => oStep s (lrU (iblk m c 0 t)) (epsU (iblk m c 0 t)) (bcA (iblk m c 0 t)) (bcB (iblk m c 0 t)) (iblk m c 12 t) (iblk m c 13 t)) hD1
    isplitl [H21]
    · unfold owns; iexists _; isplitr
      swap; · iexact H21
      ipureintro; rw [out_B_21, read_wholePiece]; exact congrArg (fun s => oS s (lrU (iblk m c 0 t)) (epsU (iblk m c 0 t)) (bcA (iblk m c 0 t)) (bcB (iblk m c 0 t)) (iblk m c 11 t) (iblk m c 12 t) (iblk m c 13 t)) hD1
    isplitl [H22]
    · unfold owns; iexists _; isplitr
      swap; · iexact H22
      ipureintro; rw [out_B_22, read_wholePiece]; exact congrArg (fun s => oM s (iblk m c 12 t)) hD1
    unfold owns; iexists _; isplitr
    swap; · iexact H23
    ipureintro; rw [out_B_23, read_wholePiece]; exact congrArg (fun s => oV s (iblk m c 13 t)) hD1
  · rw [Dat.leavesExact_idle (dats m 0 c) 14 t (idle14_A t h0) (noFlush14_A t h0)]
    rw [Dat.leavesExact_idle (dats m 0 c) 15 t (idle15_A t h0) (noFlush15_A t h0)]
    rw [Dat.leavesExact_idle (dats m 0 c) 16 t (idle16_A t h0) (noFlush16_A t h0)]
    rw [Dat.leavesExact_idle (dats m 0 c) 17 t (idle17_A t h0) (noFlush17_A t h0)]
    rw [Dat.leavesExact_idle (dats m 0 c) 18 t (idle18_A t h0) (noFlush18_A t h0)]
    rw [Dat.leavesExact_idle (dats m 0 c) 19 t (idle19_A t h0) (noFlush19_A t h0)]
    rw [Dat.leavesExact_idle (dats m 0 c) 20 t (idle20_A t h0) (noFlush20_A t h0)]
    rw [Dat.leavesExact_idle (dats m 0 c) 21 t (idle21_A t h0) (noFlush21_A t h0)]
    rw [Dat.leavesExact_idle (dats m 0 c) 22 t (idle22_A t h0) (noFlush22_A t h0)]
    rw [Dat.leavesExact_idle (dats m 0 c) 23 t (idle23_A t h0) (noFlush23_A t h0)]
    iintro ⟨⟨⟨%xs0, %hF0, HS0⟩, ⟨%xs1, %hF1, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
    have hN0 := fill_next (rowG m c) t scM0.view ((Memref.isWhole_whole _).unread xs0) (by rw [(Memref.isWhole_whole _).read_unread]; exact hF0)
    have hN1 := fill_next (rowU m c) t scM1.view ((Memref.isWhole_whole _).unread xs1) (by rw [(Memref.isWhole_whole _).read_unread]; exact hF1)
    iapply ((kernelRun_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) scM0 (Memref.isWhole_whole _) scM1 (Memref.isWhole_whole _) h0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).2.2 _ _ _ _ _ _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [HS0]; · iexact HS0
    isplitl [HS1]; · iexact HS1
    iintro ⟨H0, H1, H2, H3, H4, H5, H6, H7, H8, H9, H10, H11, H12, H13, H14, H15, H16, H17, H18, H19, H20, H21, H22, H23, HS0, HS1⟩
    isplitl [HS0 HS1 Hg]
    · isplitl [HS0]
      · iexists _; isplitr
        swap
        · unfold owns; iexists _; isplitr
          swap; · iexact HS0
          ipureintro; rfl
        ipureintro; rw [pieces_AG]; exact hN0
      isplitl [HS1]
      · iexists _; isplitr
        swap
        · unfold owns; iexists _; isplitr
          swap; · iexact HS1
          ipureintro; rfl
        ipureintro; rw [pieces_AU]; exact hN1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    iexists _; iexact H23

/-- The body table's row at a point's slots is the body. -/
theorem defs₀_row (t : Fin cfg0.N) : defs₀ (F := F) .tc cfg0.body (cfg0.bodyArgs t (cfg0.slots t)) = bodyAt0 t := by
  unfold defs₀; rw [Defs.onTc_tc]

set_option maxHeartbeats 6400000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point: nothing is asked of the scratches there. -/
theorem hin (c : Dev nD) : Pipeline.ΦA spec0 c ⊢ (dats m 0 c).Φ 0 := by
  rw [show (dats m 0 c).Φ 0 = PhiS m c 0 from rfl, PhiA_eq]
  unfold PhiS
  iintro ⟨⟨⟨%d, HS⟩, ⟨%e, HT⟩⟩, Hg⟩
  isplitl [HS]
  · iexists d; isplitr
    swap; · iexact HS
    ipureintro; exact fun y hy => absurd hy (by omega)
  isplitl [HT]
  · iexists e; isplitr
    swap; · iexact HT
    ipureintro; exact fun y hy => absurd hy (by omega)
  iexact Hg

/-- After the last point what the scratches hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]
  unfold PhiS
  iintro ⟨⟨%d, -, HS⟩, ⟨%e, -, HT⟩, Hg⟩
  isplitl [HS HT]
  · isplitl [HS]
    · iexists _; iexact HS
    iexists _; iexact HT
  iexact Hg

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every run ends with the windows' arrays as the proof data says. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

/-- The frame: the program runs to its end, its arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (unchanged m ρ) ((θ_run defs _ _).mono (fun _ h => h.2) (run_main_quiescent m ρ))

end Cert.WgradGateUpIdeal.Gen

end
-- ==== Proof.WgradGateUpPure.lean ====
/- One row of the scratch is the reference's gradient of one group's scales. -/
module

public import proofs.«01_k».proof.Proof.WgradGateUpIdealBody
public import proofs.«01_k».proof.Proof.Gen.WgradGateUpRefIdeal.Run
public import proofs.«01_k».proof.Proof.Gen.WgradGateUpRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.WgradGateUpIdeal.Value

open Cert.WgradGateUpIdeal Cert.WgradGateUpIdeal.Gen
open Cert.WgradGateUpRefIdeal.Read

/-- Two bits of a word read as a number: the kernel's signed reading is the reference's unsigned one. -/
theorem field_eq (w s s' : BitVec 32) (h : s = s') (hs : s'.toNat < 32) :
    (FloatOps.sitofp (F := Ideal) .f32 (IntOp.andi (IntOp.shrui .vector w s) 3#32) : EReal)
    = FloatOps.uitofp (F := Ideal) .f32 (IntOp.andi (IntOp.shrui .host w s') 3#32) := by
  subst h
  unfold IntOp.shrui
  rw [if_pos hs, if_pos hs]
  generalize hx : IntOp.andi (w >>> s) 3#32 = x
  have hlt : x.toNat ≤ 3 := by
    rw [← hx]
    show ((w >>> s) &&& 3#32).toNat ≤ 3
    rw [BitVec.toNat_and]
    exact Nat.and_le_right
  have hi : x.toInt = (x.toNat : ℤ) := BitVec.toInt_eq_toNat_of_lt (by omega)
  show ((x.toInt : ℝ) : EReal) = ((x.toNat : ℝ) : EReal)
  rw [hi]
  norm_cast

/-- The shift of a word's field number `n`. -/
theorem shift_lt (n : ℕ) (hn : n < 16) : (IntOp.muli 2#32 (BitVec.ofNat 32 n)).toNat < 32 := by
  show (2#32 * BitVec.ofNat 32 n).toNat < 32
  rw [BitVec.toNat_mul, BitVec.toNat_ofNat]
  show 2 * (n % 4294967296) % 4294967296 < 32
  omega

/-- The shift of a group's zero point: twice the group's place among the four of its byte. -/
theorem zshift (j k g : ℕ) (hk : k < 8) (hj : j < 64) (hg : 8 * j + k = g) :
    Scalar.muli 2#32 (Scalar.andi (Scalar.addi (Scalar.muli (BitVec.ofNat 32 j) 8#32) (BitVec.ofNat 32 k)) 3#32)
    = IntOp.muli 2#32 (BitVec.ofNat 32 (g % 4)) := by
  subst hg
  show 2#32 * ((BitVec.ofNat 32 j * 8#32 + BitVec.ofNat 32 k) &&& 3#32) = 2#32 * BitVec.ofNat 32 ((8 * j + k) % 4)
  congr 1
  apply BitVec.eq_of_toNat_eq
  rw [BitVec.toNat_and, BitVec.toNat_add, BitVec.toNat_mul]
  simp only [BitVec.toNat_ofNat]
  show _ &&& (2 ^ 2 - 1) = _
  rw [Nat.and_two_pow_sub_one_eq_mod]
  omega

/-- One group's row at one column: the reference's sum, when the blocks hold the reference's arrays at the group's place. -/
theorem row_eq (i : grid0.Coords) (k : Fin 8) (a : FVec Ideal S4096x512 .bf16) (b : FVec Ideal S4096x512 .bf16)
    (z q0 q1 q2 q3 : IVec S1x512 32) (l : Fin 512)
    (x0 : FVec Ideal Cert.WgradGateUpRefIdeal.S4096x8192 .bf16) (x1 : FVec Ideal Cert.WgradGateUpRefIdeal.S4096x3584 .bf16)
    (x2 : IVec Cert.WgradGateUpRefIdeal.S3584x512 32) (x3 : IVec Cert.WgradGateUpRefIdeal.S3584x32 8) (r : Fin 3584) (g : Fin 128)
    (hi : (i 1).val < 16) (hg : 8 * (i 1).val + k.val = g.val)
    (ha : ∀ (t : Fin 4096) (n : Fin 512) (n' : Fin 8192), n'.val = 512 * (i 1).val + n.val → a (ix2 t n) = x0 (ix2 t n'))
    (hb : ∀ t : Fin 4096, b (ix2 t l) = x1 (ix2 t r))
    (h0 : ∀ n : Fin 512, n.val = g.val * 4 + 0 → q0 (ix2 0 l) = x2 (ix2 r n))
    (h1 : ∀ n : Fin 512, n.val = g.val * 4 + 1 → q1 (ix2 0 l) = x2 (ix2 r n))
    (h2 : ∀ n : Fin 512, n.val = g.val * 4 + 2 → q2 (ix2 0 l) = x2 (ix2 r n))
    (h3 : ∀ n : Fin 512, n.val = g.val * 4 + 3 → q3 (ix2 0 l) = x2 (ix2 r n))
    (hz : ∀ n : Fin 32, n.val = g.val / 4 → z (ix2 0 l) = (x3 (ix2 r n)).setWidth 32) :
    wrowL (F := Ideal) i k a b z q0 q1 q2 q3 (ix2 0 l) = val_main_v36 (F := Ideal) x0 x1 x2 x3 (ix2 r g) := by
  have hg56 := g.isLt
  have hk8 := k.isLt
  pointwise [wrowL, k0_pay14, term, zeros, codes]
  pointwise [val_main_v36, val_main_v35, val_main_v34, val_main_v5, val_main_v4, val_main_v18, val_main_v17, val_main_v16, val_main_v14, val_main_v15, val_main_c_0, val_main_v12, val_main_v13, val_main_v11, val_main_v10, val_main_v6, val_main_v9, val_main_v8, val_main_v7, val_main_c, val_main_v33, val_main_v32, val_main_v31, val_main_v30, val_main_v29, val_main_v27, val_main_v28, val_main_v25, val_main_v26, val_main_v23, val_main_v24, val_main_v21, val_main_v20, val_main_v19, val_main_v22, val_main_c_1, val_main_c_2, val_main_cst]
  refine Eq.trans ?_ Finset.sum_comm
  refine Finset.sum_congr rfl fun f _ => ?_
  have hf := f.isLt
  rw [Fin.sum_univ_four]
  have hdw : ∀ (n : Fin 512) (n' : Fin 8192), n'.val = 512 * (i 1).val + n.val →
      (∑ t : Fin 4096, a (ix2 t n) * b (ix2 t l) : EReal) = ∑ t : Fin 4096, x1 (ix2 t r) * x0 (ix2 t n') :=
    fun n n' h => Finset.sum_congr rfl fun t _ => by rw [ha t n n' h, hb t]; exact mul_comm _ _
  have hzero := fun w => field_eq w _ _ (zshift (i 1).val k.val g.val hk8 (by omega) hg) (shift_lt _ (by omega))
  have hcode := fun w => field_eq w _ _ rfl (shift_lt f.val hf)
  refine congrArg₂ (· + ·) (congrArg₂ (· + ·) (congrArg₂ (· + ·) ?_ ?_) ?_) ?_
  · refine congrArg₂ (· * ·) (hdw _ _ ?_) (congrArg₂ (· - ·) ((hcode _).trans ?_) ((hzero _).trans ?_))
    · show g.val * 64 + 0 * 16 + f.val = 512 * (i 1).val + (64 * k.val + f.val); omega
    · rw [h0 ⟨g.val * 4 + 0, by omega⟩ rfl]; rfl
    · rw [hz ⟨g.val / 4, by omega⟩ rfl]
  · refine congrArg₂ (· * ·) (hdw _ _ ?_) (congrArg₂ (· - ·) ((hcode _).trans ?_) ((hzero _).trans ?_))
    · show g.val * 64 + 1 * 16 + f.val = 512 * (i 1).val + (64 * k.val + 16 + f.val); omega
    · rw [h1 ⟨g.val * 4 + 1, by omega⟩ rfl]; rfl
    · rw [hz ⟨g.val / 4, by omega⟩ rfl]
  · refine congrArg₂ (· * ·) (hdw _ _ ?_) (congrArg₂ (· - ·) ((hcode _).trans ?_) ((hzero _).trans ?_))
    · show g.val * 64 + 2 * 16 + f.val = 512 * (i 1).val + (64 * k.val + 32 + f.val); omega
    · rw [h2 ⟨g.val * 4 + 2, by omega⟩ rfl]; rfl
    · rw [hz ⟨g.val / 4, by omega⟩ rfl]
  · refine congrArg₂ (· * ·) (hdw _ _ ?_) (congrArg₂ (· - ·) ((hcode _).trans ?_) ((hzero _).trans ?_))
    · show g.val * 64 + 3 * 16 + f.val = 512 * (i 1).val + (64 * k.val + 48 + f.val); omega
    · rw [h3 ⟨g.val * 4 + 3, by omega⟩ rfl]; rfl
    · rw [hz ⟨g.val / 4, by omega⟩ rfl]

end Cert.WgradGateUpIdeal.Value

end
-- ==== Proof.WgradGateUpValue.lean ====
/- What the gate and up matrices' scale update writes: its ten results are the reference's terms of the arguments. -/
module

public import proofs.«01_k».proof.Proof.WgradGateUpPure

@[expose] public section

set_option maxRecDepth 16384

noncomputable section

open Idealize.ShloMosaic Idealize.ShloMosaic.TcCoe Idealize.SL.Sem
open Idealize.ShloMosaic.Pipeline (Dat)

namespace Cert.WgradGateUpIdeal.Value

open Cert.WgradGateUpIdeal Cert.WgradGateUpIdeal.Gen
open Cert.WgradGateUpRefIdeal.Read

variable (m : (ℓ : Loc nD τ sig) → Buf (Elt Ideal) ℓ)

/-- The blocks that the windows stage at each grid point. -/
theorem idx : ∀ t : Fin cfg0.N, win0_0.index t = ![0, 0]
    ∧ win0_1.index t = ![0, t.val % 16]
    ∧ win0_2.index t = ![0, t.val / 16]
    ∧ win0_3.index t = ![t.val % 16, t.val / 16]
    ∧ win0_4.index t = ![0, t.val / 16]
    ∧ win0_5.index t = ![t.val / 16, 0]
    ∧ win0_6.index t = ![t.val / 16, 0]
    ∧ win0_7.index t = ![t.val / 16, 0]
    ∧ win0_8.index t = ![0, t.val / 16]
    ∧ win0_9.index t = ![t.val % 16, t.val / 16]
    ∧ win0_10.index t = ![0, t.val / 16]
    ∧ win0_11.index t = ![t.val / 16, 0]
    ∧ win0_12.index t = ![t.val / 16, 0]
    ∧ win0_13.index t = ![t.val / 16, 0]
    ∧ win0_14.index t = ![t.val / 16, 0]
    ∧ win0_15.index t = ![t.val / 16, 0]
    ∧ win0_16.index t = ![t.val / 16, 0]
    ∧ win0_17.index t = ![t.val / 16, 0]
    ∧ win0_18.index t = ![t.val / 16, 0]
    ∧ win0_19.index t = ![t.val / 16, 0]
    ∧ win0_20.index t = ![t.val / 16, 0]
    ∧ win0_21.index t = ![t.val / 16, 0]
    ∧ win0_22.index t = ![t.val / 16, 0]
    ∧ win0_23.index t = ![t.val / 16, 0] :=
  (by decide +kernel : ∀ t : Fin grid0.N, _)

theorem coord1 : ∀ t : Fin cfg0.N, (grid0.coords t 1).val = t.val % 16 :=
  (by decide +kernel : ∀ t : Fin grid0.N, _)

theorem offZ : ∀ (t : Fin cfg0.N) (k : Fin 8), k0_off1 (grid0.coords t) (BitVec.ofNat 32 k.val) = ![(8 * (t.val % 16) + k.val) / 4, 0] :=
  (by decide +kernel : ∀ (t : Fin grid0.N) (k : Fin 8), _)

/-! ## The arrays as the region finds them -/

/-- The gate matrix's packed codes, words before rows, -/
theorem V_main_v8 (c : Dev nD) (j : Fin 512) (n : Fin 3584) :
    V m c main_v8 (ix2 j n) = (m ((c : Thread nD τ).loc main_arg3)) (ix2 n j) := by
  entry_read
  pointwise

/-- and its packed zero points, widened, words before rows. -/
theorem V_main_v10 (c : Dev nD) (j : Fin 32) (n : Fin 3584) :
    V m c main_v10 (ix2 j n) = ((m ((c : Thread nD τ).loc main_arg4)) (ix2 n j) : BitVec 8).setWidth 32 := by
  entry_read
  pointwise

/-- The up matrix's packed codes, words before rows, -/
theorem V_main_v11 (c : Dev nD) (j : Fin 512) (n : Fin 3584) :
    V m c main_v11 (ix2 j n) = (m ((c : Thread nD τ).loc main_arg8)) (ix2 n j) := by
  entry_read
  pointwise

/-- and its packed zero points, widened, words before rows. -/
theorem V_main_v13 (c : Dev nD) (j : Fin 32) (n : Fin 3584) :
    V m c main_v13 (ix2 j n) = ((m ((c : Thread nD τ).loc main_arg9)) (ix2 n j) : BitVec 8).setWidth 32 := by
  entry_read
  pointwise

/-- The nine numbers of the update, a row each for the learning rates, the epsilons and the bias corrections. -/
def numbers (lr eps : FVec Ideal S3 .f32) (b1 b2 : FVec Ideal S_ .f32) : FVec Ideal S3x3 .f32 :=
  concatenate S3x3 0 [⟨S1x3, broadcastInDim S1x3 ![1] bcast_S3_S1x3_1 lr⟩, ⟨S1x3, broadcastInDim S1x3 ![1] bcast_S3_S1x3_1 eps⟩,
    ⟨S1x3, broadcastInDim S1x3 ![1] bcast_S3_S1x3_1 (concatenate S3 0 [⟨S1, broadcastInDim S1 ![] bcast_S_S1 b1⟩,
      ⟨S1, broadcastInDim S1 ![] bcast_S_S1 b2⟩, ⟨S1, broadcastInDim S1 ![] bcast_S_S1 b1⟩] concatenates_S1_S1_S1_S3_d0)⟩]
    concatenates_S1x3_S1x3_S1x3_S3x3_d0

theorem numbers_lrG (lr eps : FVec Ideal S3 .f32) (b1 b2 : FVec Ideal S_ .f32) : numbers lr eps b1 b2 (ix2 0 0) = lr (ix1 0) := by
  pointwise [numbers]
theorem numbers_lrU (lr eps : FVec Ideal S3 .f32) (b1 b2 : FVec Ideal S_ .f32) : numbers lr eps b1 b2 (ix2 0 1) = lr (ix1 1) := by
  pointwise [numbers]
theorem numbers_epsG (lr eps : FVec Ideal S3 .f32) (b1 b2 : FVec Ideal S_ .f32) : numbers lr eps b1 b2 (ix2 1 0) = eps (ix1 0) := by
  pointwise [numbers]
theorem numbers_epsU (lr eps : FVec Ideal S3 .f32) (b1 b2 : FVec Ideal S_ .f32) : numbers lr eps b1 b2 (ix2 1 1) = eps (ix1 1) := by
  pointwise [numbers]
theorem numbers_bcA (lr eps : FVec Ideal S3 .f32) (b1 b2 : FVec Ideal S_ .f32) : numbers lr eps b1 b2 (ix2 2 0) = b1 ix0 := by
  pointwise [numbers]
theorem numbers_bcB (lr eps : FVec Ideal S3 .f32) (b1 b2 : FVec Ideal S_ .f32) : numbers lr eps b1 b2 (ix2 2 1) = b2 ix0 := by
  pointwise [numbers]

/-- Three rows joined, row by row. -/
theorem joined {a a' b b' d d' : FVec Ideal S1x3 .f32} (ha : a = a') (hb : b = b') (hd : d = d') :
    concatenate S3x3 0 [⟨S1x3, a⟩, ⟨S1x3, b⟩, ⟨S1x3, d⟩] concatenates_S1x3_S1x3_S1x3_S3x3_d0
    = concatenate S3x3 0 [⟨S1x3, a'⟩, ⟨S1x3, b'⟩, ⟨S1x3, d'⟩] concatenates_S1x3_S1x3_S1x3_S3x3_d0 := by
  rw [ha, hb, hd]

theorem joined1 {a a' b b' d d' : FVec Ideal S1 .f32} (ha : a = a') (hb : b = b') (hd : d = d') :
    concatenate S3 0 [⟨S1, a⟩, ⟨S1, b⟩, ⟨S1, d⟩] concatenates_S1_S1_S1_S3_d0
    = concatenate S3 0 [⟨S1, a'⟩, ⟨S1, b'⟩, ⟨S1, d'⟩] concatenates_S1_S1_S1_S3_d0 := by
  rw [ha, hb, hd]

theorem V_main_v7 (c : Dev nD) : V m c main_v7 = numbers (m ((c : Thread nD τ).loc main_arg13)) (m ((c : Thread nD τ).loc main_arg14))
    (m ((c : Thread nD τ).loc main_arg15)) (m ((c : Thread nD τ).loc main_arg16)) := by
  show StableHlo.after hostOps0 (fun b => m (c, b)) (Proc.devRef .tc main_v7) = _
  simp only [hostOps0, StableHlo.after_cons, StableHlo.after_nil]
  rw [StableHlo.unary_result_ne (h := by decide), StableHlo.unary_result_ne (h := by decide), StableHlo.unary_result_ne (h := by decide), StableHlo.unary_result_ne (h := by decide), StableHlo.unary_result_ne (h := by decide), StableHlo.unary_result_ne (h := by decide), StableHlo.nary_result]
  refine joined ?_ ?_ ?_
  · show (_ : HloOp τ sig (Elt Ideal)).result _ (Proc.devRef .tc main_v4) = _
    rw [StableHlo.unary_result_ne (h := by decide), StableHlo.unary_result_ne (h := by decide), StableHlo.unary_result,
      StableHlo.nary_result_ne (h := by decide), StableHlo.unary_result_ne (h := by decide), StableHlo.unary_result_ne (h := by decide),
      StableHlo.unary_result_ne (h := by decide)]
  · show (_ : HloOp τ sig (Elt Ideal)).result _ (Proc.devRef .tc main_v5) = _
    rw [StableHlo.unary_result_ne (h := by decide), StableHlo.unary_result, StableHlo.unary_result_ne (h := by decide),
      StableHlo.nary_result_ne (h := by decide), StableHlo.unary_result_ne (h := by decide), StableHlo.unary_result_ne (h := by decide),
      StableHlo.unary_result_ne (h := by decide)]
  · show (_ : HloOp τ sig (Elt Ideal)).result _ (Proc.devRef .tc main_v6) = _
    rw [StableHlo.unary_result, StableHlo.unary_result_ne (h := by decide), StableHlo.unary_result_ne (h := by decide),
      StableHlo.nary_result]
    refine congrArg _ (joined1 ?_ ?_ ?_)
    · show (_ : HloOp τ sig (Elt Ideal)).result _ (Proc.devRef .tc main_v0) = _
      rw [StableHlo.unary_result_ne (h := by decide), StableHlo.unary_result_ne (h := by decide), StableHlo.unary_result]
    · show (_ : HloOp τ sig (Elt Ideal)).result _ (Proc.devRef .tc main_v1) = _
      rw [StableHlo.unary_result_ne (h := by decide), StableHlo.unary_result, StableHlo.unary_result_ne (h := by decide)]
    · show (_ : HloOp τ sig (Elt Ideal)).result _ (Proc.devRef .tc main_v2) = _
      rw [StableHlo.unary_result, StableHlo.unary_result_ne (h := by decide), StableHlo.unary_result_ne (h := by decide)]

/-! ## One row of the scratch -/

/-- A block read at a rectangle of unit stride: the block at the shifted place. -/
theorem rd_at {F : FTy → Type} {s : Shape} {e : EltTy} (x : Vec F s e) (off size : Fin s.rank → Nat) (h : ∀ a, off a + size a ≤ s.size a)
    (y : (Rect.unit (s := s) off size h).shape.Idx) (j : s.Idx) (hj : ∀ a, (j a).val = off a + (y a).val) :
    rd x (Rect.unit (s := s) off size h) y = x j :=
  congrArg x (funext fun a => Fin.ext (by show off a + 1 * (y a).val = _; rw [hj a, Nat.one_mul]))

theorem act_eq (c : Dev nD) (t : Fin cfg0.N) (x : Fin 4096) (n : Fin 512) (n' : Fin 8192) (hn : n'.val = 512 * (t.val % 16) + n.val) :
    iblk m c 1 t (ix2 x n) = m ((c : Thread nD τ).loc main_arg0) (ix2 x n') := by
  blk_simp [iblk]
  simp only [V_main_arg0]
  blk_point [idx t]

theorem goG_eq (c : Dev nD) (t : Fin cfg0.N) (x : Fin 4096) (l : Fin 512) (r : Fin 3584) (hr : r.val = 512 * (t.val / 16) + l.val) :
    iblk m c 2 t (ix2 x l) = m ((c : Thread nD τ).loc main_arg1) (ix2 x r) := by
  blk_simp [iblk]
  simp only [V_main_arg1]
  blk_point [idx t]

theorem qG_eq (c : Dev nD) (t : Fin cfg0.N) (j : Fin 32) (l : Fin 512) (n : Fin 512) (r : Fin 3584)
    (hn : n.val = 32 * (t.val % 16) + j.val) (hr : r.val = 512 * (t.val / 16) + l.val) :
    iblk m c 3 t (ix2 j l) = m ((c : Thread nD τ).loc main_arg3) (ix2 r n) := by
  refine Eq.trans ?_ (V_main_v8 m c n r)
  blk_simp [iblk]
  blk_point [idx t]

theorem zG_eq (c : Dev nD) (t : Fin cfg0.N) (n : Fin 32) (l : Fin 512) (r : Fin 3584) (hr : r.val = 512 * (t.val / 16) + l.val) :
    iblk m c 4 t (ix2 n l) = (m ((c : Thread nD τ).loc main_arg4) (ix2 r n) : BitVec 8).setWidth 32 := by
  refine Eq.trans ?_ (V_main_v10 m c n r)
  blk_simp [iblk]
  blk_point [idx t]

/-- What a point stores for group `k` of the gate matrix is the reference's gradient at the point's columns and group. -/
theorem rowG_eq (c : Dev nD) (t : Fin cfg0.N) (k : Fin 8) (l : Fin 512) (r : Fin 3584) (g : Fin 128)
    (hr : r.val = 512 * (t.val / 16) + l.val) (hg : g.val = 8 * (t.val % 16) + k.val) :
    rowG m c t k (ix2 0 l) = val_main_v36 (F := Ideal) (m ((c : Thread nD τ).loc main_arg0)) (m ((c : Thread nD τ).loc main_arg1)) (m ((c : Thread nD τ).loc main_arg3)) (m ((c : Thread nD τ).loc main_arg4)) (ix2 r g) := by
  unfold rowG wrow
  have h1 := coord1 t
  have hk := k.isLt
  have hg128 := g.isLt
  have hq : ∀ (w : ℕ) (hw : w < 4) (hb : _) (n : Fin 512), n.val = g.val * 4 + w →
      rd (iblk m c 3 t) (Rect.unit (s := S32x512) ![4 * k.val + w, 0] S1x512.size hb) (ix2 0 l)
        = m ((c : Thread nD τ).loc main_arg3) (ix2 r n) := fun w hw hb n hn =>
    (rd_at _ _ _ _ _ (ix2 ⟨4 * k.val + w, by omega⟩ l) (fun a => match a with
      | ⟨0, _⟩ => (Nat.add_zero _).symm | ⟨1, _⟩ => (Nat.zero_add _).symm)).trans
      (qG_eq m c t _ l n r (by show n.val = 32 * (t.val % 16) + (4 * k.val + w); omega) hr)
  refine row_eq (grid0.coords t) k _ _ _ _ _ _ _ l (m ((c : Thread nD τ).loc main_arg0)) (m ((c : Thread nD τ).loc main_arg1)) (m ((c : Thread nD τ).loc main_arg3)) (m ((c : Thread nD τ).loc main_arg4)) r g (by omega) (by omega) ?_ ?_
    (hq 0 (by omega) _) (hq 1 (by omega) _) (hq 2 (by omega) _) (hq 3 (by omega) _) ?_
  · intro x n n' hn
    rw [h1] at hn
    exact (rd_at _ _ _ _ _ (ix2 x n) (fun a => match a with
      | ⟨0, _⟩ => (Nat.zero_add _).symm | ⟨1, _⟩ => (Nat.zero_add _).symm)).trans (act_eq m c t x n n' hn)
  · intro x
    exact (rd_at _ _ _ _ _ (ix2 x l) (fun a => match a with
      | ⟨0, _⟩ => (Nat.zero_add _).symm | ⟨1, _⟩ => (Nat.zero_add _).symm)).trans (goG_eq m c t x l r hr)
  · intro n hn
    refine (rd_at _ _ _ _ _ (ix2 n l) (fun a => ?_)).trans (zG_eq m c t n l r hr)
    refine Eq.trans ?_ (congrArg (· + _) (congrFun (offZ t k) a).symm)
    match a with
    | ⟨0, _⟩ => show n.val = (8 * (t.val % 16) + k.val) / 4 + 0; omega
    | ⟨1, _⟩ => exact (Nat.zero_add _).symm

theorem goU_eq (c : Dev nD) (t : Fin cfg0.N) (x : Fin 4096) (l : Fin 512) (r : Fin 3584) (hr : r.val = 512 * (t.val / 16) + l.val) :
    iblk m c 8 t (ix2 x l) = m ((c : Thread nD τ).loc main_arg2) (ix2 x r) := by
  blk_simp [iblk]
  simp only [V_main_arg2]
  blk_point [idx t]

theorem qU_eq (c : Dev nD) (t : Fin cfg0.N) (j : Fin 32) (l : Fin 512) (n : Fin 512) (r : Fin 3584)
    (hn : n.val = 32 * (t.val % 16) + j.val) (hr : r.val = 512 * (t.val / 16) + l.val) :
    iblk m c 9 t (ix2 j l) = m ((c : Thread nD τ).loc main_arg8) (ix2 r n) := by
  refine Eq.trans ?_ (V_main_v11 m c n r)
  blk_simp [iblk]
  blk_point [idx t]

theorem zU_eq (c : Dev nD) (t : Fin cfg0.N) (n : Fin 32) (l : Fin 512) (r : Fin 3584) (hr : r.val = 512 * (t.val / 16) + l.val) :
    iblk m c 10 t (ix2 n l) = (m ((c : Thread nD τ).loc main_arg9) (ix2 r n) : BitVec 8).setWidth 32 := by
  refine Eq.trans ?_ (V_main_v13 m c n r)
  blk_simp [iblk]
  blk_point [idx t]

/-- What a point stores for group `k` of the up matrix is the reference's gradient at the point's columns and group. -/
theorem rowU_eq (c : Dev nD) (t : Fin cfg0.N) (k : Fin 8) (l : Fin 512) (r : Fin 3584) (g : Fin 128)
    (hr : r.val = 512 * (t.val / 16) + l.val) (hg : g.val = 8 * (t.val % 16) + k.val) :
    rowU m c t k (ix2 0 l) = val_main_v95 (F := Ideal) (m ((c : Thread nD τ).loc main_arg0)) (m ((c : Thread nD τ).loc main_arg2)) (m ((c : Thread nD τ).loc main_arg8)) (m ((c : Thread nD τ).loc main_arg9)) (ix2 r g) := by
  unfold rowU wrow
  have h1 := coord1 t
  have hk := k.isLt
  have hg128 := g.isLt
  have hq : ∀ (w : ℕ) (hw : w < 4) (hb : _) (n : Fin 512), n.val = g.val * 4 + w →
      rd (iblk m c 9 t) (Rect.unit (s := S32x512) ![4 * k.val + w, 0] S1x512.size hb) (ix2 0 l)
        = m ((c : Thread nD τ).loc main_arg8) (ix2 r n) := fun w hw hb n hn =>
    (rd_at _ _ _ _ _ (ix2 ⟨4 * k.val + w, by omega⟩ l) (fun a => match a with
      | ⟨0, _⟩ => (Nat.add_zero _).symm | ⟨1, _⟩ => (Nat.zero_add _).symm)).trans
      (qU_eq m c t _ l n r (by show n.val = 32 * (t.val % 16) + (4 * k.val + w); omega) hr)
  refine row_eq (grid0.coords t) k _ _ _ _ _ _ _ l (m ((c : Thread nD τ).loc main_arg0)) (m ((c : Thread nD τ).loc main_arg2)) (m ((c : Thread nD τ).loc main_arg8)) (m ((c : Thread nD τ).loc main_arg9)) r g (by omega) (by omega) ?_ ?_
    (hq 0 (by omega) _) (hq 1 (by omega) _) (hq 2 (by omega) _) (hq 3 (by omega) _) ?_
  · intro x n n' hn
    rw [h1] at hn
    exact (rd_at _ _ _ _ _ (ix2 x n) (fun a => match a with
      | ⟨0, _⟩ => (Nat.zero_add _).symm | ⟨1, _⟩ => (Nat.zero_add _).symm)).trans (act_eq m c t x n n' hn)
  · intro x
    exact (rd_at _ _ _ _ _ (ix2 x l) (fun a => match a with
      | ⟨0, _⟩ => (Nat.zero_add _).symm | ⟨1, _⟩ => (Nat.zero_add _).symm)).trans (goU_eq m c t x l r hr)
  · intro n hn
    refine (rd_at _ _ _ _ _ (ix2 n l) (fun a => ?_)).trans (zU_eq m c t n l r hr)
    refine Eq.trans ?_ (congrArg (· + _) (congrFun (offZ t k) a).symm)
    match a with
    | ⟨0, _⟩ => show n.val = (8 * (t.val % 16) + k.val) / 4 + 0; omega
    | ⟨1, _⟩ => exact (Nat.zero_add _).symm

/-! ## The ten results -/

theorem ds_at (X : Vec Ideal S128x512 .f32) (p : Fin 512) (g : Fin 128) : k0_pay4 X (ix2 p g) = X (ix2 g p) := by
  pointwise [k0_pay4]

/-- A whole block loaded is the block. -/
theorem rd_opt (x : Vec Ideal S512x128 .f32) (h : ∀ a, (![0, 0] : Fin 2 → Nat) a + S512x128.size a ≤ S512x128.size a) :
    (rd x (Rect.unit (s := S512x128) ![0, 0] S512x128.size h) : Vec Ideal S512x128 .f32) = x :=
  funext fun y => rd_at _ _ _ _ _ y (fun a => match a with | ⟨0, _⟩ => (Nat.zero_add _).symm | ⟨1, _⟩ => (Nat.zero_add _).symm)

theorem lrG_eq (c : Dev nD) (t : Fin cfg0.N) : lrG (iblk m c 0 t) = m ((c : Thread nD τ).loc main_arg13) (ix1 0) := by
  refine Eq.trans (b := iblk m c 0 t (ix2 0 0)) (rd_at _ _ _ _ _ (ix2 0 0) (fun a => match a with | ⟨0, _⟩ => rfl | ⟨1, _⟩ => rfl)) ?_
  refine Eq.trans ?_ ((congrFun (V_main_v7 m c) (ix2 0 0)).trans (numbers_lrG _ _ _ _))
  blk_simp [iblk]
  blk_point [idx t]
theorem lrU_eq (c : Dev nD) (t : Fin cfg0.N) : lrU (iblk m c 0 t) = m ((c : Thread nD τ).loc main_arg13) (ix1 1) := by
  refine Eq.trans (b := iblk m c 0 t (ix2 0 1)) (rd_at _ _ _ _ _ (ix2 0 1) (fun a => match a with | ⟨0, _⟩ => rfl | ⟨1, _⟩ => rfl)) ?_
  refine Eq.trans ?_ ((congrFun (V_main_v7 m c) (ix2 0 1)).trans (numbers_lrU _ _ _ _))
  blk_simp [iblk]
  blk_point [idx t]
theorem epsG_eq (c : Dev nD) (t : Fin cfg0.N) : epsG (iblk m c 0 t) = m ((c : Thread nD τ).loc main_arg14) (ix1 0) := by
  refine Eq.trans (b := iblk m c 0 t (ix2 1 0)) (rd_at _ _ _ _ _ (ix2 1 0) (fun a => match a with | ⟨0, _⟩ => rfl | ⟨1, _⟩ => rfl)) ?_
  refine Eq.trans ?_ ((congrFun (V_main_v7 m c) (ix2 1 0)).trans (numbers_epsG _ _ _ _))
  blk_simp [iblk]
  blk_point [idx t]
theorem epsU_eq (c : Dev nD) (t : Fin cfg0.N) : epsU (iblk m c 0 t) = m ((c : Thread nD τ).loc main_arg14) (ix1 1) := by
  refine Eq.trans (b := iblk m c 0 t (ix2 1 1)) (rd_at _ _ _ _ _ (ix2 1 1) (fun a => match a with | ⟨0, _⟩ => rfl | ⟨1, _⟩ => rfl)) ?_
  refine Eq.trans ?_ ((congrFun (V_main_v7 m c) (ix2 1 1)).trans (numbers_epsU _ _ _ _))
  blk_simp [iblk]
  blk_point [idx t]
theorem bcA_eq (c : Dev nD) (t : Fin cfg0.N) : bcA (iblk m c 0 t) = m ((c : Thread nD τ).loc main_arg15) ix0 := by
  refine Eq.trans (b := iblk m c 0 t (ix2 2 0)) (rd_at _ _ _ _ _ (ix2 2 0) (fun a => match a with | ⟨0, _⟩ => rfl | ⟨1, _⟩ => rfl)) ?_
  refine Eq.trans ?_ ((congrFun (V_main_v7 m c) (ix2 2 0)).trans (numbers_bcA _ _ _ _))
  blk_simp [iblk]
  blk_point [idx t]
theorem bcB_eq (c : Dev nD) (t : Fin cfg0.N) : bcB (iblk m c 0 t) = m ((c : Thread nD τ).loc main_arg16) ix0 := by
  refine Eq.trans (b := iblk m c 0 t (ix2 2 1)) (rd_at _ _ _ _ _ (ix2 2 1) (fun a => match a with | ⟨0, _⟩ => rfl | ⟨1, _⟩ => rfl)) ?_
  refine Eq.trans ?_ ((congrFun (V_main_v7 m c) (ix2 2 1)).trans (numbers_bcB _ _ _ _))
  blk_simp [iblk]
  blk_point [idx t]

/-- The gate matrix's gradient block of a band, read at a column and a group. -/
theorem dsG_eq (c : Dev nD) (t : Fin cfg0.N) (p : Fin 512) (g : Fin 128) (r : Fin 3584) (hr : r.val = 512 * (t.val / 16) + p.val) :
    k0_pay4 (scOf (rowG m c) (t.val / 16)) (ix2 p g) = val_main_v36 (F := Ideal) (m ((c : Thread nD τ).loc main_arg0)) (m ((c : Thread nD τ).loc main_arg1)) (m ((c : Thread nD τ).loc main_arg3)) (m ((c : Thread nD τ).loc main_arg4)) (ix2 r g) := by
  have hN : t.val < 112 := lt_of_lt_of_eq t.isLt (show cfg0.N = 112 from N_0)
  have hg := g.isLt
  have hp := p.isLt
  rw [ds_at]
  refine rowG_eq m c (ptOf (t.val / 16) g.val) ⟨g.val % 8, Nat.mod_lt _ (by decide)⟩ p r g ?_ ?_
  · show r.val = 512 * (min (16 * (t.val / 16) + g.val / 8) 111 / 16) + p.val; omega
  · show g.val = 8 * (min (16 * (t.val / 16) + g.val / 8) 111 % 16) + g.val % 8; omega

theorem sG_eq (c : Dev nD) (t : Fin cfg0.N) (p : Fin 512) (g : Fin 128) (r : Fin 3584) (hr : r.val = 512 * (t.val / 16) + p.val) :
    iblk m c 5 t (ix2 p g) = m ((c : Thread nD τ).loc main_arg5) (ix2 r g) := by
  blk_simp [iblk]
  simp only [V_main_arg5]
  blk_point [idx t]
theorem mG_eq (c : Dev nD) (t : Fin cfg0.N) (p : Fin 512) (g : Fin 128) (r : Fin 3584) (hr : r.val = 512 * (t.val / 16) + p.val) :
    iblk m c 6 t (ix2 p g) = m ((c : Thread nD τ).loc main_arg6) (ix2 r g) := by
  blk_simp [iblk]
  simp only [V_main_arg6]
  blk_point [idx t]
theorem vG_eq (c : Dev nD) (t : Fin cfg0.N) (p : Fin 512) (g : Fin 128) (r : Fin 3584) (hr : r.val = 512 * (t.val / 16) + p.val) :
    iblk m c 7 t (ix2 p g) = m ((c : Thread nD τ).loc main_arg7) (ix2 r g) := by
  blk_simp [iblk]
  simp only [V_main_arg7]
  blk_point [idx t]

/-- Its new first moment. -/
theorem mnewG_eq (c : Dev nD) (t : Fin cfg0.N) (p : Fin 512) (g : Fin 128) (r : Fin 3584) (hr : r.val = 512 * (t.val / 16) + p.val) :
    k0_pay5 (scOf (rowG m c) (t.val / 16)) (iblk m c 6 t) (ix2 p g) = val_main_v41 (F := Ideal) (m ((c : Thread nD τ).loc main_arg0)) (m ((c : Thread nD τ).loc main_arg1)) (m ((c : Thread nD τ).loc main_arg3)) (m ((c : Thread nD τ).loc main_arg4)) (m ((c : Thread nD τ).loc main_arg6)) (ix2 r g) := by
  have hd := dsG_eq m c t p g r hr
  have hv := mG_eq m c t p g r hr
  pointwise [k0_pay5, val_main_v41, val_main_v40, val_main_v39, val_main_v38, val_main_v37, val_main_cst_3, val_main_cst_4]
  rw [hd, hv]

/-- Its new second moment. -/
theorem vnewG_eq (c : Dev nD) (t : Fin cfg0.N) (p : Fin 512) (g : Fin 128) (r : Fin 3584) (hr : r.val = 512 * (t.val / 16) + p.val) :
    k0_pay6 (scOf (rowG m c) (t.val / 16)) (iblk m c 7 t) (ix2 p g) = val_main_v47 (F := Ideal) (m ((c : Thread nD τ).loc main_arg0)) (m ((c : Thread nD τ).loc main_arg1)) (m ((c : Thread nD τ).loc main_arg3)) (m ((c : Thread nD τ).loc main_arg4)) (m ((c : Thread nD τ).loc main_arg7)) (ix2 r g) := by
  have hd := dsG_eq m c t p g r hr
  have hv := vG_eq m c t p g r hr
  pointwise [k0_pay6, val_main_v47, val_main_v46, val_main_v45, val_main_v44, val_main_v43, val_main_v42, val_main_cst_5, val_main_cst_6]
  rw [hd, hv]

/-- Its step. -/
theorem stepG_eq (c : Dev nD) (t : Fin cfg0.N) (p : Fin 512) (g : Fin 128) (r : Fin 3584) (hr : r.val = 512 * (t.val / 16) + p.val) :
    oStep (scOf (rowG m c) (t.val / 16)) (lrG (iblk m c 0 t)) (epsG (iblk m c 0 t)) (bcA (iblk m c 0 t)) (bcB (iblk m c 0 t)) (iblk m c 6 t) (iblk m c 7 t) (ix2 p g)
    = val_main_v57 (F := Ideal) (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)) (m ((c : Thread nD τ).loc main_arg13)) (m ((c : Thread nD τ).loc main_arg14)) (m ((c : Thread nD τ).loc main_arg15)) (m ((c : Thread nD τ).loc main_arg16)) (ix2 r g) := by
  have h3 := mnewG_eq m c t p g r hr
  have h4 := vnewG_eq m c t p g r hr
  unfold oStep
  rw [lrG_eq, epsG_eq, bcA_eq, bcB_eq, rd_opt, rd_opt]
  pointwise [k0_pay7, val_main_v57, val_main_v56, val_main_v55, val_main_v54, val_main_v53, val_main_v52, val_main_v51, val_main_v50, val_main_v49, val_main_v48, val_main_v3, val_main_v2, val_main_v1, val_main_v0]
  rw [h3, h4]

/-- Its stepped scales. -/
theorem snewG_eq (c : Dev nD) (t : Fin cfg0.N) (p : Fin 512) (g : Fin 128) (r : Fin 3584) (hr : r.val = 512 * (t.val / 16) + p.val) :
    oS (scOf (rowG m c) (t.val / 16)) (lrG (iblk m c 0 t)) (epsG (iblk m c 0 t)) (bcA (iblk m c 0 t)) (bcB (iblk m c 0 t)) (iblk m c 5 t) (iblk m c 6 t) (iblk m c 7 t) (ix2 p g)
    = val_main_v58 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg13)) (m ((c : Thread nD τ).loc main_arg14)) (m ((c : Thread nD τ).loc main_arg15)) (m ((c : Thread nD τ).loc main_arg16)) (ix2 r g) := by
  have h5 := stepG_eq m c t p g r hr
  have hs := sG_eq m c t p g r hr
  unfold oS
  unfold oStep at h5
  rw [rd_opt] at h5 ⊢
  rw [rd_opt] at h5 ⊢
  rw [rd_opt]
  pointwise [k0_pay8, val_main_v58]
  rw [h5, hs]

theorem emb14 (t : Fin cfg0.N) (y : S512x128.Idx) (r : Fin 3584) (hr : r.val = 512 * (t.val / 16) + (y 0).val) :
    ((cfg0.win 14).blk t).view.emb y = ix2 r (y 1) := by blk_ext [idx t]

theorem final14 (c : Dev nD) : (dats m 0 c).arrAt 14 (cfgs 0).N = val_main_v36 (F := Ideal) (m ((c : Thread nD τ).loc main_arg0)) (m ((c : Thread nD τ).loc main_arg1)) (m ((c : Thread nD τ).loc main_arg3)) (m ((c : Thread nD τ).loc main_arg4)) := by
  refine (dats m 0 c).arrAt_eq_of_covers 14 _ (by decide +kernel) fun t _ y => ?_
  have hN : t.val < 112 := lt_of_lt_of_eq t.isLt (show cfg0.N = 112 from N_0)
  have h0 : (y 0).val < 512 := (y 0).isLt
  let r : Fin 3584 := ⟨512 * (t.val / 16) + (y 0).val, by omega⟩
  blk_simp
  rw [after14]
  refine Eq.trans ?_ (congrArg (val_main_v36 (F := Ideal) (m ((c : Thread nD τ).loc main_arg0)) (m ((c : Thread nD τ).loc main_arg1)) (m ((c : Thread nD τ).loc main_arg3)) (m ((c : Thread nD τ).loc main_arg4))) (emb14 t y r rfl)).symm
  refine (congrArg _ (eq_ix2 y)).trans ?_
  exact dsG_eq m c t (y 0) (y 1) r rfl

theorem emb15 (t : Fin cfg0.N) (y : S512x128.Idx) (r : Fin 3584) (hr : r.val = 512 * (t.val / 16) + (y 0).val) :
    ((cfg0.win 15).blk t).view.emb y = ix2 r (y 1) := by blk_ext [idx t]

theorem final15 (c : Dev nD) : (dats m 0 c).arrAt 15 (cfgs 0).N = val_main_v57 (F := Ideal) (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)) (m ((c : Thread nD τ).loc main_arg13)) (m ((c : Thread nD τ).loc main_arg14)) (m ((c : Thread nD τ).loc main_arg15)) (m ((c : Thread nD τ).loc main_arg16)) := by
  refine (dats m 0 c).arrAt_eq_of_covers 15 _ (by decide +kernel) fun t _ y => ?_
  have hN : t.val < 112 := lt_of_lt_of_eq t.isLt (show cfg0.N = 112 from N_0)
  have h0 : (y 0).val < 512 := (y 0).isLt
  let r : Fin 3584 := ⟨512 * (t.val / 16) + (y 0).val, by omega⟩
  blk_simp
  rw [after15]
  refine Eq.trans ?_ (congrArg (val_main_v57 (F := Ideal) (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)) (m ((c : Thread nD τ).loc main_arg13)) (m ((c : Thread nD τ).loc main_arg14)) (m ((c : Thread nD τ).loc main_arg15)) (m ((c : Thread nD τ).loc main_arg16))) (emb15 t y r rfl)).symm
  refine (congrArg _ (eq_ix2 y)).trans ?_
  exact stepG_eq m c t (y 0) (y 1) r rfl

theorem emb16 (t : Fin cfg0.N) (y : S512x128.Idx) (r : Fin 3584) (hr : r.val = 512 * (t.val / 16) + (y 0).val) :
    ((cfg0.win 16).blk t).view.emb y = ix2 r (y 1) := by blk_ext [idx t]

theorem final16 (c : Dev nD) : (dats m 0 c).arrAt 16 (cfgs 0).N = val_main_v58 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg13)) (m ((c : Thread nD τ).loc main_arg14)) (m ((c : Thread nD τ).loc main_arg15)) (m ((c : Thread nD τ).loc main_arg16)) := by
  refine (dats m 0 c).arrAt_eq_of_covers 16 _ (by decide +kernel) fun t _ y => ?_
  have hN : t.val < 112 := lt_of_lt_of_eq t.isLt (show cfg0.N = 112 from N_0)
  have h0 : (y 0).val < 512 := (y 0).isLt
  let r : Fin 3584 := ⟨512 * (t.val / 16) + (y 0).val, by omega⟩
  blk_simp
  rw [after16]
  refine Eq.trans ?_ (congrArg (val_main_v58 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg13)) (m ((c : Thread nD τ).loc main_arg14)) (m ((c : Thread nD τ).loc main_arg15)) (m ((c : Thread nD τ).loc main_arg16))) (emb16 t y r rfl)).symm
  refine (congrArg _ (eq_ix2 y)).trans ?_
  exact snewG_eq m c t (y 0) (y 1) r rfl

theorem emb17 (t : Fin cfg0.N) (y : S512x128.Idx) (r : Fin 3584) (hr : r.val = 512 * (t.val / 16) + (y 0).val) :
    ((cfg0.win 17).blk t).view.emb y = ix2 r (y 1) := by blk_ext [idx t]

theorem final17 (c : Dev nD) : (dats m 0 c).arrAt 17 (cfgs 0).N = val_main_v41 (F := Ideal) (m ((c : Thread nD τ).loc main_arg0)) (m ((c : Thread nD τ).loc main_arg1)) (m ((c : Thread nD τ).loc main_arg3)) (m ((c : Thread nD τ).loc main_arg4)) (m ((c : Thread nD τ).loc main_arg6)) := by
  refine (dats m 0 c).arrAt_eq_of_covers 17 _ (by decide +kernel) fun t _ y => ?_
  have hN : t.val < 112 := lt_of_lt_of_eq t.isLt (show cfg0.N = 112 from N_0)
  have h0 : (y 0).val < 512 := (y 0).isLt
  let r : Fin 3584 := ⟨512 * (t.val / 16) + (y 0).val, by omega⟩
  blk_simp
  rw [after17]
  refine Eq.trans ?_ (congrArg (val_main_v41 (F := Ideal) (m ((c : Thread nD τ).loc main_arg0)) (m ((c : Thread nD τ).loc main_arg1)) (m ((c : Thread nD τ).loc main_arg3)) (m ((c : Thread nD τ).loc main_arg4)) (m ((c : Thread nD τ).loc main_arg6))) (emb17 t y r rfl)).symm
  refine (congrArg _ (eq_ix2 y)).trans ?_
  unfold oM
  rw [rd_opt]
  exact mnewG_eq m c t (y 0) (y 1) r rfl

theorem emb18 (t : Fin cfg0.N) (y : S512x128.Idx) (r : Fin 3584) (hr : r.val = 512 * (t.val / 16) + (y 0).val) :
    ((cfg0.win 18).blk t).view.emb y = ix2 r (y 1) := by blk_ext [idx t]

theorem final18 (c : Dev nD) : (dats m 0 c).arrAt 18 (cfgs 0).N = val_main_v47 (F := Ideal) (m ((c : Thread nD τ).loc main_arg0)) (m ((c : Thread nD τ).loc main_arg1)) (m ((c : Thread nD τ).loc main_arg3)) (m ((c : Thread nD τ).loc main_arg4)) (m ((c : Thread nD τ).loc main_arg7)) := by
  refine (dats m 0 c).arrAt_eq_of_covers 18 _ (by decide +kernel) fun t _ y => ?_
  have hN : t.val < 112 := lt_of_lt_of_eq t.isLt (show cfg0.N = 112 from N_0)
  have h0 : (y 0).val < 512 := (y 0).isLt
  let r : Fin 3584 := ⟨512 * (t.val / 16) + (y 0).val, by omega⟩
  blk_simp
  rw [after18]
  refine Eq.trans ?_ (congrArg (val_main_v47 (F := Ideal) (m ((c : Thread nD τ).loc main_arg0)) (m ((c : Thread nD τ).loc main_arg1)) (m ((c : Thread nD τ).loc main_arg3)) (m ((c : Thread nD τ).loc main_arg4)) (m ((c : Thread nD τ).loc main_arg7))) (emb18 t y r rfl)).symm
  refine (congrArg _ (eq_ix2 y)).trans ?_
  unfold oV
  rw [rd_opt]
  exact vnewG_eq m c t (y 0) (y 1) r rfl

/-- The up matrix's gradient block of a band, read at a column and a group. -/
theorem dsU_eq (c : Dev nD) (t : Fin cfg0.N) (p : Fin 512) (g : Fin 128) (r : Fin 3584) (hr : r.val = 512 * (t.val / 16) + p.val) :
    k0_pay4 (scOf (rowU m c) (t.val / 16)) (ix2 p g) = val_main_v95 (F := Ideal) (m ((c : Thread nD τ).loc main_arg0)) (m ((c : Thread nD τ).loc main_arg2)) (m ((c : Thread nD τ).loc main_arg8)) (m ((c : Thread nD τ).loc main_arg9)) (ix2 r g) := by
  have hN : t.val < 112 := lt_of_lt_of_eq t.isLt (show cfg0.N = 112 from N_0)
  have hg := g.isLt
  have hp := p.isLt
  rw [ds_at]
  refine rowU_eq m c (ptOf (t.val / 16) g.val) ⟨g.val % 8, Nat.mod_lt _ (by decide)⟩ p r g ?_ ?_
  · show r.val = 512 * (min (16 * (t.val / 16) + g.val / 8) 111 / 16) + p.val; omega
  · show g.val = 8 * (min (16 * (t.val / 16) + g.val / 8) 111 % 16) + g.val % 8; omega

theorem sU_eq (c : Dev nD) (t : Fin cfg0.N) (p : Fin 512) (g : Fin 128) (r : Fin 3584) (hr : r.val = 512 * (t.val / 16) + p.val) :
    iblk m c 11 t (ix2 p g) = m ((c : Thread nD τ).loc main_arg10) (ix2 r g) := by
  blk_simp [iblk]
  simp only [V_main_arg10]
  blk_point [idx t]
theorem mU_eq (c : Dev nD) (t : Fin cfg0.N) (p : Fin 512) (g : Fin 128) (r : Fin 3584) (hr : r.val = 512 * (t.val / 16) + p.val) :
    iblk m c 12 t (ix2 p g) = m ((c : Thread nD τ).loc main_arg11) (ix2 r g) := by
  blk_simp [iblk]
  simp only [V_main_arg11]
  blk_point [idx t]
theorem vU_eq (c : Dev nD) (t : Fin cfg0.N) (p : Fin 512) (g : Fin 128) (r : Fin 3584) (hr : r.val = 512 * (t.val / 16) + p.val) :
    iblk m c 13 t (ix2 p g) = m ((c : Thread nD τ).loc main_arg12) (ix2 r g) := by
  blk_simp [iblk]
  simp only [V_main_arg12]
  blk_point [idx t]

/-- Its new first moment. -/
theorem mnewU_eq (c : Dev nD) (t : Fin cfg0.N) (p : Fin 512) (g : Fin 128) (r : Fin 3584) (hr : r.val = 512 * (t.val / 16) + p.val) :
    k0_pay5 (scOf (rowU m c) (t.val / 16)) (iblk m c 12 t) (ix2 p g) = val_main_v100 (F := Ideal) (m ((c : Thread nD τ).loc main_arg0)) (m ((c : Thread nD τ).loc main_arg2)) (m ((c : Thread nD τ).loc main_arg8)) (m ((c : Thread nD τ).loc main_arg9)) (m ((c : Thread nD τ).loc main_arg11)) (ix2 r g) := by
  have hd := dsU_eq m c t p g r hr
  have hv := mU_eq m c t p g r hr
  pointwise [k0_pay5, val_main_v100, val_main_v99, val_main_v98, val_main_v97, val_main_v96, val_main_cst_12, val_main_cst_13]
  rw [hd, hv]

/-- Its new second moment. -/
theorem vnewU_eq (c : Dev nD) (t : Fin cfg0.N) (p : Fin 512) (g : Fin 128) (r : Fin 3584) (hr : r.val = 512 * (t.val / 16) + p.val) :
    k0_pay6 (scOf (rowU m c) (t.val / 16)) (iblk m c 13 t) (ix2 p g) = val_main_v106 (F := Ideal) (m ((c : Thread nD τ).loc main_arg0)) (m ((c : Thread nD τ).loc main_arg2)) (m ((c : Thread nD τ).loc main_arg8)) (m ((c : Thread nD τ).loc main_arg9)) (m ((c : Thread nD τ).loc main_arg12)) (ix2 r g) := by
  have hd := dsU_eq m c t p g r hr
  have hv := vU_eq m c t p g r hr
  pointwise [k0_pay6, val_main_v106, val_main_v105, val_main_v104, val_main_v103, val_main_v102, val_main_v101, val_main_cst_14, val_main_cst_15]
  rw [hd, hv]

/-- Its step. -/
theorem stepU_eq (c : Dev nD) (t : Fin cfg0.N) (p : Fin 512) (g : Fin 128) (r : Fin 3584) (hr : r.val = 512 * (t.val / 16) + p.val) :
    oStep (scOf (rowU m c) (t.val / 16)) (lrU (iblk m c 0 t)) (epsU (iblk m c 0 t)) (bcA (iblk m c 0 t)) (bcB (iblk m c 0 t)) (iblk m c 12 t) (iblk m c 13 t) (ix2 p g)
    = val_main_v116 (F := Ideal) (m ((c : Thread nD τ).loc main_arg0)) (m ((c : Thread nD τ).loc main_arg2)) (m ((c : Thread nD τ).loc main_arg8)) (m ((c : Thread nD τ).loc main_arg9)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (ix2 r g) := by
  have h3 := mnewU_eq m c t p g r hr
  have h4 := vnewU_eq m c t p g r hr
  unfold oStep
  rw [lrU_eq, epsU_eq, bcA_eq, bcB_eq, rd_opt, rd_opt]
  pointwise [k0_pay7, val_main_v116, val_main_v115, val_main_v114, val_main_v113, val_main_v112, val_main_v111, val_main_v110, val_main_v109, val_main_v108, val_main_v107, val_main_v62, val_main_v61, val_main_v60, val_main_v59]
  rw [h3, h4]

/-- Its stepped scales. -/
theorem snewU_eq (c : Dev nD) (t : Fin cfg0.N) (p : Fin 512) (g : Fin 128) (r : Fin 3584) (hr : r.val = 512 * (t.val / 16) + p.val) :
    oS (scOf (rowU m c) (t.val / 16)) (lrU (iblk m c 0 t)) (epsU (iblk m c 0 t)) (bcA (iblk m c 0 t)) (bcB (iblk m c 0 t)) (iblk m c 11 t) (iblk m c 12 t) (iblk m c 13 t) (ix2 p g)
    = val_main_v117 (F := Ideal) (m ((c : Thread nD τ).loc main_arg0)) (m ((c : Thread nD τ).loc main_arg2)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (ix2 r g) := by
  have h5 := stepU_eq m c t p g r hr
  have hs := sU_eq m c t p g r hr
  unfold oS
  unfold oStep at h5
  rw [rd_opt] at h5 ⊢
  rw [rd_opt] at h5 ⊢
  rw [rd_opt]
  pointwise [k0_pay8, val_main_v117]
  rw [h5, hs]

theorem emb19 (t : Fin cfg0.N) (y : S512x128.Idx) (r : Fin 3584) (hr : r.val = 512 * (t.val / 16) + (y 0).val) :
    ((cfg0.win 19).blk t).view.emb y = ix2 r (y 1) := by blk_ext [idx t]

theorem final19 (c : Dev nD) : (dats m 0 c).arrAt 19 (cfgs 0).N = val_main_v95 (F := Ideal) (m ((c : Thread nD τ).loc main_arg0)) (m ((c : Thread nD τ).loc main_arg2)) (m ((c : Thread nD τ).loc main_arg8)) (m ((c : Thread nD τ).loc main_arg9)) := by
  refine (dats m 0 c).arrAt_eq_of_covers 19 _ (by decide +kernel) fun t _ y => ?_
  have hN : t.val < 112 := lt_of_lt_of_eq t.isLt (show cfg0.N = 112 from N_0)
  have h0 : (y 0).val < 512 := (y 0).isLt
  let r : Fin 3584 := ⟨512 * (t.val / 16) + (y 0).val, by omega⟩
  blk_simp
  rw [after19]
  refine Eq.trans ?_ (congrArg (val_main_v95 (F := Ideal) (m ((c : Thread nD τ).loc main_arg0)) (m ((c : Thread nD τ).loc main_arg2)) (m ((c : Thread nD τ).loc main_arg8)) (m ((c : Thread nD τ).loc main_arg9))) (emb19 t y r rfl)).symm
  refine (congrArg _ (eq_ix2 y)).trans ?_
  exact dsU_eq m c t (y 0) (y 1) r rfl

theorem emb20 (t : Fin cfg0.N) (y : S512x128.Idx) (r : Fin 3584) (hr : r.val = 512 * (t.val / 16) + (y 0).val) :
    ((cfg0.win 20).blk t).view.emb y = ix2 r (y 1) := by blk_ext [idx t]

theorem final20 (c : Dev nD) : (dats m 0 c).arrAt 20 (cfgs 0).N = val_main_v116 (F := Ideal) (m ((c : Thread nD τ).loc main_arg0)) (m ((c : Thread nD τ).loc main_arg2)) (m ((c : Thread nD τ).loc main_arg8)) (m ((c : Thread nD τ).loc main_arg9)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (dats m 0 c).arrAt_eq_of_covers 20 _ (by decide +kernel) fun t _ y => ?_
  have hN : t.val < 112 := lt_of_lt_of_eq t.isLt (show cfg0.N = 112 from N_0)
  have h0 : (y 0).val < 512 := (y 0).isLt
  let r : Fin 3584 := ⟨512 * (t.val / 16) + (y 0).val, by omega⟩
  blk_simp
  rw [after20]
  refine Eq.trans ?_ (congrArg (val_main_v116 (F := Ideal) (m ((c : Thread nD τ).loc main_arg0)) (m ((c : Thread nD τ).loc main_arg2)) (m ((c : Thread nD τ).loc main_arg8)) (m ((c : Thread nD τ).loc main_arg9)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (emb20 t y r rfl)).symm
  refine (congrArg _ (eq_ix2 y)).trans ?_
  exact stepU_eq m c t (y 0) (y 1) r rfl

theorem emb21 (t : Fin cfg0.N) (y : S512x128.Idx) (r : Fin 3584) (hr : r.val = 512 * (t.val / 16) + (y 0).val) :
    ((cfg0.win 21).blk t).view.emb y = ix2 r (y 1) := by blk_ext [idx t]

theorem final21 (c : Dev nD) : (dats m 0 c).arrAt 21 (cfgs 0).N = val_main_v117 (F := Ideal) (m ((c : Thread nD τ).loc main_arg0)) (m ((c : Thread nD τ).loc main_arg2)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (dats m 0 c).arrAt_eq_of_covers 21 _ (by decide +kernel) fun t _ y => ?_
  have hN : t.val < 112 := lt_of_lt_of_eq t.isLt (show cfg0.N = 112 from N_0)
  have h0 : (y 0).val < 512 := (y 0).isLt
  let r : Fin 3584 := ⟨512 * (t.val / 16) + (y 0).val, by omega⟩
  blk_simp
  rw [after21]
  refine Eq.trans ?_ (congrArg (val_main_v117 (F := Ideal) (m ((c : Thread nD τ).loc main_arg0)) (m ((c : Thread nD τ).loc main_arg2)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (emb21 t y r rfl)).symm
  refine (congrArg _ (eq_ix2 y)).trans ?_
  exact snewU_eq m c t (y 0) (y 1) r rfl

theorem emb22 (t : Fin cfg0.N) (y : S512x128.Idx) (r : Fin 3584) (hr : r.val = 512 * (t.val / 16) + (y 0).val) :
    ((cfg0.win 22).blk t).view.emb y = ix2 r (y 1) := by blk_ext [idx t]

theorem final22 (c : Dev nD) : (dats m 0 c).arrAt 22 (cfgs 0).N = val_main_v100 (F := Ideal) (m ((c : Thread nD τ).loc main_arg0)) (m ((c : Thread nD τ).loc main_arg2)) (m ((c : Thread nD τ).loc main_arg8)) (m ((c : Thread nD τ).loc main_arg9)) (m ((c : Thread nD τ).loc main_arg11)) := by
  refine (dats m 0 c).arrAt_eq_of_covers 22 _ (by decide +kernel) fun t _ y => ?_
  have hN : t.val < 112 := lt_of_lt_of_eq t.isLt (show cfg0.N = 112 from N_0)
  have h0 : (y 0).val < 512 := (y 0).isLt
  let r : Fin 3584 := ⟨512 * (t.val / 16) + (y 0).val, by omega⟩
  blk_simp
  rw [after22]
  refine Eq.trans ?_ (congrArg (val_main_v100 (F := Ideal) (m ((c : Thread nD τ).loc main_arg0)) (m ((c : Thread nD τ).loc main_arg2)) (m ((c : Thread nD τ).loc main_arg8)) (m ((c : Thread nD τ).loc main_arg9)) (m ((c : Thread nD τ).loc main_arg11))) (emb22 t y r rfl)).symm
  refine (congrArg _ (eq_ix2 y)).trans ?_
  unfold oM
  rw [rd_opt]
  exact mnewU_eq m c t (y 0) (y 1) r rfl

theorem emb23 (t : Fin cfg0.N) (y : S512x128.Idx) (r : Fin 3584) (hr : r.val = 512 * (t.val / 16) + (y 0).val) :
    ((cfg0.win 23).blk t).view.emb y = ix2 r (y 1) := by blk_ext [idx t]

theorem final23 (c : Dev nD) : (dats m 0 c).arrAt 23 (cfgs 0).N = val_main_v106 (F := Ideal) (m ((c : Thread nD τ).loc main_arg0)) (m ((c : Thread nD τ).loc main_arg2)) (m ((c : Thread nD τ).loc main_arg8)) (m ((c : Thread nD τ).loc main_arg9)) (m ((c : Thread nD τ).loc main_arg12)) := by
  refine (dats m 0 c).arrAt_eq_of_covers 23 _ (by decide +kernel) fun t _ y => ?_
  have hN : t.val < 112 := lt_of_lt_of_eq t.isLt (show cfg0.N = 112 from N_0)
  have h0 : (y 0).val < 512 := (y 0).isLt
  let r : Fin 3584 := ⟨512 * (t.val / 16) + (y 0).val, by omega⟩
  blk_simp
  rw [after23]
  refine Eq.trans ?_ (congrArg (val_main_v106 (F := Ideal) (m ((c : Thread nD τ).loc main_arg0)) (m ((c : Thread nD τ).loc main_arg2)) (m ((c : Thread nD τ).loc main_arg8)) (m ((c : Thread nD τ).loc main_arg9)) (m ((c : Thread nD τ).loc main_arg12))) (emb23 t y r rfl)).symm
  refine (congrArg _ (eq_ix2 y)).trans ?_
  unfold oV
  rw [rd_opt]
  exact vnewU_eq m c t (y 0) (y 1) r rfl

/-- A run ends with the ten result arrays as the proof data says, the arguments unchanged. -/
theorem run_blocks (ρ : Dev nD → PrngReg) : θ_run defs (onTc (τ := τ) (main (F := Ideal))) ⟨m, fun _ => 0, ρ⟩ fun r => ∀ c : Dev nD,
      r.2.mem ((c : Thread nD τ).loc main_v14_0) = (dats m 0 c).arrAt 14 cfg0.N
      ∧ r.2.mem ((c : Thread nD τ).loc main_v14_1) = (dats m 0 c).arrAt 15 cfg0.N
      ∧ r.2.mem ((c : Thread nD τ).loc main_v14_2) = (dats m 0 c).arrAt 16 cfg0.N
      ∧ r.2.mem ((c : Thread nD τ).loc main_v14_3) = (dats m 0 c).arrAt 17 cfg0.N
      ∧ r.2.mem ((c : Thread nD τ).loc main_v14_4) = (dats m 0 c).arrAt 18 cfg0.N
      ∧ r.2.mem ((c : Thread nD τ).loc main_v14_5) = (dats m 0 c).arrAt 19 cfg0.N
      ∧ r.2.mem ((c : Thread nD τ).loc main_v14_6) = (dats m 0 c).arrAt 20 cfg0.N
      ∧ r.2.mem ((c : Thread nD τ).loc main_v14_7) = (dats m 0 c).arrAt 21 cfg0.N
      ∧ r.2.mem ((c : Thread nD τ).loc main_v14_8) = (dats m 0 c).arrAt 22 cfg0.N
      ∧ r.2.mem ((c : Thread nD τ).loc main_v14_9) = (dats m 0 c).arrAt 23 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨(h.1 c).1 14, (h.1 c).1 15, (h.1 c).1 16, (h.1 c).1 17, (h.1 c).1 18, (h.1 c).1 19, (h.1 c).1 20, (h.1 c).1 21, (h.1 c).1 22, (h.1 c).1 23, h.2 c⟩)
    (θ_run_and (run_main m ρ) (unchanged m ρ))

end Cert.WgradGateUpIdeal.Value

end
-- ==== Proof.WgradDownRunA.lean ====
/- The scale update's body run symbolically at a point that is not the last of its band. -/
module

public import proofs.«01_k».proof.Proof.Gen.WgradDown.Launch
public import proofs.«01_k».proof.Proof.Gen.WgradDown.Skeleton
public import proofs.«01_k».proof.Proof.Gen.WgradDown.Points
public import proofs.«01_k».proof.Proof.Gen.WgradDown.Frame

@[expose] public section

set_option maxRecDepth 16384

noncomputable section

namespace Cert.WgradDown.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at a point whose second coordinate is not the last: the output windows stay as they are and the scratch rows of the point are written. The pieces found are the witness. -/
noncomputable def kernelRun_A (c : Dev nD) (i : grid0.Coords) (arg2 : Memref sig .tc .smem S3x3 .f32) (harg2 : arg2.IsWhole) (arg3 : Memref sig .tc .vmem S4096x512 .bf16) (harg3 : arg3.IsWhole) (arg4 : Memref sig .tc .vmem S4096x1024 .bf16) (harg4 : arg4.IsWhole) (arg5 : Memref sig .tc .vmem S32x1024 .i32) (harg5 : arg5.IsWhole) (arg6 : Memref sig .tc .vmem S14x1024 .i32) (harg6 : arg6.IsWhole) (arg7 : Memref sig .tc .vmem S1024x56 .f32) (harg7 : arg7.IsWhole) (arg8 : Memref sig .tc .vmem S1024x56 .f32) (harg8 : arg8.IsWhole) (arg9 : Memref sig .tc .vmem S1024x56 .f32) (harg9 : arg9.IsWhole) (arg10 : Memref sig .tc .vmem S1024x56 .f32) (harg10 : arg10.IsWhole) (arg11 : Memref sig .tc .vmem S1024x56 .f32) (harg11 : arg11.IsWhole) (arg12 : Memref sig .tc .vmem S1024x56 .f32) (harg12 : arg12.IsWhole) (arg13 : Memref sig .tc .vmem S1024x56 .f32) (harg13 : arg13.IsWhole) (arg14 : Memref sig .tc .vmem S1024x56 .f32) (harg14 : arg14.IsWhole) (arg15 : Memref sig .tc .vmem S128x1024 .f32) (harg15 : arg15.IsWhole) (hc0 : ¬k0_cond1 i = 1#1)
    (x0 : Vec F S3x3 .f32) (x1 : Vec F S4096x512 .bf16) (x2 : Vec F S4096x1024 .bf16) (x3 : Vec F S32x1024 .i32) (x4 : Vec F S14x1024 .i32) (x5 : Vec F S1024x56 .f32) (x6 : Vec F S1024x56 .f32) (x7 : Vec F S1024x56 .f32) :
    { LS0 : List (View.Piece (Elt F) S128x1024 .f32) //
      ∀ (xi8 : Vec F S1024x56 .f32) (xi9 : Vec F S1024x56 .f32) (xi10 : Vec F S1024x56 .f32) (xi11 : Vec F S1024x56 .f32) (xi12 : Vec F S1024x56 .f32) (xs0 : Vec F S128x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ owns (c : Thread nD τ) arg13 fullShare xi11 ∗ owns (c : Thread nD τ) arg14 fullShare xi12 ∗ owns (c : Thread nD τ) arg15 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ owns (c : Thread nD τ) arg13 fullShare xi11 ∗ owns (c : Thread nD τ) arg14 fullShare xi12 ∗ (arg15.view.loc (c : Thread nD τ) ↦[arg15.view.set]{fullShare} arg15.view.writes (Elt F) (harg15.unread xs0) LS0)) -∗ K ⟨⟩))
          ⊢ wp frame (wpE (defs₀ (F := F)) Variants.none c none) E (cc0_wgrad i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun xi8 xi9 xi10 xi11 xi12 xs0 E K => ?run⟩
  case run =>
    simp only [cc0_wgrad_eq_skeleton]; unfold cc0_wgrad_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    iexact HS0

end Cert.WgradDown.Gen

end
-- ==== Proof.WgradDownRunB.lean ====
/- The scale update's body run symbolically at the last point of a band. -/
module

public import proofs.«01_k».proof.Proof.Gen.WgradDown.Launch
public import proofs.«01_k».proof.Proof.Gen.WgradDown.Skeleton
public import proofs.«01_k».proof.Proof.Gen.WgradDown.Points
public import proofs.«01_k».proof.Proof.Gen.WgradDown.Frame

@[expose] public section

set_option maxRecDepth 16384

noncomputable section

namespace Cert.WgradDown.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at a point whose second coordinate is the last: the scratch rows of the point are written and then every output window is stored whole. The pieces found are the witness. -/
noncomputable def kernelRun_B (c : Dev nD) (i : grid0.Coords) (arg2 : Memref sig .tc .smem S3x3 .f32) (harg2 : arg2.IsWhole) (arg3 : Memref sig .tc .vmem S4096x512 .bf16) (harg3 : arg3.IsWhole) (arg4 : Memref sig .tc .vmem S4096x1024 .bf16) (harg4 : arg4.IsWhole) (arg5 : Memref sig .tc .vmem S32x1024 .i32) (harg5 : arg5.IsWhole) (arg6 : Memref sig .tc .vmem S14x1024 .i32) (harg6 : arg6.IsWhole) (arg7 : Memref sig .tc .vmem S1024x56 .f32) (harg7 : arg7.IsWhole) (arg8 : Memref sig .tc .vmem S1024x56 .f32) (harg8 : arg8.IsWhole) (arg9 : Memref sig .tc .vmem S1024x56 .f32) (harg9 : arg9.IsWhole) (arg10 : Memref sig .tc .vmem S1024x56 .f32) (harg10 : arg10.IsWhole) (arg11 : Memref sig .tc .vmem S1024x56 .f32) (harg11 : arg11.IsWhole) (arg12 : Memref sig .tc .vmem S1024x56 .f32) (harg12 : arg12.IsWhole) (arg13 : Memref sig .tc .vmem S1024x56 .f32) (harg13 : arg13.IsWhole) (arg14 : Memref sig .tc .vmem S1024x56 .f32) (harg14 : arg14.IsWhole) (arg15 : Memref sig .tc .vmem S128x1024 .f32) (harg15 : arg15.IsWhole) (hc0 : k0_cond1 i = 1#1)
    (x0 : Vec F S3x3 .f32) (x1 : Vec F S4096x512 .bf16) (x2 : Vec F S4096x1024 .bf16) (x3 : Vec F S32x1024 .i32) (x4 : Vec F S14x1024 .i32) (x5 : Vec F S1024x56 .f32) (x6 : Vec F S1024x56 .f32) (x7 : Vec F S1024x56 .f32) (xs0 : Vec F S128x1024 .f32) :
    Σ' (L8 : List (View.Piece (Elt F) S1024x56 .f32)), Σ' (L9 : List (View.Piece (Elt F) S1024x56 .f32)), Σ' (L10 : List (View.Piece (Elt F) S1024x56 .f32)), Σ' (L11 : List (View.Piece (Elt F) S1024x56 .f32)), Σ' (L12 : List (View.Piece (Elt F) S1024x56 .f32)), { LS0 : List (View.Piece (Elt F) S128x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (arg15.view.loc (c : Thread nD τ) ↦[arg15.view.set]{fullShare} arg15.view.writes (Elt F) (harg15.unread xs0) LS0)) -∗ K ⟨⟩))
          ⊢ wp frame (wpE (defs₀ (F := F)) Variants.none c none) E (cc0_wgrad i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc0_wgrad_eq_skeleton]; unfold cc0_wgrad_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg15.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    iexact HS0

end Cert.WgradDown.Gen

end
-- ==== Proof.WgradDownRows.lean ====
/- What a point of the scale update computes: the rows it writes into the scratch and, at a band's last point, its output blocks. -/
module

public import proofs.«01_k».proof.Proof.WgradDownRunA
public import proofs.«01_k».proof.Proof.WgradDownRunB
public import Idealize.ShloMosaic.Lib.WholeRead

@[expose] public section

set_option maxRecDepth 16384

noncomputable section

namespace Cert.WgradDown.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a point computes for its eight groups -/

/-- A block read at a rectangle. -/
def rd {s : Shape} {e : EltTy} (x : Vec F s e) (R : Rect s) : R.shape.Idx → Elt F e := fun y => x (R.toLoadRect.idx y)

/-- Sixteen rows of the weight's gradient start at any row that leaves room for them. -/
theorem slicesAt (o : ℕ) (ho : o + 16 ≤ 512) : S512x1024.Slices ![o, 0] S16x1024 :=
  ⟨rfl, fun a => match a with | ⟨0, _⟩ => ho | ⟨1, _⟩ => le_refl 1024⟩

/-- One row of the packed codes is inside the block. -/
theorem inbQ (o : ℕ) (ho : o < 32) : ∀ a, (![o, 0] : Fin 2 → Nat) a + S1x1024.size a ≤ S32x1024.size a :=
  fun a => match a with | ⟨0, _⟩ => ho | ⟨1, _⟩ => le_refl 1024

/-- The zero points of a group, read from their packed words at the two bits of group number `g`, on sixteen rows. -/
def zeros (g : BitVec 32) (z : Vec F S1x1024 .i32) : FVec F S16x1024 .f32 :=
  broadcastTo S16x1024 (shapeCast S1x1024 (sitofp .f32 (andi (shrui (shapeCast S1x1024 z shapeCasts_S1x1024_S1x1024)
    (broadcast S1x1024 (Scalar.muli 2#32 (Scalar.andi g 3#32)))) (broadcast S1x1024 3#32))) shapeCasts_S1x1024_S1x1024)
    broadcasts_S1x1024_S16x1024

/-- The sixteen codes of one packed word, one to a row. -/
def codes (q : Vec F S1x1024 .i32) : FVec F S16x1024 .f32 :=
  sitofp .f32 (andi (shrui (broadcastTo S16x1024 (shapeCast S1x1024 (shapeCast S1x1024 q shapeCasts_S1x1024_S1x1024)
    shapeCasts_S1x1024_S1x1024) broadcasts_S1x1024_S16x1024) (muli (broadcast S16x1024 2#32) (iota .tc S16x1024 32 [0] iota_S16x1024_d0_w32)))
    (broadcast S16x1024 3#32))

/-- One packed word's share of a group's sum: gradient times (code − zero point). -/
def term (d : FVec F S512x1024 .f32) (zb : FVec F S16x1024 .f32) (q : Vec F S1x1024 .i32) (o : ℕ) (ho : o + 16 ≤ 512) : FVec F S16x1024 .f32 :=
  mulf (extractStridedSlice S16x1024 ![o, 0] d (slicesAt o ho)) (subf (codes q) zb)

/-- The gradient of one group's scales, from the loaded rows: the four words' shares added, then the sixteen rows added. -/
def wrowL (i : grid0.Coords) (k : Fin 8) (a : Vec F S4096x512 .bf16) (b : Vec F S4096x1024 .bf16) (z q0 q1 q2 q3 : Vec F S1x1024 .i32) :
    FVec F S1x1024 .f32 :=
  shapeCast S1x1024 (shapeCast S1x1024 (multiReduction .add [0] S1024
    (addf (addf (addf
      (term (k0_pay7 a b) (zeros (Scalar.addi (Scalar.muli (BitVec.ofNat 32 (i 1).val) 8#32) (BitVec.ofNat 32 k.val)) z) q0 (64 * k.val) (by omega))
      (term (k0_pay7 a b) (zeros (Scalar.addi (Scalar.muli (BitVec.ofNat 32 (i 1).val) 8#32) (BitVec.ofNat 32 k.val)) z) q1 (64 * k.val + 16) (by omega)))
      (term (k0_pay7 a b) (zeros (Scalar.addi (Scalar.muli (BitVec.ofNat 32 (i 1).val) 8#32) (BitVec.ofNat 32 k.val)) z) q2 (64 * k.val + 32) (by omega)))
      (term (k0_pay7 a b) (zeros (Scalar.addi (Scalar.muli (BitVec.ofNat 32 (i 1).val) 8#32) (BitVec.ofNat 32 k.val)) z) q3 (64 * k.val + 48) (by omega)))
    0x00000000#32 reduces_S16x1024_S1024 (.inl rfl) rfl) shapeCasts_S1024_S1x1024) shapeCasts_S1x1024_S1x1024

/-- The gradient of group `k`'s scales at a point, from the point's blocks. -/
def wrow (i : grid0.Coords) (x1 : Vec F S4096x512 .bf16) (x2 : Vec F S4096x1024 .bf16) (x3 : Vec F S32x1024 .i32) (x4 : Vec F S14x1024 .i32)
    (k : Fin 8) : FVec F S1x1024 .f32 :=
  wrowL i k (rd x1 (Rect.unit (s := S4096x512) ![0, 0] S4096x512.size inb_S4096x512_S4096x512_0_0))
    (rd x2 (Rect.unit (s := S4096x1024) ![0, 0] S4096x1024.size inb_S4096x1024_S4096x1024_0_0))
    (rd x4 (Rect.unit (s := S14x1024) (k0_off1 i (BitVec.ofNat 32 k.val)) S1x1024.size (k0_off1_inb i k)))
    (rd x3 (Rect.unit (s := S32x1024) ![4 * k.val, 0] S1x1024.size (inbQ _ (by omega))))
    (rd x3 (Rect.unit (s := S32x1024) ![4 * k.val + 1, 0] S1x1024.size (inbQ _ (by omega))))
    (rd x3 (Rect.unit (s := S32x1024) ![4 * k.val + 2, 0] S1x1024.size (inbQ _ (by omega))))
    (rd x3 (Rect.unit (s := S32x1024) ![4 * k.val + 3, 0] S1x1024.size (inbQ _ (by omega))))

/-- The stores of a point's eight rows into the scratch, last first. -/
def rowPieces (i : grid0.Coords) (r : Fin 8 → FVec F S1x1024 .f32) : List (View.Piece (Elt F) S128x1024 .f32) :=
  [⟨Rect.unit (s := S128x1024) (k0_off2 i 7#32) S1x1024.size (k0_off2_inb i 7), r 7⟩,
   ⟨Rect.unit (s := S128x1024) (k0_off2 i 6#32) S1x1024.size (k0_off2_inb i 6), r 6⟩,
   ⟨Rect.unit (s := S128x1024) (k0_off2 i 5#32) S1x1024.size (k0_off2_inb i 5), r 5⟩,
   ⟨Rect.unit (s := S128x1024) (k0_off2 i 4#32) S1x1024.size (k0_off2_inb i 4), r 4⟩,
   ⟨Rect.unit (s := S128x1024) (k0_off2 i 3#32) S1x1024.size (k0_off2_inb i 3), r 3⟩,
   ⟨Rect.unit (s := S128x1024) (k0_off2 i 2#32) S1x1024.size (k0_off2_inb i 2), r 2⟩,
   ⟨Rect.unit (s := S128x1024) (k0_off2 i 1#32) S1x1024.size (k0_off2_inb i 1), r 1⟩,
   ⟨Rect.unit (s := S128x1024) (k0_off2 i 0#32) S1x1024.size (k0_off2_inb i 0), r 0⟩]

/-- A store of a whole output block. -/
def wholePiece (w : FVec F S1024x56 .f32) : List (View.Piece (Elt F) S1024x56 .f32) :=
  [⟨Rect.unit (s := S1024x56) ![0, 0] S1024x56.size inb_S1024x56_S1024x56_0_0, w⟩]

/-- The update's four numbers, in the kernel's order: learning rate, epsilon, and the two bias corrections. -/
def sc0 (x0 : Vec F S3x3 .f32) : Elt F .f32 := rd x0 (Rect.unit (s := S3x3) ![0, 2] S1x1.size inb_S3x3_S1x1_0_2) (Shape.Idx.first (numel1_S1x1.symm ▸ Nat.one_pos))
def sc1 (x0 : Vec F S3x3 .f32) : Elt F .f32 := rd x0 (Rect.unit (s := S3x3) ![1, 2] S1x1.size inb_S3x3_S1x1_1_2) (Shape.Idx.first (numel1_S1x1.symm ▸ Nat.one_pos))
def sc2 (x0 : Vec F S3x3 .f32) : Elt F .f32 := rd x0 (Rect.unit (s := S3x3) ![2, 0] S1x1.size inb_S3x3_S1x1_2_0) (Shape.Idx.first (numel1_S1x1.symm ▸ Nat.one_pos))
def sc3 (x0 : Vec F S3x3 .f32) : Elt F .f32 := rd x0 (Rect.unit (s := S3x3) ![2, 1] S1x1.size inb_S3x3_S1x1_2_1) (Shape.Idx.first (numel1_S1x1.symm ▸ Nat.one_pos))

/-- The five output blocks from the scratch's contents and the point's blocks: the gradient, the step, the scales and the two moments. -/
def oDs (sc : Vec F S128x1024 .f32) : FVec F S1024x56 .f32 := k0_pay2 sc
def oStep (sc : Vec F S128x1024 .f32) (x0 : Vec F S3x3 .f32) (x6 x7 : Vec F S1024x56 .f32) : FVec F S1024x56 .f32 :=
  k0_pay5 sc (rd x6 (Rect.unit (s := S1024x56) ![0, 0] S1024x56.size inb_S1024x56_S1024x56_0_0))
    (rd x7 (Rect.unit (s := S1024x56) ![0, 0] S1024x56.size inb_S1024x56_S1024x56_0_0)) (sc0 x0) (sc1 x0) (sc2 x0) (sc3 x0)
def oS (sc : Vec F S128x1024 .f32) (x0 : Vec F S3x3 .f32) (x5 x6 x7 : Vec F S1024x56 .f32) : FVec F S1024x56 .f32 :=
  k0_pay6 sc (rd x5 (Rect.unit (s := S1024x56) ![0, 0] S1024x56.size inb_S1024x56_S1024x56_0_0))
    (rd x6 (Rect.unit (s := S1024x56) ![0, 0] S1024x56.size inb_S1024x56_S1024x56_0_0))
    (rd x7 (Rect.unit (s := S1024x56) ![0, 0] S1024x56.size inb_S1024x56_S1024x56_0_0)) (sc0 x0) (sc1 x0) (sc2 x0) (sc3 x0)
def oM (sc : Vec F S128x1024 .f32) (x6 : Vec F S1024x56 .f32) : FVec F S1024x56 .f32 :=
  k0_pay3 sc (rd x6 (Rect.unit (s := S1024x56) ![0, 0] S1024x56.size inb_S1024x56_S1024x56_0_0))
def oV (sc : Vec F S128x1024 .f32) (x7 : Vec F S1024x56 .f32) : FVec F S1024x56 .f32 :=
  k0_pay4 sc (rd x7 (Rect.unit (s := S1024x56) ![0, 0] S1024x56.size inb_S1024x56_S1024x56_0_0))

/-- The scratch after a point's stores, loaded whole. -/
def scAfter (arg15 : Memref sig .tc .vmem S128x1024 .f32) (harg15 : arg15.IsWhole) (i : grid0.Coords) (xs : Vec F S128x1024 .f32)
    (r : Fin 8 → FVec F S1x1024 .f32) : Vec F S128x1024 .f32 :=
  View.readAt (Elt F) arg15.view (Rect.unit (s := S128x1024) ![0, 0] S128x1024.size inb_S128x1024_S128x1024_0_0).toLoadRect
    (arg15.view.writes (Elt F) (harg15.unread xs) (rowPieces i r))

/-- A load from a whole buffer that holds `X` reads `X` at the load's rectangle. -/
theorem readAt_eq_rd {s : Shape} {e : EltTy} {sp : Space} {a : Memref sig .tc sp s e} (h : a.IsWhole) (X : Vec F s e) (R : Rect s) :
    View.readAt (Elt F) a.view R.toLoadRect (h.unread X) = rd X R := funext fun y => h.readAt_unread X R.toLoadRect y

variable (c : Dev nD) (i : grid0.Coords) (arg2 : Memref sig .tc .smem S3x3 .f32) (harg2 : arg2.IsWhole) (arg3 : Memref sig .tc .vmem S4096x512 .bf16) (harg3 : arg3.IsWhole) (arg4 : Memref sig .tc .vmem S4096x1024 .bf16) (harg4 : arg4.IsWhole) (arg5 : Memref sig .tc .vmem S32x1024 .i32) (harg5 : arg5.IsWhole) (arg6 : Memref sig .tc .vmem S14x1024 .i32) (harg6 : arg6.IsWhole) (arg7 : Memref sig .tc .vmem S1024x56 .f32) (harg7 : arg7.IsWhole) (arg8 : Memref sig .tc .vmem S1024x56 .f32) (harg8 : arg8.IsWhole) (arg9 : Memref sig .tc .vmem S1024x56 .f32) (harg9 : arg9.IsWhole) (arg10 : Memref sig .tc .vmem S1024x56 .f32) (harg10 : arg10.IsWhole) (arg11 : Memref sig .tc .vmem S1024x56 .f32) (harg11 : arg11.IsWhole) (arg12 : Memref sig .tc .vmem S1024x56 .f32) (harg12 : arg12.IsWhole) (arg13 : Memref sig .tc .vmem S1024x56 .f32) (harg13 : arg13.IsWhole) (arg14 : Memref sig .tc .vmem S1024x56 .f32) (harg14 : arg14.IsWhole) (arg15 : Memref sig .tc .vmem S128x1024 .f32) (harg15 : arg15.IsWhole) (x0 : Vec F S3x3 .f32) (x1 : Vec F S4096x512 .bf16) (x2 : Vec F S4096x1024 .bf16) (x3 : Vec F S32x1024 .i32) (x4 : Vec F S14x1024 .i32) (x5 : Vec F S1024x56 .f32) (x6 : Vec F S1024x56 .f32) (x7 : Vec F S1024x56 .f32) (xs : Vec F S128x1024 .f32)

theorem pieces_A (hc : ¬k0_cond1 i = 1#1) :
    (kernelRun_A (F := F) c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7).1 = rowPieces i (wrow i x1 x2 x3 x4) := by
  unfold wrow
  simp only [← readAt_eq_rd harg3 x1, ← readAt_eq_rd harg4 x2, ← readAt_eq_rd harg5 x3, ← readAt_eq_rd harg6 x4]
  rfl

theorem pieces_B (hc : k0_cond1 i = 1#1) :
    (kernelRun_B (F := F) c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 xs).2.2.2.2.2.1 = rowPieces i (wrow i x1 x2 x3 x4) := by
  unfold wrow
  simp only [← readAt_eq_rd harg3 x1, ← readAt_eq_rd harg4 x2, ← readAt_eq_rd harg5 x3, ← readAt_eq_rd harg6 x4]
  rfl

theorem out_B_8 (hc : k0_cond1 i = 1#1) :
    (kernelRun_B (F := F) c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 xs).1
      = wholePiece (oDs (scAfter arg15 harg15 i xs (wrow i x1 x2 x3 x4))) := by
  unfold wrow
  simp only [oDs, oStep, oS, oM, oV, sc0, sc1, sc2, sc3, ← readAt_eq_rd harg2 x0, ← readAt_eq_rd harg3 x1, ← readAt_eq_rd harg4 x2, ← readAt_eq_rd harg5 x3, ← readAt_eq_rd harg6 x4, ← readAt_eq_rd harg7 x5, ← readAt_eq_rd harg8 x6, ← readAt_eq_rd harg9 x7]
  rfl

theorem out_B_9 (hc : k0_cond1 i = 1#1) :
    (kernelRun_B (F := F) c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 xs).2.1
      = wholePiece (oStep (scAfter arg15 harg15 i xs (wrow i x1 x2 x3 x4)) x0 x6 x7) := by
  unfold wrow
  simp only [oDs, oStep, oS, oM, oV, sc0, sc1, sc2, sc3, ← readAt_eq_rd harg2 x0, ← readAt_eq_rd harg3 x1, ← readAt_eq_rd harg4 x2, ← readAt_eq_rd harg5 x3, ← readAt_eq_rd harg6 x4, ← readAt_eq_rd harg7 x5, ← readAt_eq_rd harg8 x6, ← readAt_eq_rd harg9 x7]
  rfl

theorem out_B_10 (hc : k0_cond1 i = 1#1) :
    (kernelRun_B (F := F) c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 xs).2.2.1
      = wholePiece (oS (scAfter arg15 harg15 i xs (wrow i x1 x2 x3 x4)) x0 x5 x6 x7) := by
  unfold wrow
  simp only [oDs, oStep, oS, oM, oV, sc0, sc1, sc2, sc3, ← readAt_eq_rd harg2 x0, ← readAt_eq_rd harg3 x1, ← readAt_eq_rd harg4 x2, ← readAt_eq_rd harg5 x3, ← readAt_eq_rd harg6 x4, ← readAt_eq_rd harg7 x5, ← readAt_eq_rd harg8 x6, ← readAt_eq_rd harg9 x7]
  rfl

theorem out_B_11 (hc : k0_cond1 i = 1#1) :
    (kernelRun_B (F := F) c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 xs).2.2.2.1
      = wholePiece (oM (scAfter arg15 harg15 i xs (wrow i x1 x2 x3 x4)) x6) := by
  unfold wrow
  simp only [oDs, oStep, oS, oM, oV, sc0, sc1, sc2, sc3, ← readAt_eq_rd harg2 x0, ← readAt_eq_rd harg3 x1, ← readAt_eq_rd harg4 x2, ← readAt_eq_rd harg5 x3, ← readAt_eq_rd harg6 x4, ← readAt_eq_rd harg7 x5, ← readAt_eq_rd harg8 x6, ← readAt_eq_rd harg9 x7]
  rfl

theorem out_B_12 (hc : k0_cond1 i = 1#1) :
    (kernelRun_B (F := F) c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 xs).2.2.2.2.1
      = wholePiece (oV (scAfter arg15 harg15 i xs (wrow i x1 x2 x3 x4)) x7) := by
  unfold wrow
  simp only [oDs, oStep, oS, oM, oV, sc0, sc1, sc2, sc3, ← readAt_eq_rd harg2 x0, ← readAt_eq_rd harg3 x1, ← readAt_eq_rd harg4 x2, ← readAt_eq_rd harg5 x3, ← readAt_eq_rd harg6 x4, ← readAt_eq_rd harg7 x5, ← readAt_eq_rd harg8 x6, ← readAt_eq_rd harg9 x7]
  rfl

end Cert.WgradDown.Gen

end
-- ==== Proof.WgradDownBody.lean ====
/- The scale update's body meets its launch's obligation at every point, so the call runs to the end; what its output blocks hold is named. -/
module

public import proofs.«01_k».proof.Proof.WgradDownRows
public import Idealize.ShloMosaic.Lib.WritesUnit
public import Idealize.ShloMosaic.Lib.Pointwise.Index
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.WgradDown.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where a point stores, and which case it is in -/

theorem lastIff : ∀ t : Fin cfg0.N, k0_cond1 (grid0.coords t) = 1#1 ↔ t.val % 7 = 6 :=
  (by decide +kernel : ∀ t : Fin grid0.N, _)

theorem offRow : ∀ (t : Fin cfg0.N) (k : Fin 8), k0_off2 (grid0.coords t) (BitVec.ofNat 32 k.val) = ![8 * (t.val % 7) + k.val, 0] :=
  (by decide +kernel : ∀ (t : Fin grid0.N) (k : Fin 8), _)

/-- Reading the scratch after a point's eight stores: the point's rows where they are, the earlier contents elsewhere. -/
theorem read_rowPieces (v : View sig .tc .vmem S128x1024 .f32) (f : v.ty.Contents (Elt F)) (t : Fin cfg0.N) (r : Fin 8 → FVec F S1x1024 .f32)
    (y : S128x1024.Idx) :
    v.read (Elt F) (v.writes (Elt F) f (rowPieces (grid0.coords t) r)) y
      = if h : 8 * (t.val % 7) ≤ (y 0).val ∧ (y 0).val < 8 * (t.val % 7) + 8 then
          r ⟨(y 0).val % 8, Nat.mod_lt _ (by decide)⟩ (ix2 (n0 := 1) (n1 := 1024) 0 (y 1))
        else v.read (Elt F) f y := by
  unfold rowPieces
  split
  · rename_i h
    have hk : ∃ k : Fin 8, (y 0).val = 8 * (t.val % 7) + k.val := ⟨⟨(y 0).val - 8 * (t.val % 7), by omega⟩, by show _ = _ + ((y 0).val - 8 * (t.val % 7)); omega⟩
    obtain ⟨k, hk⟩ := hk
    have e : (⟨(y 0).val % 8, Nat.mod_lt _ (by decide)⟩ : Fin 8) = k := Fin.ext (by show (y 0).val % 8 = k.val; omega)
    rw [e]
    fin_cases k
    · replace hk : (y 0).val = 8 * (t.val % 7) + 0 := hk
      refine (View.read_writes_cons_rows_of_not_mem (v := v) (f := f) (d := ![128, 1024]) (W := 1) _ _ _ y (offRow t 7) rfl (Or.inl (by show _ < 8 * (t.val % 7) + 7; omega))).trans ?_
      refine (View.read_writes_cons_rows_of_not_mem (v := v) (f := f) (d := ![128, 1024]) (W := 1) _ _ _ y (offRow t 6) rfl (Or.inl (by show _ < 8 * (t.val % 7) + 6; omega))).trans ?_
      refine (View.read_writes_cons_rows_of_not_mem (v := v) (f := f) (d := ![128, 1024]) (W := 1) _ _ _ y (offRow t 5) rfl (Or.inl (by show _ < 8 * (t.val % 7) + 5; omega))).trans ?_
      refine (View.read_writes_cons_rows_of_not_mem (v := v) (f := f) (d := ![128, 1024]) (W := 1) _ _ _ y (offRow t 4) rfl (Or.inl (by show _ < 8 * (t.val % 7) + 4; omega))).trans ?_
      refine (View.read_writes_cons_rows_of_not_mem (v := v) (f := f) (d := ![128, 1024]) (W := 1) _ _ _ y (offRow t 3) rfl (Or.inl (by show _ < 8 * (t.val % 7) + 3; omega))).trans ?_
      refine (View.read_writes_cons_rows_of_not_mem (v := v) (f := f) (d := ![128, 1024]) (W := 1) _ _ _ y (offRow t 2) rfl (Or.inl (by show _ < 8 * (t.val % 7) + 2; omega))).trans ?_
      refine (View.read_writes_cons_rows_of_not_mem (v := v) (f := f) (d := ![128, 1024]) (W := 1) _ _ _ y (offRow t 1) rfl (Or.inl (by show _ < 8 * (t.val % 7) + 1; omega))).trans ?_
      exact View.read_writes_cons_rows_of_mem (v := v) (f := f) (d := ![128, 1024]) _ _ _ y (ix2 (n0 := 1) (n1 := 1024) 0 (y 1)) (offRow t 0) hk rfl
    · replace hk : (y 0).val = 8 * (t.val % 7) + 1 := hk
      refine (View.read_writes_cons_rows_of_not_mem (v := v) (f := f) (d := ![128, 1024]) (W := 1) _ _ _ y (offRow t 7) rfl (Or.inl (by show _ < 8 * (t.val % 7) + 7; omega))).trans ?_
      refine (View.read_writes_cons_rows_of_not_mem (v := v) (f := f) (d := ![128, 1024]) (W := 1) _ _ _ y (offRow t 6) rfl (Or.inl (by show _ < 8 * (t.val % 7) + 6; omega))).trans ?_
      refine (View.read_writes_cons_rows_of_not_mem (v := v) (f := f) (d := ![128, 1024]) (W := 1) _ _ _ y (offRow t 5) rfl (Or.inl (by show _ < 8 * (t.val % 7) + 5; omega))).trans ?_
      refine (View.read_writes_cons_rows_of_not_mem (v := v) (f := f) (d := ![128, 1024]) (W := 1) _ _ _ y (offRow t 4) rfl (Or.inl (by show _ < 8 * (t.val % 7) + 4; omega))).trans ?_
      refine (View.read_writes_cons_rows_of_not_mem (v := v) (f := f) (d := ![128, 1024]) (W := 1) _ _ _ y (offRow t 3) rfl (Or.inl (by show _ < 8 * (t.val % 7) + 3; omega))).trans ?_
      refine (View.read_writes_cons_rows_of_not_mem (v := v) (f := f) (d := ![128, 1024]) (W := 1) _ _ _ y (offRow t 2) rfl (Or.inl (by show _ < 8 * (t.val % 7) + 2; omega))).trans ?_
      exact View.read_writes_cons_rows_of_mem (v := v) (f := f) (d := ![128, 1024]) _ _ _ y (ix2 (n0 := 1) (n1 := 1024) 0 (y 1)) (offRow t 1) hk rfl
    · replace hk : (y 0).val = 8 * (t.val % 7) + 2 := hk
      refine (View.read_writes_cons_rows_of_not_mem (v := v) (f := f) (d := ![128, 1024]) (W := 1) _ _ _ y (offRow t 7) rfl (Or.inl (by show _ < 8 * (t.val % 7) + 7; omega))).trans ?_
      refine (View.read_writes_cons_rows_of_not_mem (v := v) (f := f) (d := ![128, 1024]) (W := 1) _ _ _ y (offRow t 6) rfl (Or.inl (by show _ < 8 * (t.val % 7) + 6; omega))).trans ?_
      refine (View.read_writes_cons_rows_of_not_mem (v := v) (f := f) (d := ![128, 1024]) (W := 1) _ _ _ y (offRow t 5) rfl (Or.inl (by show _ < 8 * (t.val % 7) + 5; omega))).trans ?_
      refine (View.read_writes_cons_rows_of_not_mem (v := v) (f := f) (d := ![128, 1024]) (W := 1) _ _ _ y (offRow t 4) rfl (Or.inl (by show _ < 8 * (t.val % 7) + 4; omega))).trans ?_
      refine (View.read_writes_cons_rows_of_not_mem (v := v) (f := f) (d := ![128, 1024]) (W := 1) _ _ _ y (offRow t 3) rfl (Or.inl (by show _ < 8 * (t.val % 7) + 3; omega))).trans ?_
      exact View.read_writes_cons_rows_of_mem (v := v) (f := f) (d := ![128, 1024]) _ _ _ y (ix2 (n0 := 1) (n1 := 1024) 0 (y 1)) (offRow t 2) hk rfl
    · replace hk : (y 0).val = 8 * (t.val % 7) + 3 := hk
      refine (View.read_writes_cons_rows_of_not_mem (v := v) (f := f) (d := ![128, 1024]) (W := 1) _ _ _ y (offRow t 7) rfl (Or.inl (by show _ < 8 * (t.val % 7) + 7; omega))).trans ?_
      refine (View.read_writes_cons_rows_of_not_mem (v := v) (f := f) (d := ![128, 1024]) (W := 1) _ _ _ y (offRow t 6) rfl (Or.inl (by show _ < 8 * (t.val % 7) + 6; omega))).trans ?_
      refine (View.read_writes_cons_rows_of_not_mem (v := v) (f := f) (d := ![128, 1024]) (W := 1) _ _ _ y (offRow t 5) rfl (Or.inl (by show _ < 8 * (t.val % 7) + 5; omega))).trans ?_
      refine (View.read_writes_cons_rows_of_not_mem (v := v) (f := f) (d := ![128, 1024]) (W := 1) _ _ _ y (offRow t 4) rfl (Or.inl (by show _ < 8 * (t.val % 7) + 4; omega))).trans ?_
      exact View.read_writes_cons_rows_of_mem (v := v) (f := f) (d := ![128, 1024]) _ _ _ y (ix2 (n0 := 1) (n1 := 1024) 0 (y 1)) (offRow t 3) hk rfl
    · replace hk : (y 0).val = 8 * (t.val % 7) + 4 := hk
      refine (View.read_writes_cons_rows_of_not_mem (v := v) (f := f) (d := ![128, 1024]) (W := 1) _ _ _ y (offRow t 7) rfl (Or.inl (by show _ < 8 * (t.val % 7) + 7; omega))).trans ?_
      refine (View.read_writes_cons_rows_of_not_mem (v := v) (f := f) (d := ![128, 1024]) (W := 1) _ _ _ y (offRow t 6) rfl (Or.inl (by show _ < 8 * (t.val % 7) + 6; omega))).trans ?_
      refine (View.read_writes_cons_rows_of_not_mem (v := v) (f := f) (d := ![128, 1024]) (W := 1) _ _ _ y (offRow t 5) rfl (Or.inl (by show _ < 8 * (t.val % 7) + 5; omega))).trans ?_
      exact View.read_writes_cons_rows_of_mem (v := v) (f := f) (d := ![128, 1024]) _ _ _ y (ix2 (n0 := 1) (n1 := 1024) 0 (y 1)) (offRow t 4) hk rfl
    · replace hk : (y 0).val = 8 * (t.val % 7) + 5 := hk
      refine (View.read_writes_cons_rows_of_not_mem (v := v) (f := f) (d := ![128, 1024]) (W := 1) _ _ _ y (offRow t 7) rfl (Or.inl (by show _ < 8 * (t.val % 7) + 7; omega))).trans ?_
      refine (View.read_writes_cons_rows_of_not_mem (v := v) (f := f) (d := ![128, 1024]) (W := 1) _ _ _ y (offRow t 6) rfl (Or.inl (by show _ < 8 * (t.val % 7) + 6; omega))).trans ?_
      exact View.read_writes_cons_rows_of_mem (v := v) (f := f) (d := ![128, 1024]) _ _ _ y (ix2 (n0 := 1) (n1 := 1024) 0 (y 1)) (offRow t 5) hk rfl
    · replace hk : (y 0).val = 8 * (t.val % 7) + 6 := hk
      refine (View.read_writes_cons_rows_of_not_mem (v := v) (f := f) (d := ![128, 1024]) (W := 1) _ _ _ y (offRow t 7) rfl (Or.inl (by show _ < 8 * (t.val % 7) + 7; omega))).trans ?_
      exact View.read_writes_cons_rows_of_mem (v := v) (f := f) (d := ![128, 1024]) _ _ _ y (ix2 (n0 := 1) (n1 := 1024) 0 (y 1)) (offRow t 6) hk rfl
    · replace hk : (y 0).val = 8 * (t.val % 7) + 7 := hk
      exact View.read_writes_cons_rows_of_mem (v := v) (f := f) (d := ![128, 1024]) _ _ _ y (ix2 (n0 := 1) (n1 := 1024) 0 (y 1)) (offRow t 7) hk rfl
  · rename_i h
    refine (View.read_writes_cons_rows_of_not_mem (v := v) (f := f) (d := ![128, 1024]) (W := 1) _ _ _ y (offRow t 7) rfl (by show _ < 8 * (t.val % 7) + 7 ∨ 8 * (t.val % 7) + 7 + 1 ≤ _; omega)).trans ?_
    refine (View.read_writes_cons_rows_of_not_mem (v := v) (f := f) (d := ![128, 1024]) (W := 1) _ _ _ y (offRow t 6) rfl (by show _ < 8 * (t.val % 7) + 6 ∨ 8 * (t.val % 7) + 6 + 1 ≤ _; omega)).trans ?_
    refine (View.read_writes_cons_rows_of_not_mem (v := v) (f := f) (d := ![128, 1024]) (W := 1) _ _ _ y (offRow t 5) rfl (by show _ < 8 * (t.val % 7) + 5 ∨ 8 * (t.val % 7) + 5 + 1 ≤ _; omega)).trans ?_
    refine (View.read_writes_cons_rows_of_not_mem (v := v) (f := f) (d := ![128, 1024]) (W := 1) _ _ _ y (offRow t 4) rfl (by show _ < 8 * (t.val % 7) + 4 ∨ 8 * (t.val % 7) + 4 + 1 ≤ _; omega)).trans ?_
    refine (View.read_writes_cons_rows_of_not_mem (v := v) (f := f) (d := ![128, 1024]) (W := 1) _ _ _ y (offRow t 3) rfl (by show _ < 8 * (t.val % 7) + 3 ∨ 8 * (t.val % 7) + 3 + 1 ≤ _; omega)).trans ?_
    refine (View.read_writes_cons_rows_of_not_mem (v := v) (f := f) (d := ![128, 1024]) (W := 1) _ _ _ y (offRow t 2) rfl (by show _ < 8 * (t.val % 7) + 2 ∨ 8 * (t.val % 7) + 2 + 1 ≤ _; omega)).trans ?_
    refine (View.read_writes_cons_rows_of_not_mem (v := v) (f := f) (d := ![128, 1024]) (W := 1) _ _ _ y (offRow t 1) rfl (by show _ < 8 * (t.val % 7) + 1 ∨ 8 * (t.val % 7) + 1 + 1 ≤ _; omega)).trans ?_
    refine (View.read_writes_cons_rows_of_not_mem (v := v) (f := f) (d := ![128, 1024]) (W := 1) _ _ _ y (offRow t 0) rfl (by show _ < 8 * (t.val % 7) + 0 ∨ 8 * (t.val % 7) + 0 + 1 ≤ _; omega)).trans ?_
    rfl

/-- A whole block stored and read back. -/
theorem read_wholePiece (v : View sig .tc .vmem S1024x56 .f32) (f : v.ty.Contents (Elt F)) (w : FVec F S1024x56 .f32) :
    v.read (Elt F) (v.writes (Elt F) f (wholePiece w)) = w := by
  funext y
  exact View.read_writes_cons_unit_of_mem (v := v) (f := f) _ w [] y y rfl (fun a => by match a with | ⟨0, _⟩ => exact (Nat.zero_add _).symm | ⟨1, _⟩ => exact (Nat.zero_add _).symm)

/-- The scratch's first 56 rows decide the gradient block. -/
theorem oDs_congr {s s' : Vec F S128x1024 .f32} (h : ∀ y : S128x1024.Idx, (y 0).val < 56 → s y = s' y) : oDs s = oDs s' := by
  funext y
  refine h _ ?_
  exact lt_of_eq_of_lt (Nat.zero_add _) (y 1).isLt

theorem oStep_congr {s s' : Vec F S128x1024 .f32} (h : oDs s = oDs s') x0 x6 x7 : oStep s x0 x6 x7 = oStep s' x0 x6 x7 := by
  unfold oDs at h
  unfold oStep k0_pay5 k0_pay3 k0_pay4
  rw [h]
theorem oS_congr {s s' : Vec F S128x1024 .f32} (h : oDs s = oDs s') x0 x5 x6 x7 : oS s x0 x5 x6 x7 = oS s' x0 x5 x6 x7 := by
  unfold oDs at h
  unfold oS k0_pay6 k0_pay5 k0_pay3 k0_pay4
  rw [h]
theorem oM_congr {s s' : Vec F S128x1024 .f32} (h : oDs s = oDs s') x6 : oM s x6 = oM s' x6 := by
  unfold oDs at h
  unfold oM k0_pay3
  rw [h]
theorem oV_congr {s s' : Vec F S128x1024 .f32} (h : oDs s = oDs s') x7 : oV s x7 = oV s' x7 := by
  unfold oDs at h
  unfold oV k0_pay4
  rw [h]

variable (m : (ℓ : Loc nD τ sig) → Buf (Elt F) ℓ) (ρ : Dev nD → PrngReg)

/-! ## What the scratch holds -/

/-- The eight rows of a point, from the blocks staged there. -/
def rowAt (c : Dev nD) (t : Fin cfg0.N) (k : Fin 8) : FVec F S1x1024 .f32 :=
  wrow (grid0.coords t) (iblk m c 1 t) (iblk m c 2 t) (iblk m c 3 t) (iblk m c 4 t) k

/-- The point of row band `b` that fills scratch row `r`. -/
def ptOf (b r : ℕ) : Fin cfg0.N := ⟨min (7 * b + r / 8) 55, by show _ < cfg0.N; rw [show cfg0.N = 56 from N_0]; omega⟩

/-- The scratch once band `b` has filled it (its first 56 rows). -/
def scOf (c : Dev nD) (b : ℕ) : Vec F S128x1024 .f32 := fun y =>
  rowAt m c (ptOf b (y 0).val) ⟨(y 0).val % 8, Nat.mod_lt _ (by decide)⟩ (ix2 (n0 := 1) (n1 := 1024) 0 (y 1))

/-- Before point `n` the scratch holds the rows of the band's earlier points. -/
def Fill (c : Dev nD) (n : ℕ) (d : Vec F S128x1024 .f32) : Prop :=
  ∀ y : S128x1024.Idx, (y 0).val < 8 * (n % 7) → d y = scOf m c (n / 7) y

theorem fill_step (c : Dev nD) (t : Fin cfg0.N) (v : View sig .tc .vmem S128x1024 .f32) (f : v.ty.Contents (Elt F))
    (h : Fill m c t.val (v.read (Elt F) f)) (y : S128x1024.Idx) (hy : (y 0).val < 8 * (t.val % 7) + 8) :
    v.read (Elt F) (v.writes (Elt F) f (rowPieces (grid0.coords t) (rowAt m c t))) y = scOf m c (t.val / 7) y := by
  rw [read_rowPieces]
  split
  · rename_i hr
    unfold scOf
    have hN : t.val < 56 := lt_of_lt_of_eq t.isLt (show cfg0.N = 56 from N_0)
    have e : ptOf (t.val / 7) (y 0).val = t := Fin.ext (by show min (7 * (t.val / 7) + (y 0).val / 8) 55 = t.val; omega)
    rw [e]
  · exact h y (by omega)

theorem fill_next (c : Dev nD) (t : Fin cfg0.N) (v : View sig .tc .vmem S128x1024 .f32) (f : v.ty.Contents (Elt F))
    (h : Fill m c t.val (v.read (Elt F) f)) :
    Fill m c (t.val + 1) (v.read (Elt F) (v.writes (Elt F) f (rowPieces (grid0.coords t) (rowAt m c t)))) := fun y hy => by
  by_cases h6 : t.val % 7 = 6
  · exact absurd hy (by rw [show (t.val + 1) % 7 = 0 by omega]; omega)
  · rw [show (t.val + 1) / 7 = t.val / 7 by omega]
    exact fill_step m c t v f h y (by rw [show (t.val + 1) % 7 = t.val % 7 + 1 by omega] at hy; omega)

/-- At a band's last point the loaded scratch gives the gradient block of the whole band. -/
theorem oDs_last (c : Dev nD) (t : Fin cfg0.N) (h6 : t.val % 7 = 6) (a : Memref sig .tc .vmem S128x1024 .f32) (ha : a.IsWhole)
    (xs : Vec F S128x1024 .f32) (h : Fill m c t.val xs) :
    oDs (scAfter a ha (grid0.coords t) xs (rowAt m c t)) = oDs (scOf m c (t.val / 7)) := by
  refine oDs_congr fun y hy => ?_
  have hx : (Rect.unit (s := S128x1024) ![0, 0] S128x1024.size inb_S128x1024_S128x1024_0_0).toLoadRect.idx y = y :=
    funext fun a => Fin.ext (by
      match a with
      | ⟨0, _⟩ => show 0 + (1 * _) = _; omega
      | ⟨1, _⟩ => show 0 + (1 * _) = _; omega)
  unfold scAfter
  rw [View.readAt_apply, hx]
  exact fill_step m c t a.view (ha.unread xs) (by rw [ha.read_unread]; exact h) y (by omega)

abbrev ms0 (t : Fin cfg0.N) : Memref sig .tc .smem S3x3 .f32 := win0_0.stage (cfg0.slots t 0)
abbrev hs0 (t : Fin cfg0.N) : (ms0 t).IsWhole := hstage0_0 ((cfg0.slots t 0).cast nbuf0_0)
theorem live0 : ∀ t : Fin cfg0.N, cfg0.idle 0 (grid0.coords t) = false := fun _ => rfl
abbrev ms1 (t : Fin cfg0.N) : Memref sig .tc .vmem S4096x512 .bf16 := win0_1.stage (cfg0.slots t 1)
abbrev hs1 (t : Fin cfg0.N) : (ms1 t).IsWhole := hstage0_1 ((cfg0.slots t 1).cast nbuf0_1)
theorem live1 : ∀ t : Fin cfg0.N, cfg0.idle 1 (grid0.coords t) = false := fun _ => rfl
abbrev ms2 (t : Fin cfg0.N) : Memref sig .tc .vmem S4096x1024 .bf16 := win0_2.stage (cfg0.slots t 2)
abbrev hs2 (t : Fin cfg0.N) : (ms2 t).IsWhole := hstage0_2 ((cfg0.slots t 2).cast nbuf0_2)
theorem live2 : ∀ t : Fin cfg0.N, cfg0.idle 2 (grid0.coords t) = false := fun _ => rfl
abbrev ms3 (t : Fin cfg0.N) : Memref sig .tc .vmem S32x1024 .i32 := win0_3.stage (cfg0.slots t 3)
abbrev hs3 (t : Fin cfg0.N) : (ms3 t).IsWhole := hstage0_3 ((cfg0.slots t 3).cast nbuf0_3)
theorem live3 : ∀ t : Fin cfg0.N, cfg0.idle 3 (grid0.coords t) = false := fun _ => rfl
abbrev ms4 (t : Fin cfg0.N) : Memref sig .tc .vmem S14x1024 .i32 := win0_4.stage (cfg0.slots t 4)
abbrev hs4 (t : Fin cfg0.N) : (ms4 t).IsWhole := hstage0_4 ((cfg0.slots t 4).cast nbuf0_4)
theorem live4 : ∀ t : Fin cfg0.N, cfg0.idle 4 (grid0.coords t) = false := fun _ => rfl
abbrev ms5 (t : Fin cfg0.N) : Memref sig .tc .vmem S1024x56 .f32 := win0_5.stage (cfg0.slots t 5)
abbrev hs5 (t : Fin cfg0.N) : (ms5 t).IsWhole := hstage0_5 ((cfg0.slots t 5).cast nbuf0_5)
theorem live5 : ∀ t : Fin cfg0.N, cfg0.idle 5 (grid0.coords t) = false := fun _ => rfl
abbrev ms6 (t : Fin cfg0.N) : Memref sig .tc .vmem S1024x56 .f32 := win0_6.stage (cfg0.slots t 6)
abbrev hs6 (t : Fin cfg0.N) : (ms6 t).IsWhole := hstage0_6 ((cfg0.slots t 6).cast nbuf0_6)
theorem live6 : ∀ t : Fin cfg0.N, cfg0.idle 6 (grid0.coords t) = false := fun _ => rfl
abbrev ms7 (t : Fin cfg0.N) : Memref sig .tc .vmem S1024x56 .f32 := win0_7.stage (cfg0.slots t 7)
abbrev hs7 (t : Fin cfg0.N) : (ms7 t).IsWhole := hstage0_7 ((cfg0.slots t 7).cast nbuf0_7)
theorem live7 : ∀ t : Fin cfg0.N, cfg0.idle 7 (grid0.coords t) = false := fun _ => rfl
abbrev ms8 (t : Fin cfg0.N) : Memref sig .tc .vmem S1024x56 .f32 := win0_8.stage (cfg0.slots t 8)
abbrev hs8 (t : Fin cfg0.N) : (ms8 t).IsWhole := hstage0_8 ((cfg0.slots t 8).cast nbuf0_8)
theorem live8_B : ∀ t : Fin cfg0.N, k0_cond1 (grid0.coords t) = 1#1 → cfg0.idle 8 (grid0.coords t) = false := by decide +kernel
theorem idle8_A : ∀ t : Fin cfg0.N, ¬k0_cond1 (grid0.coords t) = 1#1 → cfg0.idle 8 (grid0.coords t) = true := by decide +kernel
theorem noFlush8_A : ∀ t : Fin cfg0.N, ¬k0_cond1 (grid0.coords t) = 1#1 → (cfg0.win 8).flush t = false := by decide +kernel
abbrev ms9 (t : Fin cfg0.N) : Memref sig .tc .vmem S1024x56 .f32 := win0_9.stage (cfg0.slots t 9)
abbrev hs9 (t : Fin cfg0.N) : (ms9 t).IsWhole := hstage0_9 ((cfg0.slots t 9).cast nbuf0_9)
theorem live9_B : ∀ t : Fin cfg0.N, k0_cond1 (grid0.coords t) = 1#1 → cfg0.idle 9 (grid0.coords t) = false := by decide +kernel
theorem idle9_A : ∀ t : Fin cfg0.N, ¬k0_cond1 (grid0.coords t) = 1#1 → cfg0.idle 9 (grid0.coords t) = true := by decide +kernel
theorem noFlush9_A : ∀ t : Fin cfg0.N, ¬k0_cond1 (grid0.coords t) = 1#1 → (cfg0.win 9).flush t = false := by decide +kernel
abbrev ms10 (t : Fin cfg0.N) : Memref sig .tc .vmem S1024x56 .f32 := win0_10.stage (cfg0.slots t 10)
abbrev hs10 (t : Fin cfg0.N) : (ms10 t).IsWhole := hstage0_10 ((cfg0.slots t 10).cast nbuf0_10)
theorem live10_B : ∀ t : Fin cfg0.N, k0_cond1 (grid0.coords t) = 1#1 → cfg0.idle 10 (grid0.coords t) = false := by decide +kernel
theorem idle10_A : ∀ t : Fin cfg0.N, ¬k0_cond1 (grid0.coords t) = 1#1 → cfg0.idle 10 (grid0.coords t) = true := by decide +kernel
theorem noFlush10_A : ∀ t : Fin cfg0.N, ¬k0_cond1 (grid0.coords t) = 1#1 → (cfg0.win 10).flush t = false := by decide +kernel
abbrev ms11 (t : Fin cfg0.N) : Memref sig .tc .vmem S1024x56 .f32 := win0_11.stage (cfg0.slots t 11)
abbrev hs11 (t : Fin cfg0.N) : (ms11 t).IsWhole := hstage0_11 ((cfg0.slots t 11).cast nbuf0_11)
theorem live11_B : ∀ t : Fin cfg0.N, k0_cond1 (grid0.coords t) = 1#1 → cfg0.idle 11 (grid0.coords t) = false := by decide +kernel
theorem idle11_A : ∀ t : Fin cfg0.N, ¬k0_cond1 (grid0.coords t) = 1#1 → cfg0.idle 11 (grid0.coords t) = true := by decide +kernel
theorem noFlush11_A : ∀ t : Fin cfg0.N, ¬k0_cond1 (grid0.coords t) = 1#1 → (cfg0.win 11).flush t = false := by decide +kernel
abbrev ms12 (t : Fin cfg0.N) : Memref sig .tc .vmem S1024x56 .f32 := win0_12.stage (cfg0.slots t 12)
abbrev hs12 (t : Fin cfg0.N) : (ms12 t).IsWhole := hstage0_12 ((cfg0.slots t 12).cast nbuf0_12)
theorem live12_B : ∀ t : Fin cfg0.N, k0_cond1 (grid0.coords t) = 1#1 → cfg0.idle 12 (grid0.coords t) = false := by decide +kernel
theorem idle12_A : ∀ t : Fin cfg0.N, ¬k0_cond1 (grid0.coords t) = 1#1 → cfg0.idle 12 (grid0.coords t) = true := by decide +kernel
theorem noFlush12_A : ∀ t : Fin cfg0.N, ¬k0_cond1 (grid0.coords t) = 1#1 → (cfg0.win 12).flush t = false := by decide +kernel

/-- The kernel's scratch as a memref. -/
abbrev scM : Memref sig .tc .vmem S128x1024 .f32 := Memref.whole cc0_scratch0

theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The invariant before point `n`: the scratch holds the band's earlier rows; the generator register is at some state. -/
def PhiS (c : Dev nD) (n : ℕ) : sProp 𝕄 :=
  iprop((∃ d, ⌜Fill m c n d⌝ ∗ owns (c : Thread nD τ) scM fullShare d) ∗ (∃ r, prngReg c r))

/-- The pipeline's proof data: each input's buffer keeps its block; the outputs' hold what the band's scratch decides. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => oDs (scOf m c (t.val / 7))
    | ⟨9, _⟩ => oStep (scOf m c (t.val / 7)) (iblk m c 0 t) (iblk m c 6 t) (iblk m c 7 t)
    | ⟨10, _⟩ => oS (scOf m c (t.val / 7)) (iblk m c 0 t) (iblk m c 5 t) (iblk m c 6 t) (iblk m c 7 t)
    | ⟨11, _⟩ => oM (scOf m c (t.val / 7)) (iblk m c 6 t)
    | ⟨12, _⟩ => oV (scOf m c (t.val / 7)) (iblk m c 7 t)
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = oDs (scOf m c (t.val / 7)) := by dsimp only [dats]
theorem after9 (c : Dev nD) (t : Fin cfg0.N) : (dats m 0 c).after 9 t = oStep (scOf m c (t.val / 7)) (iblk m c 0 t) (iblk m c 6 t) (iblk m c 7 t) := by dsimp only [dats]
theorem after10 (c : Dev nD) (t : Fin cfg0.N) : (dats m 0 c).after 10 t = oS (scOf m c (t.val / 7)) (iblk m c 0 t) (iblk m c 5 t) (iblk m c 6 t) (iblk m c 7 t) := by dsimp only [dats]
theorem after11 (c : Dev nD) (t : Fin cfg0.N) : (dats m 0 c).after 11 t = oM (scOf m c (t.val / 7)) (iblk m c 6 t) := by dsimp only [dats]
theorem after12 (c : Dev nD) (t : Fin cfg0.N) : (dats m 0 c).after 12 t = oV (scOf m c (t.val / 7)) (iblk m c 7 t) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-! ## The body at any point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 3200000 in
/-- The body's triple at any point, by its two cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  by_cases h0 : k0_cond1 (grid0.coords t) = 1#1
  · rw [show (dats m 0 c).leavesExact 0 t = owns (c : Thread nD τ) (ms0 t) fullShare ((dats m 0 c).after 0 t) from by
      unfold Dat.leavesExact; rw [live0 t], after0]
    rw [show (dats m 0 c).leavesExact 1 t = owns (c : Thread nD τ) (ms1 t) fullShare ((dats m 0 c).after 1 t) from by
      unfold Dat.leavesExact; rw [live1 t], after1]
    rw [show (dats m 0 c).leavesExact 2 t = owns (c : Thread nD τ) (ms2 t) fullShare ((dats m 0 c).after 2 t) from by
      unfold Dat.leavesExact; rw [live2 t], after2]
    rw [show (dats m 0 c).leavesExact 3 t = owns (c : Thread nD τ) (ms3 t) fullShare ((dats m 0 c).after 3 t) from by
      unfold Dat.leavesExact; rw [live3 t], after3]
    rw [show (dats m 0 c).leavesExact 4 t = owns (c : Thread nD τ) (ms4 t) fullShare ((dats m 0 c).after 4 t) from by
      unfold Dat.leavesExact; rw [live4 t], after4]
    rw [show (dats m 0 c).leavesExact 5 t = owns (c : Thread nD τ) (ms5 t) fullShare ((dats m 0 c).after 5 t) from by
      unfold Dat.leavesExact; rw [live5 t], after5]
    rw [show (dats m 0 c).leavesExact 6 t = owns (c : Thread nD τ) (ms6 t) fullShare ((dats m 0 c).after 6 t) from by
      unfold Dat.leavesExact; rw [live6 t], after6]
    rw [show (dats m 0 c).leavesExact 7 t = owns (c : Thread nD τ) (ms7 t) fullShare ((dats m 0 c).after 7 t) from by
      unfold Dat.leavesExact; rw [live7 t], after7]
    rw [show (dats m 0 c).leavesExact 8 t = owns (c : Thread nD τ) (ms8 t) fullShare ((dats m 0 c).after 8 t) from by
      unfold Dat.leavesExact; rw [live8_B t h0], after8]
    rw [show (dats m 0 c).leavesExact 9 t = owns (c : Thread nD τ) (ms9 t) fullShare ((dats m 0 c).after 9 t) from by
      unfold Dat.leavesExact; rw [live9_B t h0], after9]
    rw [show (dats m 0 c).leavesExact 10 t = owns (c : Thread nD τ) (ms10 t) fullShare ((dats m 0 c).after 10 t) from by
      unfold Dat.leavesExact; rw [live10_B t h0], after10]
    rw [show (dats m 0 c).leavesExact 11 t = owns (c : Thread nD τ) (ms11 t) fullShare ((dats m 0 c).after 11 t) from by
      unfold Dat.leavesExact; rw [live11_B t h0], after11]
    rw [show (dats m 0 c).leavesExact 12 t = owns (c : Thread nD τ) (ms12 t) fullShare ((dats m 0 c).after 12 t) from by
      unfold Dat.leavesExact; rw [live12_B t h0], after12]
    iintro ⟨⟨⟨%xs, %hF, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    have hD := oDs_last m c t ((lastIff t).mp h0) scM (Memref.isWhole_whole _) xs hF
    have hF' := fill_next m c t scM.view ((Memref.isWhole_whole _).unread xs) (by rw [(Memref.isWhole_whole _).read_unread]; exact hF)
    iapply ((kernelRun_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM (Memref.isWhole_whole _) h0 (iblk m c 0 t) (iblk m c 1 t) (iblk m c 2 t) (iblk m c 3 t) (iblk m c 4 t) (iblk m c 5 t) (iblk m c 6 t) (iblk m c 7 t) xs).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [HS]; · iexact HS
    iintro ⟨H0, H1, H2, H3, H4, H5, H6, H7, ⟨%e8, H8⟩, ⟨%e9, H9⟩, ⟨%e10, H10⟩, ⟨%e11, H11⟩, ⟨%e12, H12⟩, HS⟩
    isplitl [HS Hg]
    · isplitl [HS]
      · iexists _; isplitr
        swap
        · unfold owns; iexists _; isplitr
          swap; · iexact HS
          ipureintro; rfl
        ipureintro; rw [pieces_B]; exact hF'
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; rw [out_B_8, read_wholePiece]; exact hD
    isplitl [H9]
    · unfold owns; iexists _; isplitr
      swap; · iexact H9
      ipureintro; rw [out_B_9, read_wholePiece]; exact oStep_congr hD _ _ _
    isplitl [H10]
    · unfold owns; iexists _; isplitr
      swap; · iexact H10
      ipureintro; rw [out_B_10, read_wholePiece]; exact oS_congr hD _ _ _ _
    isplitl [H11]
    · unfold owns; iexists _; isplitr
      swap; · iexact H11
      ipureintro; rw [out_B_11, read_wholePiece]; exact oM_congr hD _
    unfold owns; iexists _; isplitr
    swap; · iexact H12
    ipureintro; rw [out_B_12, read_wholePiece]; exact oV_congr hD _
  · rw [show (dats m 0 c).leavesExact 0 t = owns (c : Thread nD τ) (ms0 t) fullShare ((dats m 0 c).after 0 t) from by
      unfold Dat.leavesExact; rw [live0 t], after0]
    rw [show (dats m 0 c).leavesExact 1 t = owns (c : Thread nD τ) (ms1 t) fullShare ((dats m 0 c).after 1 t) from by
      unfold Dat.leavesExact; rw [live1 t], after1]
    rw [show (dats m 0 c).leavesExact 2 t = owns (c : Thread nD τ) (ms2 t) fullShare ((dats m 0 c).after 2 t) from by
      unfold Dat.leavesExact; rw [live2 t], after2]
    rw [show (dats m 0 c).leavesExact 3 t = owns (c : Thread nD τ) (ms3 t) fullShare ((dats m 0 c).after 3 t) from by
      unfold Dat.leavesExact; rw [live3 t], after3]
    rw [show (dats m 0 c).leavesExact 4 t = owns (c : Thread nD τ) (ms4 t) fullShare ((dats m 0 c).after 4 t) from by
      unfold Dat.leavesExact; rw [live4 t], after4]
    rw [show (dats m 0 c).leavesExact 5 t = owns (c : Thread nD τ) (ms5 t) fullShare ((dats m 0 c).after 5 t) from by
      unfold Dat.leavesExact; rw [live5 t], after5]
    rw [show (dats m 0 c).leavesExact 6 t = owns (c : Thread nD τ) (ms6 t) fullShare ((dats m 0 c).after 6 t) from by
      unfold Dat.leavesExact; rw [live6 t], after6]
    rw [show (dats m 0 c).leavesExact 7 t = owns (c : Thread nD τ) (ms7 t) fullShare ((dats m 0 c).after 7 t) from by
      unfold Dat.leavesExact; rw [live7 t], after7]
    rw [Dat.leavesExact_idle (dats m 0 c) 8 t (idle8_A t h0) (noFlush8_A t h0)]
    rw [Dat.leavesExact_idle (dats m 0 c) 9 t (idle9_A t h0) (noFlush9_A t h0)]
    rw [Dat.leavesExact_idle (dats m 0 c) 10 t (idle10_A t h0) (noFlush10_A t h0)]
    rw [Dat.leavesExact_idle (dats m 0 c) 11 t (idle11_A t h0) (noFlush11_A t h0)]
    rw [Dat.leavesExact_idle (dats m 0 c) 12 t (idle12_A t h0) (noFlush12_A t h0)]
    iintro ⟨⟨⟨%xs, %hF, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    have hF' := fill_next m c t scM.view ((Memref.isWhole_whole _).unread xs) (by rw [(Memref.isWhole_whole _).read_unread]; exact hF)
    iapply ((kernelRun_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM (Memref.isWhole_whole _) h0 (iblk m c 0 t) (iblk m c 1 t) (iblk m c 2 t) (iblk m c 3 t) (iblk m c 4 t) (iblk m c 5 t) (iblk m c 6 t) (iblk m c 7 t)).2 _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS]; · iexact HS
    iintro ⟨H0, H1, H2, H3, H4, H5, H6, H7, H8, H9, H10, H11, H12, HS⟩
    isplitl [HS Hg]
    · isplitl [HS]
      · iexists _; isplitr
        swap
        · unfold owns; iexists _; isplitr
          swap; · iexact HS
          ipureintro; rfl
        ipureintro; rw [pieces_A]; exact hF'
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    iexists _; iexact H12

/-- The body table's row at a point's slots is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point: nothing is asked of the scratch there. -/
theorem hin (c : Dev nD) : Pipeline.ΦA spec0 c ⊢ (dats m 0 c).Φ 0 := by
  rw [show (dats m 0 c).Φ 0 = PhiS m c 0 from rfl, PhiA_eq]
  unfold PhiS
  iintro ⟨⟨%d, HS⟩, Hg⟩
  isplitl [HS]
  · iexists d; isplitr
    swap; · iexact HS
    ipureintro; exact fun y hy => absurd hy (by omega)
  iexact Hg

/-- After the last point what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]
  unfold PhiS
  iintro ⟨⟨%d, -, HS⟩, Hg⟩
  isplitl [HS]
  · iexists _; iexact HS
  iexact Hg

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every run ends with the windows' arrays as the proof data says. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- The frame: the program runs to its end, its arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.WgradDown.Gen

end
-- ==== Proof.WgradDownIdealRunA.lean ====
/- The scale update's body run symbolically at a point that is not the last of its band. -/
module

public import proofs.«01_k».proof.Proof.Gen.WgradDownIdeal.Launch
public import proofs.«01_k».proof.Proof.Gen.WgradDownIdeal.Skeleton
public import proofs.«01_k».proof.Proof.Gen.WgradDownIdeal.Points
public import proofs.«01_k».proof.Proof.Gen.WgradDownIdeal.Frame

@[expose] public section

set_option maxRecDepth 16384

noncomputable section

namespace Cert.WgradDownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at a point whose second coordinate is not the last: the output windows stay as they are and the scratch rows of the point are written. The pieces found are the witness. -/
noncomputable def kernelRun_A (c : Dev nD) (i : grid0.Coords) (arg2 : Memref sig .tc .smem S3x3 .f32) (harg2 : arg2.IsWhole) (arg3 : Memref sig .tc .vmem S4096x512 .bf16) (harg3 : arg3.IsWhole) (arg4 : Memref sig .tc .vmem S4096x1024 .bf16) (harg4 : arg4.IsWhole) (arg5 : Memref sig .tc .vmem S32x1024 .i32) (harg5 : arg5.IsWhole) (arg6 : Memref sig .tc .vmem S14x1024 .i32) (harg6 : arg6.IsWhole) (arg7 : Memref sig .tc .vmem S1024x56 .f32) (harg7 : arg7.IsWhole) (arg8 : Memref sig .tc .vmem S1024x56 .f32) (harg8 : arg8.IsWhole) (arg9 : Memref sig .tc .vmem S1024x56 .f32) (harg9 : arg9.IsWhole) (arg10 : Memref sig .tc .vmem S1024x56 .f32) (harg10 : arg10.IsWhole) (arg11 : Memref sig .tc .vmem S1024x56 .f32) (harg11 : arg11.IsWhole) (arg12 : Memref sig .tc .vmem S1024x56 .f32) (harg12 : arg12.IsWhole) (arg13 : Memref sig .tc .vmem S1024x56 .f32) (harg13 : arg13.IsWhole) (arg14 : Memref sig .tc .vmem S1024x56 .f32) (harg14 : arg14.IsWhole) (arg15 : Memref sig .tc .vmem S128x1024 .f32) (harg15 : arg15.IsWhole) (hc0 : ¬k0_cond1 i = 1#1)
    (x0 : Vec F S3x3 .f32) (x1 : Vec F S4096x512 .bf16) (x2 : Vec F S4096x1024 .bf16) (x3 : Vec F S32x1024 .i32) (x4 : Vec F S14x1024 .i32) (x5 : Vec F S1024x56 .f32) (x6 : Vec F S1024x56 .f32) (x7 : Vec F S1024x56 .f32) :
    { LS0 : List (View.Piece (Elt F) S128x1024 .f32) //
      ∀ (xi8 : Vec F S1024x56 .f32) (xi9 : Vec F S1024x56 .f32) (xi10 : Vec F S1024x56 .f32) (xi11 : Vec F S1024x56 .f32) (xi12 : Vec F S1024x56 .f32) (xs0 : Vec F S128x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ owns (c : Thread nD τ) arg13 fullShare xi11 ∗ owns (c : Thread nD τ) arg14 fullShare xi12 ∗ owns (c : Thread nD τ) arg15 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ owns (c : Thread nD τ) arg13 fullShare xi11 ∗ owns (c : Thread nD τ) arg14 fullShare xi12 ∗ (arg15.view.loc (c : Thread nD τ) ↦[arg15.view.set]{fullShare} arg15.view.writes (Elt F) (harg15.unread xs0) LS0)) -∗ K ⟨⟩))
          ⊢ wp frame (wpE (defs₀ (F := F)) Variants.none c none) E (cc0_wgrad i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun xi8 xi9 xi10 xi11 xi12 xs0 E K => ?run⟩
  case run =>
    simp only [cc0_wgrad_eq_skeleton]; unfold cc0_wgrad_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    iexact HS0

end Cert.WgradDownIdeal.Gen

end
-- ==== Proof.WgradDownIdealRunB.lean ====
/- The scale update's body run symbolically at the last point of a band. -/
module

public import proofs.«01_k».proof.Proof.Gen.WgradDownIdeal.Launch
public import proofs.«01_k».proof.Proof.Gen.WgradDownIdeal.Skeleton
public import proofs.«01_k».proof.Proof.Gen.WgradDownIdeal.Points
public import proofs.«01_k».proof.Proof.Gen.WgradDownIdeal.Frame

@[expose] public section

set_option maxRecDepth 16384

noncomputable section

namespace Cert.WgradDownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at a point whose second coordinate is the last: the scratch rows of the point are written and then every output window is stored whole. The pieces found are the witness. -/
noncomputable def kernelRun_B (c : Dev nD) (i : grid0.Coords) (arg2 : Memref sig .tc .smem S3x3 .f32) (harg2 : arg2.IsWhole) (arg3 : Memref sig .tc .vmem S4096x512 .bf16) (harg3 : arg3.IsWhole) (arg4 : Memref sig .tc .vmem S4096x1024 .bf16) (harg4 : arg4.IsWhole) (arg5 : Memref sig .tc .vmem S32x1024 .i32) (harg5 : arg5.IsWhole) (arg6 : Memref sig .tc .vmem S14x1024 .i32) (harg6 : arg6.IsWhole) (arg7 : Memref sig .tc .vmem S1024x56 .f32) (harg7 : arg7.IsWhole) (arg8 : Memref sig .tc .vmem S1024x56 .f32) (harg8 : arg8.IsWhole) (arg9 : Memref sig .tc .vmem S1024x56 .f32) (harg9 : arg9.IsWhole) (arg10 : Memref sig .tc .vmem S1024x56 .f32) (harg10 : arg10.IsWhole) (arg11 : Memref sig .tc .vmem S1024x56 .f32) (harg11 : arg11.IsWhole) (arg12 : Memref sig .tc .vmem S1024x56 .f32) (harg12 : arg12.IsWhole) (arg13 : Memref sig .tc .vmem S1024x56 .f32) (harg13 : arg13.IsWhole) (arg14 : Memref sig .tc .vmem S1024x56 .f32) (harg14 : arg14.IsWhole) (arg15 : Memref sig .tc .vmem S128x1024 .f32) (harg15 : arg15.IsWhole) (hc0 : k0_cond1 i = 1#1)
    (x0 : Vec F S3x3 .f32) (x1 : Vec F S4096x512 .bf16) (x2 : Vec F S4096x1024 .bf16) (x3 : Vec F S32x1024 .i32) (x4 : Vec F S14x1024 .i32) (x5 : Vec F S1024x56 .f32) (x6 : Vec F S1024x56 .f32) (x7 : Vec F S1024x56 .f32) (xs0 : Vec F S128x1024 .f32) :
    Σ' (L8 : List (View.Piece (Elt F) S1024x56 .f32)), Σ' (L9 : List (View.Piece (Elt F) S1024x56 .f32)), Σ' (L10 : List (View.Piece (Elt F) S1024x56 .f32)), Σ' (L11 : List (View.Piece (Elt F) S1024x56 .f32)), Σ' (L12 : List (View.Piece (Elt F) S1024x56 .f32)), { LS0 : List (View.Piece (Elt F) S128x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (arg15.view.loc (c : Thread nD τ) ↦[arg15.view.set]{fullShare} arg15.view.writes (Elt F) (harg15.unread xs0) LS0)) -∗ K ⟨⟩))
          ⊢ wp frame (wpE (defs₀ (F := F)) Variants.none c none) E (cc0_wgrad i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc0_wgrad_eq_skeleton]; unfold cc0_wgrad_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg15.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    iexact HS0

end Cert.WgradDownIdeal.Gen

end
-- ==== Proof.WgradDownIdealRows.lean ====
/- What a point of the scale update computes: the rows it writes into the scratch and, at a band's last point, its output blocks. -/
module

public import proofs.«01_k».proof.Proof.WgradDownIdealRunA
public import proofs.«01_k».proof.Proof.WgradDownIdealRunB
public import Idealize.ShloMosaic.Lib.WholeRead

@[expose] public section

set_option maxRecDepth 16384

noncomputable section

namespace Cert.WgradDownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a point computes for its eight groups -/

/-- A block read at a rectangle. -/
def rd {s : Shape} {e : EltTy} (x : Vec F s e) (R : Rect s) : R.shape.Idx → Elt F e := fun y => x (R.toLoadRect.idx y)

/-- Sixteen rows of the weight's gradient start at any row that leaves room for them. -/
theorem slicesAt (o : ℕ) (ho : o + 16 ≤ 512) : S512x1024.Slices ![o, 0] S16x1024 :=
  ⟨rfl, fun a => match a with | ⟨0, _⟩ => ho | ⟨1, _⟩ => le_refl 1024⟩

/-- One row of the packed codes is inside the block. -/
theorem inbQ (o : ℕ) (ho : o < 32) : ∀ a, (![o, 0] : Fin 2 → Nat) a + S1x1024.size a ≤ S32x1024.size a :=
  fun a => match a with | ⟨0, _⟩ => ho | ⟨1, _⟩ => le_refl 1024

/-- The zero points of a group, read from their packed words at the two bits of group number `g`, on sixteen rows. -/
def zeros (g : BitVec 32) (z : Vec F S1x1024 .i32) : FVec F S16x1024 .f32 :=
  broadcastTo S16x1024 (shapeCast S1x1024 (sitofp .f32 (andi (shrui (shapeCast S1x1024 z shapeCasts_S1x1024_S1x1024)
    (broadcast S1x1024 (Scalar.muli 2#32 (Scalar.andi g 3#32)))) (broadcast S1x1024 3#32))) shapeCasts_S1x1024_S1x1024)
    broadcasts_S1x1024_S16x1024

/-- The sixteen codes of one packed word, one to a row. -/
def codes (q : Vec F S1x1024 .i32) : FVec F S16x1024 .f32 :=
  sitofp .f32 (andi (shrui (broadcastTo S16x1024 (shapeCast S1x1024 (shapeCast S1x1024 q shapeCasts_S1x1024_S1x1024)
    shapeCasts_S1x1024_S1x1024) broadcasts_S1x1024_S16x1024) (muli (broadcast S16x1024 2#32) (iota .tc S16x1024 32 [0] iota_S16x1024_d0_w32)))
    (broadcast S16x1024 3#32))

/-- One packed word's share of a group's sum: gradient times (code − zero point). -/
def term (d : FVec F S512x1024 .f32) (zb : FVec F S16x1024 .f32) (q : Vec F S1x1024 .i32) (o : ℕ) (ho : o + 16 ≤ 512) : FVec F S16x1024 .f32 :=
  mulf (extractStridedSlice S16x1024 ![o, 0] d (slicesAt o ho)) (subf (codes q) zb)

/-- The gradient of one group's scales, from the loaded rows: the four words' shares added, then the sixteen rows added. -/
def wrowL (i : grid0.Coords) (k : Fin 8) (a : Vec F S4096x512 .bf16) (b : Vec F S4096x1024 .bf16) (z q0 q1 q2 q3 : Vec F S1x1024 .i32) :
    FVec F S1x1024 .f32 :=
  shapeCast S1x1024 (shapeCast S1x1024 (multiReduction .add [0] S1024
    (addf (addf (addf
      (term (k0_pay7 a b) (zeros (Scalar.addi (Scalar.muli (BitVec.ofNat 32 (i 1).val) 8#32) (BitVec.ofNat 32 k.val)) z) q0 (64 * k.val) (by omega))
      (term (k0_pay7 a b) (zeros (Scalar.addi (Scalar.muli (BitVec.ofNat 32 (i 1).val) 8#32) (BitVec.ofNat 32 k.val)) z) q1 (64 * k.val + 16) (by omega)))
      (term (k0_pay7 a b) (zeros (Scalar.addi (Scalar.muli (BitVec.ofNat 32 (i 1).val) 8#32) (BitVec.ofNat 32 k.val)) z) q2 (64 * k.val + 32) (by omega)))
      (term (k0_pay7 a b) (zeros (Scalar.addi (Scalar.muli (BitVec.ofNat 32 (i 1).val) 8#32) (BitVec.ofNat 32 k.val)) z) q3 (64 * k.val + 48) (by omega)))
    0x00000000#32 reduces_S16x1024_S1024 (.inl rfl) rfl) shapeCasts_S1024_S1x1024) shapeCasts_S1x1024_S1x1024

/-- The gradient of group `k`'s scales at a point, from the point's blocks. -/
def wrow (i : grid0.Coords) (x1 : Vec F S4096x512 .bf16) (x2 : Vec F S4096x1024 .bf16) (x3 : Vec F S32x1024 .i32) (x4 : Vec F S14x1024 .i32)
    (k : Fin 8) : FVec F S1x1024 .f32 :=
  wrowL i k (rd x1 (Rect.unit (s := S4096x512) ![0, 0] S4096x512.size inb_S4096x512_S4096x512_0_0))
    (rd x2 (Rect.unit (s := S4096x1024) ![0, 0] S4096x1024.size inb_S4096x1024_S4096x1024_0_0))
    (rd x4 (Rect.unit (s := S14x1024) (k0_off1 i (BitVec.ofNat 32 k.val)) S1x1024.size (k0_off1_inb i k)))
    (rd x3 (Rect.unit (s := S32x1024) ![4 * k.val, 0] S1x1024.size (inbQ _ (by omega))))
    (rd x3 (Rect.unit (s := S32x1024) ![4 * k.val + 1, 0] S1x1024.size (inbQ _ (by omega))))
    (rd x3 (Rect.unit (s := S32x1024) ![4 * k.val + 2, 0] S1x1024.size (inbQ _ (by omega))))
    (rd x3 (Rect.unit (s := S32x1024) ![4 * k.val + 3, 0] S1x1024.size (inbQ _ (by omega))))

/-- The stores of a point's eight rows into the scratch, last first. -/
def rowPieces (i : grid0.Coords) (r : Fin 8 → FVec F S1x1024 .f32) : List (View.Piece (Elt F) S128x1024 .f32) :=
  [⟨Rect.unit (s := S128x1024) (k0_off2 i 7#32) S1x1024.size (k0_off2_inb i 7), r 7⟩,
   ⟨Rect.unit (s := S128x1024) (k0_off2 i 6#32) S1x1024.size (k0_off2_inb i 6), r 6⟩,
   ⟨Rect.unit (s := S128x1024) (k0_off2 i 5#32) S1x1024.size (k0_off2_inb i 5), r 5⟩,
   ⟨Rect.unit (s := S128x1024) (k0_off2 i 4#32) S1x1024.size (k0_off2_inb i 4), r 4⟩,
   ⟨Rect.unit (s := S128x1024) (k0_off2 i 3#32) S1x1024.size (k0_off2_inb i 3), r 3⟩,
   ⟨Rect.unit (s := S128x1024) (k0_off2 i 2#32) S1x1024.size (k0_off2_inb i 2), r 2⟩,
   ⟨Rect.unit (s := S128x1024) (k0_off2 i 1#32) S1x1024.size (k0_off2_inb i 1), r 1⟩,
   ⟨Rect.unit (s := S128x1024) (k0_off2 i 0#32) S1x1024.size (k0_off2_inb i 0), r 0⟩]

/-- A store of a whole output block. -/
def wholePiece (w : FVec F S1024x56 .f32) : List (View.Piece (Elt F) S1024x56 .f32) :=
  [⟨Rect.unit (s := S1024x56) ![0, 0] S1024x56.size inb_S1024x56_S1024x56_0_0, w⟩]

/-- The update's four numbers, in the kernel's order: learning rate, epsilon, and the two bias corrections. -/
def sc0 (x0 : Vec F S3x3 .f32) : Elt F .f32 := rd x0 (Rect.unit (s := S3x3) ![0, 2] S1x1.size inb_S3x3_S1x1_0_2) (Shape.Idx.first (numel1_S1x1.symm ▸ Nat.one_pos))
def sc1 (x0 : Vec F S3x3 .f32) : Elt F .f32 := rd x0 (Rect.unit (s := S3x3) ![1, 2] S1x1.size inb_S3x3_S1x1_1_2) (Shape.Idx.first (numel1_S1x1.symm ▸ Nat.one_pos))
def sc2 (x0 : Vec F S3x3 .f32) : Elt F .f32 := rd x0 (Rect.unit (s := S3x3) ![2, 0] S1x1.size inb_S3x3_S1x1_2_0) (Shape.Idx.first (numel1_S1x1.symm ▸ Nat.one_pos))
def sc3 (x0 : Vec F S3x3 .f32) : Elt F .f32 := rd x0 (Rect.unit (s := S3x3) ![2, 1] S1x1.size inb_S3x3_S1x1_2_1) (Shape.Idx.first (numel1_S1x1.symm ▸ Nat.one_pos))

/-- The five output blocks from the scratch's contents and the point's blocks: the gradient, the step, the scales and the two moments. -/
def oDs (sc : Vec F S128x1024 .f32) : FVec F S1024x56 .f32 := k0_pay2 sc
def oStep (sc : Vec F S128x1024 .f32) (x0 : Vec F S3x3 .f32) (x6 x7 : Vec F S1024x56 .f32) : FVec F S1024x56 .f32 :=
  k0_pay5 sc (rd x6 (Rect.unit (s := S1024x56) ![0, 0] S1024x56.size inb_S1024x56_S1024x56_0_0))
    (rd x7 (Rect.unit (s := S1024x56) ![0, 0] S1024x56.size inb_S1024x56_S1024x56_0_0)) (sc0 x0) (sc1 x0) (sc2 x0) (sc3 x0)
def oS (sc : Vec F S128x1024 .f32) (x0 : Vec F S3x3 .f32) (x5 x6 x7 : Vec F S1024x56 .f32) : FVec F S1024x56 .f32 :=
  k0_pay6 sc (rd x5 (Rect.unit (s := S1024x56) ![0, 0] S1024x56.size inb_S1024x56_S1024x56_0_0))
    (rd x6 (Rect.unit (s := S1024x56) ![0, 0] S1024x56.size inb_S1024x56_S1024x56_0_0))
    (rd x7 (Rect.unit (s := S1024x56) ![0, 0] S1024x56.size inb_S1024x56_S1024x56_0_0)) (sc0 x0) (sc1 x0) (sc2 x0) (sc3 x0)
def oM (sc : Vec F S128x1024 .f32) (x6 : Vec F S1024x56 .f32) : FVec F S1024x56 .f32 :=
  k0_pay3 sc (rd x6 (Rect.unit (s := S1024x56) ![0, 0] S1024x56.size inb_S1024x56_S1024x56_0_0))
def oV (sc : Vec F S128x1024 .f32) (x7 : Vec F S1024x56 .f32) : FVec F S1024x56 .f32 :=
  k0_pay4 sc (rd x7 (Rect.unit (s := S1024x56) ![0, 0] S1024x56.size inb_S1024x56_S1024x56_0_0))

/-- The scratch after a point's stores, loaded whole. -/
def scAfter (arg15 : Memref sig .tc .vmem S128x1024 .f32) (harg15 : arg15.IsWhole) (i : grid0.Coords) (xs : Vec F S128x1024 .f32)
    (r : Fin 8 → FVec F S1x1024 .f32) : Vec F S128x1024 .f32 :=
  View.readAt (Elt F) arg15.view (Rect.unit (s := S128x1024) ![0, 0] S128x1024.size inb_S128x1024_S128x1024_0_0).toLoadRect
    (arg15.view.writes (Elt F) (harg15.unread xs) (rowPieces i r))

/-- A load from a whole buffer that holds `X` reads `X` at the load's rectangle. -/
theorem readAt_eq_rd {s : Shape} {e : EltTy} {sp : Space} {a : Memref sig .tc sp s e} (h : a.IsWhole) (X : Vec F s e) (R : Rect s) :
    View.readAt (Elt F) a.view R.toLoadRect (h.unread X) = rd X R := funext fun y => h.readAt_unread X R.toLoadRect y

variable (c : Dev nD) (i : grid0.Coords) (arg2 : Memref sig .tc .smem S3x3 .f32) (harg2 : arg2.IsWhole) (arg3 : Memref sig .tc .vmem S4096x512 .bf16) (harg3 : arg3.IsWhole) (arg4 : Memref sig .tc .vmem S4096x1024 .bf16) (harg4 : arg4.IsWhole) (arg5 : Memref sig .tc .vmem S32x1024 .i32) (harg5 : arg5.IsWhole) (arg6 : Memref sig .tc .vmem S14x1024 .i32) (harg6 : arg6.IsWhole) (arg7 : Memref sig .tc .vmem S1024x56 .f32) (harg7 : arg7.IsWhole) (arg8 : Memref sig .tc .vmem S1024x56 .f32) (harg8 : arg8.IsWhole) (arg9 : Memref sig .tc .vmem S1024x56 .f32) (harg9 : arg9.IsWhole) (arg10 : Memref sig .tc .vmem S1024x56 .f32) (harg10 : arg10.IsWhole) (arg11 : Memref sig .tc .vmem S1024x56 .f32) (harg11 : arg11.IsWhole) (arg12 : Memref sig .tc .vmem S1024x56 .f32) (harg12 : arg12.IsWhole) (arg13 : Memref sig .tc .vmem S1024x56 .f32) (harg13 : arg13.IsWhole) (arg14 : Memref sig .tc .vmem S1024x56 .f32) (harg14 : arg14.IsWhole) (arg15 : Memref sig .tc .vmem S128x1024 .f32) (harg15 : arg15.IsWhole) (x0 : Vec F S3x3 .f32) (x1 : Vec F S4096x512 .bf16) (x2 : Vec F S4096x1024 .bf16) (x3 : Vec F S32x1024 .i32) (x4 : Vec F S14x1024 .i32) (x5 : Vec F S1024x56 .f32) (x6 : Vec F S1024x56 .f32) (x7 : Vec F S1024x56 .f32) (xs : Vec F S128x1024 .f32)

theorem pieces_A (hc : ¬k0_cond1 i = 1#1) :
    (kernelRun_A (F := F) c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7).1 = rowPieces i (wrow i x1 x2 x3 x4) := by
  unfold wrow
  simp only [← readAt_eq_rd harg3 x1, ← readAt_eq_rd harg4 x2, ← readAt_eq_rd harg5 x3, ← readAt_eq_rd harg6 x4]
  rfl

theorem pieces_B (hc : k0_cond1 i = 1#1) :
    (kernelRun_B (F := F) c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 xs).2.2.2.2.2.1 = rowPieces i (wrow i x1 x2 x3 x4) := by
  unfold wrow
  simp only [← readAt_eq_rd harg3 x1, ← readAt_eq_rd harg4 x2, ← readAt_eq_rd harg5 x3, ← readAt_eq_rd harg6 x4]
  rfl

theorem out_B_8 (hc : k0_cond1 i = 1#1) :
    (kernelRun_B (F := F) c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 xs).1
      = wholePiece (oDs (scAfter arg15 harg15 i xs (wrow i x1 x2 x3 x4))) := by
  unfold wrow
  simp only [oDs, oStep, oS, oM, oV, sc0, sc1, sc2, sc3, ← readAt_eq_rd harg2 x0, ← readAt_eq_rd harg3 x1, ← readAt_eq_rd harg4 x2, ← readAt_eq_rd harg5 x3, ← readAt_eq_rd harg6 x4, ← readAt_eq_rd harg7 x5, ← readAt_eq_rd harg8 x6, ← readAt_eq_rd harg9 x7]
  rfl

theorem out_B_9 (hc : k0_cond1 i = 1#1) :
    (kernelRun_B (F := F) c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 xs).2.1
      = wholePiece (oStep (scAfter arg15 harg15 i xs (wrow i x1 x2 x3 x4)) x0 x6 x7) := by
  unfold wrow
  simp only [oDs, oStep, oS, oM, oV, sc0, sc1, sc2, sc3, ← readAt_eq_rd harg2 x0, ← readAt_eq_rd harg3 x1, ← readAt_eq_rd harg4 x2, ← readAt_eq_rd harg5 x3, ← readAt_eq_rd harg6 x4, ← readAt_eq_rd harg7 x5, ← readAt_eq_rd harg8 x6, ← readAt_eq_rd harg9 x7]
  rfl

theorem out_B_10 (hc : k0_cond1 i = 1#1) :
    (kernelRun_B (F := F) c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 xs).2.2.1
      = wholePiece (oS (scAfter arg15 harg15 i xs (wrow i x1 x2 x3 x4)) x0 x5 x6 x7) := by
  unfold wrow
  simp only [oDs, oStep, oS, oM, oV, sc0, sc1, sc2, sc3, ← readAt_eq_rd harg2 x0, ← readAt_eq_rd harg3 x1, ← readAt_eq_rd harg4 x2, ← readAt_eq_rd harg5 x3, ← readAt_eq_rd harg6 x4, ← readAt_eq_rd harg7 x5, ← readAt_eq_rd harg8 x6, ← readAt_eq_rd harg9 x7]
  rfl

theorem out_B_11 (hc : k0_cond1 i = 1#1) :
    (kernelRun_B (F := F) c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 xs).2.2.2.1
      = wholePiece (oM (scAfter arg15 harg15 i xs (wrow i x1 x2 x3 x4)) x6) := by
  unfold wrow
  simp only [oDs, oStep, oS, oM, oV, sc0, sc1, sc2, sc3, ← readAt_eq_rd harg2 x0, ← readAt_eq_rd harg3 x1, ← readAt_eq_rd harg4 x2, ← readAt_eq_rd harg5 x3, ← readAt_eq_rd harg6 x4, ← readAt_eq_rd harg7 x5, ← readAt_eq_rd harg8 x6, ← readAt_eq_rd harg9 x7]
  rfl

theorem out_B_12 (hc : k0_cond1 i = 1#1) :
    (kernelRun_B (F := F) c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 xs).2.2.2.2.1
      = wholePiece (oV (scAfter arg15 harg15 i xs (wrow i x1 x2 x3 x4)) x7) := by
  unfold wrow
  simp only [oDs, oStep, oS, oM, oV, sc0, sc1, sc2, sc3, ← readAt_eq_rd harg2 x0, ← readAt_eq_rd harg3 x1, ← readAt_eq_rd harg4 x2, ← readAt_eq_rd harg5 x3, ← readAt_eq_rd harg6 x4, ← readAt_eq_rd harg7 x5, ← readAt_eq_rd harg8 x6, ← readAt_eq_rd harg9 x7]
  rfl

end Cert.WgradDownIdeal.Gen

end
-- ==== Proof.WgradDownIdealBody.lean ====
/- The scale update's body meets its launch's obligation at every point, so the call runs to the end; what its output blocks hold is named. -/
module

public import proofs.«01_k».proof.Proof.WgradDownIdealRows
public import Idealize.ShloMosaic.Lib.WritesUnit
public import Idealize.ShloMosaic.Lib.Pointwise.Index
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.WgradDownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where a point stores, and which case it is in -/

theorem lastIff : ∀ t : Fin cfg0.N, k0_cond1 (grid0.coords t) = 1#1 ↔ t.val % 7 = 6 :=
  (by decide +kernel : ∀ t : Fin grid0.N, _)

theorem offRow : ∀ (t : Fin cfg0.N) (k : Fin 8), k0_off2 (grid0.coords t) (BitVec.ofNat 32 k.val) = ![8 * (t.val % 7) + k.val, 0] :=
  (by decide +kernel : ∀ (t : Fin grid0.N) (k : Fin 8), _)

/-- Reading the scratch after a point's eight stores: the point's rows where they are, the earlier contents elsewhere. -/
theorem read_rowPieces (v : View sig .tc .vmem S128x1024 .f32) (f : v.ty.Contents (Elt F)) (t : Fin cfg0.N) (r : Fin 8 → FVec F S1x1024 .f32)
    (y : S128x1024.Idx) :
    v.read (Elt F) (v.writes (Elt F) f (rowPieces (grid0.coords t) r)) y
      = if h : 8 * (t.val % 7) ≤ (y 0).val ∧ (y 0).val < 8 * (t.val % 7) + 8 then
          r ⟨(y 0).val % 8, Nat.mod_lt _ (by decide)⟩ (ix2 (n0 := 1) (n1 := 1024) 0 (y 1))
        else v.read (Elt F) f y := by
  unfold rowPieces
  split
  · rename_i h
    have hk : ∃ k : Fin 8, (y 0).val = 8 * (t.val % 7) + k.val := ⟨⟨(y 0).val - 8 * (t.val % 7), by omega⟩, by show _ = _ + ((y 0).val - 8 * (t.val % 7)); omega⟩
    obtain ⟨k, hk⟩ := hk
    have e : (⟨(y 0).val % 8, Nat.mod_lt _ (by decide)⟩ : Fin 8) = k := Fin.ext (by show (y 0).val % 8 = k.val; omega)
    rw [e]
    fin_cases k
    · replace hk : (y 0).val = 8 * (t.val % 7) + 0 := hk
      refine (View.read_writes_cons_rows_of_not_mem (v := v) (f := f) (d := ![128, 1024]) (W := 1) _ _ _ y (offRow t 7) rfl (Or.inl (by show _ < 8 * (t.val % 7) + 7; omega))).trans ?_
      refine (View.read_writes_cons_rows_of_not_mem (v := v) (f := f) (d := ![128, 1024]) (W := 1) _ _ _ y (offRow t 6) rfl (Or.inl (by show _ < 8 * (t.val % 7) + 6; omega))).trans ?_
      refine (View.read_writes_cons_rows_of_not_mem (v := v) (f := f) (d := ![128, 1024]) (W := 1) _ _ _ y (offRow t 5) rfl (Or.inl (by show _ < 8 * (t.val % 7) + 5; omega))).trans ?_
      refine (View.read_writes_cons_rows_of_not_mem (v := v) (f := f) (d := ![128, 1024]) (W := 1) _ _ _ y (offRow t 4) rfl (Or.inl (by show _ < 8 * (t.val % 7) + 4; omega))).trans ?_
      refine (View.read_writes_cons_rows_of_not_mem (v := v) (f := f) (d := ![128, 1024]) (W := 1) _ _ _ y (offRow t 3) rfl (Or.inl (by show _ < 8 * (t.val % 7) + 3; omega))).trans ?_
      refine (View.read_writes_cons_rows_of_not_mem (v := v) (f := f) (d := ![128, 1024]) (W := 1) _ _ _ y (offRow t 2) rfl (Or.inl (by show _ < 8 * (t.val % 7) + 2; omega))).trans ?_
      refine (View.read_writes_cons_rows_of_not_mem (v := v) (f := f) (d := ![128, 1024]) (W := 1) _ _ _ y (offRow t 1) rfl (Or.inl (by show _ < 8 * (t.val % 7) + 1; omega))).trans ?_
      exact View.read_writes_cons_rows_of_mem (v := v) (f := f) (d := ![128, 1024]) _ _ _ y (ix2 (n0 := 1) (n1 := 1024) 0 (y 1)) (offRow t 0) hk rfl
    · replace hk : (y 0).val = 8 * (t.val % 7) + 1 := hk
      refine (View.read_writes_cons_rows_of_not_mem (v := v) (f := f) (d := ![128, 1024]) (W := 1) _ _ _ y (offRow t 7) rfl (Or.inl (by show _ < 8 * (t.val % 7) + 7; omega))).trans ?_
      refine (View.read_writes_cons_rows_of_not_mem (v := v) (f := f) (d := ![128, 1024]) (W := 1) _ _ _ y (offRow t 6) rfl (Or.inl (by show _ < 8 * (t.val % 7) + 6; omega))).trans ?_
      refine (View.read_writes_cons_rows_of_not_mem (v := v) (f := f) (d := ![128, 1024]) (W := 1) _ _ _ y (offRow t 5) rfl (Or.inl (by show _ < 8 * (t.val % 7) + 5; omega))).trans ?_
      refine (View.read_writes_cons_rows_of_not_mem (v := v) (f := f) (d := ![128, 1024]) (W := 1) _ _ _ y (offRow t 4) rfl (Or.inl (by show _ < 8 * (t.val % 7) + 4; omega))).trans ?_
      refine (View.read_writes_cons_rows_of_not_mem (v := v) (f := f) (d := ![128, 1024]) (W := 1) _ _ _ y (offRow t 3) rfl (Or.inl (by show _ < 8 * (t.val % 7) + 3; omega))).trans ?_
      refine (View.read_writes_cons_rows_of_not_mem (v := v) (f := f) (d := ![128, 1024]) (W := 1) _ _ _ y (offRow t 2) rfl (Or.inl (by show _ < 8 * (t.val % 7) + 2; omega))).trans ?_
      exact View.read_writes_cons_rows_of_mem (v := v) (f := f) (d := ![128, 1024]) _ _ _ y (ix2 (n0 := 1) (n1 := 1024) 0 (y 1)) (offRow t 1) hk rfl
    · replace hk : (y 0).val = 8 * (t.val % 7) + 2 := hk
      refine (View.read_writes_cons_rows_of_not_mem (v := v) (f := f) (d := ![128, 1024]) (W := 1) _ _ _ y (offRow t 7) rfl (Or.inl (by show _ < 8 * (t.val % 7) + 7; omega))).trans ?_
      refine (View.read_writes_cons_rows_of_not_mem (v := v) (f := f) (d := ![128, 1024]) (W := 1) _ _ _ y (offRow t 6) rfl (Or.inl (by show _ < 8 * (t.val % 7) + 6; omega))).trans ?_
      refine (View.read_writes_cons_rows_of_not_mem (v := v) (f := f) (d := ![128, 1024]) (W := 1) _ _ _ y (offRow t 5) rfl (Or.inl (by show _ < 8 * (t.val % 7) + 5; omega))).trans ?_
      refine (View.read_writes_cons_rows_of_not_mem (v := v) (f := f) (d := ![128, 1024]) (W := 1) _ _ _ y (offRow t 4) rfl (Or.inl (by show _ < 8 * (t.val % 7) + 4; omega))).trans ?_
      refine (View.read_writes_cons_rows_of_not_mem (v := v) (f := f) (d := ![128, 1024]) (W := 1) _ _ _ y (offRow t 3) rfl (Or.inl (by show _ < 8 * (t.val % 7) + 3; omega))).trans ?_
      exact View.read_writes_cons_rows_of_mem (v := v) (f := f) (d := ![128, 1024]) _ _ _ y (ix2 (n0 := 1) (n1 := 1024) 0 (y 1)) (offRow t 2) hk rfl
    · replace hk : (y 0).val = 8 * (t.val % 7) + 3 := hk
      refine (View.read_writes_cons_rows_of_not_mem (v := v) (f := f) (d := ![128, 1024]) (W := 1) _ _ _ y (offRow t 7) rfl (Or.inl (by show _ < 8 * (t.val % 7) + 7; omega))).trans ?_
      refine (View.read_writes_cons_rows_of_not_mem (v := v) (f := f) (d := ![128, 1024]) (W := 1) _ _ _ y (offRow t 6) rfl (Or.inl (by show _ < 8 * (t.val % 7) + 6; omega))).trans ?_
      refine (View.read_writes_cons_rows_of_not_mem (v := v) (f := f) (d := ![128, 1024]) (W := 1) _ _ _ y (offRow t 5) rfl (Or.inl (by show _ < 8 * (t.val % 7) + 5; omega))).trans ?_
      refine (View.read_writes_cons_rows_of_not_mem (v := v) (f := f) (d := ![128, 1024]) (W := 1) _ _ _ y (offRow t 4) rfl (Or.inl (by show _ < 8 * (t.val % 7) + 4; omega))).trans ?_
      exact View.read_writes_cons_rows_of_mem (v := v) (f := f) (d := ![128, 1024]) _ _ _ y (ix2 (n0 := 1) (n1 := 1024) 0 (y 1)) (offRow t 3) hk rfl
    · replace hk : (y 0).val = 8 * (t.val % 7) + 4 := hk
      refine (View.read_writes_cons_rows_of_not_mem (v := v) (f := f) (d := ![128, 1024]) (W := 1) _ _ _ y (offRow t 7) rfl (Or.inl (by show _ < 8 * (t.val % 7) + 7; omega))).trans ?_
      refine (View.read_writes_cons_rows_of_not_mem (v := v) (f := f) (d := ![128, 1024]) (W := 1) _ _ _ y (offRow t 6) rfl (Or.inl (by show _ < 8 * (t.val % 7) + 6; omega))).trans ?_
      refine (View.read_writes_cons_rows_of_not_mem (v := v) (f := f) (d := ![128, 1024]) (W := 1) _ _ _ y (offRow t 5) rfl (Or.inl (by show _ < 8 * (t.val % 7) + 5; omega))).trans ?_
      exact View.read_writes_cons_rows_of_mem (v := v) (f := f) (d := ![128, 1024]) _ _ _ y (ix2 (n0 := 1) (n1 := 1024) 0 (y 1)) (offRow t 4) hk rfl
    · replace hk : (y 0).val = 8 * (t.val % 7) + 5 := hk
      refine (View.read_writes_cons_rows_of_not_mem (v := v) (f := f) (d := ![128, 1024]) (W := 1) _ _ _ y (offRow t 7) rfl (Or.inl (by show _ < 8 * (t.val % 7) + 7; omega))).trans ?_
      refine (View.read_writes_cons_rows_of_not_mem (v := v) (f := f) (d := ![128, 1024]) (W := 1) _ _ _ y (offRow t 6) rfl (Or.inl (by show _ < 8 * (t.val % 7) + 6; omega))).trans ?_
      exact View.read_writes_cons_rows_of_mem (v := v) (f := f) (d := ![128, 1024]) _ _ _ y (ix2 (n0 := 1) (n1 := 1024) 0 (y 1)) (offRow t 5) hk rfl
    · replace hk : (y 0).val = 8 * (t.val % 7) + 6 := hk
      refine (View.read_writes_cons_rows_of_not_mem (v := v) (f := f) (d := ![128, 1024]) (W := 1) _ _ _ y (offRow t 7) rfl (Or.inl (by show _ < 8 * (t.val % 7) + 7; omega))).trans ?_
      exact View.read_writes_cons_rows_of_mem (v := v) (f := f) (d := ![128, 1024]) _ _ _ y (ix2 (n0 := 1) (n1 := 1024) 0 (y 1)) (offRow t 6) hk rfl
    · replace hk : (y 0).val = 8 * (t.val % 7) + 7 := hk
      exact View.read_writes_cons_rows_of_mem (v := v) (f := f) (d := ![128, 1024]) _ _ _ y (ix2 (n0 := 1) (n1 := 1024) 0 (y 1)) (offRow t 7) hk rfl
  · rename_i h
    refine (View.read_writes_cons_rows_of_not_mem (v := v) (f := f) (d := ![128, 1024]) (W := 1) _ _ _ y (offRow t 7) rfl (by show _ < 8 * (t.val % 7) + 7 ∨ 8 * (t.val % 7) + 7 + 1 ≤ _; omega)).trans ?_
    refine (View.read_writes_cons_rows_of_not_mem (v := v) (f := f) (d := ![128, 1024]) (W := 1) _ _ _ y (offRow t 6) rfl (by show _ < 8 * (t.val % 7) + 6 ∨ 8 * (t.val % 7) + 6 + 1 ≤ _; omega)).trans ?_
    refine (View.read_writes_cons_rows_of_not_mem (v := v) (f := f) (d := ![128, 1024]) (W := 1) _ _ _ y (offRow t 5) rfl (by show _ < 8 * (t.val % 7) + 5 ∨ 8 * (t.val % 7) + 5 + 1 ≤ _; omega)).trans ?_
    refine (View.read_writes_cons_rows_of_not_mem (v := v) (f := f) (d := ![128, 1024]) (W := 1) _ _ _ y (offRow t 4) rfl (by show _ < 8 * (t.val % 7) + 4 ∨ 8 * (t.val % 7) + 4 + 1 ≤ _; omega)).trans ?_
    refine (View.read_writes_cons_rows_of_not_mem (v := v) (f := f) (d := ![128, 1024]) (W := 1) _ _ _ y (offRow t 3) rfl (by show _ < 8 * (t.val % 7) + 3 ∨ 8 * (t.val % 7) + 3 + 1 ≤ _; omega)).trans ?_
    refine (View.read_writes_cons_rows_of_not_mem (v := v) (f := f) (d := ![128, 1024]) (W := 1) _ _ _ y (offRow t 2) rfl (by show _ < 8 * (t.val % 7) + 2 ∨ 8 * (t.val % 7) + 2 + 1 ≤ _; omega)).trans ?_
    refine (View.read_writes_cons_rows_of_not_mem (v := v) (f := f) (d := ![128, 1024]) (W := 1) _ _ _ y (offRow t 1) rfl (by show _ < 8 * (t.val % 7) + 1 ∨ 8 * (t.val % 7) + 1 + 1 ≤ _; omega)).trans ?_
    refine (View.read_writes_cons_rows_of_not_mem (v := v) (f := f) (d := ![128, 1024]) (W := 1) _ _ _ y (offRow t 0) rfl (by show _ < 8 * (t.val % 7) + 0 ∨ 8 * (t.val % 7) + 0 + 1 ≤ _; omega)).trans ?_
    rfl

/-- A whole block stored and read back. -/
theorem read_wholePiece (v : View sig .tc .vmem S1024x56 .f32) (f : v.ty.Contents (Elt F)) (w : FVec F S1024x56 .f32) :
    v.read (Elt F) (v.writes (Elt F) f (wholePiece w)) = w := by
  funext y
  exact View.read_writes_cons_unit_of_mem (v := v) (f := f) _ w [] y y rfl (fun a => by match a with | ⟨0, _⟩ => exact (Nat.zero_add _).symm | ⟨1, _⟩ => exact (Nat.zero_add _).symm)

/-- The scratch's first 56 rows decide the gradient block. -/
theorem oDs_congr {s s' : Vec F S128x1024 .f32} (h : ∀ y : S128x1024.Idx, (y 0).val < 56 → s y = s' y) : oDs s = oDs s' := by
  funext y
  refine h _ ?_
  exact lt_of_eq_of_lt (Nat.zero_add _) (y 1).isLt

theorem oStep_congr {s s' : Vec F S128x1024 .f32} (h : oDs s = oDs s') x0 x6 x7 : oStep s x0 x6 x7 = oStep s' x0 x6 x7 := by
  unfold oDs at h
  unfold oStep k0_pay5 k0_pay3 k0_pay4
  rw [h]
theorem oS_congr {s s' : Vec F S128x1024 .f32} (h : oDs s = oDs s') x0 x5 x6 x7 : oS s x0 x5 x6 x7 = oS s' x0 x5 x6 x7 := by
  unfold oDs at h
  unfold oS k0_pay6 k0_pay5 k0_pay3 k0_pay4
  rw [h]
theorem oM_congr {s s' : Vec F S128x1024 .f32} (h : oDs s = oDs s') x6 : oM s x6 = oM s' x6 := by
  unfold oDs at h
  unfold oM k0_pay3
  rw [h]
theorem oV_congr {s s' : Vec F S128x1024 .f32} (h : oDs s = oDs s') x7 : oV s x7 = oV s' x7 := by
  unfold oDs at h
  unfold oV k0_pay4
  rw [h]

variable (m : (ℓ : Loc nD τ sig) → Buf (Elt F) ℓ) (ρ : Dev nD → PrngReg)

/-! ## What the scratch holds -/

/-- The eight rows of a point, from the blocks staged there. -/
def rowAt (c : Dev nD) (t : Fin cfg0.N) (k : Fin 8) : FVec F S1x1024 .f32 :=
  wrow (grid0.coords t) (iblk m c 1 t) (iblk m c 2 t) (iblk m c 3 t) (iblk m c 4 t) k

/-- The point of row band `b` that fills scratch row `r`. -/
def ptOf (b r : ℕ) : Fin cfg0.N := ⟨min (7 * b + r / 8) 55, by show _ < cfg0.N; rw [show cfg0.N = 56 from N_0]; omega⟩

/-- The scratch once band `b` has filled it (its first 56 rows). -/
def scOf (c : Dev nD) (b : ℕ) : Vec F S128x1024 .f32 := fun y =>
  rowAt m c (ptOf b (y 0).val) ⟨(y 0).val % 8, Nat.mod_lt _ (by decide)⟩ (ix2 (n0 := 1) (n1 := 1024) 0 (y 1))

/-- Before point `n` the scratch holds the rows of the band's earlier points. -/
def Fill (c : Dev nD) (n : ℕ) (d : Vec F S128x1024 .f32) : Prop :=
  ∀ y : S128x1024.Idx, (y 0).val < 8 * (n % 7) → d y = scOf m c (n / 7) y

theorem fill_step (c : Dev nD) (t : Fin cfg0.N) (v : View sig .tc .vmem S128x1024 .f32) (f : v.ty.Contents (Elt F))
    (h : Fill m c t.val (v.read (Elt F) f)) (y : S128x1024.Idx) (hy : (y 0).val < 8 * (t.val % 7) + 8) :
    v.read (Elt F) (v.writes (Elt F) f (rowPieces (grid0.coords t) (rowAt m c t))) y = scOf m c (t.val / 7) y := by
  rw [read_rowPieces]
  split
  · rename_i hr
    unfold scOf
    have hN : t.val < 56 := lt_of_lt_of_eq t.isLt (show cfg0.N = 56 from N_0)
    have e : ptOf (t.val / 7) (y 0).val = t := Fin.ext (by show min (7 * (t.val / 7) + (y 0).val / 8) 55 = t.val; omega)
    rw [e]
  · exact h y (by omega)

theorem fill_next (c : Dev nD) (t : Fin cfg0.N) (v : View sig .tc .vmem S128x1024 .f32) (f : v.ty.Contents (Elt F))
    (h : Fill m c t.val (v.read (Elt F) f)) :
    Fill m c (t.val + 1) (v.read (Elt F) (v.writes (Elt F) f (rowPieces (grid0.coords t) (rowAt m c t)))) := fun y hy => by
  by_cases h6 : t.val % 7 = 6
  · exact absurd hy (by rw [show (t.val + 1) % 7 = 0 by omega]; omega)
  · rw [show (t.val + 1) / 7 = t.val / 7 by omega]
    exact fill_step m c t v f h y (by rw [show (t.val + 1) % 7 = t.val % 7 + 1 by omega] at hy; omega)

/-- At a band's last point the loaded scratch gives the gradient block of the whole band. -/
theorem oDs_last (c : Dev nD) (t : Fin cfg0.N) (h6 : t.val % 7 = 6) (a : Memref sig .tc .vmem S128x1024 .f32) (ha : a.IsWhole)
    (xs : Vec F S128x1024 .f32) (h : Fill m c t.val xs) :
    oDs (scAfter a ha (grid0.coords t) xs (rowAt m c t)) = oDs (scOf m c (t.val / 7)) := by
  refine oDs_congr fun y hy => ?_
  have hx : (Rect.unit (s := S128x1024) ![0, 0] S128x1024.size inb_S128x1024_S128x1024_0_0).toLoadRect.idx y = y :=
    funext fun a => Fin.ext (by
      match a with
      | ⟨0, _⟩ => show 0 + (1 * _) = _; omega
      | ⟨1, _⟩ => show 0 + (1 * _) = _; omega)
  unfold scAfter
  rw [View.readAt_apply, hx]
  exact fill_step m c t a.view (ha.unread xs) (by rw [ha.read_unread]; exact h) y (by omega)

abbrev ms0 (t : Fin cfg0.N) : Memref sig .tc .smem S3x3 .f32 := win0_0.stage (cfg0.slots t 0)
abbrev hs0 (t : Fin cfg0.N) : (ms0 t).IsWhole := hstage0_0 ((cfg0.slots t 0).cast nbuf0_0)
theorem live0 : ∀ t : Fin cfg0.N, cfg0.idle 0 (grid0.coords t) = false := fun _ => rfl
abbrev ms1 (t : Fin cfg0.N) : Memref sig .tc .vmem S4096x512 .bf16 := win0_1.stage (cfg0.slots t 1)
abbrev hs1 (t : Fin cfg0.N) : (ms1 t).IsWhole := hstage0_1 ((cfg0.slots t 1).cast nbuf0_1)
theorem live1 : ∀ t : Fin cfg0.N, cfg0.idle 1 (grid0.coords t) = false := fun _ => rfl
abbrev ms2 (t : Fin cfg0.N) : Memref sig .tc .vmem S4096x1024 .bf16 := win0_2.stage (cfg0.slots t 2)
abbrev hs2 (t : Fin cfg0.N) : (ms2 t).IsWhole := hstage0_2 ((cfg0.slots t 2).cast nbuf0_2)
theorem live2 : ∀ t : Fin cfg0.N, cfg0.idle 2 (grid0.coords t) = false := fun _ => rfl
abbrev ms3 (t : Fin cfg0.N) : Memref sig .tc .vmem S32x1024 .i32 := win0_3.stage (cfg0.slots t 3)
abbrev hs3 (t : Fin cfg0.N) : (ms3 t).IsWhole := hstage0_3 ((cfg0.slots t 3).cast nbuf0_3)
theorem live3 : ∀ t : Fin cfg0.N, cfg0.idle 3 (grid0.coords t) = false := fun _ => rfl
abbrev ms4 (t : Fin cfg0.N) : Memref sig .tc .vmem S14x1024 .i32 := win0_4.stage (cfg0.slots t 4)
abbrev hs4 (t : Fin cfg0.N) : (ms4 t).IsWhole := hstage0_4 ((cfg0.slots t 4).cast nbuf0_4)
theorem live4 : ∀ t : Fin cfg0.N, cfg0.idle 4 (grid0.coords t) = false := fun _ => rfl
abbrev ms5 (t : Fin cfg0.N) : Memref sig .tc .vmem S1024x56 .f32 := win0_5.stage (cfg0.slots t 5)
abbrev hs5 (t : Fin cfg0.N) : (ms5 t).IsWhole := hstage0_5 ((cfg0.slots t 5).cast nbuf0_5)
theorem live5 : ∀ t : Fin cfg0.N, cfg0.idle 5 (grid0.coords t) = false := fun _ => rfl
abbrev ms6 (t : Fin cfg0.N) : Memref sig .tc .vmem S1024x56 .f32 := win0_6.stage (cfg0.slots t 6)
abbrev hs6 (t : Fin cfg0.N) : (ms6 t).IsWhole := hstage0_6 ((cfg0.slots t 6).cast nbuf0_6)
theorem live6 : ∀ t : Fin cfg0.N, cfg0.idle 6 (grid0.coords t) = false := fun _ => rfl
abbrev ms7 (t : Fin cfg0.N) : Memref sig .tc .vmem S1024x56 .f32 := win0_7.stage (cfg0.slots t 7)
abbrev hs7 (t : Fin cfg0.N) : (ms7 t).IsWhole := hstage0_7 ((cfg0.slots t 7).cast nbuf0_7)
theorem live7 : ∀ t : Fin cfg0.N, cfg0.idle 7 (grid0.coords t) = false := fun _ => rfl
abbrev ms8 (t : Fin cfg0.N) : Memref sig .tc .vmem S1024x56 .f32 := win0_8.stage (cfg0.slots t 8)
abbrev hs8 (t : Fin cfg0.N) : (ms8 t).IsWhole := hstage0_8 ((cfg0.slots t 8).cast nbuf0_8)
theorem live8_B : ∀ t : Fin cfg0.N, k0_cond1 (grid0.coords t) = 1#1 → cfg0.idle 8 (grid0.coords t) = false := by decide +kernel
theorem idle8_A : ∀ t : Fin cfg0.N, ¬k0_cond1 (grid0.coords t) = 1#1 → cfg0.idle 8 (grid0.coords t) = true := by decide +kernel
theorem noFlush8_A : ∀ t : Fin cfg0.N, ¬k0_cond1 (grid0.coords t) = 1#1 → (cfg0.win 8).flush t = false := by decide +kernel
abbrev ms9 (t : Fin cfg0.N) : Memref sig .tc .vmem S1024x56 .f32 := win0_9.stage (cfg0.slots t 9)
abbrev hs9 (t : Fin cfg0.N) : (ms9 t).IsWhole := hstage0_9 ((cfg0.slots t 9).cast nbuf0_9)
theorem live9_B : ∀ t : Fin cfg0.N, k0_cond1 (grid0.coords t) = 1#1 → cfg0.idle 9 (grid0.coords t) = false := by decide +kernel
theorem idle9_A : ∀ t : Fin cfg0.N, ¬k0_cond1 (grid0.coords t) = 1#1 → cfg0.idle 9 (grid0.coords t) = true := by decide +kernel
theorem noFlush9_A : ∀ t : Fin cfg0.N, ¬k0_cond1 (grid0.coords t) = 1#1 → (cfg0.win 9).flush t = false := by decide +kernel
abbrev ms10 (t : Fin cfg0.N) : Memref sig .tc .vmem S1024x56 .f32 := win0_10.stage (cfg0.slots t 10)
abbrev hs10 (t : Fin cfg0.N) : (ms10 t).IsWhole := hstage0_10 ((cfg0.slots t 10).cast nbuf0_10)
theorem live10_B : ∀ t : Fin cfg0.N, k0_cond1 (grid0.coords t) = 1#1 → cfg0.idle 10 (grid0.coords t) = false := by decide +kernel
theorem idle10_A : ∀ t : Fin cfg0.N, ¬k0_cond1 (grid0.coords t) = 1#1 → cfg0.idle 10 (grid0.coords t) = true := by decide +kernel
theorem noFlush10_A : ∀ t : Fin cfg0.N, ¬k0_cond1 (grid0.coords t) = 1#1 → (cfg0.win 10).flush t = false := by decide +kernel
abbrev ms11 (t : Fin cfg0.N) : Memref sig .tc .vmem S1024x56 .f32 := win0_11.stage (cfg0.slots t 11)
abbrev hs11 (t : Fin cfg0.N) : (ms11 t).IsWhole := hstage0_11 ((cfg0.slots t 11).cast nbuf0_11)
theorem live11_B : ∀ t : Fin cfg0.N, k0_cond1 (grid0.coords t) = 1#1 → cfg0.idle 11 (grid0.coords t) = false := by decide +kernel
theorem idle11_A : ∀ t : Fin cfg0.N, ¬k0_cond1 (grid0.coords t) = 1#1 → cfg0.idle 11 (grid0.coords t) = true := by decide +kernel
theorem noFlush11_A : ∀ t : Fin cfg0.N, ¬k0_cond1 (grid0.coords t) = 1#1 → (cfg0.win 11).flush t = false := by decide +kernel
abbrev ms12 (t : Fin cfg0.N) : Memref sig .tc .vmem S1024x56 .f32 := win0_12.stage (cfg0.slots t 12)
abbrev hs12 (t : Fin cfg0.N) : (ms12 t).IsWhole := hstage0_12 ((cfg0.slots t 12).cast nbuf0_12)
theorem live12_B : ∀ t : Fin cfg0.N, k0_cond1 (grid0.coords t) = 1#1 → cfg0.idle 12 (grid0.coords t) = false := by decide +kernel
theorem idle12_A : ∀ t : Fin cfg0.N, ¬k0_cond1 (grid0.coords t) = 1#1 → cfg0.idle 12 (grid0.coords t) = true := by decide +kernel
theorem noFlush12_A : ∀ t : Fin cfg0.N, ¬k0_cond1 (grid0.coords t) = 1#1 → (cfg0.win 12).flush t = false := by decide +kernel

/-- The kernel's scratch as a memref. -/
abbrev scM : Memref sig .tc .vmem S128x1024 .f32 := Memref.whole cc0_scratch0

theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The invariant before point `n`: the scratch holds the band's earlier rows; the generator register is at some state. -/
def PhiS (c : Dev nD) (n : ℕ) : sProp 𝕄 :=
  iprop((∃ d, ⌜Fill m c n d⌝ ∗ owns (c : Thread nD τ) scM fullShare d) ∗ (∃ r, prngReg c r))

/-- The pipeline's proof data: each input's buffer keeps its block; the outputs' hold what the band's scratch decides. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => oDs (scOf m c (t.val / 7))
    | ⟨9, _⟩ => oStep (scOf m c (t.val / 7)) (iblk m c 0 t) (iblk m c 6 t) (iblk m c 7 t)
    | ⟨10, _⟩ => oS (scOf m c (t.val / 7)) (iblk m c 0 t) (iblk m c 5 t) (iblk m c 6 t) (iblk m c 7 t)
    | ⟨11, _⟩ => oM (scOf m c (t.val / 7)) (iblk m c 6 t)
    | ⟨12, _⟩ => oV (scOf m c (t.val / 7)) (iblk m c 7 t)
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = oDs (scOf m c (t.val / 7)) := by dsimp only [dats]
theorem after9 (c : Dev nD) (t : Fin cfg0.N) : (dats m 0 c).after 9 t = oStep (scOf m c (t.val / 7)) (iblk m c 0 t) (iblk m c 6 t) (iblk m c 7 t) := by dsimp only [dats]
theorem after10 (c : Dev nD) (t : Fin cfg0.N) : (dats m 0 c).after 10 t = oS (scOf m c (t.val / 7)) (iblk m c 0 t) (iblk m c 5 t) (iblk m c 6 t) (iblk m c 7 t) := by dsimp only [dats]
theorem after11 (c : Dev nD) (t : Fin cfg0.N) : (dats m 0 c).after 11 t = oM (scOf m c (t.val / 7)) (iblk m c 6 t) := by dsimp only [dats]
theorem after12 (c : Dev nD) (t : Fin cfg0.N) : (dats m 0 c).after 12 t = oV (scOf m c (t.val / 7)) (iblk m c 7 t) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-! ## The body at any point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 3200000 in
/-- The body's triple at any point, by its two cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  by_cases h0 : k0_cond1 (grid0.coords t) = 1#1
  · rw [show (dats m 0 c).leavesExact 0 t = owns (c : Thread nD τ) (ms0 t) fullShare ((dats m 0 c).after 0 t) from by
      unfold Dat.leavesExact; rw [live0 t], after0]
    rw [show (dats m 0 c).leavesExact 1 t = owns (c : Thread nD τ) (ms1 t) fullShare ((dats m 0 c).after 1 t) from by
      unfold Dat.leavesExact; rw [live1 t], after1]
    rw [show (dats m 0 c).leavesExact 2 t = owns (c : Thread nD τ) (ms2 t) fullShare ((dats m 0 c).after 2 t) from by
      unfold Dat.leavesExact; rw [live2 t], after2]
    rw [show (dats m 0 c).leavesExact 3 t = owns (c : Thread nD τ) (ms3 t) fullShare ((dats m 0 c).after 3 t) from by
      unfold Dat.leavesExact; rw [live3 t], after3]
    rw [show (dats m 0 c).leavesExact 4 t = owns (c : Thread nD τ) (ms4 t) fullShare ((dats m 0 c).after 4 t) from by
      unfold Dat.leavesExact; rw [live4 t], after4]
    rw [show (dats m 0 c).leavesExact 5 t = owns (c : Thread nD τ) (ms5 t) fullShare ((dats m 0 c).after 5 t) from by
      unfold Dat.leavesExact; rw [live5 t], after5]
    rw [show (dats m 0 c).leavesExact 6 t = owns (c : Thread nD τ) (ms6 t) fullShare ((dats m 0 c).after 6 t) from by
      unfold Dat.leavesExact; rw [live6 t], after6]
    rw [show (dats m 0 c).leavesExact 7 t = owns (c : Thread nD τ) (ms7 t) fullShare ((dats m 0 c).after 7 t) from by
      unfold Dat.leavesExact; rw [live7 t], after7]
    rw [show (dats m 0 c).leavesExact 8 t = owns (c : Thread nD τ) (ms8 t) fullShare ((dats m 0 c).after 8 t) from by
      unfold Dat.leavesExact; rw [live8_B t h0], after8]
    rw [show (dats m 0 c).leavesExact 9 t = owns (c : Thread nD τ) (ms9 t) fullShare ((dats m 0 c).after 9 t) from by
      unfold Dat.leavesExact; rw [live9_B t h0], after9]
    rw [show (dats m 0 c).leavesExact 10 t = owns (c : Thread nD τ) (ms10 t) fullShare ((dats m 0 c).after 10 t) from by
      unfold Dat.leavesExact; rw [live10_B t h0], after10]
    rw [show (dats m 0 c).leavesExact 11 t = owns (c : Thread nD τ) (ms11 t) fullShare ((dats m 0 c).after 11 t) from by
      unfold Dat.leavesExact; rw [live11_B t h0], after11]
    rw [show (dats m 0 c).leavesExact 12 t = owns (c : Thread nD τ) (ms12 t) fullShare ((dats m 0 c).after 12 t) from by
      unfold Dat.leavesExact; rw [live12_B t h0], after12]
    iintro ⟨⟨⟨%xs, %hF, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    have hD := oDs_last m c t ((lastIff t).mp h0) scM (Memref.isWhole_whole _) xs hF
    have hF' := fill_next m c t scM.view ((Memref.isWhole_whole _).unread xs) (by rw [(Memref.isWhole_whole _).read_unread]; exact hF)
    iapply ((kernelRun_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM (Memref.isWhole_whole _) h0 (iblk m c 0 t) (iblk m c 1 t) (iblk m c 2 t) (iblk m c 3 t) (iblk m c 4 t) (iblk m c 5 t) (iblk m c 6 t) (iblk m c 7 t) xs).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [HS]; · iexact HS
    iintro ⟨H0, H1, H2, H3, H4, H5, H6, H7, ⟨%e8, H8⟩, ⟨%e9, H9⟩, ⟨%e10, H10⟩, ⟨%e11, H11⟩, ⟨%e12, H12⟩, HS⟩
    isplitl [HS Hg]
    · isplitl [HS]
      · iexists _; isplitr
        swap
        · unfold owns; iexists _; isplitr
          swap; · iexact HS
          ipureintro; rfl
        ipureintro; rw [pieces_B]; exact hF'
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; rw [out_B_8, read_wholePiece]; exact hD
    isplitl [H9]
    · unfold owns; iexists _; isplitr
      swap; · iexact H9
      ipureintro; rw [out_B_9, read_wholePiece]; exact oStep_congr hD _ _ _
    isplitl [H10]
    · unfold owns; iexists _; isplitr
      swap; · iexact H10
      ipureintro; rw [out_B_10, read_wholePiece]; exact oS_congr hD _ _ _ _
    isplitl [H11]
    · unfold owns; iexists _; isplitr
      swap; · iexact H11
      ipureintro; rw [out_B_11, read_wholePiece]; exact oM_congr hD _
    unfold owns; iexists _; isplitr
    swap; · iexact H12
    ipureintro; rw [out_B_12, read_wholePiece]; exact oV_congr hD _
  · rw [show (dats m 0 c).leavesExact 0 t = owns (c : Thread nD τ) (ms0 t) fullShare ((dats m 0 c).after 0 t) from by
      unfold Dat.leavesExact; rw [live0 t], after0]
    rw [show (dats m 0 c).leavesExact 1 t = owns (c : Thread nD τ) (ms1 t) fullShare ((dats m 0 c).after 1 t) from by
      unfold Dat.leavesExact; rw [live1 t], after1]
    rw [show (dats m 0 c).leavesExact 2 t = owns (c : Thread nD τ) (ms2 t) fullShare ((dats m 0 c).after 2 t) from by
      unfold Dat.leavesExact; rw [live2 t], after2]
    rw [show (dats m 0 c).leavesExact 3 t = owns (c : Thread nD τ) (ms3 t) fullShare ((dats m 0 c).after 3 t) from by
      unfold Dat.leavesExact; rw [live3 t], after3]
    rw [show (dats m 0 c).leavesExact 4 t = owns (c : Thread nD τ) (ms4 t) fullShare ((dats m 0 c).after 4 t) from by
      unfold Dat.leavesExact; rw [live4 t], after4]
    rw [show (dats m 0 c).leavesExact 5 t = owns (c : Thread nD τ) (ms5 t) fullShare ((dats m 0 c).after 5 t) from by
      unfold Dat.leavesExact; rw [live5 t], after5]
    rw [show (dats m 0 c).leavesExact 6 t = owns (c : Thread nD τ) (ms6 t) fullShare ((dats m 0 c).after 6 t) from by
      unfold Dat.leavesExact; rw [live6 t], after6]
    rw [show (dats m 0 c).leavesExact 7 t = owns (c : Thread nD τ) (ms7 t) fullShare ((dats m 0 c).after 7 t) from by
      unfold Dat.leavesExact; rw [live7 t], after7]
    rw [Dat.leavesExact_idle (dats m 0 c) 8 t (idle8_A t h0) (noFlush8_A t h0)]
    rw [Dat.leavesExact_idle (dats m 0 c) 9 t (idle9_A t h0) (noFlush9_A t h0)]
    rw [Dat.leavesExact_idle (dats m 0 c) 10 t (idle10_A t h0) (noFlush10_A t h0)]
    rw [Dat.leavesExact_idle (dats m 0 c) 11 t (idle11_A t h0) (noFlush11_A t h0)]
    rw [Dat.leavesExact_idle (dats m 0 c) 12 t (idle12_A t h0) (noFlush12_A t h0)]
    iintro ⟨⟨⟨%xs, %hF, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    have hF' := fill_next m c t scM.view ((Memref.isWhole_whole _).unread xs) (by rw [(Memref.isWhole_whole _).read_unread]; exact hF)
    iapply ((kernelRun_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM (Memref.isWhole_whole _) h0 (iblk m c 0 t) (iblk m c 1 t) (iblk m c 2 t) (iblk m c 3 t) (iblk m c 4 t) (iblk m c 5 t) (iblk m c 6 t) (iblk m c 7 t)).2 _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS]; · iexact HS
    iintro ⟨H0, H1, H2, H3, H4, H5, H6, H7, H8, H9, H10, H11, H12, HS⟩
    isplitl [HS Hg]
    · isplitl [HS]
      · iexists _; isplitr
        swap
        · unfold owns; iexists _; isplitr
          swap; · iexact HS
          ipureintro; rfl
        ipureintro; rw [pieces_A]; exact hF'
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    iexists _; iexact H12

/-- The body table's row at a point's slots is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point: nothing is asked of the scratch there. -/
theorem hin (c : Dev nD) : Pipeline.ΦA spec0 c ⊢ (dats m 0 c).Φ 0 := by
  rw [show (dats m 0 c).Φ 0 = PhiS m c 0 from rfl, PhiA_eq]
  unfold PhiS
  iintro ⟨⟨%d, HS⟩, Hg⟩
  isplitl [HS]
  · iexists d; isplitr
    swap; · iexact HS
    ipureintro; exact fun y hy => absurd hy (by omega)
  iexact Hg

/-- After the last point what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]
  unfold PhiS
  iintro ⟨⟨%d, -, HS⟩, Hg⟩
  isplitl [HS]
  · iexists _; iexact HS
  iexact Hg

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every run ends with the windows' arrays as the proof data says. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- The frame: the program runs to its end, its arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.WgradDownIdeal.Gen

end
-- ==== Proof.WgradDownPure.lean ====
/- One row of the scratch is the reference's gradient of one group's scales. -/
module

public import proofs.«01_k».proof.Proof.WgradDownIdealBody
public import proofs.«01_k».proof.Proof.Gen.WgradDownRefIdeal.Run
public import proofs.«01_k».proof.Proof.Gen.WgradDownRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.WgradDownIdeal.Value

open Cert.WgradDownIdeal Cert.WgradDownIdeal.Gen
open Cert.WgradDownRefIdeal.Read

/-- Two bits of a word read as a number: the kernel's signed reading is the reference's unsigned one. -/
theorem field_eq (w s s' : BitVec 32) (h : s = s') (hs : s'.toNat < 32) :
    (FloatOps.sitofp (F := Ideal) .f32 (IntOp.andi (IntOp.shrui .vector w s) 3#32) : EReal)
    = FloatOps.uitofp (F := Ideal) .f32 (IntOp.andi (IntOp.shrui .host w s') 3#32) := by
  subst h
  unfold IntOp.shrui
  rw [if_pos hs, if_pos hs]
  generalize hx : IntOp.andi (w >>> s) 3#32 = x
  have hlt : x.toNat ≤ 3 := by
    rw [← hx]
    show ((w >>> s) &&& 3#32).toNat ≤ 3
    rw [BitVec.toNat_and]
    exact Nat.and_le_right
  have hi : x.toInt = (x.toNat : ℤ) := BitVec.toInt_eq_toNat_of_lt (by omega)
  show ((x.toInt : ℝ) : EReal) = ((x.toNat : ℝ) : EReal)
  rw [hi]
  norm_cast

/-- The shift of a word's field number `n`. -/
theorem shift_lt (n : ℕ) (hn : n < 16) : (IntOp.muli 2#32 (BitVec.ofNat 32 n)).toNat < 32 := by
  show (2#32 * BitVec.ofNat 32 n).toNat < 32
  rw [BitVec.toNat_mul, BitVec.toNat_ofNat]
  show 2 * (n % 4294967296) % 4294967296 < 32
  omega

/-- The shift of a group's zero point: twice the group's place among the four of its byte. -/
theorem zshift (j k g : ℕ) (hk : k < 8) (hj : j < 64) (hg : 8 * j + k = g) :
    Scalar.muli 2#32 (Scalar.andi (Scalar.addi (Scalar.muli (BitVec.ofNat 32 j) 8#32) (BitVec.ofNat 32 k)) 3#32)
    = IntOp.muli 2#32 (BitVec.ofNat 32 (g % 4)) := by
  subst hg
  show 2#32 * ((BitVec.ofNat 32 j * 8#32 + BitVec.ofNat 32 k) &&& 3#32) = 2#32 * BitVec.ofNat 32 ((8 * j + k) % 4)
  congr 1
  apply BitVec.eq_of_toNat_eq
  rw [BitVec.toNat_and, BitVec.toNat_add, BitVec.toNat_mul]
  simp only [BitVec.toNat_ofNat]
  show _ &&& (2 ^ 2 - 1) = _
  rw [Nat.and_two_pow_sub_one_eq_mod]
  omega

/-- One group's row at one column: the reference's sum, when the blocks hold the reference's arrays at the group's place. -/
theorem row_eq (i : grid0.Coords) (k : Fin 8) (a : FVec Ideal S4096x512 .bf16) (b : FVec Ideal S4096x1024 .bf16)
    (z q0 q1 q2 q3 : IVec S1x1024 32) (l : Fin 1024)
    (x0 : FVec Ideal Cert.WgradDownRefIdeal.S4096x3584 .bf16) (x1 : FVec Ideal Cert.WgradDownRefIdeal.S4x1024x8192 .bf16)
    (x2 : IVec Cert.WgradDownRefIdeal.S8192x224 32) (x3 : IVec Cert.WgradDownRefIdeal.S8192x14 8) (r : Fin 8192) (g : Fin 56)
    (hi : (i 1).val < 7) (hg : 8 * (i 1).val + k.val = g.val)
    (ha : ∀ (t : Fin 4096) (n : Fin 512) (n' : Fin 3584), n'.val = 512 * (i 1).val + n.val → a (ix2 t n) = x0 (ix2 t n'))
    (hb : ∀ t : Fin 4096, b (ix2 t l) = val_main_v0 (F := Ideal) x1 (ix2 t r))
    (h0 : ∀ n : Fin 224, n.val = g.val * 4 + 0 → q0 (ix2 0 l) = x2 (ix2 r n))
    (h1 : ∀ n : Fin 224, n.val = g.val * 4 + 1 → q1 (ix2 0 l) = x2 (ix2 r n))
    (h2 : ∀ n : Fin 224, n.val = g.val * 4 + 2 → q2 (ix2 0 l) = x2 (ix2 r n))
    (h3 : ∀ n : Fin 224, n.val = g.val * 4 + 3 → q3 (ix2 0 l) = x2 (ix2 r n))
    (hz : ∀ n : Fin 14, n.val = g.val / 4 → z (ix2 0 l) = (x3 (ix2 r n)).setWidth 32) :
    wrowL (F := Ideal) i k a b z q0 q1 q2 q3 (ix2 0 l) = val_main_v37 (F := Ideal) x0 x1 x2 x3 (ix2 r g) := by
  have hg56 := g.isLt
  have hk8 := k.isLt
  pointwise [wrowL, k0_pay7, term, zeros, codes]
  pointwise [val_main_v37, val_main_v36, val_main_v35, val_main_v6, val_main_v5, val_main_v19, val_main_v18, val_main_v17, val_main_v15, val_main_v16, val_main_c_0, val_main_v13, val_main_v14, val_main_v12, val_main_v11, val_main_v7, val_main_v10, val_main_v9, val_main_v8, val_main_c, val_main_v34, val_main_v33, val_main_v32, val_main_v31, val_main_v30, val_main_v28, val_main_v29, val_main_v26, val_main_v27, val_main_v24, val_main_v25, val_main_v22, val_main_v21, val_main_v20, val_main_v23, val_main_c_1, val_main_c_2, val_main_cst]
  refine Eq.trans ?_ Finset.sum_comm
  refine Finset.sum_congr rfl fun f _ => ?_
  have hf := f.isLt
  rw [Fin.sum_univ_four]
  have hdw : ∀ (n : Fin 512) (n' : Fin 3584), n'.val = 512 * (i 1).val + n.val →
      (∑ t : Fin 4096, a (ix2 t n) * b (ix2 t l) : EReal) = ∑ t : Fin 4096, val_main_v0 (F := Ideal) x1 (ix2 t r) * x0 (ix2 t n') :=
    fun n n' h => Finset.sum_congr rfl fun t _ => by rw [ha t n n' h, hb t]; exact mul_comm _ _
  have hzero := fun w => field_eq w _ _ (zshift (i 1).val k.val g.val hk8 (by omega) hg) (shift_lt _ (by omega))
  have hcode := fun w => field_eq w _ _ rfl (shift_lt f.val hf)
  refine congrArg₂ (· + ·) (congrArg₂ (· + ·) (congrArg₂ (· + ·) ?_ ?_) ?_) ?_
  · refine congrArg₂ (· * ·) (hdw _ _ ?_) (congrArg₂ (· - ·) ((hcode _).trans ?_) ((hzero _).trans ?_))
    · show g.val * 64 + 0 * 16 + f.val = 512 * (i 1).val + (64 * k.val + f.val); omega
    · rw [h0 ⟨g.val * 4 + 0, by omega⟩ rfl]; rfl
    · rw [hz ⟨g.val / 4, by omega⟩ rfl]
  · refine congrArg₂ (· * ·) (hdw _ _ ?_) (congrArg₂ (· - ·) ((hcode _).trans ?_) ((hzero _).trans ?_))
    · show g.val * 64 + 1 * 16 + f.val = 512 * (i 1).val + (64 * k.val + 16 + f.val); omega
    · rw [h1 ⟨g.val * 4 + 1, by omega⟩ rfl]; rfl
    · rw [hz ⟨g.val / 4, by omega⟩ rfl]
  · refine congrArg₂ (· * ·) (hdw _ _ ?_) (congrArg₂ (· - ·) ((hcode _).trans ?_) ((hzero _).trans ?_))
    · show g.val * 64 + 2 * 16 + f.val = 512 * (i 1).val + (64 * k.val + 32 + f.val); omega
    · rw [h2 ⟨g.val * 4 + 2, by omega⟩ rfl]; rfl
    · rw [hz ⟨g.val / 4, by omega⟩ rfl]
  · refine congrArg₂ (· * ·) (hdw _ _ ?_) (congrArg₂ (· - ·) ((hcode _).trans ?_) ((hzero _).trans ?_))
    · show g.val * 64 + 3 * 16 + f.val = 512 * (i 1).val + (64 * k.val + 48 + f.val); omega
    · rw [h3 ⟨g.val * 4 + 3, by omega⟩ rfl]; rfl
    · rw [hz ⟨g.val / 4, by omega⟩ rfl]

end Cert.WgradDownIdeal.Value

end
-- ==== Proof.WgradDownValue.lean ====
/- What the down matrix's scale update writes: its five results are the reference's terms of the arguments. -/
module

public import proofs.«01_k».proof.Proof.WgradDownPure

@[expose] public section

set_option maxRecDepth 16384

noncomputable section

open Idealize.ShloMosaic Idealize.ShloMosaic.TcCoe Idealize.SL.Sem
open Idealize.ShloMosaic.Pipeline (Dat)

namespace Cert.WgradDownIdeal.Value

open Cert.WgradDownIdeal Cert.WgradDownIdeal.Gen
open Cert.WgradDownRefIdeal.Read

variable (m : (ℓ : Loc nD τ sig) → Buf (Elt Ideal) ℓ)

/-- The blocks that the windows stage at each grid point. -/
theorem idx : ∀ t : Fin cfg0.N, win0_0.index t = ![0, 0] ∧ win0_1.index t = ![0, t.val % 7] ∧ win0_2.index t = ![0, t.val / 7]
    ∧ win0_3.index t = ![t.val % 7, t.val / 7] ∧ win0_4.index t = ![0, t.val / 7]
    ∧ win0_5.index t = ![t.val / 7, 0] ∧ win0_6.index t = ![t.val / 7, 0] ∧ win0_7.index t = ![t.val / 7, 0]
    ∧ win0_8.index t = ![t.val / 7, 0] ∧ win0_9.index t = ![t.val / 7, 0] ∧ win0_10.index t = ![t.val / 7, 0]
    ∧ win0_11.index t = ![t.val / 7, 0] ∧ win0_12.index t = ![t.val / 7, 0] :=
  (by decide +kernel : ∀ t : Fin grid0.N, _)

theorem coord1 : ∀ t : Fin cfg0.N, (grid0.coords t 1).val = t.val % 7 :=
  (by decide +kernel : ∀ t : Fin grid0.N, _)

theorem offZ : ∀ (t : Fin cfg0.N) (k : Fin 8), k0_off1 (grid0.coords t) (BitVec.ofNat 32 k.val) = ![(8 * (t.val % 7) + k.val) / 4, 0] :=
  (by decide +kernel : ∀ (t : Fin grid0.N) (k : Fin 8), _)

/-! ## The arrays as the region finds them -/

/-- The incoming gradient, its two token axes merged. -/
theorem V_main_v8 (c : Dev nD) : V m c main_v8 = val_main_v0 (F := Ideal) (m ((c : Thread nD τ).loc main_arg1)) := by
  entry_read
  rfl

/-- The packed codes, words before rows. -/
theorem V_main_v9 (c : Dev nD) (j : Fin 224) (n : Fin 8192) :
    V m c main_v9 (ix2 j n) = (m ((c : Thread nD τ).loc main_arg2)) (ix2 n j) := by
  entry_read
  pointwise

/-- The packed zero points, widened, words before rows. -/
theorem V_main_v11 (c : Dev nD) (j : Fin 14) (n : Fin 8192) :
    V m c main_v11 (ix2 j n) = ((m ((c : Thread nD τ).loc main_arg3)) (ix2 n j) : BitVec 8).setWidth 32 := by
  entry_read
  pointwise

/-- The nine numbers of the update, a row each for the learning rates, the epsilons and the bias corrections. -/
def numbers (lr eps : FVec Ideal S3 .f32) (b1 b2 : FVec Ideal S_ .f32) : FVec Ideal S3x3 .f32 :=
  concatenate S3x3 0 [⟨S1x3, broadcastInDim S1x3 ![1] bcast_S3_S1x3_1 lr⟩, ⟨S1x3, broadcastInDim S1x3 ![1] bcast_S3_S1x3_1 eps⟩,
    ⟨S1x3, broadcastInDim S1x3 ![1] bcast_S3_S1x3_1 (concatenate S3 0 [⟨S1, broadcastInDim S1 ![] bcast_S_S1 b1⟩,
      ⟨S1, broadcastInDim S1 ![] bcast_S_S1 b2⟩, ⟨S1, broadcastInDim S1 ![] bcast_S_S1 b1⟩] concatenates_S1_S1_S1_S3_d0)⟩]
    concatenates_S1x3_S1x3_S1x3_S3x3_d0

theorem numbers_0 (lr eps : FVec Ideal S3 .f32) (b1 b2 : FVec Ideal S_ .f32) : numbers lr eps b1 b2 (ix2 0 2) = lr (ix1 2) := by
  pointwise [numbers]
theorem numbers_1 (lr eps : FVec Ideal S3 .f32) (b1 b2 : FVec Ideal S_ .f32) : numbers lr eps b1 b2 (ix2 1 2) = eps (ix1 2) := by
  pointwise [numbers]
theorem numbers_2 (lr eps : FVec Ideal S3 .f32) (b1 b2 : FVec Ideal S_ .f32) : numbers lr eps b1 b2 (ix2 2 0) = b1 ix0 := by
  pointwise [numbers]
theorem numbers_3 (lr eps : FVec Ideal S3 .f32) (b1 b2 : FVec Ideal S_ .f32) : numbers lr eps b1 b2 (ix2 2 1) = b2 ix0 := by
  pointwise [numbers]

/-- Three rows joined, row by row. -/
theorem joined {a a' b b' d d' : FVec Ideal S1x3 .f32} (ha : a = a') (hb : b = b') (hd : d = d') :
    concatenate S3x3 0 [⟨S1x3, a⟩, ⟨S1x3, b⟩, ⟨S1x3, d⟩] concatenates_S1x3_S1x3_S1x3_S3x3_d0
    = concatenate S3x3 0 [⟨S1x3, a'⟩, ⟨S1x3, b'⟩, ⟨S1x3, d'⟩] concatenates_S1x3_S1x3_S1x3_S3x3_d0 := by
  rw [ha, hb, hd]

theorem joined1 {a a' b b' d d' : FVec Ideal S1 .f32} (ha : a = a') (hb : b = b') (hd : d = d') :
    concatenate S3 0 [⟨S1, a⟩, ⟨S1, b⟩, ⟨S1, d⟩] concatenates_S1_S1_S1_S3_d0
    = concatenate S3 0 [⟨S1, a'⟩, ⟨S1, b'⟩, ⟨S1, d'⟩] concatenates_S1_S1_S1_S3_d0 := by
  rw [ha, hb, hd]

theorem V_main_v7 (c : Dev nD) : V m c main_v7 = numbers (m ((c : Thread nD τ).loc main_arg7)) (m ((c : Thread nD τ).loc main_arg8))
    (m ((c : Thread nD τ).loc main_arg9)) (m ((c : Thread nD τ).loc main_arg10)) := by
  show StableHlo.after hostOps0 (fun b => m (c, b)) (Proc.devRef .tc main_v7) = _
  simp only [hostOps0, StableHlo.after_cons, StableHlo.after_nil]
  rw [StableHlo.unary_result_ne (h := by decide), StableHlo.unary_result_ne (h := by decide), StableHlo.unary_result_ne (h := by decide),
    StableHlo.reshape_result_ne (h := by decide), StableHlo.nary_result]
  refine joined ?_ ?_ ?_
  · show (_ : HloOp τ sig (Elt Ideal)).result _ (Proc.devRef .tc main_v4) = _
    rw [StableHlo.unary_result_ne (h := by decide), StableHlo.unary_result_ne (h := by decide), StableHlo.unary_result,
      StableHlo.nary_result_ne (h := by decide), StableHlo.unary_result_ne (h := by decide), StableHlo.unary_result_ne (h := by decide),
      StableHlo.unary_result_ne (h := by decide)]
  · show (_ : HloOp τ sig (Elt Ideal)).result _ (Proc.devRef .tc main_v5) = _
    rw [StableHlo.unary_result_ne (h := by decide), StableHlo.unary_result, StableHlo.unary_result_ne (h := by decide),
      StableHlo.nary_result_ne (h := by decide), StableHlo.unary_result_ne (h := by decide), StableHlo.unary_result_ne (h := by decide),
      StableHlo.unary_result_ne (h := by decide)]
  · show (_ : HloOp τ sig (Elt Ideal)).result _ (Proc.devRef .tc main_v6) = _
    rw [StableHlo.unary_result, StableHlo.unary_result_ne (h := by decide), StableHlo.unary_result_ne (h := by decide),
      StableHlo.nary_result]
    refine congrArg _ (joined1 ?_ ?_ ?_)
    · show (_ : HloOp τ sig (Elt Ideal)).result _ (Proc.devRef .tc main_v0) = _
      rw [StableHlo.unary_result_ne (h := by decide), StableHlo.unary_result_ne (h := by decide), StableHlo.unary_result]
    · show (_ : HloOp τ sig (Elt Ideal)).result _ (Proc.devRef .tc main_v1) = _
      rw [StableHlo.unary_result_ne (h := by decide), StableHlo.unary_result, StableHlo.unary_result_ne (h := by decide)]
    · show (_ : HloOp τ sig (Elt Ideal)).result _ (Proc.devRef .tc main_v2) = _
      rw [StableHlo.unary_result, StableHlo.unary_result_ne (h := by decide), StableHlo.unary_result_ne (h := by decide)]

/-! ## One row of the scratch -/

/-- A block read at a rectangle of unit stride: the block at the shifted place. -/
theorem rd_at {F : FTy → Type} {s : Shape} {e : EltTy} (x : Vec F s e) (off size : Fin s.rank → Nat) (h : ∀ a, off a + size a ≤ s.size a)
    (y : (Rect.unit (s := s) off size h).shape.Idx) (j : s.Idx) (hj : ∀ a, (j a).val = off a + (y a).val) :
    rd x (Rect.unit (s := s) off size h) y = x j :=
  congrArg x (funext fun a => Fin.ext (by show off a + 1 * (y a).val = _; rw [hj a, Nat.one_mul]))

theorem act_eq (c : Dev nD) (t : Fin cfg0.N) (x : Fin 4096) (n : Fin 512) (n' : Fin 3584) (hn : n'.val = 512 * (t.val % 7) + n.val) :
    iblk m c 1 t (ix2 x n) = m ((c : Thread nD τ).loc main_arg0) (ix2 x n') := by
  blk_simp [iblk]
  simp only [V_main_arg0]
  blk_point [idx t]

theorem go_eq (c : Dev nD) (t : Fin cfg0.N) (x : Fin 4096) (l : Fin 1024) (r : Fin 8192) (hr : r.val = 1024 * (t.val / 7) + l.val) :
    iblk m c 2 t (ix2 x l) = val_main_v0 (F := Ideal) (m ((c : Thread nD τ).loc main_arg1)) (ix2 x r) := by
  have hV := V_main_v8 m c
  generalize val_main_v0 (F := Ideal) (m ((c : Thread nD τ).loc main_arg1)) = X at hV ⊢
  blk_simp [iblk]
  refine (congrFun hV _).trans ?_
  blk_point [idx t]

theorem q_eq (c : Dev nD) (t : Fin cfg0.N) (j : Fin 32) (l : Fin 1024) (n : Fin 224) (r : Fin 8192)
    (hn : n.val = 32 * (t.val % 7) + j.val) (hr : r.val = 1024 * (t.val / 7) + l.val) :
    iblk m c 3 t (ix2 j l) = m ((c : Thread nD τ).loc main_arg2) (ix2 r n) := by
  refine Eq.trans ?_ (V_main_v9 m c n r)
  blk_simp [iblk]
  blk_point [idx t]

theorem z_eq (c : Dev nD) (t : Fin cfg0.N) (n : Fin 14) (l : Fin 1024) (r : Fin 8192) (hr : r.val = 1024 * (t.val / 7) + l.val) :
    iblk m c 4 t (ix2 n l) = (m ((c : Thread nD τ).loc main_arg3) (ix2 r n) : BitVec 8).setWidth 32 := by
  refine Eq.trans ?_ (V_main_v11 m c n r)
  blk_simp [iblk]
  blk_point [idx t]

/-- What a point stores for group `k` is the reference's gradient at the point's columns and group. -/
theorem rowAt_eq (c : Dev nD) (t : Fin cfg0.N) (k : Fin 8) (l : Fin 1024) (r : Fin 8192) (g : Fin 56)
    (hr : r.val = 1024 * (t.val / 7) + l.val) (hg : g.val = 8 * (t.val % 7) + k.val) :
    rowAt m c t k (ix2 0 l) = val_main_v37 (F := Ideal) (m ((c : Thread nD τ).loc main_arg0)) (m ((c : Thread nD τ).loc main_arg1))
      (m ((c : Thread nD τ).loc main_arg2)) (m ((c : Thread nD τ).loc main_arg3)) (ix2 r g) := by
  unfold rowAt wrow
  have h1 := coord1 t
  have hk := k.isLt
  have hg56 := g.isLt
  have hq : ∀ (w : ℕ) (hw : w < 4) (hb : _) (n : Fin 224), n.val = g.val * 4 + w →
      rd (iblk m c 3 t) (Rect.unit (s := S32x1024) ![4 * k.val + w, 0] S1x1024.size hb) (ix2 0 l)
        = m ((c : Thread nD τ).loc main_arg2) (ix2 r n) := fun w hw hb n hn =>
    (rd_at _ _ _ _ _ (ix2 ⟨4 * k.val + w, by omega⟩ l) (fun a => match a with
      | ⟨0, _⟩ => (Nat.add_zero _).symm | ⟨1, _⟩ => (Nat.zero_add _).symm)).trans
      (q_eq m c t _ l n r (by show n.val = 32 * (t.val % 7) + (4 * k.val + w); omega) hr)
  refine row_eq (grid0.coords t) k _ _ _ _ _ _ _ l _ _ _ _ r g (by omega) (by omega) ?_ ?_
    (hq 0 (by omega) _) (hq 1 (by omega) _) (hq 2 (by omega) _) (hq 3 (by omega) _) ?_
  · intro x n n' hn
    rw [h1] at hn
    exact (rd_at _ _ _ _ _ (ix2 x n) (fun a => match a with
      | ⟨0, _⟩ => (Nat.zero_add _).symm | ⟨1, _⟩ => (Nat.zero_add _).symm)).trans (act_eq m c t x n n' hn)
  · intro x
    exact (rd_at _ _ _ _ _ (ix2 x l) (fun a => match a with
      | ⟨0, _⟩ => (Nat.zero_add _).symm | ⟨1, _⟩ => (Nat.zero_add _).symm)).trans (go_eq m c t x l r hr)
  · intro n hn
    refine (rd_at _ _ _ _ _ (ix2 n l) (fun a => ?_)).trans (z_eq m c t n l r hr)
    refine Eq.trans ?_ (congrArg (· + _) (congrFun (offZ t k) a).symm)
    match a with
    | ⟨0, _⟩ => show n.val = (8 * (t.val % 7) + k.val) / 4 + 0; omega
    | ⟨1, _⟩ => exact (Nat.zero_add _).symm

/-! ## The five results -/

/-- The gradient block of a band, read at a column and a group. -/
theorem ds_eq (c : Dev nD) (b : ℕ) (hb : b < 8) (p : Fin 1024) (g : Fin 56) (r : Fin 8192) (hr : r.val = 1024 * b + p.val) :
    k0_pay2 (scOf m c b) (ix2 p g) = val_main_v37 (F := Ideal) (m ((c : Thread nD τ).loc main_arg0)) (m ((c : Thread nD τ).loc main_arg1))
      (m ((c : Thread nD τ).loc main_arg2)) (m ((c : Thread nD τ).loc main_arg3)) (ix2 r g) := by
  have hg := g.isLt
  have hp := p.isLt
  have e : k0_pay2 (scOf m c b) (ix2 p g) = scOf m c b (ix2 ⟨g.val, by omega⟩ p) := by
    generalize scOf m c b = X
    pointwise [k0_pay2]
  rw [e]
  refine rowAt_eq m c (ptOf b g.val) ⟨g.val % 8, Nat.mod_lt _ (by decide)⟩ p r g ?_ ?_
  · show r.val = 1024 * (min (7 * b + g.val / 8) 55 / 7) + p.val; omega
  · show g.val = 8 * (min (7 * b + g.val / 8) 55 % 7) + g.val % 8; omega

theorem sc0_eq (c : Dev nD) (t : Fin cfg0.N) : sc0 (iblk m c 0 t) = m ((c : Thread nD τ).loc main_arg7) (ix1 2) := by
  refine Eq.trans (b := iblk m c 0 t (ix2 0 2)) (rd_at _ _ _ _ _ (ix2 0 2) (fun a => match a with | ⟨0, _⟩ => rfl | ⟨1, _⟩ => rfl)) ?_
  refine Eq.trans ?_ ((congrFun (V_main_v7 m c) (ix2 0 2)).trans (numbers_0 _ _ _ _))
  blk_simp [iblk]
  blk_point [idx t]
theorem sc1_eq (c : Dev nD) (t : Fin cfg0.N) : sc1 (iblk m c 0 t) = m ((c : Thread nD τ).loc main_arg8) (ix1 2) := by
  refine Eq.trans (b := iblk m c 0 t (ix2 1 2)) (rd_at _ _ _ _ _ (ix2 1 2) (fun a => match a with | ⟨0, _⟩ => rfl | ⟨1, _⟩ => rfl)) ?_
  refine Eq.trans ?_ ((congrFun (V_main_v7 m c) (ix2 1 2)).trans (numbers_1 _ _ _ _))
  blk_simp [iblk]
  blk_point [idx t]
theorem sc2_eq (c : Dev nD) (t : Fin cfg0.N) : sc2 (iblk m c 0 t) = m ((c : Thread nD τ).loc main_arg9) ix0 := by
  refine Eq.trans (b := iblk m c 0 t (ix2 2 0)) (rd_at _ _ _ _ _ (ix2 2 0) (fun a => match a with | ⟨0, _⟩ => rfl | ⟨1, _⟩ => rfl)) ?_
  refine Eq.trans ?_ ((congrFun (V_main_v7 m c) (ix2 2 0)).trans (numbers_2 _ _ _ _))
  blk_simp [iblk]
  blk_point [idx t]
theorem sc3_eq (c : Dev nD) (t : Fin cfg0.N) : sc3 (iblk m c 0 t) = m ((c : Thread nD τ).loc main_arg10) ix0 := by
  refine Eq.trans (b := iblk m c 0 t (ix2 2 1)) (rd_at _ _ _ _ _ (ix2 2 1) (fun a => match a with | ⟨0, _⟩ => rfl | ⟨1, _⟩ => rfl)) ?_
  refine Eq.trans ?_ ((congrFun (V_main_v7 m c) (ix2 2 1)).trans (numbers_3 _ _ _ _))
  blk_simp [iblk]
  blk_point [idx t]

/-- A whole block loaded is the block. -/
theorem rd_opt (x : Vec Ideal S1024x56 .f32) (h : ∀ a, (![0, 0] : Fin 2 → Nat) a + S1024x56.size a ≤ S1024x56.size a) :
    (rd x (Rect.unit (s := S1024x56) ![0, 0] S1024x56.size h) : Vec Ideal S1024x56 .f32) = x :=
  funext fun y => rd_at _ _ _ _ _ y (fun a => match a with | ⟨0, _⟩ => (Nat.zero_add _).symm | ⟨1, _⟩ => (Nat.zero_add _).symm)

theorem s_eq (c : Dev nD) (t : Fin cfg0.N) (p : Fin 1024) (g : Fin 56) (r : Fin 8192) (hr : r.val = 1024 * (t.val / 7) + p.val) :
    iblk m c 5 t (ix2 p g) = m ((c : Thread nD τ).loc main_arg4) (ix2 r g) := by
  blk_simp [iblk]
  simp only [V_main_arg4]
  blk_point [idx t]
theorem m_eq (c : Dev nD) (t : Fin cfg0.N) (p : Fin 1024) (g : Fin 56) (r : Fin 8192) (hr : r.val = 1024 * (t.val / 7) + p.val) :
    iblk m c 6 t (ix2 p g) = m ((c : Thread nD τ).loc main_arg5) (ix2 r g) := by
  blk_simp [iblk]
  simp only [V_main_arg5]
  blk_point [idx t]
theorem v_eq (c : Dev nD) (t : Fin cfg0.N) (p : Fin 1024) (g : Fin 56) (r : Fin 8192) (hr : r.val = 1024 * (t.val / 7) + p.val) :
    iblk m c 7 t (ix2 p g) = m ((c : Thread nD τ).loc main_arg6) (ix2 r g) := by
  blk_simp [iblk]
  simp only [V_main_arg6]
  blk_point [idx t]

/-- The new first moment. -/
theorem mnew_eq (c : Dev nD) (t : Fin cfg0.N) (p : Fin 1024) (g : Fin 56) (r : Fin 8192) (hr : r.val = 1024 * (t.val / 7) + p.val) :
    k0_pay3 (scOf m c (t.val / 7)) (iblk m c 6 t) (ix2 p g) = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (ix2 r g) := by
  have hN : t.val < 56 := lt_of_lt_of_eq t.isLt (show cfg0.N = 56 from N_0)
  have hd := ds_eq m c (t.val / 7) (by omega) p g r hr
  have hv := m_eq m c t p g r hr
  pointwise [k0_pay3, val_main_v42, val_main_v41, val_main_v40, val_main_v39, val_main_v38, val_main_cst_3, val_main_cst_4]
  rw [hd, hv]

/-- The new second moment. -/
theorem vnew_eq (c : Dev nD) (t : Fin cfg0.N) (p : Fin 1024) (g : Fin 56) (r : Fin 8192) (hr : r.val = 1024 * (t.val / 7) + p.val) :
    k0_pay4 (scOf m c (t.val / 7)) (iblk m c 7 t) (ix2 p g) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (ix2 r g) := by
  have hN : t.val < 56 := lt_of_lt_of_eq t.isLt (show cfg0.N = 56 from N_0)
  have hd := ds_eq m c (t.val / 7) (by omega) p g r hr
  have hv := v_eq m c t p g r hr
  pointwise [k0_pay4, val_main_v48, val_main_v47, val_main_v46, val_main_v45, val_main_v44, val_main_v43, val_main_cst_5, val_main_cst_6]
  rw [hd, hv]

/-- The step. -/
theorem step_eq (c : Dev nD) (t : Fin cfg0.N) (p : Fin 1024) (g : Fin 56) (r : Fin 8192) (hr : r.val = 1024 * (t.val / 7) + p.val) :
    oStep (scOf m c (t.val / 7)) (iblk m c 0 t) (iblk m c 6 t) (iblk m c 7 t) (ix2 p g)
    = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 r g) := by
  have h3 := mnew_eq m c t p g r hr
  have h4 := vnew_eq m c t p g r hr
  unfold oStep
  rw [sc0_eq, sc1_eq, sc2_eq, sc3_eq, rd_opt, rd_opt]
  pointwise [k0_pay5, val_main_v58, val_main_v57, val_main_v56, val_main_v55, val_main_v54, val_main_v53, val_main_v52, val_main_v51, val_main_v50, val_main_v49, val_main_v4, val_main_v3, val_main_v2, val_main_v1]
  rw [h3, h4]

/-- The stepped scales. -/
theorem snew_eq (c : Dev nD) (t : Fin cfg0.N) (p : Fin 1024) (g : Fin 56) (r : Fin 8192) (hr : r.val = 1024 * (t.val / 7) + p.val) :
    oS (scOf m c (t.val / 7)) (iblk m c 0 t) (iblk m c 5 t) (iblk m c 6 t) (iblk m c 7 t) (ix2 p g)
    = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 r g) := by
  have h5 := step_eq m c t p g r hr
  have hs := s_eq m c t p g r hr
  unfold oS
  unfold oStep at h5
  rw [rd_opt] at h5 ⊢
  rw [rd_opt] at h5 ⊢
  rw [rd_opt]
  pointwise [k0_pay6, val_main_v59]
  rw [h5, hs]

theorem emb8 (t : Fin cfg0.N) (y : S1024x56.Idx) (r : Fin 8192) (hr : r.val = 1024 * (t.val / 7) + (y 0).val) :
    ((cfg0.win 8).blk t).view.emb y = ix2 r (y 1) := by blk_ext [idx t]

theorem final8 (c : Dev nD) : (dats m 0 c).arrAt 8 (cfgs 0).N = val_main_v37 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  have hN : t.val < 56 := lt_of_lt_of_eq t.isLt (show cfg0.N = 56 from N_0)
  have h0 : (y 0).val < 1024 := (y 0).isLt
  let r : Fin 8192 := ⟨1024 * (t.val / 7) + (y 0).val, by omega⟩
  blk_simp
  rw [after8]
  refine Eq.trans ?_ (congrArg (val_main_v37 (F := Ideal) (m ((c : Thread nD τ).loc main_arg0)) (m ((c : Thread nD τ).loc main_arg1)) (m ((c : Thread nD τ).loc main_arg2)) (m ((c : Thread nD τ).loc main_arg3))) (emb8 t y r rfl)).symm
  refine (congrArg _ (eq_ix2 y)).trans ?_
  exact ds_eq m c (t.val / 7) (by omega) (y 0) (y 1) r rfl

theorem emb9 (t : Fin cfg0.N) (y : S1024x56.Idx) (r : Fin 8192) (hr : r.val = 1024 * (t.val / 7) + (y 0).val) :
    ((cfg0.win 9).blk t).view.emb y = ix2 r (y 1) := by blk_ext [idx t]

theorem final9 (c : Dev nD) : (dats m 0 c).arrAt 9 (cfgs 0).N = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 9 _ (by decide +kernel) fun t _ y => ?_
  have hN : t.val < 56 := lt_of_lt_of_eq t.isLt (show cfg0.N = 56 from N_0)
  have h0 : (y 0).val < 1024 := (y 0).isLt
  let r : Fin 8192 := ⟨1024 * (t.val / 7) + (y 0).val, by omega⟩
  blk_simp
  rw [after9]
  refine Eq.trans ?_ (congrArg (val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (emb9 t y r rfl)).symm
  refine (congrArg _ (eq_ix2 y)).trans ?_
  exact step_eq m c t (y 0) (y 1) r rfl

theorem emb10 (t : Fin cfg0.N) (y : S1024x56.Idx) (r : Fin 8192) (hr : r.val = 1024 * (t.val / 7) + (y 0).val) :
    ((cfg0.win 10).blk t).view.emb y = ix2 r (y 1) := by blk_ext [idx t]

theorem final10 (c : Dev nD) : (dats m 0 c).arrAt 10 (cfgs 0).N = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 10 _ (by decide +kernel) fun t _ y => ?_
  have hN : t.val < 56 := lt_of_lt_of_eq t.isLt (show cfg0.N = 56 from N_0)
  have h0 : (y 0).val < 1024 := (y 0).isLt
  let r : Fin 8192 := ⟨1024 * (t.val / 7) + (y 0).val, by omega⟩
  blk_simp
  rw [after10]
  refine Eq.trans ?_ (congrArg (val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (emb10 t y r rfl)).symm
  refine (congrArg _ (eq_ix2 y)).trans ?_
  exact snew_eq m c t (y 0) (y 1) r rfl

theorem emb11 (t : Fin cfg0.N) (y : S1024x56.Idx) (r : Fin 8192) (hr : r.val = 1024 * (t.val / 7) + (y 0).val) :
    ((cfg0.win 11).blk t).view.emb y = ix2 r (y 1) := by blk_ext [idx t]

theorem final11 (c : Dev nD) : (dats m 0 c).arrAt 11 (cfgs 0).N = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 11 _ (by decide +kernel) fun t _ y => ?_
  have hN : t.val < 56 := lt_of_lt_of_eq t.isLt (show cfg0.N = 56 from N_0)
  have h0 : (y 0).val < 1024 := (y 0).isLt
  let r : Fin 8192 := ⟨1024 * (t.val / 7) + (y 0).val, by omega⟩
  blk_simp
  rw [after11]
  refine Eq.trans ?_ (congrArg (val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (emb11 t y r rfl)).symm
  refine (congrArg _ (eq_ix2 y)).trans ?_
  unfold oM
  rw [rd_opt]
  exact mnew_eq m c t (y 0) (y 1) r rfl

theorem emb12 (t : Fin cfg0.N) (y : S1024x56.Idx) (r : Fin 8192) (hr : r.val = 1024 * (t.val / 7) + (y 0).val) :
    ((cfg0.win 12).blk t).view.emb y = ix2 r (y 1) := by blk_ext [idx t]

theorem final12 (c : Dev nD) : (dats m 0 c).arrAt 12 (cfgs 0).N = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg6)) := by
  refine (dats m 0 c).arrAt_eq_of_covers 12 _ (by decide +kernel) fun t _ y => ?_
  have hN : t.val < 56 := lt_of_lt_of_eq t.isLt (show cfg0.N = 56 from N_0)
  have h0 : (y 0).val < 1024 := (y 0).isLt
  let r : Fin 8192 := ⟨1024 * (t.val / 7) + (y 0).val, by omega⟩
  blk_simp
  rw [after12]
  refine Eq.trans ?_ (congrArg (val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg6))) (emb12 t y r rfl)).symm
  refine (congrArg _ (eq_ix2 y)).trans ?_
  unfold oV
  rw [rd_opt]
  exact vnew_eq m c t (y 0) (y 1) r rfl

/-- A run ends with the five result arrays as the proof data says, the arguments unchanged. -/
theorem run_blocks (ρ : Dev nD → PrngReg) : θ_run defs (onTc (τ := τ) (main (F := Ideal))) ⟨m, fun _ => 0, ρ⟩ fun r => ∀ c : Dev nD,
      r.2.mem ((c : Thread nD τ).loc main_v12_0) = (dats m 0 c).arrAt 8 cfg0.N
      ∧ r.2.mem ((c : Thread nD τ).loc main_v12_1) = (dats m 0 c).arrAt 9 cfg0.N
      ∧ r.2.mem ((c : Thread nD τ).loc main_v12_2) = (dats m 0 c).arrAt 10 cfg0.N
      ∧ r.2.mem ((c : Thread nD τ).loc main_v12_3) = (dats m 0 c).arrAt 11 cfg0.N
      ∧ r.2.mem ((c : Thread nD τ).loc main_v12_4) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h.1 c).1 8, (h.1 c).1 9, (h.1 c).1 10, (h.1 c).1 11, (h.1 c).1 12, h.2 c⟩)
    (θ_run_and (run_main m ρ) (unchanged m ρ))

end Cert.WgradDownIdeal.Value

end
-- ==== Proof.lean ====
module

public import proofs.«01_k».proof.Defs
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.WgradGateUp
public import proofs.«01_k».proof.Proof.Gen.WgradGateUp.Skeleton
public import proofs.«01_k».proof.Proof.Gen.WgradGateUp.Launch
public import proofs.«01_k».proof.Proof.Gen.WgradGateUp.Points
public import proofs.«01_k».proof.Proof.Gen.WgradGateUp.Frame
public import proofs.«01_k».proof.Proof.Gen.WgradGateUpIdeal
public import proofs.«01_k».proof.Proof.Gen.WgradGateUpIdeal.Skeleton
public import proofs.«01_k».proof.Proof.Gen.WgradGateUpIdeal.Launch
public import proofs.«01_k».proof.Proof.Gen.WgradGateUpIdeal.Points
public import proofs.«01_k».proof.Proof.Gen.WgradGateUpIdeal.Frame
public import proofs.«01_k».proof.Proof.Gen.WgradGateUpRefIdeal
public import proofs.«01_k».proof.Proof.Gen.WgradDown
public import proofs.«01_k».proof.Proof.Gen.WgradDown.Skeleton
public import proofs.«01_k».proof.Proof.Gen.WgradDown.Launch
public import proofs.«01_k».proof.Proof.Gen.WgradDown.Points
public import proofs.«01_k».proof.Proof.Gen.WgradDown.Frame
public import proofs.«01_k».proof.Proof.Gen.WgradDownIdeal
public import proofs.«01_k».proof.Proof.Gen.WgradDownIdeal.Skeleton
public import proofs.«01_k».proof.Proof.Gen.WgradDownIdeal.Launch
public import proofs.«01_k».proof.Proof.Gen.WgradDownIdeal.Points
public import proofs.«01_k».proof.Proof.Gen.WgradDownIdeal.Frame
public import proofs.«01_k».proof.Proof.Gen.WgradDownRefIdeal
public import proofs.«01_k».proof.Proof.Gen.GateIdeal.Value
public import proofs.«01_k».proof.Proof.Gen.GateRefIdeal.Run
public import proofs.«01_k».proof.Proof.Gen.GateRefIdeal.Read
public import proofs.«01_k».proof.Proof.Gen.DownIdeal.Value
public import proofs.«01_k».proof.Proof.Gen.DownRefIdeal.Run
public import proofs.«01_k».proof.Proof.Gen.DownRefIdeal.Read
public import proofs.«01_k».proof.Proof.Gen.NormIdeal.Value
public import proofs.«01_k».proof.Proof.Gen.NormRefIdeal.Run
public import proofs.«01_k».proof.Proof.Gen.NormRefIdeal.Read
public import proofs.«01_k».proof.Proof.Gen.WgradGateUpRefIdeal.Run
public import proofs.«01_k».proof.Proof.Gen.WgradGateUpRefIdeal.Read
public import proofs.«01_k».proof.Proof.Gen.WgradDownRefIdeal.Run
public import proofs.«01_k».proof.Proof.Gen.WgradDownRefIdeal.Read
public import Idealize.ShloMosaic.Adequacy
public import Idealize.ShloMosaic.Init
public import proofs.«01_k».proof.Proof.GateValue
public import proofs.«01_k».proof.Proof.DownValue
public import proofs.«01_k».proof.Proof.NormValue
public import proofs.«01_k».proof.Proof.WgradGateUpBody
public import proofs.«01_k».proof.Proof.WgradGateUpValue
public import proofs.«01_k».proof.Proof.WgradDownBody
public import proofs.«01_k».proof.Proof.WgradDownValue

@[expose] public section

noncomputable section

open Idealize.ShloMosaic Idealize.ShloMosaic.TcCoe Idealize.SL.Sem

/-! ## The gate call -/

namespace Cert.Proof.GateClaims

/-- The call as it is, and at `Ideal`: the frames. -/
theorem frame_p : Cert.quiescent_Gate := fun m ρ _ => Cert.Gate.Gen.frame m ρ
theorem frame_pi : Cert.quiescent_GateIdeal := fun m ρ _ => Cert.GateIdeal.Gen.frame m ρ
/-- The reference: its run read at the arguments; it declares no semaphore. -/
theorem frame_ri : Cert.quiescent_GateRefIdeal := fun m ρ _ =>
  (θ_run Cert.GateRefIdeal.defs _ _).mono (fun r h => ⟨fun c => (h c).2.2.2,
      Idealize.ShloMosaic.sem_eq_zero_of_no_sems (by decide) r.2⟩)
    (Cert.GateRefIdeal.Value.run (F := Ideal) m ρ)
/-- The ideal pass rewrote nothing. -/
theorem preserves : Cert.preserves_Gate_GateIdeal := trivial
/-- Both runs end at the reference's terms of the arguments. -/
theorem algebraic : Cert.algebraic_GateIdeal_GateRefIdeal := by
  intro m ρ m' ρ' _ hagree
  refine ⟨fun c => Cert.GateRefIdeal.Read.val_main_v12 (F := Ideal) (m ((c.tc : Thread Cert.GateIdeal.nD Cert.GateIdeal.τ).loc Cert.GateIdeal.main_arg0)) (m ((c.tc : Thread Cert.GateIdeal.nD Cert.GateIdeal.τ).loc Cert.GateIdeal.main_arg2)) (m ((c.tc : Thread Cert.GateIdeal.nD Cert.GateIdeal.τ).loc Cert.GateIdeal.main_arg3)), fun c => Cert.GateRefIdeal.Read.val_main_v21 (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)), fun c => Cert.GateRefIdeal.Read.val_main_v24 (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg4)), ?_, ?_⟩
  · exact (θ_run Cert.GateIdeal.defs _ _).mono
      (fun _ h c => ⟨((h c).1).trans (Cert.GateIdeal.Value.final5 m c), ((h c).2.1).trans (Cert.GateIdeal.Value.final6 m c), ((h c).2.2.1).trans (Cert.GateIdeal.Value.final7 m c), (h c).2.2.2⟩)
      (Cert.GateIdeal.Value.run_blocks (F := Ideal) m ρ)
  · exact (θ_run Cert.GateRefIdeal.defs _ _).mono
      (fun _ h c => ⟨((h c).1).trans (by rw [(hagree c).1, (hagree c).2.2.1, (hagree c).2.2.2.1]; rfl), ((h c).2.1).trans (by rw [(hagree c).1, (hagree c).2.1, (hagree c).2.2.1, (hagree c).2.2.2.1, (hagree c).2.2.2.2]; rfl), ((h c).2.2.1).trans (by rw [(hagree c).1, (hagree c).2.1, (hagree c).2.2.1, (hagree c).2.2.2.2]; rfl), (h c).2.2.2⟩)
      (Cert.GateRefIdeal.Value.run (F := Ideal) m' ρ')

end Cert.Proof.GateClaims

/-! ## The down projection -/

namespace Cert.Proof.DownClaims

/-- The call as it is, and at `Ideal`: the frames. -/
theorem frame_p : Cert.quiescent_Down := fun m ρ _ => Cert.Down.Gen.frame m ρ
theorem frame_pi : Cert.quiescent_DownIdeal := fun m ρ _ => Cert.DownIdeal.Gen.frame m ρ
/-- The reference: its run read at the arguments; it declares no semaphore. -/
theorem frame_ri : Cert.quiescent_DownRefIdeal := fun m ρ _ =>
  (θ_run Cert.DownRefIdeal.defs _ _).mono (fun r h => ⟨fun c => (h c).2,
      Idealize.ShloMosaic.sem_eq_zero_of_no_sems (by decide) r.2⟩)
    (Cert.DownRefIdeal.Value.run (F := Ideal) m ρ)
/-- The ideal pass rewrote nothing. -/
theorem preserves : Cert.preserves_Down_DownIdeal := trivial
/-- Both runs end at the reference's terms of the arguments. -/
theorem algebraic : Cert.algebraic_DownIdeal_DownRefIdeal := by
  intro m ρ m' ρ' _ hagree
  refine ⟨fun c => Cert.DownRefIdeal.Read.val_main_v4 (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)), ?_, ?_⟩
  · exact (θ_run Cert.DownIdeal.defs _ _).mono
      (fun _ h c => ⟨((h c).1).trans (Cert.DownIdeal.Value.final m c), (h c).2⟩)
      (Cert.DownIdeal.Value.run_blocks (F := Ideal) m ρ)
  · exact (θ_run Cert.DownRefIdeal.defs _ _).mono
      (fun _ h c => ⟨((h c).1).trans (by rw [(hagree c).1, (hagree c).2.1, (hagree c).2.2]; rfl), (h c).2⟩)
      (Cert.DownRefIdeal.Value.run (F := Ideal) m' ρ')

end Cert.Proof.DownClaims

/-! ## The normalised output -/

namespace Cert.Proof.NormClaims

/-- The call as it is, and at `Ideal`: the frames. -/
theorem frame_p : Cert.quiescent_Norm := fun m ρ _ => Cert.Norm.Gen.frame m ρ
theorem frame_pi : Cert.quiescent_NormIdeal := fun m ρ _ => Cert.NormIdeal.Gen.frame m ρ
/-- The reference: its run read at the arguments; it declares no semaphore. -/
theorem frame_ri : Cert.quiescent_NormRefIdeal := fun m ρ _ =>
  (θ_run Cert.NormRefIdeal.defs _ _).mono (fun r h => ⟨fun c => (h c).2,
      Idealize.ShloMosaic.sem_eq_zero_of_no_sems (by decide) r.2⟩)
    (Cert.NormRefIdeal.Value.run (F := Ideal) m ρ)
/-- The ideal pass rewrote nothing. -/
theorem preserves : Cert.preserves_Norm_NormIdeal := trivial
/-- Both runs end at the reference's terms of the arguments. -/
theorem algebraic : Cert.algebraic_NormIdeal_NormRefIdeal := by
  intro m ρ m' ρ' _ hagree
  refine ⟨fun c => Cert.NormRefIdeal.Read.val_main_v8 (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)), ?_, ?_⟩
  · exact (θ_run Cert.NormIdeal.defs _ _).mono
      (fun _ h c => ⟨((h c).1).trans (Cert.NormIdeal.Value.final m c), (h c).2⟩)
      (Cert.NormIdeal.Value.run_blocks (F := Ideal) m ρ)
  · exact (θ_run Cert.NormRefIdeal.defs _ _).mono
      (fun _ h c => ⟨((h c).1).trans (by rw [(hagree c).1, (hagree c).2.1, (hagree c).2.2]; rfl), (h c).2⟩)
      (Cert.NormRefIdeal.Value.run (F := Ideal) m' ρ')

end Cert.Proof.NormClaims

/-! ## The gate and up matrices' scale update -/

namespace Cert.Proof.WgradGateUpClaims

/-- The call as it is, and at `Ideal`: the frames. -/
theorem frame_p : Cert.quiescent_WgradGateUp := fun m ρ _ => Cert.WgradGateUp.Gen.frame m ρ
theorem frame_pi : Cert.quiescent_WgradGateUpIdeal := fun m ρ _ => Cert.WgradGateUpIdeal.Gen.frame m ρ
/-- The reference: its run read at the arguments; it declares no semaphore. -/
theorem frame_ri : Cert.quiescent_WgradGateUpRefIdeal := fun m ρ _ =>
  (θ_run Cert.WgradGateUpRefIdeal.defs _ _).mono (fun r h => ⟨fun c => (h c).2.2.2.2.2.2.2.2.2.2,
      Idealize.ShloMosaic.sem_eq_zero_of_no_sems (by decide) r.2⟩)
    (Cert.WgradGateUpRefIdeal.Value.run (F := Ideal) m ρ)
/-- The ideal pass rewrote nothing. -/
theorem preserves : Cert.preserves_WgradGateUp_WgradGateUpIdeal := trivial
set_option maxHeartbeats 6400000 in
/-- Both runs end at the reference's terms of the arguments. -/
theorem algebraic : Cert.algebraic_WgradGateUpIdeal_WgradGateUpRefIdeal := by
  intro m ρ m' ρ' _ hagree
  refine ⟨fun c => Cert.WgradGateUpRefIdeal.Read.val_main_v36 (F := Ideal) (m ((c.tc : Thread Cert.WgradGateUpIdeal.nD Cert.WgradGateUpIdeal.τ).loc Cert.WgradGateUpIdeal.main_arg0)) (m ((c.tc : Thread Cert.WgradGateUpIdeal.nD Cert.WgradGateUpIdeal.τ).loc Cert.WgradGateUpIdeal.main_arg1)) (m ((c.tc : Thread Cert.WgradGateUpIdeal.nD Cert.WgradGateUpIdeal.τ).loc Cert.WgradGateUpIdeal.main_arg3)) (m ((c.tc : Thread Cert.WgradGateUpIdeal.nD Cert.WgradGateUpIdeal.τ).loc Cert.WgradGateUpIdeal.main_arg4)), fun c => Cert.WgradGateUpRefIdeal.Read.val_main_v57 (F := Ideal) (m ((c.tc : Thread Cert.WgradGateUpIdeal.nD Cert.WgradGateUpIdeal.τ).loc Cert.WgradGateUpIdeal.main_arg0)) (m ((c.tc : Thread Cert.WgradGateUpIdeal.nD Cert.WgradGateUpIdeal.τ).loc Cert.WgradGateUpIdeal.main_arg1)) (m ((c.tc : Thread Cert.WgradGateUpIdeal.nD Cert.WgradGateUpIdeal.τ).loc Cert.WgradGateUpIdeal.main_arg3)) (m ((c.tc : Thread Cert.WgradGateUpIdeal.nD Cert.WgradGateUpIdeal.τ).loc Cert.WgradGateUpIdeal.main_arg4)) (m ((c.tc : Thread Cert.WgradGateUpIdeal.nD Cert.WgradGateUpIdeal.τ).loc Cert.WgradGateUpIdeal.main_arg6)) (m ((c.tc : Thread Cert.WgradGateUpIdeal.nD Cert.WgradGateUpIdeal.τ).loc Cert.WgradGateUpIdeal.main_arg7)) (m ((c.tc : Thread Cert.WgradGateUpIdeal.nD Cert.WgradGateUpIdeal.τ).loc Cert.WgradGateUpIdeal.main_arg13)) (m ((c.tc : Thread Cert.WgradGateUpIdeal.nD Cert.WgradGateUpIdeal.τ).loc Cert.WgradGateUpIdeal.main_arg14)) (m ((c.tc : Thread Cert.WgradGateUpIdeal.nD Cert.WgradGateUpIdeal.τ).loc Cert.WgradGateUpIdeal.main_arg15)) (m ((c.tc : Thread Cert.WgradGateUpIdeal.nD Cert.WgradGateUpIdeal.τ).loc Cert.WgradGateUpIdeal.main_arg16)), fun c => Cert.WgradGateUpRefIdeal.Read.val_main_v58 (F := Ideal) (m ((c.tc : Thread Cert.WgradGateUpIdeal.nD Cert.WgradGateUpIdeal.τ).loc Cert.WgradGateUpIdeal.main_arg0)) (m ((c.tc : Thread Cert.WgradGateUpIdeal.nD Cert.WgradGateUpIdeal.τ).loc Cert.WgradGateUpIdeal.main_arg1)) (m ((c.tc : Thread Cert.WgradGateUpIdeal.nD Cert.WgradGateUpIdeal.τ).loc Cert.WgradGateUpIdeal.main_arg3)) (m ((c.tc : Thread Cert.WgradGateUpIdeal.nD Cert.WgradGateUpIdeal.τ).loc Cert.WgradGateUpIdeal.main_arg4)) (m ((c.tc : Thread Cert.WgradGateUpIdeal.nD Cert.WgradGateUpIdeal.τ).loc Cert.WgradGateUpIdeal.main_arg5)) (m ((c.tc : Thread Cert.WgradGateUpIdeal.nD Cert.WgradGateUpIdeal.τ).loc Cert.WgradGateUpIdeal.main_arg6)) (m ((c.tc : Thread Cert.WgradGateUpIdeal.nD Cert.WgradGateUpIdeal.τ).loc Cert.WgradGateUpIdeal.main_arg7)) (m ((c.tc : Thread Cert.WgradGateUpIdeal.nD Cert.WgradGateUpIdeal.τ).loc Cert.WgradGateUpIdeal.main_arg13)) (m ((c.tc : Thread Cert.WgradGateUpIdeal.nD Cert.WgradGateUpIdeal.τ).loc Cert.WgradGateUpIdeal.main_arg14)) (m ((c.tc : Thread Cert.WgradGateUpIdeal.nD Cert.WgradGateUpIdeal.τ).loc Cert.WgradGateUpIdeal.main_arg15)) (m ((c.tc : Thread Cert.WgradGateUpIdeal.nD Cert.WgradGateUpIdeal.τ).loc Cert.WgradGateUpIdeal.main_arg16)), fun c => Cert.WgradGateUpRefIdeal.Read.val_main_v41 (F := Ideal) (m ((c.tc : Thread Cert.WgradGateUpIdeal.nD Cert.WgradGateUpIdeal.τ).loc Cert.WgradGateUpIdeal.main_arg0)) (m ((c.tc : Thread Cert.WgradGateUpIdeal.nD Cert.WgradGateUpIdeal.τ).loc Cert.WgradGateUpIdeal.main_arg1)) (m ((c.tc : Thread Cert.WgradGateUpIdeal.nD Cert.WgradGateUpIdeal.τ).loc Cert.WgradGateUpIdeal.main_arg3)) (m ((c.tc : Thread Cert.WgradGateUpIdeal.nD Cert.WgradGateUpIdeal.τ).loc Cert.WgradGateUpIdeal.main_arg4)) (m ((c.tc : Thread Cert.WgradGateUpIdeal.nD Cert.WgradGateUpIdeal.τ).loc Cert.WgradGateUpIdeal.main_arg6)), fun c => Cert.WgradGateUpRefIdeal.Read.val_main_v47 (F := Ideal) (m ((c.tc : Thread Cert.WgradGateUpIdeal.nD Cert.WgradGateUpIdeal.τ).loc Cert.WgradGateUpIdeal.main_arg0)) (m ((c.tc : Thread Cert.WgradGateUpIdeal.nD Cert.WgradGateUpIdeal.τ).loc Cert.WgradGateUpIdeal.main_arg1)) (m ((c.tc : Thread Cert.WgradGateUpIdeal.nD Cert.WgradGateUpIdeal.τ).loc Cert.WgradGateUpIdeal.main_arg3)) (m ((c.tc : Thread Cert.WgradGateUpIdeal.nD Cert.WgradGateUpIdeal.τ).loc Cert.WgradGateUpIdeal.main_arg4)) (m ((c.tc : Thread Cert.WgradGateUpIdeal.nD Cert.WgradGateUpIdeal.τ).loc Cert.WgradGateUpIdeal.main_arg7)), fun c => Cert.WgradGateUpRefIdeal.Read.val_main_v95 (F := Ideal) (m ((c.tc : Thread Cert.WgradGateUpIdeal.nD Cert.WgradGateUpIdeal.τ).loc Cert.WgradGateUpIdeal.main_arg0)) (m ((c.tc : Thread Cert.WgradGateUpIdeal.nD Cert.WgradGateUpIdeal.τ).loc Cert.WgradGateUpIdeal.main_arg2)) (m ((c.tc : Thread Cert.WgradGateUpIdeal.nD Cert.WgradGateUpIdeal.τ).loc Cert.WgradGateUpIdeal.main_arg8)) (m ((c.tc : Thread Cert.WgradGateUpIdeal.nD Cert.WgradGateUpIdeal.τ).loc Cert.WgradGateUpIdeal.main_arg9)), fun c => Cert.WgradGateUpRefIdeal.Read.val_main_v116 (F := Ideal) (m ((c.tc : Thread Cert.WgradGateUpIdeal.nD Cert.WgradGateUpIdeal.τ).loc Cert.WgradGateUpIdeal.main_arg0)) (m ((c.tc : Thread Cert.WgradGateUpIdeal.nD Cert.WgradGateUpIdeal.τ).loc Cert.WgradGateUpIdeal.main_arg2)) (m ((c.tc : Thread Cert.WgradGateUpIdeal.nD Cert.WgradGateUpIdeal.τ).loc Cert.WgradGateUpIdeal.main_arg8)) (m ((c.tc : Thread Cert.WgradGateUpIdeal.nD Cert.WgradGateUpIdeal.τ).loc Cert.WgradGateUpIdeal.main_arg9)) (m ((c.tc : Thread Cert.WgradGateUpIdeal.nD Cert.WgradGateUpIdeal.τ).loc Cert.WgradGateUpIdeal.main_arg11)) (m ((c.tc : Thread Cert.WgradGateUpIdeal.nD Cert.WgradGateUpIdeal.τ).loc Cert.WgradGateUpIdeal.main_arg12)) (m ((c.tc : Thread Cert.WgradGateUpIdeal.nD Cert.WgradGateUpIdeal.τ).loc Cert.WgradGateUpIdeal.main_arg13)) (m ((c.tc : Thread Cert.WgradGateUpIdeal.nD Cert.WgradGateUpIdeal.τ).loc Cert.WgradGateUpIdeal.main_arg14)) (m ((c.tc : Thread Cert.WgradGateUpIdeal.nD Cert.WgradGateUpIdeal.τ).loc Cert.WgradGateUpIdeal.main_arg15)) (m ((c.tc : Thread Cert.WgradGateUpIdeal.nD Cert.WgradGateUpIdeal.τ).loc Cert.WgradGateUpIdeal.main_arg16)), fun c => Cert.WgradGateUpRefIdeal.Read.val_main_v117 (F := Ideal) (m ((c.tc : Thread Cert.WgradGateUpIdeal.nD Cert.WgradGateUpIdeal.τ).loc Cert.WgradGateUpIdeal.main_arg0)) (m ((c.tc : Thread Cert.WgradGateUpIdeal.nD Cert.WgradGateUpIdeal.τ).loc Cert.WgradGateUpIdeal.main_arg2)) (m ((c.tc : Thread Cert.WgradGateUpIdeal.nD Cert.WgradGateUpIdeal.τ).loc Cert.WgradGateUpIdeal.main_arg8)) (m ((c.tc : Thread Cert.WgradGateUpIdeal.nD Cert.WgradGateUpIdeal.τ).loc Cert.WgradGateUpIdeal.main_arg9)) (m ((c.tc : Thread Cert.WgradGateUpIdeal.nD Cert.WgradGateUpIdeal.τ).loc Cert.WgradGateUpIdeal.main_arg10)) (m ((c.tc : Thread Cert.WgradGateUpIdeal.nD Cert.WgradGateUpIdeal.τ).loc Cert.WgradGateUpIdeal.main_arg11)) (m ((c.tc : Thread Cert.WgradGateUpIdeal.nD Cert.WgradGateUpIdeal.τ).loc Cert.WgradGateUpIdeal.main_arg12)) (m ((c.tc : Thread Cert.WgradGateUpIdeal.nD Cert.WgradGateUpIdeal.τ).loc Cert.WgradGateUpIdeal.main_arg13)) (m ((c.tc : Thread Cert.WgradGateUpIdeal.nD Cert.WgradGateUpIdeal.τ).loc Cert.WgradGateUpIdeal.main_arg14)) (m ((c.tc : Thread Cert.WgradGateUpIdeal.nD Cert.WgradGateUpIdeal.τ).loc Cert.WgradGateUpIdeal.main_arg15)) (m ((c.tc : Thread Cert.WgradGateUpIdeal.nD Cert.WgradGateUpIdeal.τ).loc Cert.WgradGateUpIdeal.main_arg16)), fun c => Cert.WgradGateUpRefIdeal.Read.val_main_v100 (F := Ideal) (m ((c.tc : Thread Cert.WgradGateUpIdeal.nD Cert.WgradGateUpIdeal.τ).loc Cert.WgradGateUpIdeal.main_arg0)) (m ((c.tc : Thread Cert.WgradGateUpIdeal.nD Cert.WgradGateUpIdeal.τ).loc Cert.WgradGateUpIdeal.main_arg2)) (m ((c.tc : Thread Cert.WgradGateUpIdeal.nD Cert.WgradGateUpIdeal.τ).loc Cert.WgradGateUpIdeal.main_arg8)) (m ((c.tc : Thread Cert.WgradGateUpIdeal.nD Cert.WgradGateUpIdeal.τ).loc Cert.WgradGateUpIdeal.main_arg9)) (m ((c.tc : Thread Cert.WgradGateUpIdeal.nD Cert.WgradGateUpIdeal.τ).loc Cert.WgradGateUpIdeal.main_arg11)), fun c => Cert.WgradGateUpRefIdeal.Read.val_main_v106 (F := Ideal) (m ((c.tc : Thread Cert.WgradGateUpIdeal.nD Cert.WgradGateUpIdeal.τ).loc Cert.WgradGateUpIdeal.main_arg0)) (m ((c.tc : Thread Cert.WgradGateUpIdeal.nD Cert.WgradGateUpIdeal.τ).loc Cert.WgradGateUpIdeal.main_arg2)) (m ((c.tc : Thread Cert.WgradGateUpIdeal.nD Cert.WgradGateUpIdeal.τ).loc Cert.WgradGateUpIdeal.main_arg8)) (m ((c.tc : Thread Cert.WgradGateUpIdeal.nD Cert.WgradGateUpIdeal.τ).loc Cert.WgradGateUpIdeal.main_arg9)) (m ((c.tc : Thread Cert.WgradGateUpIdeal.nD Cert.WgradGateUpIdeal.τ).loc Cert.WgradGateUpIdeal.main_arg12)), ?_, ?_⟩
  · exact (θ_run Cert.WgradGateUpIdeal.defs _ _).mono
      (fun _ h c => ⟨((h c).1).trans (Cert.WgradGateUpIdeal.Value.final14 m c), ((h c).2.1).trans (Cert.WgradGateUpIdeal.Value.final15 m c), ((h c).2.2.1).trans (Cert.WgradGateUpIdeal.Value.final16 m c), ((h c).2.2.2.1).trans (Cert.WgradGateUpIdeal.Value.final17 m c), ((h c).2.2.2.2.1).trans (Cert.WgradGateUpIdeal.Value.final18 m c), ((h c).2.2.2.2.2.1).trans (Cert.WgradGateUpIdeal.Value.final19 m c), ((h c).2.2.2.2.2.2.1).trans (Cert.WgradGateUpIdeal.Value.final20 m c), ((h c).2.2.2.2.2.2.2.1).trans (Cert.WgradGateUpIdeal.Value.final21 m c), ((h c).2.2.2.2.2.2.2.2.1).trans (Cert.WgradGateUpIdeal.Value.final22 m c), ((h c).2.2.2.2.2.2.2.2.2.1).trans (Cert.WgradGateUpIdeal.Value.final23 m c), (h c).2.2.2.2.2.2.2.2.2.2⟩)
      (Cert.WgradGateUpIdeal.Value.run_blocks m ρ)
  · exact (θ_run Cert.WgradGateUpRefIdeal.defs _ _).mono
      (fun _ h c => ⟨((h c).1).trans (by rw [(hagree c).1, (hagree c).2.1, (hagree c).2.2.2.1, (hagree c).2.2.2.2.1]; rfl), ((h c).2.1).trans (by rw [Cert.WgradGateUpRefIdeal.Read.val_main_v57_eq, (hagree c).1, (hagree c).2.1, (hagree c).2.2.2.1, (hagree c).2.2.2.2.1, (hagree c).2.2.2.2.2.2.1, (hagree c).2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2]), ((h c).2.2.1).trans (by rw [Cert.WgradGateUpRefIdeal.Read.val_main_v58_eq, (hagree c).1, (hagree c).2.1, (hagree c).2.2.2.1, (hagree c).2.2.2.2.1, (hagree c).2.2.2.2.2.1, (hagree c).2.2.2.2.2.2.1, (hagree c).2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2]), ((h c).2.2.2.1).trans (by rw [(hagree c).1, (hagree c).2.1, (hagree c).2.2.2.1, (hagree c).2.2.2.2.1, (hagree c).2.2.2.2.2.2.1]; rfl), ((h c).2.2.2.2.1).trans (by rw [(hagree c).1, (hagree c).2.1, (hagree c).2.2.2.1, (hagree c).2.2.2.2.1, (hagree c).2.2.2.2.2.2.2.1]; rfl), ((h c).2.2.2.2.2.1).trans (by rw [(hagree c).1, (hagree c).2.2.1, (hagree c).2.2.2.2.2.2.2.2.1, (hagree c).2.2.2.2.2.2.2.2.2.1]; rfl), ((h c).2.2.2.2.2.2.1).trans (by rw [Cert.WgradGateUpRefIdeal.Read.val_main_v116_eq, (hagree c).1, (hagree c).2.2.1, (hagree c).2.2.2.2.2.2.2.2.1, (hagree c).2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2]), ((h c).2.2.2.2.2.2.2.1).trans (by rw [Cert.WgradGateUpRefIdeal.Read.val_main_v117_eq, (hagree c).1, (hagree c).2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2]), ((h c).2.2.2.2.2.2.2.2.1).trans (by rw [(hagree c).1, (hagree c).2.2.1, (hagree c).2.2.2.2.2.2.2.2.1, (hagree c).2.2.2.2.2.2.2.2.2.1, (hagree c).2.2.2.2.2.2.2.2.2.2.2.1]; rfl), ((h c).2.2.2.2.2.2.2.2.2.1).trans (by rw [(hagree c).1, (hagree c).2.2.1, (hagree c).2.2.2.2.2.2.2.2.1, (hagree c).2.2.2.2.2.2.2.2.2.1, (hagree c).2.2.2.2.2.2.2.2.2.2.2.2.1]; rfl), (h c).2.2.2.2.2.2.2.2.2.2⟩)
      (Cert.WgradGateUpRefIdeal.Value.run (F := Ideal) m' ρ')

end Cert.Proof.WgradGateUpClaims

/-! ## The down matrix's scale update -/

namespace Cert.Proof.WgradDownClaims

/-- The call as it is, and at `Ideal`: the frames. -/
theorem frame_p : Cert.quiescent_WgradDown := fun m ρ _ => Cert.WgradDown.Gen.frame m ρ
theorem frame_pi : Cert.quiescent_WgradDownIdeal := fun m ρ _ => Cert.WgradDownIdeal.Gen.frame m ρ
/-- The reference: its run read at the arguments; it declares no semaphore. -/
theorem frame_ri : Cert.quiescent_WgradDownRefIdeal := fun m ρ _ =>
  (θ_run Cert.WgradDownRefIdeal.defs _ _).mono (fun r h => ⟨fun c => (h c).2.2.2.2.2,
      Idealize.ShloMosaic.sem_eq_zero_of_no_sems (by decide) r.2⟩)
    (Cert.WgradDownRefIdeal.Value.run (F := Ideal) m ρ)
/-- The ideal pass rewrote nothing. -/
theorem preserves : Cert.preserves_WgradDown_WgradDownIdeal := trivial
/-- Both runs end at the reference's terms of the arguments. -/
theorem algebraic : Cert.algebraic_WgradDownIdeal_WgradDownRefIdeal := by
  intro m ρ m' ρ' _ hagree
  refine ⟨fun c => Cert.WgradDownRefIdeal.Read.val_main_v37 (F := Ideal) (m ((c.tc : Thread Cert.WgradDownIdeal.nD Cert.WgradDownIdeal.τ).loc Cert.WgradDownIdeal.main_arg0)) (m ((c.tc : Thread Cert.WgradDownIdeal.nD Cert.WgradDownIdeal.τ).loc Cert.WgradDownIdeal.main_arg1)) (m ((c.tc : Thread Cert.WgradDownIdeal.nD Cert.WgradDownIdeal.τ).loc Cert.WgradDownIdeal.main_arg2)) (m ((c.tc : Thread Cert.WgradDownIdeal.nD Cert.WgradDownIdeal.τ).loc Cert.WgradDownIdeal.main_arg3)), fun c => Cert.WgradDownRefIdeal.Read.val_main_v58 (F := Ideal) (m ((c.tc : Thread Cert.WgradDownIdeal.nD Cert.WgradDownIdeal.τ).loc Cert.WgradDownIdeal.main_arg0)) (m ((c.tc : Thread Cert.WgradDownIdeal.nD Cert.WgradDownIdeal.τ).loc Cert.WgradDownIdeal.main_arg1)) (m ((c.tc : Thread Cert.WgradDownIdeal.nD Cert.WgradDownIdeal.τ).loc Cert.WgradDownIdeal.main_arg2)) (m ((c.tc : Thread Cert.WgradDownIdeal.nD Cert.WgradDownIdeal.τ).loc Cert.WgradDownIdeal.main_arg3)) (m ((c.tc : Thread Cert.WgradDownIdeal.nD Cert.WgradDownIdeal.τ).loc Cert.WgradDownIdeal.main_arg5)) (m ((c.tc : Thread Cert.WgradDownIdeal.nD Cert.WgradDownIdeal.τ).loc Cert.WgradDownIdeal.main_arg6)) (m ((c.tc : Thread Cert.WgradDownIdeal.nD Cert.WgradDownIdeal.τ).loc Cert.WgradDownIdeal.main_arg7)) (m ((c.tc : Thread Cert.WgradDownIdeal.nD Cert.WgradDownIdeal.τ).loc Cert.WgradDownIdeal.main_arg8)) (m ((c.tc : Thread Cert.WgradDownIdeal.nD Cert.WgradDownIdeal.τ).loc Cert.WgradDownIdeal.main_arg9)) (m ((c.tc : Thread Cert.WgradDownIdeal.nD Cert.WgradDownIdeal.τ).loc Cert.WgradDownIdeal.main_arg10)), fun c => Cert.WgradDownRefIdeal.Read.val_main_v59 (F := Ideal) (m ((c.tc : Thread Cert.WgradDownIdeal.nD Cert.WgradDownIdeal.τ).loc Cert.WgradDownIdeal.main_arg0)) (m ((c.tc : Thread Cert.WgradDownIdeal.nD Cert.WgradDownIdeal.τ).loc Cert.WgradDownIdeal.main_arg1)) (m ((c.tc : Thread Cert.WgradDownIdeal.nD Cert.WgradDownIdeal.τ).loc Cert.WgradDownIdeal.main_arg2)) (m ((c.tc : Thread Cert.WgradDownIdeal.nD Cert.WgradDownIdeal.τ).loc Cert.WgradDownIdeal.main_arg3)) (m ((c.tc : Thread Cert.WgradDownIdeal.nD Cert.WgradDownIdeal.τ).loc Cert.WgradDownIdeal.main_arg4)) (m ((c.tc : Thread Cert.WgradDownIdeal.nD Cert.WgradDownIdeal.τ).loc Cert.WgradDownIdeal.main_arg5)) (m ((c.tc : Thread Cert.WgradDownIdeal.nD Cert.WgradDownIdeal.τ).loc Cert.WgradDownIdeal.main_arg6)) (m ((c.tc : Thread Cert.WgradDownIdeal.nD Cert.WgradDownIdeal.τ).loc Cert.WgradDownIdeal.main_arg7)) (m ((c.tc : Thread Cert.WgradDownIdeal.nD Cert.WgradDownIdeal.τ).loc Cert.WgradDownIdeal.main_arg8)) (m ((c.tc : Thread Cert.WgradDownIdeal.nD Cert.WgradDownIdeal.τ).loc Cert.WgradDownIdeal.main_arg9)) (m ((c.tc : Thread Cert.WgradDownIdeal.nD Cert.WgradDownIdeal.τ).loc Cert.WgradDownIdeal.main_arg10)), fun c => Cert.WgradDownRefIdeal.Read.val_main_v42 (F := Ideal) (m ((c.tc : Thread Cert.WgradDownIdeal.nD Cert.WgradDownIdeal.τ).loc Cert.WgradDownIdeal.main_arg0)) (m ((c.tc : Thread Cert.WgradDownIdeal.nD Cert.WgradDownIdeal.τ).loc Cert.WgradDownIdeal.main_arg1)) (m ((c.tc : Thread Cert.WgradDownIdeal.nD Cert.WgradDownIdeal.τ).loc Cert.WgradDownIdeal.main_arg2)) (m ((c.tc : Thread Cert.WgradDownIdeal.nD Cert.WgradDownIdeal.τ).loc Cert.WgradDownIdeal.main_arg3)) (m ((c.tc : Thread Cert.WgradDownIdeal.nD Cert.WgradDownIdeal.τ).loc Cert.WgradDownIdeal.main_arg5)), fun c => Cert.WgradDownRefIdeal.Read.val_main_v48 (F := Ideal) (m ((c.tc : Thread Cert.WgradDownIdeal.nD Cert.WgradDownIdeal.τ).loc Cert.WgradDownIdeal.main_arg0)) (m ((c.tc : Thread Cert.WgradDownIdeal.nD Cert.WgradDownIdeal.τ).loc Cert.WgradDownIdeal.main_arg1)) (m ((c.tc : Thread Cert.WgradDownIdeal.nD Cert.WgradDownIdeal.τ).loc Cert.WgradDownIdeal.main_arg2)) (m ((c.tc : Thread Cert.WgradDownIdeal.nD Cert.WgradDownIdeal.τ).loc Cert.WgradDownIdeal.main_arg3)) (m ((c.tc : Thread Cert.WgradDownIdeal.nD Cert.WgradDownIdeal.τ).loc Cert.WgradDownIdeal.main_arg6)), ?_, ?_⟩
  · exact (θ_run Cert.WgradDownIdeal.defs _ _).mono
      (fun _ h c => ⟨((h c).1).trans (Cert.WgradDownIdeal.Value.final8 m c), ((h c).2.1).trans (Cert.WgradDownIdeal.Value.final9 m c), ((h c).2.2.1).trans (Cert.WgradDownIdeal.Value.final10 m c), ((h c).2.2.2.1).trans (Cert.WgradDownIdeal.Value.final11 m c), ((h c).2.2.2.2.1).trans (Cert.WgradDownIdeal.Value.final12 m c), (h c).2.2.2.2.2⟩)
      (Cert.WgradDownIdeal.Value.run_blocks m ρ)
  · exact (θ_run Cert.WgradDownRefIdeal.defs _ _).mono
      (fun _ h c => ⟨((h c).1).trans (by rw [(hagree c).1, (hagree c).2.1, (hagree c).2.2.1, (hagree c).2.2.2.1]; rfl), ((h c).2.1).trans (by rw [Cert.WgradDownRefIdeal.Read.val_main_v58_eq, (hagree c).1, (hagree c).2.1, (hagree c).2.2.1, (hagree c).2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]), ((h c).2.2.1).trans (by rw [Cert.WgradDownRefIdeal.Read.val_main_v59_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]), ((h c).2.2.2.1).trans (by rw [(hagree c).1, (hagree c).2.1, (hagree c).2.2.1, (hagree c).2.2.2.1, (hagree c).2.2.2.2.2.1]; rfl), ((h c).2.2.2.2.1).trans (by rw [(hagree c).1, (hagree c).2.1, (hagree c).2.2.1, (hagree c).2.2.2.1, (hagree c).2.2.2.2.2.2.1]; rfl), (h c).2.2.2.2.2⟩)
      (Cert.WgradDownRefIdeal.Value.run (F := Ideal) m' ρ')

end Cert.Proof.WgradDownClaims

namespace Cert.Proof

theorem claim : Cert.Claim := ⟨Cert.Gate.Gen.facts, Cert.GateIdeal.Gen.facts, Cert.GateRefIdeal.Gen.facts, Cert.Down.Gen.facts, Cert.DownIdeal.Gen.facts, Cert.DownRefIdeal.Gen.facts, Cert.Norm.Gen.facts, Cert.NormIdeal.Gen.facts, Cert.NormRefIdeal.Gen.facts, Cert.WgradGateUp.Gen.facts, Cert.WgradGateUpIdeal.Gen.facts, Cert.WgradGateUpRefIdeal.Gen.facts, Cert.WgradDown.Gen.facts, Cert.WgradDownIdeal.Gen.facts, Cert.WgradDownRefIdeal.Gen.facts,
    GateClaims.frame_p, GateClaims.frame_pi, GateClaims.frame_ri,
    DownClaims.frame_p, DownClaims.frame_pi, DownClaims.frame_ri,
    NormClaims.frame_p, NormClaims.frame_pi, NormClaims.frame_ri,
    WgradGateUpClaims.frame_p, WgradGateUpClaims.frame_pi, WgradGateUpClaims.frame_ri,
    WgradDownClaims.frame_p, WgradDownClaims.frame_pi, WgradDownClaims.frame_ri,
    GateClaims.preserves, GateClaims.algebraic,
    DownClaims.preserves, DownClaims.algebraic,
    NormClaims.preserves, NormClaims.algebraic,
    WgradGateUpClaims.preserves, WgradGateUpClaims.algebraic,
    WgradDownClaims.preserves, WgradDownClaims.algebraic⟩

end Cert.Proof

end
